-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_gains [hPre_finite_gains : Cert.Pre_finite_gains.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_gains.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_gains [hPre_finite_gains : Cert.Pre_finite_gains.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_gains.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Kernel7Ideal_pre_finite_gains [hKernel7Ideal : Cert.Kernel7Ideal.Facts] [hPre_finite_gains : Cert.Pre_finite_gains.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_gains m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Reference7Ideal_pre_finite_gains [hReference7Ideal : Cert.Reference7Ideal.Facts] [hPre_finite_gains : Cert.Pre_finite_gains.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_gains m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v19)) (v1 : (c : Dev Cert.Kernel3Ideal.nD) → Buf (Elt Ideal) ((c.tc : Thread Cert.Kernel3Ideal.nD Cert.Kernel3Ideal.τ).loc Cert.Kernel3Ideal.main_v18_1)) (v2 : (c : Dev Cert.Kernel3Ideal.nD) → Buf (Elt Ideal) ((c.tc : Thread Cert.Kernel3Ideal.nD Cert.Kernel3Ideal.τ).loc Cert.Kernel3Ideal.main_v18_2)) (v3 : (c : Dev Cert.Kernel3Ideal.nD) → Buf (Elt Ideal) ((c.tc : Thread Cert.Kernel3Ideal.nD Cert.Kernel3Ideal.τ).loc Cert.Kernel3Ideal.main_v18_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19) = v0 c
          ∧ r.2.mem ((c.tc : Thread Cert.Kernel3Ideal.nD Cert.Kernel3Ideal.τ).loc Cert.Kernel3Ideal.main_v18_1) = v1 c
          ∧ r.2.mem ((c.tc : Thread Cert.Kernel3Ideal.nD Cert.Kernel3Ideal.τ).loc Cert.Kernel3Ideal.main_v18_2) = v2 c
          ∧ r.2.mem ((c.tc : Thread Cert.Kernel3Ideal.nD Cert.Kernel3Ideal.τ).loc Cert.Kernel3Ideal.main_v18_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_v57) = v1 c
          ∧ r.2.mem ((c.tc : Thread Cert.Reference3Ideal.nD Cert.Reference3Ideal.τ).loc Cert.Reference3Ideal.main_v58) = v2 c
          ∧ r.2.mem ((c.tc : Thread Cert.Reference3Ideal.nD Cert.Reference3Ideal.τ).loc Cert.Reference3Ideal.main_v59) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v32)) (v1 : (c : Dev Cert.Kernel5Ideal.nD) → Buf (Elt Ideal) ((c.tc : Thread Cert.Kernel5Ideal.nD Cert.Kernel5Ideal.τ).loc Cert.Kernel5Ideal.main_v33)) (v2 : (c : Dev Cert.Kernel5Ideal.nD) → Buf (Elt Ideal) ((c.tc : Thread Cert.Kernel5Ideal.nD Cert.Kernel5Ideal.τ).loc Cert.Kernel5Ideal.main_v31_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v32) = v0 c
          ∧ r.2.mem ((c.tc : Thread Cert.Kernel5Ideal.nD Cert.Kernel5Ideal.τ).loc Cert.Kernel5Ideal.main_v33) = v1 c
          ∧ r.2.mem ((c.tc : Thread Cert.Kernel5Ideal.nD Cert.Kernel5Ideal.τ).loc Cert.Kernel5Ideal.main_v31_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v93) = v0 c
          ∧ r.2.mem ((c.tc : Thread Cert.Reference5Ideal.nD Cert.Reference5Ideal.τ).loc Cert.Reference5Ideal.main_v94) = v1 c
          ∧ r.2.mem ((c.tc : Thread Cert.Reference5Ideal.nD Cert.Reference5Ideal.τ).loc Cert.Reference5Ideal.main_v96) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_finite_gains [hKernel7Ideal : Cert.Kernel7Ideal.Facts] [hReference7Ideal : Cert.Reference7Ideal.Facts] [hPre_finite_gains : Cert.Pre_finite_gains.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_gains m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v20)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v20) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v78) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite_gains : Cert.Pre_finite_gains.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_gains (hKernel7Ideal := hKernel7Ideal) (hPre_finite_gains := hPre_finite_gains)
    ∧ quiescent_Reference7Ideal (hReference7Ideal := hReference7Ideal)
    ∧ quiescent_Reference7Ideal_pre_finite_gains (hReference7Ideal := hReference7Ideal) (hPre_finite_gains := hPre_finite_gains)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_gains (hKernel7Ideal := hKernel7Ideal) (hReference7Ideal := hReference7Ideal) (hPre_finite_gains := hPre_finite_gains)
-- ==== Pre_finite.lean ====
abbrev S2x16384x512 : Shape := ⟨3, ![2, 16384, 512]⟩
abbrev S64 : Shape := ⟨1, ![64]⟩
abbrev S4x64 : Shape := ⟨2, ![4, 64]⟩
abbrev S128 : Shape := ⟨1, ![128]⟩
abbrev S32x8 : Shape := ⟨2, ![32, 8]⟩
abbrev S_ : Shape := ⟨0, ![]⟩

class Facts : Prop where
  bcast_S_S2x16384x512 : S_.BroadcastsInDim S2x16384x512 (![] : Fin 0 → Fin S2x16384x512.rank)
  reducesTo_S2x16384x512_S_d0_1_2 : S2x16384x512.ReducesTo [0, 1, 2] S_
  h_S_ : 0 < S_.numel
  bcast_S_S64 : S_.BroadcastsInDim S64 (![] : Fin 0 → Fin S64.rank)
  reducesTo_S64_S_d0 : S64.ReducesTo [0] S_
  bcast_S_S4x64 : S_.BroadcastsInDim S4x64 (![] : Fin 0 → Fin S4x64.rank)
  reducesTo_S4x64_S_d0_1 : S4x64.ReducesTo [0, 1] S_
  bcast_S_S32x8 : S_.BroadcastsInDim S32x8 (![] : Fin 0 → Fin S32x8.rank)
  reducesTo_S32x8_S_d0_1 : S32x8.ReducesTo [0, 1] S_

variable [Facts]

def fn_part2 {F : FTy → Type} [FloatOps F] (main_v29 : IVec S_ 1) (main_v32 : IVec S32x8 1) (main_c_12 : IVec S_ 1) : IVec S_ 1 :=
  let main_v33 : IVec S_ 1 := (fun x v => Host.reduce IntOp.andi x v reducesTo_S32x8_S_d0_1 h_S_) main_v32 main_c_12
  let main_v34 : IVec S_ 1 := andi main_v29 main_v33
  main_v34

def fn_part1 {F : FTy → Type} [FloatOps F] (main_arg4 : FVec F S64 .f32) (main_arg5 : FVec F S4x64 .f32) (main_arg7 : FVec F S32x8 .f32) (main_v14 : IVec S_ 1) (main_v15 : FVec F S64 .f32) (main_cst_5 : FVec F S_ .f32) : IVec S_ 1 :=
  let main_v16 : FVec F S64 .f32 := broadcastInDim S64 ![] bcast_S_S64 main_cst_5
  let main_v17 : IVec S64 1 := cmpf .olt main_v15 main_v16
  let main_c_6 : IVec S_ 1 := constantI S_ 1 1#1
  let main_v18 : IVec S_ 1 := (fun x v => Host.reduce IntOp.andi x v reducesTo_S64_S_d0 h_S_) main_v17 main_c_6
  let main_v19 : IVec S_ 1 := andi main_v14 main_v18
  let main_v20 : FVec F S64 .f32 := Host.absf main_arg4
  let main_cst_7 : FVec F S_ .f32 := constant S_ .f32 0x7F800000#32
  let main_v21 : FVec F S64 .f32 := broadcastInDim S64 ![] bcast_S_S64 main_cst_7
  let main_v22 : IVec S64 1 := cmpf .olt main_v20 main_v21
  let main_c_8 : IVec S_ 1 := constantI S_ 1 1#1
  let main_v23 : IVec S_ 1 := (fun x v => Host.reduce IntOp.andi x v reducesTo_S64_S_d0 h_S_) main_v22 main_c_8
  let main_v24 : IVec S_ 1 := andi main_v19 main_v23
  let main_v25 : FVec F S4x64 .f32 := Host.absf main_arg5
  let main_cst_9 : FVec F S_ .f32 := constant S_ .f32 0x7F800000#32
  let main_v26 : FVec F S4x64 .f32 := broadcastInDim S4x64 ![] bcast_S_S4x64 main_cst_9
  let main_v27 : IVec S4x64 1 := cmpf .olt main_v25 main_v26
  let main_c_10 : IVec S_ 1 := constantI S_ 1 1#1
  let main_v28 : IVec S_ 1 := (fun x v => Host.reduce IntOp.andi x v reducesTo_S4x64_S_d0_1 h_S_) main_v27 main_c_10
  let main_v29 : IVec S_ 1 := andi main_v24 main_v28
  let main_v30 : FVec F S32x8 .f32 := Host.absf main_arg7
  let main_cst_11 : FVec F S_ .f32 := constant S_ .f32 0x7F800000#32
  let main_v31 : FVec F S32x8 .f32 := broadcastInDim S32x8 ![] bcast_S_S32x8 main_cst_11
  let main_v32 : IVec S32x8 1 := cmpf .olt main_v30 main_v31
  let main_c_12 : IVec S_ 1 := constantI S_ 1 1#1
  fn_part2 (F := F) main_v29 main_v32 main_c_12

def fn {F : FTy → Type} [FloatOps F] (main_arg0 : FVec F S2x16384x512 .f32) (main_arg1 : FVec F S2x16384x512 .f32) (main_arg2 : FVec F S2x16384x512 .f32) (main_arg3 : FVec F S64 .f32) (main_arg4 : FVec F S64 .f32) (main_arg5 : FVec F S4x64 .f32) (main_arg6 : FVec F S128 .f32) (main_arg7 : FVec F S32x8 .f32) : IVec S_ 1 :=
  let main_v0 : FVec F S2x16384x512 .f32 := Host.absf main_arg0
  let main_cst : FVec F S_ .f32 := constant S_ .f32 0x7F800000#32
  let main_v1 : FVec F S2x16384x512 .f32 := broadcastInDim S2x16384x512 ![] bcast_S_S2x16384x512 main_cst
  let main_v2 : IVec S2x16384x512 1 := cmpf .olt main_v0 main_v1
  let main_c : IVec S_ 1 := constantI S_ 1 1#1
  let main_v3 : IVec S_ 1 := (fun x v => Host.reduce IntOp.andi x v reducesTo_S2x16384x512_S_d0_1_2 h_S_) main_v2 main_c
  let main_c_0 : IVec S_ 1 := constantI S_ 1 1#1
  let main_v4 : IVec S_ 1 := andi main_c_0 main_v3
  let main_v5 : FVec F S2x16384x512 .f32 := Host.absf main_arg1
  let main_cst_1 : FVec F S_ .f32 := constant S_ .f32 0x7F800000#32
  let main_v6 : FVec F S2x16384x512 .f32 := broadcastInDim S2x16384x512 ![] bcast_S_S2x16384x512 main_cst_1
  let main_v7 : IVec S2x16384x512 1 := cmpf .olt main_v5 main_v6
  let main_c_2 : IVec S_ 1 := constantI S_ 1 1#1
  let main_v8 : IVec S_ 1 := (fun x v => Host.reduce IntOp.andi x v reducesTo_S2x16384x512_S_d0_1_2 h_S_) main_v7 main_c_2
  let main_v9 : IVec S_ 1 := andi main_v4 main_v8
  let main_v10 : FVec F S2x16384x512 .f32 := Host.absf main_arg2
  let main_cst_3 : FVec F S_ .f32 := constant S_ .f32 0x7F800000#32
  let main_v11 : FVec F S2x16384x512 .f32 := broadcastInDim S2x16384x512 ![] bcast_S_S2x16384x512 main_cst_3
  let main_v12 : IVec S2x16384x512 1 := cmpf .olt main_v10 main_v11
  let main_c_4 : IVec S_ 1 := constantI S_ 1 1#1
  let main_v13 : IVec S_ 1 := (fun x v => Host.reduce IntOp.andi x v reducesTo_S2x16384x512_S_d0_1_2 h_S_) main_v12 main_c_4
  let main_v14 : IVec S_ 1 := andi main_v9 main_v13
  let main_v15 : FVec F S64 .f32 := Host.absf main_arg3
  let main_cst_5 : FVec F S_ .f32 := constant S_ .f32 0x7F800000#32
  fn_part1 (F := F) main_arg4 main_arg5 main_arg7 main_v14 main_v15 main_cst_5
-- ==== Pre_finite_gains.lean ====
abbrev S2x16384x1024 : Shape := ⟨3, ![2, 16384, 1024]⟩
abbrev S2x256x1024 : Shape := ⟨3, ![2, 256, 1024]⟩
abbrev S1024 : Shape := ⟨1, ![1024]⟩
abbrev S1024x256 : Shape := ⟨2, ![1024, 256]⟩
abbrev S1024x512 : Shape := ⟨2, ![1024, 512]⟩
abbrev S256x1024 : Shape := ⟨2, ![256, 1024]⟩
abbrev S64 : Shape := ⟨1, ![64]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : FVec F S2x16384x1024 .f32) (main_arg1 : FVec F S2x256x1024 .f32) (main_arg2 : FVec F S1024 .f32) (main_arg3 : FVec F S1024 .f32) (main_arg4 : FVec F S1024x256 .f32) (main_arg5 : FVec F S1024x512 .f32) (main_arg6 : FVec F S256x1024 .f32) (main_arg7 : FVec F S64 .f32) (main_arg8 : FVec F S64 .f32) : IVec S_ 1 :=
  let main_v0 : FVec F S64 .f32 := Host.absf main_arg7
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  let main_v4 : FVec F S64 .f32 := Host.absf main_arg8
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  main_v8
-- ==== Kernel.lean ====
abbrev S2x16384x512 : Shape := ⟨3, ![2, 16384, 512]⟩
abbrev S64 : Shape := ⟨1, ![64]⟩
abbrev S4x64 : Shape := ⟨2, ![4, 64]⟩
abbrev S128 : Shape := ⟨1, ![128]⟩
abbrev S32x8 : Shape := ⟨2, ![32, 8]⟩
abbrev S2 : Shape := ⟨1, ![2]⟩
abbrev S_ : Shape := ⟨0, ![]⟩
abbrev S1x64 : Shape := ⟨2, ![1, 64]⟩
abbrev S8x64 : Shape := ⟨2, ![8, 64]⟩
abbrev S512 : Shape := ⟨1, ![512]⟩
abbrev S1x1x512 : Shape := ⟨3, ![1, 1, 512]⟩
abbrev S2x32x512x512 : Shape := ⟨4, ![2, 32, 512, 512]⟩
abbrev S3x512x512 : Shape := ⟨3, ![3, 512, 512]⟩
abbrev S3x512x512x1 : Shape := ⟨4, ![3, 512, 512, 1]⟩
abbrev S3x512x512x8 : Shape := ⟨4, ![3, 512, 512, 8]⟩
abbrev S8x3x512x512 : Shape := ⟨4, ![8, 3, 512, 512]⟩
abbrev S2x1 : Shape := ⟨2, ![2, 1]⟩
abbrev S2x8 : Shape := ⟨2, ![2, 8]⟩
abbrev S128x1 : Shape := ⟨2, ![128, 1]⟩
abbrev S1x1x128x512 : Shape := ⟨4, ![1, 1, 128, 512]⟩
abbrev S1x16384x128 : Shape := ⟨3, ![1, 16384, 128]⟩
abbrev S1x32x128x512 : Shape := ⟨4, ![1, 32, 128, 512]⟩
abbrev S2x3x512x512 : Shape := ⟨4, ![2, 3, 512, 512]⟩
abbrev S1x512x128 : Shape := ⟨3, ![1, 512, 128]⟩
abbrev S2x128x512 : Shape := ⟨3, ![2, 128, 512]⟩
abbrev S2x512x512 : Shape := ⟨3, ![2, 512, 512]⟩
abbrev S2x1x512 : Shape := ⟨3, ![2, 1, 512]⟩
abbrev S2x144x512 : Shape := ⟨3, ![2, 144, 512]⟩
abbrev S128x512 : Shape := ⟨2, ![128, 512]⟩
abbrev S1x128x512 : Shape := ⟨3, ![1, 128, 512]⟩
abbrev S512x128 : Shape := ⟨2, ![512, 128]⟩
abbrev S512x512 : Shape := ⟨2, ![512, 512]⟩
abbrev S1x512x512 : Shape := ⟨3, ![1, 512, 512]⟩
abbrev S1x512 : Shape := ⟨2, ![1, 512]⟩
abbrev S1x1x512x512 : Shape := ⟨4, ![1, 1, 512, 512]⟩
abbrev S16x512 : Shape := ⟨2, ![16, 512]⟩
abbrev S144x512 : Shape := ⟨2, ![144, 512]⟩
abbrev S1x1 : Shape := ⟨2, ![1, 1]⟩
abbrev S1x144x512 : Shape := ⟨3, ![1, 144, 512]⟩
abbrev S1 : Shape := ⟨1, ![1]⟩

abbrev nBuf : Space → Nat
  | .hbm => 122
  | .vmem => 19
  | .smem => 1
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x512, .f32⟩
  | .hbm, ⟨3, _⟩ => ⟨S64, .f32⟩
  | .hbm, ⟨4, _⟩ => ⟨S64, .f32⟩
  | .hbm, ⟨5, _⟩ => ⟨S4x64, .f32⟩
  | .hbm, ⟨6, _⟩ => ⟨S128, .f32⟩
  | .hbm, ⟨7, _⟩ => ⟨S32x8, .f32⟩
  | .hbm, ⟨8, _⟩ => ⟨S2, .i32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S1x64, .f32⟩
  | .hbm, ⟨17, _⟩ => ⟨S8x64, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S1x1x512, .f32⟩
  | .hbm, ⟨22, _⟩ => ⟨S2x16384x512, .f32⟩
  | .hbm, ⟨23, _⟩ => ⟨S2x16384x512, .f32⟩
  | .hbm, ⟨24, _⟩ => ⟨S2x16384x512, .bf16⟩
  | .hbm, ⟨25, _⟩ => ⟨S2x32x512x512, .f32⟩
  | .hbm, ⟨26, _⟩ => ⟨S2x32x512x512, .f32⟩
  | .hbm, ⟨27, _⟩ => ⟨S2x32x512x512, .bf16⟩
  | .hbm, ⟨28, _⟩ => ⟨S2x32x512x512, .f32⟩
  | .hbm, ⟨29, _⟩ => ⟨S2x32x512x512, .f32⟩
  | .hbm, ⟨30, _⟩ => ⟨S2x32x512x512, .bf16⟩
  | .hbm, ⟨31, _⟩ => ⟨S3x512x512, .i32⟩
  | .hbm, ⟨32, _⟩ => ⟨S3x512x512, .i32⟩
  | .hbm, ⟨33, _⟩ => ⟨S3x512x512, .i32⟩
  | .hbm, ⟨34, _⟩ => ⟨S_, .i32⟩
  | .hbm, ⟨35, _⟩ => ⟨S3x512x512, .i32⟩
  | .hbm, ⟨36, _⟩ => ⟨S3x512x512, .i32⟩
  | .hbm, ⟨37, _⟩ => ⟨S_, .i32⟩
  | .hbm, ⟨38, _⟩ => ⟨S3x512x512, .i32⟩
  | .hbm, ⟨39, _⟩ => ⟨S3x512x512, .i32⟩
  | .hbm, ⟨40, _⟩ => ⟨S3x512x512, .i32⟩
  | .hbm, ⟨41, _⟩ => ⟨S3x512x512, .i32⟩
  | .hbm, ⟨42, _⟩ => ⟨S3x512x512, .i32⟩
  | .hbm, ⟨43, _⟩ => ⟨S_, .i32⟩
  | .hbm, ⟨44, _⟩ => ⟨S3x512x512, .i32⟩
  | .hbm, ⟨45, _⟩ => ⟨S3x512x512, .i1⟩
  | .hbm, ⟨46, _⟩ => ⟨S3x512x512, .i32⟩
  | .hbm, ⟨47, _⟩ => ⟨S_, .i32⟩
  | .hbm, ⟨48, _⟩ => ⟨S3x512x512, .i32⟩
  | .hbm, ⟨49, _⟩ => ⟨S3x512x512, .i32⟩
  | .hbm, ⟨50, _⟩ => ⟨S_, .i32⟩
  | .hbm, ⟨51, _⟩ => ⟨S3x512x512, .i32⟩
  | .hbm, ⟨52, _⟩ => ⟨S3x512x512, .i1⟩
  | .hbm, ⟨53, _⟩ => ⟨S3x512x512, .i32⟩
  | .hbm, ⟨54, _⟩ => ⟨S3x512x512, .i32⟩
  | .hbm, ⟨55, _⟩ => ⟨S_, .i32⟩
  | .hbm, ⟨56, _⟩ => ⟨S3x512x512, .i32⟩
  | .hbm, ⟨57, _⟩ => ⟨S3x512x512, .i1⟩
  | .hbm, ⟨58, _⟩ => ⟨S3x512x512, .i32⟩
  | .hbm, ⟨59, _⟩ => ⟨S3x512x512, .i32⟩
  | .hbm, ⟨60, _⟩ => ⟨S_, .i32⟩
  | .hbm, ⟨61, _⟩ => ⟨S3x512x512, .i32⟩
  | .hbm, ⟨62, _⟩ => ⟨S3x512x512, .i1⟩
  | .hbm, ⟨63, _⟩ => ⟨S3x512x512, .i32⟩
  | .hbm, ⟨64, _⟩ => ⟨S3x512x512, .i32⟩
  | .hbm, ⟨65, _⟩ => ⟨S_, .i32⟩
  | .hbm, ⟨66, _⟩ => ⟨S3x512x512, .i32⟩
  | .hbm, ⟨67, _⟩ => ⟨S3x512x512, .i1⟩
  | .hbm, ⟨68, _⟩ => ⟨S3x512x512, .i32⟩
  | .hbm, ⟨69, _⟩ => ⟨S3x512x512, .i32⟩
  | .hbm, ⟨70, _⟩ => ⟨S_, .i32⟩
  | .hbm, ⟨71, _⟩ => ⟨S3x512x512, .i32⟩
  | .hbm, ⟨72, _⟩ => ⟨S3x512x512, .i1⟩
  | .hbm, ⟨73, _⟩ => ⟨S3x512x512, .i32⟩
  | .hbm, ⟨74, _⟩ => ⟨S3x512x512, .i32⟩
  | .hbm, ⟨75, _⟩ => ⟨S_, .i32⟩
  | .hbm, ⟨76, _⟩ => ⟨S3x512x512, .i32⟩
  | .hbm, ⟨77, _⟩ => ⟨S3x512x512, .i1⟩
  | .hbm, ⟨78, _⟩ => ⟨S3x512x512, .i32⟩
  | .hbm, ⟨79, _⟩ => ⟨S3x512x512, .i32⟩
  | .hbm, ⟨80, _⟩ => ⟨S_, .i32⟩
  | .hbm, ⟨81, _⟩ => ⟨S3x512x512, .i32⟩
  | .hbm, ⟨82, _⟩ => ⟨S3x512x512, .i32⟩
  | .hbm, ⟨83, _⟩ => ⟨S_, .i32⟩
  | .hbm, ⟨84, _⟩ => ⟨S3x512x512, .i32⟩
  | .hbm, ⟨85, _⟩ => ⟨S3x512x512, .i1⟩
  | .hbm, ⟨86, _⟩ => ⟨S_, .i32⟩
  | .hbm, ⟨87, _⟩ => ⟨S_, .i32⟩
  | .hbm, ⟨88, _⟩ => ⟨S3x512x512, .i32⟩
  | .hbm, ⟨89, _⟩ => ⟨S3x512x512, .i32⟩
  | .hbm, ⟨90, _⟩ => ⟨S3x512x512, .i32⟩
  | .hbm, ⟨91, _⟩ => ⟨S_, .i32⟩
  | .hbm, ⟨92, _⟩ => ⟨S3x512x512, .i32⟩
  | .hbm, ⟨93, _⟩ => ⟨S3x512x512, .i1⟩
  | .hbm, ⟨94, _⟩ => ⟨S3x512x512, .i32⟩
  | .hbm, ⟨95, _⟩ => ⟨S3x512x512, .i32⟩
  | .hbm, ⟨96, _⟩ => ⟨S3x512x512, .i32⟩
  | .hbm, ⟨97, _⟩ => ⟨S_, .i32⟩
  | .hbm, ⟨98, _⟩ => ⟨S3x512x512, .i32⟩
  | .hbm, ⟨99, _⟩ => ⟨S3x512x512, .i1⟩
  | .hbm, ⟨100, _⟩ => ⟨S_, .i32⟩
  | .hbm, ⟨101, _⟩ => ⟨S3x512x512, .i32⟩
  | .hbm, ⟨102, _⟩ => ⟨S3x512x512, .i32⟩
  | .hbm, ⟨103, _⟩ => ⟨S3x512x512, .i32⟩
  | .hbm, ⟨104, _⟩ => ⟨S3x512x512x1, .i32⟩
  | .hbm, ⟨105, _⟩ => ⟨S3x512x512x8, .f32⟩
  | .hbm, ⟨106, _⟩ => ⟨S8x3x512x512, .f32⟩
  | .hbm, ⟨107, _⟩ => ⟨S8x3x512x512, .f32⟩
  | .hbm, ⟨108, _⟩ => ⟨S8x3x512x512, .f32⟩
  | .hbm, ⟨109, _⟩ => ⟨S_, .i32⟩
  | .hbm, ⟨110, _⟩ => ⟨S2, .i32⟩
  | .hbm, ⟨111, _⟩ => ⟨S2, .i1⟩
  | .hbm, ⟨112, _⟩ => ⟨S_, .i32⟩
  | .hbm, ⟨113, _⟩ => ⟨S2, .i32⟩
  | .hbm, ⟨114, _⟩ => ⟨S2, .i32⟩
  | .hbm, ⟨115, _⟩ => ⟨S2, .i32⟩
  | .hbm, ⟨116, _⟩ => ⟨S2x1, .i32⟩
  | .hbm, ⟨117, _⟩ => ⟨S2x8, .f32⟩
  | .hbm, ⟨118, _⟩ => ⟨S2x8, .f32⟩
  | .hbm, ⟨119, _⟩ => ⟨S2x8, .f32⟩
  | .hbm, ⟨120, _⟩ => ⟨S128x1, .f32⟩
  | .hbm, ⟨121, _⟩ => ⟨S2x16384x512, .bf16⟩
  | .local _ .vmem, ⟨0, _⟩ => ⟨S4x64, .f32⟩
  | .local _ .vmem, ⟨1, _⟩ => ⟨S1x1x128x512, .bf16⟩
  | .local _ .vmem, ⟨2, _⟩ => ⟨S1x1x128x512, .bf16⟩
  | .local _ .vmem, ⟨3, _⟩ => ⟨S1x16384x128, .bf16⟩
  | .local _ .vmem, ⟨4, _⟩ => ⟨S1x16384x128, .bf16⟩
  | .local _ .vmem, ⟨5, _⟩ => ⟨S1x32x128x512, .bf16⟩
  | .local _ .vmem, ⟨6, _⟩ => ⟨S1x32x128x512, .bf16⟩
  | .local _ .vmem, ⟨7, _⟩ => ⟨S2x3x512x512, .f32⟩
  | .local _ .vmem, ⟨8, _⟩ => ⟨S2x3x512x512, .f32⟩
  | .local _ .vmem, ⟨9, _⟩ => ⟨S128x1, .f32⟩
  | .local _ .vmem, ⟨10, _⟩ => ⟨S1x512x128, .bf16⟩
  | .local _ .vmem, ⟨11, _⟩ => ⟨S1x512x128, .bf16⟩
  | .local _ .vmem, ⟨12, _⟩ => ⟨S2x128x512, .bf16⟩
  | .local _ .vmem, ⟨13, _⟩ => ⟨S2x512x512, .f32⟩
  | .local _ .vmem, ⟨14, _⟩ => ⟨S2x512x512, .f32⟩
  | .local _ .vmem, ⟨15, _⟩ => ⟨S2x1x512, .f32⟩
  | .local _ .vmem, ⟨16, _⟩ => ⟨S2x1x512, .f32⟩
  | .local _ .vmem, ⟨17, _⟩ => ⟨S2x1x512, .f32⟩
  | .local _ .vmem, ⟨18, _⟩ => ⟨S2x144x512, .f32⟩
  | .local _ .smem, ⟨0, _⟩ => ⟨S2x8, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_c_13 : Ref sig .tc := ⟨.hbm, 83, rfl⟩
abbrev main_v60 : Ref sig .tc := ⟨.hbm, 84, rfl⟩
abbrev main_v61 : Ref sig .tc := ⟨.hbm, 85, rfl⟩
abbrev main_c_14 : Ref sig .tc := ⟨.hbm, 86, rfl⟩
abbrev main_c_15 : Ref sig .tc := ⟨.hbm, 87, rfl⟩
abbrev main_call0_v0 : Ref sig .tc := ⟨.hbm, 88, rfl⟩
abbrev main_call0_v1 : Ref sig .tc := ⟨.hbm, 89, rfl⟩
abbrev main_v62 : Ref sig .tc := ⟨.hbm, 90, rfl⟩
abbrev main_c_16 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_17 : Ref sig .tc := ⟨.hbm, 97, rfl⟩
abbrev main_v68 : Ref sig .tc := ⟨.hbm, 98, rfl⟩
abbrev main_v69 : Ref sig .tc := ⟨.hbm, 99, rfl⟩
abbrev main_c_18 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_19 : Ref sig .tc := ⟨.hbm, 109, rfl⟩
abbrev main_v78 : Ref sig .tc := ⟨.hbm, 110, rfl⟩
abbrev main_v79 : Ref sig .tc := ⟨.hbm, 111, rfl⟩
abbrev main_c_20 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev cc0_stg0_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![2, 4, 32], ![false, false, false]⟩

def k0_mult1 : BitVec 32 :=
  let c0_i32 : BitVec 32 := 0#32
  c0_i32
@[reducible] def k0_t1_loop : Scf.Loop 32 :=
  let c0_i32_41 : BitVec 32 := 0#32
  let c16_i32 : BitVec 32 := 16#32
  let v50 : BitVec 32 := Scalar.addi c0_i32_41 c16_i32
  let c1_i32 : BitVec 32 := 1#32
  ⟨c0_i32_41, v50, c1_i32⟩
def k0_cond1 (i : grid0.Coords) (k0_t1 : Fin k0_t1_loop.trips) : BitVec 1 :=
  let c2_i32 : BitVec 32 := 2#32
  let c0_i32_41 : BitVec 32 := 0#32
  let c1_i32 : BitVec 32 := 1#32
  let arg18 : BitVec 32 := Scf.iv c0_i32_41 c1_i32 k0_t1
  let v103 : BitVec 32 := Scalar.muli c2_i32 arg18
  let arg2 : BitVec 32 := BitVec.ofNat 32 (i 2).val
  let v104 : BitVec 32 := Scalar.subi v103 arg2
  let v105 : BitVec 32 := Scalar.absi v104
  let c1_i32_68 : BitVec 32 := 1#32
  let v106 : BitVec 1 := Scalar.cmpi .sle v105 c1_i32_68
  let v107 : BitVec 32 := Scalar.extui v106
  let c0_i32_69 : BitVec 32 := 0#32
  let v108 : BitVec 1 := Scalar.cmpi .ne v107 c0_i32_69
  v108

def k0_off1 (i : grid0.Coords) (k0_t1 : Fin k0_t1_loop.trips) : Fin 4 → Nat :=
  let c0_246 : Index := 0#32
  let c2_i32 : BitVec 32 := 2#32
  let c0_i32_41 : BitVec 32 := 0#32
  let c1_i32 : BitVec 32 := 1#32
  let arg18 : BitVec 32 := Scf.iv c0_i32_41 c1_i32 k0_t1
  let v103 : BitVec 32 := Scalar.muli c2_i32 arg18
  let arg2 : BitVec 32 := BitVec.ofNat 32 (i 2).val
  let v104 : BitVec 32 := Scalar.subi v103 arg2
  let c1_i32_245 : BitVec 32 := 1#32
  let v346 : BitVec 32 := Scalar.addi v104 c1_i32_245
  let v347 : Index := Scalar.indexCast v346
  let c0_247 : Index := 0#32
  let c0_248 : Index := 0#32
  ![0, v347.toNat, 0, 0]
def k0_off2 (i : grid0.Coords) (k0_t1 : Fin k0_t1_loop.trips) : Fin 4 → Nat :=
  let c1_260 : Index := 1#32
  let c2_i32 : BitVec 32 := 2#32
  let c0_i32_41 : BitVec 32 := 0#32
  let c1_i32 : BitVec 32 := 1#32
  let arg18 : BitVec 32 := Scf.iv c0_i32_41 c1_i32 k0_t1
  let v103 : BitVec 32 := Scalar.muli c2_i32 arg18
  let arg2 : BitVec 32 := BitVec.ofNat 32 (i 2).val
  let v104 : BitVec 32 := Scalar.subi v103 arg2
  let c1_i32_259 : BitVec 32 := 1#32
  let v361 : BitVec 32 := Scalar.addi v104 c1_i32_259
  let v362 : Index := Scalar.indexCast v361
  let c0_261 : Index := 0#32
  let c0_262 : Index := 0#32
  ![1, v362.toNat, 0, 0]
def k0_mult2 (k0_t1 : Fin k0_t1_loop.trips) : BitVec 32 :=
  let c2_i32 : BitVec 32 := 2#32
  let c0_i32_41 : BitVec 32 := 0#32
  let c1_i32 : BitVec 32 := 1#32
  let arg18 : BitVec 32 := Scf.iv c0_i32_41 c1_i32 k0_t1
  let v103 : BitVec 32 := Scalar.muli c2_i32 arg18
  let c1_i32_70 : BitVec 32 := 1#32
  let v109 : BitVec 32 := Scalar.addi v103 c1_i32_70
  let c31_i32 : BitVec 32 := 31#32
  let v110 : BitVec 32 := Scalar.minsi v109 c31_i32
  let c512_i32 : BitVec 32 := 512#32
  let v111 : BitVec 32 := Scalar.muli v110 c512_i32
  v111
def k0_off3 (k0_t1 : Fin k0_t1_loop.trips) : Fin 3 → Nat :=
  let c0_71 : Index := 0#32
  let c2_i32 : BitVec 32 := 2#32
  let c0_i32_41 : BitVec 32 := 0#32
  let c1_i32 : BitVec 32 := 1#32
  let arg18 : BitVec 32 := Scf.iv c0_i32_41 c1_i32 k0_t1
  let v103 : BitVec 32 := Scalar.muli c2_i32 arg18
  let c1_i32_70 : BitVec 32 := 1#32
  let v109 : BitVec 32 := Scalar.addi v103 c1_i32_70
  let c31_i32 : BitVec 32 := 31#32
  let v110 : BitVec 32 := Scalar.minsi v109 c31_i32
  let c512_i32 : BitVec 32 := 512#32
  let v111 : BitVec 32 := Scalar.muli v110 c512_i32
  let v112 : BitVec 32 := v111
  let v113 : Index := Scalar.indexCast v112
  let c0_72 : Index := 0#32
  ![0, v113.toNat, 0]
def k0_off4 (k0_t1 : Fin k0_t1_loop.trips) : Fin 4 → Nat :=
  let c0_95 : Index := 0#32
  let c2_i32 : BitVec 32 := 2#32
  let c0_i32_41 : BitVec 32 := 0#32
  let c1_i32 : BitVec 32 := 1#32
  let arg18 : BitVec 32 := Scf.iv c0_i32_41 c1_i32 k0_t1
  let v103 : BitVec 32 := Scalar.muli c2_i32 arg18
  let v138 : Index := Scalar.indexCast v103
  let c0_96 : Index := 0#32
  let c0_97 : Index := 0#32
  ![0, v138.toNat, 0, 0]
def k0_off5 (i : grid0.Coords) (c0_i32_101 : BitVec 32) : Fin 2 → Nat :=
  let c0_102 : Index := 0#32
  let c2_i32_100 : BitVec 32 := 2#32
  let arg1 : BitVec 32 := BitVec.ofNat 32 (i 1).val
  let v144 : BitVec 32 := Scalar.muli c2_i32_100 arg1
  let v145 : BitVec 32 := Scalar.addi v144 c0_i32_101
  let v146 : Index := Scalar.indexCast v145
  ![0, v146.toNat]
def k0_off6 (i : grid0.Coords) (c0_i32_104 : BitVec 32) : Fin 2 → Nat :=
  let c1_105 : Index := 1#32
  let c2_i32_103 : BitVec 32 := 2#32
  let arg1 : BitVec 32 := BitVec.ofNat 32 (i 1).val
  let v148 : BitVec 32 := Scalar.muli c2_i32_103 arg1
  let v149 : BitVec 32 := Scalar.addi v148 c0_i32_104
  let v150 : Index := Scalar.indexCast v149
  ![1, v150.toNat]
def k0_cond2 (i : grid0.Coords) (k0_t1 : Fin k0_t1_loop.trips) : BitVec 1 :=
  let c2_i32_153 : BitVec 32 := 2#32
  let c0_i32_41 : BitVec 32 := 0#32
  let c1_i32 : BitVec 32 := 1#32
  let arg18 : BitVec 32 := Scf.iv c0_i32_41 c1_i32 k0_t1
  let v223 : BitVec 32 := Scalar.muli c2_i32_153 arg18
  let c1_i32_154 : BitVec 32 := 1#32
  let v224 : BitVec 32 := Scalar.addi v223 c1_i32_154
  let arg2 : BitVec 32 := BitVec.ofNat 32 (i 2).val
  let v225 : BitVec 32 := Scalar.subi v224 arg2
  let v226 : BitVec 32 := Scalar.absi v225
  let c1_i32_155 : BitVec 32 := 1#32
  let v227 : BitVec 1 := Scalar.cmpi .sle v226 c1_i32_155
  let v228 : BitVec 32 := Scalar.extui v227
  let c0_i32_156 : BitVec 32 := 0#32
  let v229 : BitVec 1 := Scalar.cmpi .ne v228 c0_i32_156
  v229

def k0_off7 (i : grid0.Coords) (k0_t1 : Fin k0_t1_loop.trips) : Fin 4 → Nat :=
  let c0_246 : Index := 0#32
  let c2_i32_153 : BitVec 32 := 2#32
  let c0_i32_41 : BitVec 32 := 0#32
  let c1_i32 : BitVec 32 := 1#32
  let arg18 : BitVec 32 := Scf.iv c0_i32_41 c1_i32 k0_t1
  let v223 : BitVec 32 := Scalar.muli c2_i32_153 arg18
  let c1_i32_154 : BitVec 32 := 1#32
  let v224 : BitVec 32 := Scalar.addi v223 c1_i32_154
  let arg2 : BitVec 32 := BitVec.ofNat 32 (i 2).val
  let v225 : BitVec 32 := Scalar.subi v224 arg2
  let c1_i32_245 : BitVec 32 := 1#32
  let v346 : BitVec 32 := Scalar.addi v225 c1_i32_245
  let v347 : Index := Scalar.indexCast v346
  let c0_247 : Index := 0#32
  let c0_248 : Index := 0#32
  ![0, v347.toNat, 0, 0]
def k0_off8 (i : grid0.Coords) (k0_t1 : Fin k0_t1_loop.trips) : Fin 4 → Nat :=
  let c1_260 : Index := 1#32
  let c2_i32_153 : BitVec 32 := 2#32
  let c0_i32_41 : BitVec 32 := 0#32
  let c1_i32 : BitVec 32 := 1#32
  let arg18 : BitVec 32 := Scf.iv c0_i32_41 c1_i32 k0_t1
  let v223 : BitVec 32 := Scalar.muli c2_i32_153 arg18
  let c1_i32_154 : BitVec 32 := 1#32
  let v224 : BitVec 32 := Scalar.addi v223 c1_i32_154
  let arg2 : BitVec 32 := BitVec.ofNat 32 (i 2).val
  let v225 : BitVec 32 := Scalar.subi v224 arg2
  let c1_i32_259 : BitVec 32 := 1#32
  let v361 : BitVec 32 := Scalar.addi v225 c1_i32_259
  let v362 : Index := Scalar.indexCast v361
  let c0_261 : Index := 0#32
  let c0_262 : Index := 0#32
  ![1, v362.toNat, 0, 0]
def k0_mult3 (k0_t1 : Fin k0_t1_loop.trips) : BitVec 32 :=
  let c2_i32_153 : BitVec 32 := 2#32
  let c0_i32_41 : BitVec 32 := 0#32
  let c1_i32 : BitVec 32 := 1#32
  let arg18 : BitVec 32 := Scf.iv c0_i32_41 c1_i32 k0_t1
  let v223 : BitVec 32 := Scalar.muli c2_i32_153 arg18
  let c1_i32_154 : BitVec 32 := 1#32
  let v224 : BitVec 32 := Scalar.addi v223 c1_i32_154
  let c1_i32_157 : BitVec 32 := 1#32
  let v230 : BitVec 32 := Scalar.addi v224 c1_i32_157
  let c31_i32_158 : BitVec 32 := 31#32
  let v231 : BitVec 32 := Scalar.minsi v230 c31_i32_158
  let c512_i32_159 : BitVec 32 := 512#32
  let v232 : BitVec 32 := Scalar.muli v231 c512_i32_159
  v232
def k0_off9 (k0_t1 : Fin k0_t1_loop.trips) : Fin 3 → Nat :=
  let c0_160 : Index := 0#32
  let c2_i32_153 : BitVec 32 := 2#32
  let c0_i32_41 : BitVec 32 := 0#32
  let c1_i32 : BitVec 32 := 1#32
  let arg18 : BitVec 32 := Scf.iv c0_i32_41 c1_i32 k0_t1
  let v223 : BitVec 32 := Scalar.muli c2_i32_153 arg18
  let c1_i32_154 : BitVec 32 := 1#32
  let v224 : BitVec 32 := Scalar.addi v223 c1_i32_154
  let c1_i32_157 : BitVec 32 := 1#32
  let v230 : BitVec 32 := Scalar.addi v224 c1_i32_157
  let c31_i32_158 : BitVec 32 := 31#32
  let v231 : BitVec 32 := Scalar.minsi v230 c31_i32_158
  let c512_i32_159 : BitVec 32 := 512#32
  let v232 : BitVec 32 := Scalar.muli v231 c512_i32_159
  let v233 : BitVec 32 := v232
  let v234 : Index := Scalar.indexCast v233
  let c0_161 : Index := 0#32
  ![0, v234.toNat, 0]
def k0_off10 (k0_t1 : Fin k0_t1_loop.trips) : Fin 4 → Nat :=
  let c0_184 : Index := 0#32
  let c2_i32_153 : BitVec 32 := 2#32
  let c0_i32_41 : BitVec 32 := 0#32
  let c1_i32 : BitVec 32 := 1#32
  let arg18 : BitVec 32 := Scf.iv c0_i32_41 c1_i32 k0_t1
  let v223 : BitVec 32 := Scalar.muli c2_i32_153 arg18
  let c1_i32_154 : BitVec 32 := 1#32
  let v224 : BitVec 32 := Scalar.addi v223 c1_i32_154
  let v259 : Index := Scalar.indexCast v224
  let c0_185 : Index := 0#32
  let c0_186 : Index := 0#32
  ![0, v259.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x32x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2x3x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S2x16384x512 : Shape := ⟨3, ![2, 16384, 512]⟩
abbrev S64 : Shape := ⟨1, ![64]⟩
abbrev S4x64 : Shape := ⟨2, ![4, 64]⟩
abbrev S128 : Shape := ⟨1, ![128]⟩
abbrev S32x8 : Shape := ⟨2, ![32, 8]⟩
abbrev S2x16384x4x2x64 : Shape := ⟨5, ![2, 16384, 4, 2, 64]⟩
abbrev S1x1x1x1x64 : Shape := ⟨5, ![1, 1, 1, 1, 64]⟩
abbrev S_ : Shape := ⟨0, ![]⟩
abbrev S2x16384x4x128 : Shape := ⟨4, ![2, 16384, 4, 128]⟩
abbrev S1x64 : Shape := ⟨2, ![1, 64]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S16384x16384x1 : Shape := ⟨3, ![16384, 16384, 1]⟩
abbrev S16384x16384x8 : Shape := ⟨3, ![16384, 16384, 8]⟩
abbrev S8x16384x16384 : Shape := ⟨3, ![8, 16384, 16384]⟩
abbrev S4x2x16384x16384 : Shape := ⟨4, ![4, 2, 16384, 16384]⟩
abbrev S2x4x2x16384x16384 : Shape := ⟨5, ![2, 4, 2, 16384, 16384]⟩
abbrev S1x4x2x16384x16384 : Shape := ⟨5, ![1, 4, 2, 16384, 16384]⟩
abbrev S2x4x2x16384 : Shape := ⟨4, ![2, 4, 2, 16384]⟩
abbrev S2x4x2x16384x1 : Shape := ⟨5, ![2, 4, 2, 16384, 1]⟩
abbrev S2x4x1x16384x16384 : Shape := ⟨5, ![2, 4, 1, 16384, 16384]⟩
abbrev S2x4x16384x16384 : Shape := ⟨4, ![2, 4, 16384, 16384]⟩
abbrev S2x4x128x16384 : Shape := ⟨4, ![2, 4, 128, 16384]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩

abbrev nBuf : Space → Nat
  | .hbm => 141
  | .vmem => 0
  | .smem => 0
  | _ => 0

abbrev hbmTy0_0 (i : Nat) : BufTy := match i % 128 with
  | 0 => ⟨S2x16384x512, .f32⟩
  | 1 => ⟨S2x16384x512, .f32⟩
  | 2 => ⟨S2x16384x512, .f32⟩
  | 3 => ⟨S64, .f32⟩
  | 4 => ⟨S64, .f32⟩
  | 5 => ⟨S4x64, .f32⟩
  | 6 => ⟨S128, .f32⟩
  | 7 => ⟨S32x8, .f32⟩
  | 8 => ⟨S2x16384x4x2x64, .f32⟩
  | 9 => ⟨S1x1x1x1x64, .f32⟩
  | 10 => ⟨S2x16384x4x2x64, .f32⟩
  | 11 => ⟨S2x16384x4x2x64, .f32⟩
  | 12 => ⟨S_, .f32⟩
  | 13 => ⟨S2x16384x4x2x64, .f32⟩
  | 14 => ⟨S2x16384x4x2x64, .f32⟩
  | 15 => ⟨S2x16384x4x2x64, .f32⟩
  | 16 => ⟨S1x1x1x1x64, .f32⟩
  | 17 => ⟨S2x16384x4x2x64, .f32⟩
  | 18 => ⟨S2x16384x4x2x64, .f32⟩
  | 19 => ⟨S2x16384x4x128, .f32⟩
  | 20 => ⟨S1x64, .f32⟩
  | 21 => ⟨S64, .f32⟩
  | 22 => ⟨S1x64, .f32⟩
  | 23 => ⟨S64, .f32⟩
  | 24 => ⟨S64, .f32⟩
  | 25 => ⟨S_, .f32⟩
  | 26 => ⟨S_, .f32⟩
  | 27 => ⟨S_, .f32⟩
  | 28 => ⟨S1x64, .f32⟩
  | 29 => ⟨S64, .f32⟩
  | 30 => ⟨S1x64, .f32⟩
  | 31 => ⟨S64, .f32⟩
  | 32 => ⟨S64, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S16384, .i32⟩
  | 40 => ⟨S1x16384, .i32⟩
  | 41 => ⟨S16384x1, .i32⟩
  | 42 => ⟨S16384x16384, .i32⟩
  | 43 => ⟨S16384x16384, .i32⟩
  | 44 => ⟨S16384x16384, .i32⟩
  | 45 => ⟨S16384x16384, .i32⟩
  | 46 => ⟨S_, .i32⟩
  | 47 => ⟨S16384x16384, .i32⟩
  | 48 => ⟨S16384x16384, .i32⟩
  | 49 => ⟨S16384x16384, .f32⟩
  | 50 => ⟨S_, .f32⟩
  | 51 => ⟨S16384x16384, .f32⟩
  | 52 => ⟨S16384x16384, .f32⟩
  | 53 => ⟨S16384x16384, .f32⟩
  | 54 => ⟨S_, .f32⟩
  | 55 => ⟨S_, .f32⟩
  | 56 => ⟨S16384x16384, .f32⟩
  | 57 => ⟨S16384x16384, .f32⟩
  | 58 => ⟨S_, .f32⟩
  | 59 => ⟨S16384x16384, .f32⟩
  | 60 => ⟨S16384x16384, .f32⟩
  | 61 => ⟨S16384x16384, .i32⟩
  | 62 => ⟨S_, .i32⟩
  | 63 => ⟨S16384x16384, .i32⟩
  | 64 => ⟨S16384x16384, .i32⟩
  | 65 => ⟨S_, .i32⟩
  | 66 => ⟨S16384x16384, .i32⟩
  | 67 => ⟨S16384x16384, .i32⟩
  | 68 => ⟨S_, .i32⟩
  | 69 => ⟨S16384x16384, .i32⟩
  | 70 => ⟨S16384x16384, .i1⟩
  | 71 => ⟨S_, .i32⟩
  | 72 => ⟨S_, .i32⟩
  | 73 => ⟨S16384x16384, .i32⟩
  | 74 => ⟨S16384x16384, .i32⟩
  | 75 => ⟨S16384x16384, .i32⟩
  | 76 => ⟨S_, .i32⟩
  | 77 => ⟨S16384x16384, .i32⟩
  | 78 => ⟨S16384x16384, .i1⟩
  | 79 => ⟨S16384x16384, .i32⟩
  | 80 => ⟨S16384x16384, .i32⟩
  | 81 => ⟨S16384x16384, .i32⟩
  | 82 => ⟨S_, .i32⟩
  | 83 => ⟨S16384x16384, .i32⟩
  | 84 => ⟨S16384x16384, .i1⟩
  | 85 => ⟨S_, .i32⟩
  | 86 => ⟨S16384x16384, .i32⟩
  | 87 => ⟨S16384x16384, .i32⟩
  | 88 => ⟨S16384x16384, .i32⟩
  | 89 => ⟨S16384x16384x1, .i32⟩
  | 90 => ⟨S16384x16384x8, .f32⟩
  | 91 => ⟨S8x16384x16384, .f32⟩
  | 92 => ⟨S4x2x16384x16384, .f32⟩
  | 93 => ⟨S2x4x2x16384x16384, .f32⟩
  | 94 => ⟨S1x4x2x16384x16384, .f32⟩
  | 95 => ⟨S2x4x2x16384x16384, .f32⟩
  | 96 => ⟨S2x4x2x16384x16384, .f32⟩
  | 97 => ⟨S_, .f32⟩
  | 98 => ⟨S2x4x2x16384, .f32⟩
  | 99 => ⟨S_, .f32⟩
  | 100 => ⟨S2x4x2x16384, .f32⟩
  | 101 => ⟨S2x4x2x16384, .f32⟩
  | 102 => ⟨S2x4x2x16384x1, .f32⟩
  | 103 => ⟨S2x4x2x16384x16384, .f32⟩
  | 104 => ⟨S2x4x2x16384x16384, .f32⟩
  | 105 => ⟨S2x4x2x16384x16384, .f32⟩
  | 106 => ⟨S_, .f32⟩
  | 107 => ⟨S2x4x2x16384, .f32⟩
  | 108 => ⟨S2x4x2x16384x1, .f32⟩
  | 109 => ⟨S2x4x2x16384x16384, .f32⟩
  | 110 => ⟨S2x4x2x16384x16384, .f32⟩
  | 111 => ⟨S2x4x1x16384x16384, .f32⟩
  | 112 => ⟨S2x4x16384x16384, .f32⟩
  | 113 => ⟨S2x4x1x16384x16384, .f32⟩
  | 114 => ⟨S2x4x16384x16384, .f32⟩
  | 115 => ⟨S2x4x16384x16384, .f32⟩
  | 116 => ⟨S2x4x16384x16384, .f32⟩
  | 117 => ⟨S2x4x16384x16384, .f32⟩
  | 118 => ⟨S2x4x128x16384, .f32⟩
  | 119 => ⟨S2x16384x4x128, .f32⟩
  | 120 => ⟨S2x16384x4x128, .f32⟩
  | 121 => ⟨S_, .f32⟩
  | 122 => ⟨S2x16384x4, .f32⟩
  | 123 => ⟨S2x16384x4x1, .f32⟩
  | 124 => ⟨S_, .f32⟩
  | 125 => ⟨S2x16384x4x1, .f32⟩
  | 126 => ⟨S2x16384x4x1, .f32⟩
  | 127 => ⟨S_, .f32⟩
  | _ => ⟨S2x16384x512, .f32⟩

abbrev hbmTy0_1 (i : Nat) : BufTy := match i % 128 with
  | 0 => ⟨S2x16384x4x1, .f32⟩
  | 1 => ⟨S2x16384x4x1, .f32⟩
  | 2 => ⟨S2x16384x4x1, .f32⟩
  | 3 => ⟨S2x16384x4x128, .f32⟩
  | 4 => ⟨S2x16384x4x128, .f32⟩
  | 5 => ⟨S1x1x1x128, .f32⟩
  | 6 => ⟨S2x16384x4x128, .f32⟩
  | 7 => ⟨S2x16384x4x128, .f32⟩
  | 8 => ⟨S_, .f32⟩
  | 9 => ⟨S2x16384x4x128, .f32⟩
  | 10 => ⟨S2x16384x4x128, .f32⟩
  | 11 => ⟨S2x16384x512, .f32⟩
  | 12 => ⟨S2x16384x512, .bf16⟩
  | _ => ⟨S2x16384x512, .f32⟩

abbrev hbmTy (i : Nat) : BufTy := match i / 128 with
  | 0 => hbmTy0_0 i
  | 1 => hbmTy0_1 i
  | _ => ⟨S2x16384x512, .f32⟩

abbrev bufTy : (tb : Table) → Fin (tcTables nBuf tb) → BufTy
  | .hbm, ⟨i, _⟩ => hbmTy i
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_6 : Ref sig .tc := ⟨.hbm, 62, rfl⟩
abbrev main_v46 : Ref sig .tc := ⟨.hbm, 63, rfl⟩
abbrev main_v47 : Ref sig .tc := ⟨.hbm, 64, rfl⟩
abbrev main_c_7 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_c_10 : Ref sig .tc := ⟨.hbm, 72, rfl⟩
abbrev main_call0_v0 : Ref sig .tc := ⟨.hbm, 73, rfl⟩
abbrev main_call0_v1 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_cst_15 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_17 : Ref sig .tc := ⟨.hbm, 121, rfl⟩
abbrev main_v92 : Ref sig .tc := ⟨.hbm, 122, rfl⟩
abbrev main_v93 : Ref sig .tc := ⟨.hbm, 123, rfl⟩
abbrev main_cst_18 : Ref sig .tc := ⟨.hbm, 124, rfl⟩
abbrev main_v94 : Ref sig .tc := ⟨.hbm, 125, rfl⟩
abbrev main_v95 : Ref sig .tc := ⟨.hbm, 126, rfl⟩
abbrev main_cst_19 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_20 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩

abbrev nD : Nat := 1
abbrev τ : Topo := Topo.v7x

variable {F : FTy → Type} [FloatOps F]
-- ==== Kernel2.lean ====
abbrev S2x16384x1024 : Shape := ⟨3, ![2, 16384, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 10
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S32768x1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S32768x1024, .f32⟩
  | .hbm, ⟨9, _⟩ => ⟨S2x16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S2x16384x1024 : Shape := ⟨3, ![2, 16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4096 : Shape := ⟨3, ![2, 16384, 4096]⟩

abbrev nBuf : Space → Nat
  | .hbm => 27
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S2x16384x1024, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x1024, .f32⟩
  | .hbm, ⟨16, _⟩ => ⟨S2x16384x1024, .f32⟩
  | .hbm, ⟨17, _⟩ => ⟨S1x1x1024, .f32⟩
  | .hbm, ⟨18, _⟩ => ⟨S2x16384x1024, .f32⟩
  | .hbm, ⟨19, _⟩ => ⟨S2x16384x1024, .f32⟩
  | .hbm, ⟨20, _⟩ => ⟨S2x16384x4096, .f32⟩
  | .hbm, ⟨21, _⟩ => ⟨S_, .f32⟩
  | .hbm, ⟨22, _⟩ => ⟨S2x16384x4096, .f32⟩
  | .hbm, ⟨23, _⟩ => ⟨S2x16384x4096, .f32⟩
  | .hbm, ⟨24, _⟩ => ⟨S2x16384x4096, .f32⟩
  | .hbm, ⟨25, _⟩ => ⟨S2x16384x1024, .f32⟩
  | .hbm, ⟨26, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel3.lean ====
abbrev S2x16384x1024 : Shape := ⟨3, ![2, 16384, 1024]⟩
abbrev S1024 : Shape := ⟨1, ![1024]⟩
abbrev S1024x3072 : Shape := ⟨2, ![1024, 3072]⟩
abbrev S64 : Shape := ⟨1, ![64]⟩
abbrev S128x128 : Shape := ⟨2, ![128, 128]⟩
abbrev S_ : Shape := ⟨0, ![]⟩
abbrev S1x64 : Shape := ⟨2, ![1, 64]⟩
abbrev S8x64 : Shape := ⟨2, ![8, 64]⟩
abbrev S512 : Shape := ⟨1, ![512]⟩
abbrev S1024x512 : Shape := ⟨2, ![1024, 512]⟩
abbrev S1024x2048 : Shape := ⟨2, ![1024, 2048]⟩
abbrev S1024x2560 : Shape := ⟨2, ![1024, 2560]⟩
abbrev S2560x1024 : Shape := ⟨2, ![2560, 1024]⟩
abbrev S32768x1024 : Shape := ⟨2, ![32768, 1024]⟩
abbrev S1x1024 : Shape := ⟨2, ![1, 1024]⟩
abbrev S1x512 : Shape := ⟨2, ![1, 512]⟩
abbrev S32768x512 : Shape := ⟨2, ![32768, 512]⟩
abbrev S2x32x512x512 : Shape := ⟨4, ![2, 32, 512, 512]⟩
abbrev S2x1536x16384 : Shape := ⟨3, ![2, 1536, 16384]⟩
abbrev S512x1024 : Shape := ⟨2, ![512, 1024]⟩
abbrev S512x512 : Shape := ⟨2, ![512, 512]⟩
abbrev S1x1x512x512 : Shape := ⟨4, ![1, 1, 512, 512]⟩
abbrev S1x1536x512 : Shape := ⟨3, ![1, 1536, 512]⟩
abbrev S512x1 : Shape := ⟨2, ![512, 1]⟩
abbrev S512x128 : Shape := ⟨2, ![512, 128]⟩
abbrev S1x128 : Shape := ⟨2, ![1, 128]⟩
abbrev S2560x512 : Shape := ⟨2, ![2560, 512]⟩
abbrev S8x64x512 : Shape := ⟨3, ![8, 64, 512]⟩
abbrev S8x512 : Shape := ⟨2, ![8, 512]⟩
abbrev S8x1x512 : Shape := ⟨3, ![8, 1, 512]⟩
abbrev S1536x512 : Shape := ⟨2, ![1536, 512]⟩
abbrev S2x16384x512 : Shape := ⟨3, ![2, 16384, 512]⟩

abbrev nBuf : Space → Nat
  | .hbm => 32
  | .vmem => 15
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S128x128, .bf16⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1024x3072, .bf16⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S1x64, .f32⟩
  | .hbm, ⟨15, _⟩ => ⟨S8x64, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S1024x512, .bf16⟩
  | .hbm, ⟨20, _⟩ => ⟨S1024x2048, .bf16⟩
  | .hbm, ⟨21, _⟩ => ⟨S1024x2560, .bf16⟩
  | .hbm, ⟨22, _⟩ => ⟨S2560x1024, .bf16⟩
  | .hbm, ⟨23, _⟩ => ⟨S32768x1024, .f32⟩
  | .hbm, ⟨24, _⟩ => ⟨S1024x512, .bf16⟩
  | .hbm, ⟨25, _⟩ => ⟨S1x1024, .f32⟩
  | .hbm, ⟨26, _⟩ => ⟨S1x512, .f32⟩
  | .hbm, ⟨27, _⟩ => ⟨S32768x512, .bf16⟩
  | .hbm, ⟨28, _⟩ => ⟨S2x32x512x512, .bf16⟩
  | .hbm, ⟨29, _⟩ => ⟨S2x32x512x512, .bf16⟩
  | .hbm, ⟨30, _⟩ => ⟨S2x1536x16384, .f32⟩
  | .hbm, ⟨31, _⟩ => ⟨S2x16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1x512, .f32⟩
  | .local _ .vmem, ⟨5, _⟩ => ⟨S128x128, .bf16⟩
  | .local _ .vmem, ⟨6, _⟩ => ⟨S2560x1024, .bf16⟩
  | .local _ .vmem, ⟨7, _⟩ => ⟨S512x512, .bf16⟩
  | .local _ .vmem, ⟨8, _⟩ => ⟨S512x512, .bf16⟩
  | .local _ .vmem, ⟨9, _⟩ => ⟨S1x1x512x512, .bf16⟩
  | .local _ .vmem, ⟨10, _⟩ => ⟨S1x1x512x512, .bf16⟩
  | .local _ .vmem, ⟨11, _⟩ => ⟨S1x1x512x512, .bf16⟩
  | .local _ .vmem, ⟨12, _⟩ => ⟨S1x1x512x512, .bf16⟩
  | .local _ .vmem, ⟨13, _⟩ => ⟨S1x1536x512, .f32⟩
  | .local _ .vmem, ⟨14, _⟩ => ⟨S1x1536x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_cst_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_8 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_9 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2560x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1536x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S2x16384x1024 : Shape := ⟨3, ![2, 16384, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x3072 : Shape := ⟨3, ![2, 16384, 3072]⟩
abbrev S2x16384x512 : Shape := ⟨3, ![2, 16384, 512]⟩
abbrev S2x16384x1536 : Shape := ⟨3, ![2, 16384, 1536]⟩
abbrev S2x16384x8x64 : Shape := ⟨4, ![2, 16384, 8, 64]⟩
abbrev S2x16384x8 : Shape := ⟨3, ![2, 16384, 8]⟩
abbrev S2x16384x8x1 : Shape := ⟨4, ![2, 16384, 8, 1]⟩
abbrev S1x1x1x64 : Shape := ⟨4, ![1, 1, 1, 64]⟩
abbrev S2x32x512x512 : Shape := ⟨4, ![2, 32, 512, 512]⟩
abbrev S2x1536x16384 : Shape := ⟨3, ![2, 1536, 16384]⟩

abbrev nBuf : Space → Nat
  | .hbm => 76
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S2x16384x3072, .f32⟩
  | .hbm, ⟨22, _⟩ => ⟨S2x16384x512, .f32⟩
  | .hbm, ⟨23, _⟩ => ⟨S2x16384x512, .f32⟩
  | .hbm, ⟨24, _⟩ => ⟨S2x16384x512, .f32⟩
  | .hbm, ⟨25, _⟩ => ⟨S2x16384x1536, .f32⟩
  | .hbm, ⟨26, _⟩ => ⟨S2x16384x8x64, .f32⟩
  | .hbm, ⟨27, _⟩ => ⟨S2x16384x8x64, .f32⟩
  | .hbm, ⟨28, _⟩ => ⟨S_, .f32⟩
  | .hbm, ⟨29, _⟩ => ⟨S2x16384x8, .f32⟩
  | .hbm, ⟨30, _⟩ => ⟨S2x16384x8x1, .f32⟩
  | .hbm, ⟨31, _⟩ => ⟨S_, .f32⟩
  | .hbm, ⟨32, _⟩ => ⟨S2x16384x8x1, .f32⟩
  | .hbm, ⟨33, _⟩ => ⟨S2x16384x8x1, .f32⟩
  | .hbm, ⟨34, _⟩ => ⟨S_, .f32⟩
  | .hbm, ⟨35, _⟩ => ⟨S2x16384x8x1, .f32⟩
  | .hbm, ⟨36, _⟩ => ⟨S2x16384x8x1, .f32⟩
  | .hbm, ⟨37, _⟩ => ⟨S2x16384x8x1, .f32⟩
  | .hbm, ⟨38, _⟩ => ⟨S2x16384x8x64, .f32⟩
  | .hbm, ⟨39, _⟩ => ⟨S2x16384x8x64, .f32⟩
  | .hbm, ⟨40, _⟩ => ⟨S1x1x1x64, .f32⟩
  | .hbm, ⟨41, _⟩ => ⟨S2x16384x8x64, .f32⟩
  | .hbm, ⟨42, _⟩ => ⟨S2x16384x8x64, .f32⟩
  | .hbm, ⟨43, _⟩ => ⟨S1x1x1x64, .f32⟩
  | .hbm, ⟨44, _⟩ => ⟨S2x16384x8x64, .f32⟩
  | .hbm, ⟨45, _⟩ => ⟨S2x16384x8x64, .f32⟩
  | .hbm, ⟨46, _⟩ => ⟨S_, .f32⟩
  | .hbm, ⟨47, _⟩ => ⟨S2x16384x8x64, .f32⟩
  | .hbm, ⟨48, _⟩ => ⟨S2x16384x8x64, .f32⟩
  | .hbm, ⟨49, _⟩ => ⟨S_, .f32⟩
  | .hbm, ⟨50, _⟩ => ⟨S_, .f32⟩
  | .hbm, ⟨51, _⟩ => ⟨S2x16384x8x64, .f32⟩
  | .hbm, ⟨52, _⟩ => ⟨S2x16384x8x64, .f32⟩
  | .hbm, ⟨53, _⟩ => ⟨S2x16384x512, .f32⟩
  | .hbm, ⟨54, _⟩ => ⟨S2x16384x8x64, .f32⟩
  | .hbm, ⟨55, _⟩ => ⟨S2x16384x8x64, .f32⟩
  | .hbm, ⟨56, _⟩ => ⟨S_, .f32⟩
  | .hbm, ⟨57, _⟩ => ⟨S2x16384x8, .f32⟩
  | .hbm, ⟨58, _⟩ => ⟨S2x16384x8x1, .f32⟩
  | .hbm, ⟨59, _⟩ => ⟨S_, .f32⟩
  | .hbm, ⟨60, _⟩ => ⟨S2x16384x8x1, .f32⟩
  | .hbm, ⟨61, _⟩ => ⟨S2x16384x8x1, .f32⟩
  | .hbm, ⟨62, _⟩ => ⟨S_, .f32⟩
  | .hbm, ⟨63, _⟩ => ⟨S2x16384x8x1, .f32⟩
  | .hbm, ⟨64, _⟩ => ⟨S2x16384x8x1, .f32⟩
  | .hbm, ⟨65, _⟩ => ⟨S2x16384x8x1, .f32⟩
  | .hbm, ⟨66, _⟩ => ⟨S2x16384x8x64, .f32⟩
  | .hbm, ⟨67, _⟩ => ⟨S2x16384x8x64, .f32⟩
  | .hbm, ⟨68, _⟩ => ⟨S2x32x512x512, .f32⟩
  | .hbm, ⟨69, _⟩ => ⟨S2x32x512x512, .f32⟩
  | .hbm, ⟨70, _⟩ => ⟨S2x32x512x512, .f32⟩
  | .hbm, ⟨71, _⟩ => ⟨S2x32x512x512, .f32⟩
  | .hbm, ⟨72, _⟩ => ⟨S2x16384x512, .bf16⟩
  | .hbm, ⟨73, _⟩ => ⟨S2x32x512x512, .bf16⟩
  | .hbm, ⟨74, _⟩ => ⟨S2x32x512x512, .bf16⟩
  | .hbm, ⟨75, _⟩ => ⟨S2x1536x16384, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]
-- ==== Kernel4.lean ====
abbrev S2x16384x1024 : Shape := ⟨3, ![2, 16384, 1024]⟩
abbrev S2x16384x512 : Shape := ⟨3, ![2, 16384, 512]⟩
abbrev S2x512x16384 : Shape := ⟨3, ![2, 512, 16384]⟩
abbrev S1024x1024 : Shape := ⟨2, ![1024, 1024]⟩
abbrev S32768x1024 : Shape := ⟨2, ![32768, 1024]⟩
abbrev S32768x512 : Shape := ⟨2, ![32768, 512]⟩
abbrev S512x1024 : Shape := ⟨2, ![512, 1024]⟩
abbrev S512x512 : Shape := ⟨2, ![512, 512]⟩
abbrev S1x512x512 : Shape := ⟨3, ![1, 512, 512]⟩

abbrev nBuf : Space → Nat
  | .hbm => 11
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .bf16⟩
  | .hbm, ⟨2, _⟩ => ⟨S2x512x16384, .f32⟩
  | .hbm, ⟨3, _⟩ => ⟨S1024x1024, .f32⟩
  | .hbm, ⟨4, _⟩ => ⟨S1024x1024, .bf16⟩
  | .hbm, ⟨5, _⟩ => ⟨S32768x1024, .f32⟩
  | .hbm, ⟨6, _⟩ => ⟨S32768x512, .bf16⟩
  | .hbm, ⟨7, _⟩ => ⟨S512x1024, .bf16⟩
  | .hbm, ⟨8, _⟩ => ⟨S512x1024, .bf16⟩
  | .hbm, ⟨9, _⟩ => ⟨S32768x1024, .f32⟩
  | .hbm, ⟨10, _⟩ => ⟨S2x16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S1x512x512, .f32⟩
  | .local _ .vmem, ⟨5, _⟩ => ⟨S1x512x512, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S2x16384x1024 : Shape := ⟨3, ![2, 16384, 1024]⟩
abbrev S2x16384x512 : Shape := ⟨3, ![2, 16384, 512]⟩
abbrev S2x512x16384 : Shape := ⟨3, ![2, 512, 16384]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .bf16⟩
  | .hbm, ⟨2, _⟩ => ⟨S2x512x16384, .f32⟩
  | .hbm, ⟨3, _⟩ => ⟨S1024x1024, .f32⟩
  | .hbm, ⟨4, _⟩ => ⟨S2x16384x512, .f32⟩
  | .hbm, ⟨5, _⟩ => ⟨S2x16384x512, .f32⟩
  | .hbm, ⟨6, _⟩ => ⟨S2x16384x1024, .f32⟩
  | .hbm, ⟨7, _⟩ => ⟨S2x16384x1024, .f32⟩
  | .hbm, ⟨8, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel5.lean ====
abbrev S2x16384x1024 : Shape := ⟨3, ![2, 16384, 1024]⟩
abbrev S1024 : Shape := ⟨1, ![1024]⟩
abbrev S1024x2304 : Shape := ⟨2, ![1024, 2304]⟩
abbrev S64 : Shape := ⟨1, ![64]⟩
abbrev S128x128 : Shape := ⟨2, ![128, 128]⟩
abbrev S_ : Shape := ⟨0, ![]⟩
abbrev S1024x512 : Shape := ⟨2, ![1024, 512]⟩
abbrev S1024x128 : Shape := ⟨2, ![1024, 128]⟩
abbrev S1024x640 : Shape := ⟨2, ![1024, 640]⟩
abbrev S1024x1024 : Shape := ⟨2, ![1024, 1024]⟩
abbrev S1x64 : Shape := ⟨2, ![1, 64]⟩
abbrev S8x64 : Shape := ⟨2, ![8, 64]⟩
abbrev S512 : Shape := ⟨1, ![512]⟩
abbrev S2x64 : Shape := ⟨2, ![2, 64]⟩
abbrev S128 : Shape := ⟨1, ![128]⟩
abbrev S640 : Shape := ⟨1, ![640]⟩
abbrev S32768x1024 : Shape := ⟨2, ![32768, 1024]⟩
abbrev S1x1024 : Shape := ⟨2, ![1, 1024]⟩
abbrev S1x640 : Shape := ⟨2, ![1, 640]⟩
abbrev S32768x640 : Shape := ⟨2, ![32768, 640]⟩
abbrev S2x1024x16384 : Shape := ⟨3, ![2, 1024, 16384]⟩
abbrev S512x1024 : Shape := ⟨2, ![512, 1024]⟩
abbrev S512x640 : Shape := ⟨2, ![512, 640]⟩
abbrev S1x1024x512 : Shape := ⟨3, ![1, 1024, 512]⟩
abbrev S512x1 : Shape := ⟨2, ![512, 1]⟩
abbrev S512x128 : Shape := ⟨2, ![512, 128]⟩
abbrev S1x128 : Shape := ⟨2, ![1, 128]⟩
abbrev S16x64x512 : Shape := ⟨3, ![16, 64, 512]⟩
abbrev S16x512 : Shape := ⟨2, ![16, 512]⟩
abbrev S16x1x512 : Shape := ⟨3, ![16, 1, 512]⟩
abbrev S2x16384x640 : Shape := ⟨3, ![2, 16384, 640]⟩

abbrev nBuf : Space → Nat
  | .hbm => 48
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x2304, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128x128, .bf16⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1024x2304, .bf16⟩
  | .hbm, ⟨13, _⟩ => ⟨S1024x512, .bf16⟩
  | .hbm, ⟨14, _⟩ => ⟨S1024x128, .bf16⟩
  | .hbm, ⟨15, _⟩ => ⟨S1024x640, .bf16⟩
  | .hbm, ⟨16, _⟩ => ⟨S1024x512, .bf16⟩
  | .hbm, ⟨17, _⟩ => ⟨S1024x128, .bf16⟩
  | .hbm, ⟨18, _⟩ => ⟨S1024x640, .bf16⟩
  | .hbm, ⟨19, _⟩ => ⟨S1024x512, .bf16⟩
  | .hbm, ⟨20, _⟩ => ⟨S1024x512, .bf16⟩
  | .hbm, ⟨21, _⟩ => ⟨S1024x1024, .bf16⟩
  | .hbm, ⟨22, _⟩ => ⟨S1024x1024, .bf16⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S1x64, .f32⟩
  | .hbm, ⟨27, _⟩ => ⟨S8x64, .f32⟩
  | .hbm, ⟨28, _⟩ => ⟨S512, .f32⟩
  | .hbm, ⟨29, _⟩ => ⟨S512, .f32⟩
  | .hbm, ⟨30, _⟩ => ⟨S512, .f32⟩
  | .hbm, ⟨31, _⟩ => ⟨S64, .f32⟩
  | .hbm, ⟨32, _⟩ => ⟨S_, .f32⟩
  | .hbm, ⟨33, _⟩ => ⟨S_, .f32⟩
  | .hbm, ⟨34, _⟩ => ⟨S1x64, .f32⟩
  | .hbm, ⟨35, _⟩ => ⟨S2x64, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S640, .f32⟩
  | .hbm, ⟨40, _⟩ => ⟨S32768x1024, .f32⟩
  | .hbm, ⟨41, _⟩ => ⟨S1x1024, .f32⟩
  | .hbm, ⟨42, _⟩ => ⟨S1x640, .f32⟩
  | .hbm, ⟨43, _⟩ => ⟨S32768x640, .bf16⟩
  | .hbm, ⟨44, _⟩ => ⟨S32768x640, .bf16⟩
  | .hbm, ⟨45, _⟩ => ⟨S2x1024x16384, .bf16⟩
  | .hbm, ⟨46, _⟩ => ⟨S2x16384x640, .bf16⟩
  | .hbm, ⟨47, _⟩ => ⟨S2x16384x640, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x640, .bf16⟩
  | .local _ .vmem, ⟨4, _⟩ => ⟨S1x640, .f32⟩
  | .local _ .vmem, ⟨5, _⟩ => ⟨S128x128, .bf16⟩
  | .local _ .vmem, ⟨6, _⟩ => ⟨S1024x640, .bf16⟩
  | .local _ .vmem, ⟨7, _⟩ => ⟨S1024x1024, .bf16⟩
  | .local _ .vmem, ⟨8, _⟩ => ⟨S512x640, .bf16⟩
  | .local _ .vmem, ⟨9, _⟩ => ⟨S512x640, .bf16⟩
  | .local _ .vmem, ⟨10, _⟩ => ⟨S512x640, .bf16⟩
  | .local _ .vmem, ⟨11, _⟩ => ⟨S512x640, .bf16⟩
  | .local _ .vmem, ⟨12, _⟩ => ⟨S1x1024x512, .bf16⟩
  | .local _ .vmem, ⟨13, _⟩ => ⟨S1x1024x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_cst_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v31_2 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x640 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x640 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S2x16384x1024 : Shape := ⟨3, ![2, 16384, 1024]⟩
abbrev S1024 : Shape := ⟨1, ![1024]⟩
abbrev S1024x2304 : Shape := ⟨2, ![1024, 2304]⟩
abbrev S64 : Shape := ⟨1, ![64]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2304 : Shape := ⟨3, ![2, 16384, 2304]⟩
abbrev S2x16384x512 : Shape := ⟨3, ![2, 16384, 512]⟩
abbrev S2x16384x128 : Shape := ⟨3, ![2, 16384, 128]⟩
abbrev S2x16384x8x64 : Shape := ⟨4, ![2, 16384, 8, 64]⟩
abbrev S2x16384x8 : Shape := ⟨3, ![2, 16384, 8]⟩
abbrev S2x16384x8x1 : Shape := ⟨4, ![2, 16384, 8, 1]⟩
abbrev S1x1x1x64 : Shape := ⟨4, ![1, 1, 1, 64]⟩
abbrev S2x16384x2x64 : Shape := ⟨4, ![2, 16384, 2, 64]⟩
abbrev S2x16384x2 : Shape := ⟨3, ![2, 16384, 2]⟩
abbrev S2x16384x2x1 : Shape := ⟨4, ![2, 16384, 2, 1]⟩
abbrev S2x16384x640 : Shape := ⟨3, ![2, 16384, 640]⟩
abbrev S2x1024x16384 : Shape := ⟨3, ![2, 1024, 16384]⟩

abbrev nBuf : Space → Nat
  | .hbm => 123
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x2304, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S2x16384x1024, .f32⟩
  | .hbm, ⟨8, _⟩ => ⟨S_, .f32⟩
  | .hbm, ⟨9, _⟩ => ⟨S2x16384, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S2x16384x1, .f32⟩
  | .hbm, ⟨18, _⟩ => ⟨S2x16384x1024, .f32⟩
  | .hbm, ⟨19, _⟩ => ⟨S2x16384x1024, .f32⟩
  | .hbm, ⟨20, _⟩ => ⟨S1x1x1024, .f32⟩
  | .hbm, ⟨21, _⟩ => ⟨S2x16384x1024, .f32⟩
  | .hbm, ⟨22, _⟩ => ⟨S2x16384x1024, .f32⟩
  | .hbm, ⟨23, _⟩ => ⟨S2x16384x2304, .f32⟩
  | .hbm, ⟨24, _⟩ => ⟨S2x16384x512, .f32⟩
  | .hbm, ⟨25, _⟩ => ⟨S2x16384x512, .f32⟩
  | .hbm, ⟨26, _⟩ => ⟨S2x16384x512, .f32⟩
  | .hbm, ⟨27, _⟩ => ⟨S2x16384x512, .f32⟩
  | .hbm, ⟨28, _⟩ => ⟨S2x16384x128, .f32⟩
  | .hbm, ⟨29, _⟩ => ⟨S2x16384x128, .f32⟩
  | .hbm, ⟨30, _⟩ => ⟨S2x16384x8x64, .f32⟩
  | .hbm, ⟨31, _⟩ => ⟨S2x16384x8x64, .f32⟩
  | .hbm, ⟨32, _⟩ => ⟨S_, .f32⟩
  | .hbm, ⟨33, _⟩ => ⟨S2x16384x8, .f32⟩
  | .hbm, ⟨34, _⟩ => ⟨S2x16384x8x1, .f32⟩
  | .hbm, ⟨35, _⟩ => ⟨S_, .f32⟩
  | .hbm, ⟨36, _⟩ => ⟨S2x16384x8x1, .f32⟩
  | .hbm, ⟨37, _⟩ => ⟨S2x16384x8x1, .f32⟩
  | .hbm, ⟨38, _⟩ => ⟨S_, .f32⟩
  | .hbm, ⟨39, _⟩ => ⟨S2x16384x8x1, .f32⟩
  | .hbm, ⟨40, _⟩ => ⟨S2x16384x8x1, .f32⟩
  | .hbm, ⟨41, _⟩ => ⟨S2x16384x8x1, .f32⟩
  | .hbm, ⟨42, _⟩ => ⟨S2x16384x8x64, .f32⟩
  | .hbm, ⟨43, _⟩ => ⟨S2x16384x8x64, .f32⟩
  | .hbm, ⟨44, _⟩ => ⟨S1x1x1x64, .f32⟩
  | .hbm, ⟨45, _⟩ => ⟨S2x16384x8x64, .f32⟩
  | .hbm, ⟨46, _⟩ => ⟨S2x16384x8x64, .f32⟩
  | .hbm, ⟨47, _⟩ => ⟨S1x1x1x64, .f32⟩
  | .hbm, ⟨48, _⟩ => ⟨S2x16384x8x64, .f32⟩
  | .hbm, ⟨49, _⟩ => ⟨S2x16384x8x64, .f32⟩
  | .hbm, ⟨50, _⟩ => ⟨S_, .f32⟩
  | .hbm, ⟨51, _⟩ => ⟨S2x16384x8x64, .f32⟩
  | .hbm, ⟨52, _⟩ => ⟨S2x16384x8x64, .f32⟩
  | .hbm, ⟨53, _⟩ => ⟨S_, .f32⟩
  | .hbm, ⟨54, _⟩ => ⟨S_, .f32⟩
  | .hbm, ⟨55, _⟩ => ⟨S2x16384x8x64, .f32⟩
  | .hbm, ⟨56, _⟩ => ⟨S2x16384x8x64, .f32⟩
  | .hbm, ⟨57, _⟩ => ⟨S2x16384x512, .f32⟩
  | .hbm, ⟨58, _⟩ => ⟨S2x16384x2x64, .f32⟩
  | .hbm, ⟨59, _⟩ => ⟨S2x16384x2x64, .f32⟩
  | .hbm, ⟨60, _⟩ => ⟨S_, .f32⟩
  | .hbm, ⟨61, _⟩ => ⟨S2x16384x2, .f32⟩
  | .hbm, ⟨62, _⟩ => ⟨S2x16384x2x1, .f32⟩
  | .hbm, ⟨63, _⟩ => ⟨S_, .f32⟩
  | .hbm, ⟨64, _⟩ => ⟨S2x16384x2x1, .f32⟩
  | .hbm, ⟨65, _⟩ => ⟨S2x16384x2x1, .f32⟩
  | .hbm, ⟨66, _⟩ => ⟨S_, .f32⟩
  | .hbm, ⟨67, _⟩ => ⟨S2x16384x2x1, .f32⟩
  | .hbm, ⟨68, _⟩ => ⟨S2x16384x2x1, .f32⟩
  | .hbm, ⟨69, _⟩ => ⟨S2x16384x2x1, .f32⟩
  | .hbm, ⟨70, _⟩ => ⟨S2x16384x2x64, .f32⟩
  | .hbm, ⟨71, _⟩ => ⟨S2x16384x2x64, .f32⟩
  | .hbm, ⟨72, _⟩ => ⟨S1x1x1x64, .f32⟩
  | .hbm, ⟨73, _⟩ => ⟨S2x16384x2x64, .f32⟩
  | .hbm, ⟨74, _⟩ => ⟨S2x16384x2x64, .f32⟩
  | .hbm, ⟨75, _⟩ => ⟨S1x1x1x64, .f32⟩
  | .hbm, ⟨76, _⟩ => ⟨S2x16384x2x64, .f32⟩
  | .hbm, ⟨77, _⟩ => ⟨S2x16384x2x64, .f32⟩
  | .hbm, ⟨78, _⟩ => ⟨S_, .f32⟩
  | .hbm, ⟨79, _⟩ => ⟨S2x16384x2x64, .f32⟩
  | .hbm, ⟨80, _⟩ => ⟨S2x16384x2x64, .f32⟩
  | .hbm, ⟨81, _⟩ => ⟨S_, .f32⟩
  | .hbm, ⟨82, _⟩ => ⟨S_, .f32⟩
  | .hbm, ⟨83, _⟩ => ⟨S2x16384x2x64, .f32⟩
  | .hbm, ⟨84, _⟩ => ⟨S2x16384x2x64, .f32⟩
  | .hbm, ⟨85, _⟩ => ⟨S2x16384x128, .f32⟩
  | .hbm, ⟨86, _⟩ => ⟨S2x16384x640, .f32⟩
  | .hbm, ⟨87, _⟩ => ⟨S2x16384x640, .f32⟩
  | .hbm, ⟨88, _⟩ => ⟨S2x16384x8x64, .f32⟩
  | .hbm, ⟨89, _⟩ => ⟨S2x16384x8x64, .f32⟩
  | .hbm, ⟨90, _⟩ => ⟨S_, .f32⟩
  | .hbm, ⟨91, _⟩ => ⟨S2x16384x8, .f32⟩
  | .hbm, ⟨92, _⟩ => ⟨S2x16384x8x1, .f32⟩
  | .hbm, ⟨93, _⟩ => ⟨S_, .f32⟩
  | .hbm, ⟨94, _⟩ => ⟨S2x16384x8x1, .f32⟩
  | .hbm, ⟨95, _⟩ => ⟨S2x16384x8x1, .f32⟩
  | .hbm, ⟨96, _⟩ => ⟨S_, .f32⟩
  | .hbm, ⟨97, _⟩ => ⟨S2x16384x8x1, .f32⟩
  | .hbm, ⟨98, _⟩ => ⟨S2x16384x8x1, .f32⟩
  | .hbm, ⟨99, _⟩ => ⟨S2x16384x8x1, .f32⟩
  | .hbm, ⟨100, _⟩ => ⟨S2x16384x8x64, .f32⟩
  | .hbm, ⟨101, _⟩ => ⟨S2x16384x8x64, .f32⟩
  | .hbm, ⟨102, _⟩ => ⟨S2x16384x512, .f32⟩
  | .hbm, ⟨103, _⟩ => ⟨S2x16384x8x64, .f32⟩
  | .hbm, ⟨104, _⟩ => ⟨S2x16384x8x64, .f32⟩
  | .hbm, ⟨105, _⟩ => ⟨S_, .f32⟩
  | .hbm, ⟨106, _⟩ => ⟨S2x16384x8, .f32⟩
  | .hbm, ⟨107, _⟩ => ⟨S2x16384x8x1, .f32⟩
  | .hbm, ⟨108, _⟩ => ⟨S_, .f32⟩
  | .hbm, ⟨109, _⟩ => ⟨S2x16384x8x1, .f32⟩
  | .hbm, ⟨110, _⟩ => ⟨S2x16384x8x1, .f32⟩
  | .hbm, ⟨111, _⟩ => ⟨S_, .f32⟩
  | .hbm, ⟨112, _⟩ => ⟨S2x16384x8x1, .f32⟩
  | .hbm, ⟨113, _⟩ => ⟨S2x16384x8x1, .f32⟩
  | .hbm, ⟨114, _⟩ => ⟨S2x16384x8x1, .f32⟩
  | .hbm, ⟨115, _⟩ => ⟨S2x16384x8x64, .f32⟩
  | .hbm, ⟨116, _⟩ => ⟨S2x16384x8x64, .f32⟩
  | .hbm, ⟨117, _⟩ => ⟨S2x16384x512, .f32⟩
  | .hbm, ⟨118, _⟩ => ⟨S2x16384x1024, .f32⟩
  | .hbm, ⟨119, _⟩ => ⟨S2x16384x640, .bf16⟩
  | .hbm, ⟨120, _⟩ => ⟨S2x16384x640, .bf16⟩
  | .hbm, ⟨121, _⟩ => ⟨S2x1024x16384, .f32⟩
  | .hbm, ⟨122, _⟩ => ⟨S2x1024x16384, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_12 : Ref sig .tc := ⟨.hbm, 90, rfl⟩
abbrev main_v70 : Ref sig .tc := ⟨.hbm, 91, rfl⟩
abbrev main_v71 : Ref sig .tc := ⟨.hbm, 92, rfl⟩
abbrev main_cst_13 : Ref sig .tc := ⟨.hbm, 93, rfl⟩
abbrev main_v72 : Ref sig .tc := ⟨.hbm, 94, rfl⟩
abbrev main_v73 : Ref sig .tc := ⟨.hbm, 95, rfl⟩
abbrev main_cst_14 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_15 : Ref sig .tc := ⟨.hbm, 105, rfl⟩
abbrev main_v82 : Ref sig .tc := ⟨.hbm, 106, rfl⟩
abbrev main_v83 : Ref sig .tc := ⟨.hbm, 107, rfl⟩
abbrev main_cst_16 : Ref sig .tc := ⟨.hbm, 108, rfl⟩
abbrev main_v84 : Ref sig .tc := ⟨.hbm, 109, rfl⟩
abbrev main_v85 : Ref sig .tc := ⟨.hbm, 110, rfl⟩
abbrev main_cst_17 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩

abbrev nD : Nat := 1
abbrev τ : Topo := Topo.v7x

variable {F : FTy → Type} [FloatOps F]
-- ==== Kernel6.lean ====
abbrev S2x16384x1024 : Shape := ⟨3, ![2, 16384, 1024]⟩
abbrev S2x16384x512 : Shape := ⟨3, ![2, 16384, 512]⟩
abbrev S1024x1024 : Shape := ⟨2, ![1024, 1024]⟩
abbrev S512 : Shape := ⟨1, ![512]⟩
abbrev S32768x1024 : Shape := ⟨2, ![32768, 1024]⟩
abbrev S32768x512 : Shape := ⟨2, ![32768, 512]⟩
abbrev S512x1024 : Shape := ⟨2, ![512, 1024]⟩
abbrev S_ : Shape := ⟨0, ![]⟩
abbrev S512x1 : Shape := ⟨2, ![512, 1]⟩
abbrev S512x512 : Shape := ⟨2, ![512, 512]⟩

abbrev nBuf : Space → Nat
  | .hbm => 19
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .bf16⟩
  | .hbm, ⟨2, _⟩ => ⟨S2x16384x512, .bf16⟩
  | .hbm, ⟨3, _⟩ => ⟨S1024x1024, .f32⟩
  | .hbm, ⟨4, _⟩ => ⟨S512, .i32⟩
  | .hbm, ⟨5, _⟩ => ⟨S512, .i1⟩
  | .hbm, ⟨6, _⟩ => ⟨S1024x1024, .bf16⟩
  | .hbm, ⟨7, _⟩ => ⟨S32768x1024, .f32⟩
  | .hbm, ⟨8, _⟩ => ⟨S32768x512, .bf16⟩
  | .hbm, ⟨9, _⟩ => ⟨S32768x512, .bf16⟩
  | .hbm, ⟨10, _⟩ => ⟨S512x1024, .bf16⟩
  | .hbm, ⟨11, _⟩ => ⟨S_, .i32⟩
  | .hbm, ⟨12, _⟩ => ⟨S512, .i32⟩
  | .hbm, ⟨13, _⟩ => ⟨S512, .i32⟩
  | .hbm, ⟨14, _⟩ => ⟨S512, .i32⟩
  | .hbm, ⟨15, _⟩ => ⟨S512x1, .i32⟩
  | .hbm, ⟨16, _⟩ => ⟨S512x1024, .bf16⟩
  | .hbm, ⟨17, _⟩ => ⟨S32768x1024, .f32⟩
  | .hbm, ⟨18, _⟩ => ⟨S2x16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S2x16384x1024 : Shape := ⟨3, ![2, 16384, 1024]⟩
abbrev S2x16384x512 : Shape := ⟨3, ![2, 16384, 512]⟩
abbrev S1024x1024 : Shape := ⟨2, ![1024, 1024]⟩
abbrev S2x16384x4x2x64 : Shape := ⟨5, ![2, 16384, 4, 2, 64]⟩
abbrev S2x16384x2x4x64 : Shape := ⟨5, ![2, 16384, 2, 4, 64]⟩

abbrev nBuf : Space → Nat
  | .hbm => 12
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .bf16⟩
  | .hbm, ⟨2, _⟩ => ⟨S2x16384x512, .bf16⟩
  | .hbm, ⟨3, _⟩ => ⟨S1024x1024, .f32⟩
  | .hbm, ⟨4, _⟩ => ⟨S2x16384x512, .f32⟩
  | .hbm, ⟨5, _⟩ => ⟨S2x16384x4x2x64, .f32⟩
  | .hbm, ⟨6, _⟩ => ⟨S2x16384x2x4x64, .f32⟩
  | .hbm, ⟨7, _⟩ => ⟨S2x16384x512, .f32⟩
  | .hbm, ⟨8, _⟩ => ⟨S2x16384x512, .f32⟩
  | .hbm, ⟨9, _⟩ => ⟨S2x16384x1024, .f32⟩
  | .hbm, ⟨10, _⟩ => ⟨S2x16384x1024, .f32⟩
  | .hbm, ⟨11, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel7.lean ====
abbrev S2x16384x1024 : Shape := ⟨3, ![2, 16384, 1024]⟩
abbrev S2x256x1024 : Shape := ⟨3, ![2, 256, 1024]⟩
abbrev S1024 : Shape := ⟨1, ![1024]⟩
abbrev S1024x256 : Shape := ⟨2, ![1024, 256]⟩
abbrev S1024x512 : Shape := ⟨2, ![1024, 512]⟩
abbrev S256x1024 : Shape := ⟨2, ![256, 1024]⟩
abbrev S64 : Shape := ⟨1, ![64]⟩
abbrev S128x128 : Shape := ⟨2, ![128, 128]⟩
abbrev S_ : Shape := ⟨0, ![]⟩
abbrev S1x64 : Shape := ⟨2, ![1, 64]⟩
abbrev S4x64 : Shape := ⟨2, ![4, 64]⟩
abbrev S256 : Shape := ⟨1, ![256]⟩
abbrev S1x1024 : Shape := ⟨2, ![1, 1024]⟩
abbrev S1x256 : Shape := ⟨2, ![1, 256]⟩
abbrev S2x256x256 : Shape := ⟨3, ![2, 256, 256]⟩
abbrev S1x256x1024 : Shape := ⟨3, ![1, 256, 1024]⟩
abbrev S1x256x256 : Shape := ⟨3, ![1, 256, 256]⟩
abbrev S256x1 : Shape := ⟨2, ![256, 1]⟩
abbrev S256x256 : Shape := ⟨2, ![256, 256]⟩
abbrev S256x128 : Shape := ⟨2, ![256, 128]⟩
abbrev S1x128 : Shape := ⟨2, ![1, 128]⟩
abbrev S1x256x128 : Shape := ⟨3, ![1, 256, 128]⟩
abbrev S1x512x1024 : Shape := ⟨3, ![1, 512, 1024]⟩
abbrev S256x512 : Shape := ⟨2, ![256, 512]⟩
abbrev S512x1024 : Shape := ⟨2, ![512, 1024]⟩
abbrev S512 : Shape := ⟨1, ![512]⟩
abbrev S512x1 : Shape := ⟨2, ![512, 1]⟩
abbrev S4x64x512 : Shape := ⟨3, ![4, 64, 512]⟩
abbrev S4x512 : Shape := ⟨2, ![4, 512]⟩
abbrev S4x1x512 : Shape := ⟨3, ![4, 1, 512]⟩
abbrev S16x256 : Shape := ⟨2, ![16, 256]⟩
abbrev S1x64x512 : Shape := ⟨3, ![1, 64, 512]⟩
abbrev S64x512 : Shape := ⟨2, ![64, 512]⟩
abbrev S128x512 : Shape := ⟨2, ![128, 512]⟩
abbrev S128x1024 : Shape := ⟨2, ![128, 1024]⟩
abbrev S64x256 : Shape := ⟨2, ![64, 256]⟩
abbrev S80x256 : Shape := ⟨2, ![80, 256]⟩
abbrev S80x512 : Shape := ⟨2, ![80, 512]⟩
abbrev S1x512 : Shape := ⟨2, ![1, 512]⟩

abbrev nBuf : Space → Nat
  | .hbm => 35
  | .vmem => 23
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S1024, .f32⟩
  | .hbm, ⟨3, _⟩ => ⟨S1024, .f32⟩
  | .hbm, ⟨4, _⟩ => ⟨S1024x256, .f32⟩
  | .hbm, ⟨5, _⟩ => ⟨S1024x512, .f32⟩
  | .hbm, ⟨6, _⟩ => ⟨S256x1024, .f32⟩
  | .hbm, ⟨7, _⟩ => ⟨S64, .f32⟩
  | .hbm, ⟨8, _⟩ => ⟨S64, .f32⟩
  | .hbm, ⟨9, _⟩ => ⟨S128x128, .bf16⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1024x512, .bf16⟩
  | .hbm, ⟨15, _⟩ => ⟨S1024x256, .bf16⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S1x64, .f32⟩
  | .hbm, ⟨20, _⟩ => ⟨S4x64, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S1024x256, .bf16⟩
  | .hbm, ⟨25, _⟩ => ⟨S256x1024, .bf16⟩
  | .hbm, ⟨26, _⟩ => ⟨S1x1024, .f32⟩
  | .hbm, ⟨27, _⟩ => ⟨S1x256, .f32⟩
  | .hbm, ⟨28, _⟩ => ⟨S2x256x256, .bf16⟩
  | .hbm, ⟨29, _⟩ => ⟨S2x256x256, .bf16⟩
  | .hbm, ⟨30, _⟩ => ⟨S1024x256, .bf16⟩
  | .hbm, ⟨31, _⟩ => ⟨S256x1024, .bf16⟩
  | .hbm, ⟨32, _⟩ => ⟨S256x1024, .bf16⟩
  | .hbm, ⟨33, _⟩ => ⟨S1x1024, .f32⟩
  | .hbm, ⟨34, _⟩ => ⟨S2x16384x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x256, .bf16⟩
  | .local _ .vmem, ⟨4, _⟩ => ⟨S1x256, .f32⟩
  | .local _ .vmem, ⟨5, _⟩ => ⟨S128x128, .bf16⟩
  | .local _ .vmem, ⟨6, _⟩ => ⟨S256x1024, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x512x1024, .f32⟩
  | .local _ .vmem, ⟨12, _⟩ => ⟨S1x512x1024, .f32⟩
  | .local _ .vmem, ⟨13, _⟩ => ⟨S1x1024, .f32⟩
  | .local _ .vmem, ⟨14, _⟩ => ⟨S256x1024, .bf16⟩
  | .local _ .vmem, ⟨15, _⟩ => ⟨S1x256x256, .bf16⟩
  | .local _ .vmem, ⟨16, _⟩ => ⟨S1x256x256, .bf16⟩
  | .local _ .vmem, ⟨17, _⟩ => ⟨S1x256x256, .bf16⟩
  | .local _ .vmem, ⟨18, _⟩ => ⟨S1x256x256, .bf16⟩
  | .local _ .vmem, ⟨19, _⟩ => ⟨S256x1024, .bf16⟩
  | .local _ .vmem, ⟨20, _⟩ => ⟨S1x512x1024, .f32⟩
  | .local _ .vmem, ⟨21, _⟩ => ⟨S1x512x1024, .f32⟩
  | .local _ .vmem, ⟨22, _⟩ => ⟨S256x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_cst_1 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x256x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S256x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== Reference7Ideal.lean ====
abbrev S2x16384x1024 : Shape := ⟨3, ![2, 16384, 1024]⟩
abbrev S2x256x1024 : Shape := ⟨3, ![2, 256, 1024]⟩
abbrev S1024 : Shape := ⟨1, ![1024]⟩
abbrev S1024x256 : Shape := ⟨2, ![1024, 256]⟩
abbrev S1024x512 : Shape := ⟨2, ![1024, 512]⟩
abbrev S256x1024 : Shape := ⟨2, ![256, 1024]⟩
abbrev S64 : Shape := ⟨1, ![64]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x256 : Shape := ⟨2, ![2, 256]⟩
abbrev S2x256x1 : Shape := ⟨3, ![2, 256, 1]⟩
abbrev S2x16384x256 : Shape := ⟨3, ![2, 16384, 256]⟩
abbrev S2x16384x4x64 : Shape := ⟨4, ![2, 16384, 4, 64]⟩
abbrev S2x16384x4 : Shape := ⟨3, ![2, 16384, 4]⟩
abbrev S2x16384x4x1 : Shape := ⟨4, ![2, 16384, 4, 1]⟩
abbrev S1x1x1x64 : Shape := ⟨4, ![1, 1, 1, 64]⟩
abbrev S2x256x512 : Shape := ⟨3, ![2, 256, 512]⟩
abbrev S2x256x2x4x64 : Shape := ⟨5, ![2, 256, 2, 4, 64]⟩
abbrev S2x256x1x4x64 : Shape := ⟨5, ![2, 256, 1, 4, 64]⟩
abbrev S2x256x4x64 : Shape := ⟨4, ![2, 256, 4, 64]⟩
abbrev S2x256x4 : Shape := ⟨3, ![2, 256, 4]⟩
abbrev S2x256x4x1 : Shape := ⟨4, ![2, 256, 4, 1]⟩
abbrev S2x4x16384x256 : Shape := ⟨4, ![2, 4, 16384, 256]⟩
abbrev S2x4x16384 : Shape := ⟨3, ![2, 4, 16384]⟩
abbrev S2x4x16384x1 : Shape := ⟨4, ![2, 4, 16384, 1]⟩
abbrev S2x4x64x16384 : Shape := ⟨4, ![2, 4, 64, 16384]⟩

abbrev nBuf : Space → Nat
  | .hbm => 104
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S1024, .f32⟩
  | .hbm, ⟨3, _⟩ => ⟨S1024, .f32⟩
  | .hbm, ⟨4, _⟩ => ⟨S1024x256, .f32⟩
  | .hbm, ⟨5, _⟩ => ⟨S1024x512, .f32⟩
  | .hbm, ⟨6, _⟩ => ⟨S256x1024, .f32⟩
  | .hbm, ⟨7, _⟩ => ⟨S64, .f32⟩
  | .hbm, ⟨8, _⟩ => ⟨S64, .f32⟩
  | .hbm, ⟨9, _⟩ => ⟨S2x16384x1024, .f32⟩
  | .hbm, ⟨10, _⟩ => ⟨S_, .f32⟩
  | .hbm, ⟨11, _⟩ => ⟨S2x16384, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S2x16384x1, .f32⟩
  | .hbm, ⟨20, _⟩ => ⟨S2x16384x1024, .f32⟩
  | .hbm, ⟨21, _⟩ => ⟨S2x16384x1024, .f32⟩
  | .hbm, ⟨22, _⟩ => ⟨S1x1x1024, .f32⟩
  | .hbm, ⟨23, _⟩ => ⟨S2x16384x1024, .f32⟩
  | .hbm, ⟨24, _⟩ => ⟨S2x16384x1024, .f32⟩
  | .hbm, ⟨25, _⟩ => ⟨S2x256x1024, .f32⟩
  | .hbm, ⟨26, _⟩ => ⟨S_, .f32⟩
  | .hbm, ⟨27, _⟩ => ⟨S2x256, .f32⟩
  | .hbm, ⟨28, _⟩ => ⟨S2x256x1, .f32⟩
  | .hbm, ⟨29, _⟩ => ⟨S_, .f32⟩
  | .hbm, ⟨30, _⟩ => ⟨S2x256x1, .f32⟩
  | .hbm, ⟨31, _⟩ => ⟨S2x256x1, .f32⟩
  | .hbm, ⟨32, _⟩ => ⟨S_, .f32⟩
  | .hbm, ⟨33, _⟩ => ⟨S2x256x1, .f32⟩
  | .hbm, ⟨34, _⟩ => ⟨S2x256x1, .f32⟩
  | .hbm, ⟨35, _⟩ => ⟨S2x256x1, .f32⟩
  | .hbm, ⟨36, _⟩ => ⟨S2x256x1024, .f32⟩
  | .hbm, ⟨37, _⟩ => ⟨S2x256x1024, .f32⟩
  | .hbm, ⟨38, _⟩ => ⟨S1x1x1024, .f32⟩
  | .hbm, ⟨39, _⟩ => ⟨S2x256x1024, .f32⟩
  | .hbm, ⟨40, _⟩ => ⟨S2x256x1024, .f32⟩
  | .hbm, ⟨41, _⟩ => ⟨S2x16384x256, .f32⟩
  | .hbm, ⟨42, _⟩ => ⟨S2x16384x4x64, .f32⟩
  | .hbm, ⟨43, _⟩ => ⟨S2x16384x4x64, .f32⟩
  | .hbm, ⟨44, _⟩ => ⟨S_, .f32⟩
  | .hbm, ⟨45, _⟩ => ⟨S2x16384x4, .f32⟩
  | .hbm, ⟨46, _⟩ => ⟨S2x16384x4x1, .f32⟩
  | .hbm, ⟨47, _⟩ => ⟨S_, .f32⟩
  | .hbm, ⟨48, _⟩ => ⟨S2x16384x4x1, .f32⟩
  | .hbm, ⟨49, _⟩ => ⟨S2x16384x4x1, .f32⟩
  | .hbm, ⟨50, _⟩ => ⟨S_, .f32⟩
  | .hbm, ⟨51, _⟩ => ⟨S2x16384x4x1, .f32⟩
  | .hbm, ⟨52, _⟩ => ⟨S2x16384x4x1, .f32⟩
  | .hbm, ⟨53, _⟩ => ⟨S2x16384x4x1, .f32⟩
  | .hbm, ⟨54, _⟩ => ⟨S2x16384x4x64, .f32⟩
  | .hbm, ⟨55, _⟩ => ⟨S2x16384x4x64, .f32⟩
  | .hbm, ⟨56, _⟩ => ⟨S1x1x1x64, .f32⟩
  | .hbm, ⟨57, _⟩ => ⟨S2x16384x4x64, .f32⟩
  | .hbm, ⟨58, _⟩ => ⟨S2x16384x4x64, .f32⟩
  | .hbm, ⟨59, _⟩ => ⟨S_, .f32⟩
  | .hbm, ⟨60, _⟩ => ⟨S2x16384x4x64, .f32⟩
  | .hbm, ⟨61, _⟩ => ⟨S2x16384x4x64, .f32⟩
  | .hbm, ⟨62, _⟩ => ⟨S2x256x512, .f32⟩
  | .hbm, ⟨63, _⟩ => ⟨S2x256x2x4x64, .f32⟩
  | .hbm, ⟨64, _⟩ => ⟨S2x256x1x4x64, .f32⟩
  | .hbm, ⟨65, _⟩ => ⟨S2x256x4x64, .f32⟩
  | .hbm, ⟨66, _⟩ => ⟨S2x256x4x64, .f32⟩
  | .hbm, ⟨67, _⟩ => ⟨S_, .f32⟩
  | .hbm, ⟨68, _⟩ => ⟨S2x256x4, .f32⟩
  | .hbm, ⟨69, _⟩ => ⟨S2x256x4x1, .f32⟩
  | .hbm, ⟨70, _⟩ => ⟨S_, .f32⟩
  | .hbm, ⟨71, _⟩ => ⟨S2x256x4x1, .f32⟩
  | .hbm, ⟨72, _⟩ => ⟨S2x256x4x1, .f32⟩
  | .hbm, ⟨73, _⟩ => ⟨S_, .f32⟩
  | .hbm, ⟨74, _⟩ => ⟨S2x256x4x1, .f32⟩
  | .hbm, ⟨75, _⟩ => ⟨S2x256x4x1, .f32⟩
  | .hbm, ⟨76, _⟩ => ⟨S2x256x4x1, .f32⟩
  | .hbm, ⟨77, _⟩ => ⟨S2x256x4x64, .f32⟩
  | .hbm, ⟨78, _⟩ => ⟨S2x256x4x64, .f32⟩
  | .hbm, ⟨79, _⟩ => ⟨S1x1x1x64, .f32⟩
  | .hbm, ⟨80, _⟩ => ⟨S2x256x4x64, .f32⟩
  | .hbm, ⟨81, _⟩ => ⟨S2x256x4x64, .f32⟩
  | .hbm, ⟨82, _⟩ => ⟨S2x256x1x4x64, .f32⟩
  | .hbm, ⟨83, _⟩ => ⟨S2x256x4x64, .f32⟩
  | .hbm, ⟨84, _⟩ => ⟨S2x4x16384x256, .f32⟩
  | .hbm, ⟨85, _⟩ => ⟨S_, .f32⟩
  | .hbm, ⟨86, _⟩ => ⟨S2x4x16384, .f32⟩
  | .hbm, ⟨87, _⟩ => ⟨S_, .f32⟩
  | .hbm, ⟨88, _⟩ => ⟨S2x4x16384, .f32⟩
  | .hbm, ⟨89, _⟩ => ⟨S2x4x16384, .f32⟩
  | .hbm, ⟨90, _⟩ => ⟨S2x4x16384x1, .f32⟩
  | .hbm, ⟨91, _⟩ => ⟨S2x4x16384x256, .f32⟩
  | .hbm, ⟨92, _⟩ => ⟨S2x4x16384x256, .f32⟩
  | .hbm, ⟨93, _⟩ => ⟨S2x4x16384x256, .f32⟩
  | .hbm, ⟨94, _⟩ => ⟨S_, .f32⟩
  | .hbm, ⟨95, _⟩ => ⟨S2x4x16384, .f32⟩
  | .hbm, ⟨96, _⟩ => ⟨S2x4x16384x1, .f32⟩
  | .hbm, ⟨97, _⟩ => ⟨S2x4x16384x256, .f32⟩
  | .hbm, ⟨98, _⟩ => ⟨S2x4x16384x256, .f32⟩
  | .hbm, ⟨99, _⟩ => ⟨S2x4x64x16384, .f32⟩
  | .hbm, ⟨100, _⟩ => ⟨S2x16384x4x64, .f32⟩
  | .hbm, ⟨101, _⟩ => ⟨S2x16384x256, .f32⟩
  | .hbm, ⟨102, _⟩ => ⟨S2x16384x1024, .f32⟩
  | .hbm, ⟨103, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩

abbrev nD : Nat := 1
abbrev τ : Topo := Topo.v7x

variable {F : FTy → Type} [FloatOps F]
-- ==== Proof.Attn.State.lean ====
module

public import proofs.«01_k».proof.Proof.Gen.KernelIdeal.Frame
public import proofs.«01_k».proof.Proof.Gen.KernelIdeal.Loops
public import Idealize.ShloMosaic.Lib.Exec
public import Idealize.ShloMosaic.Lib.Tactic

/-! What one grid point of the attention kernel holds before each key block, as a recursion over the key blocks:
the scores of a block against the staged queries, the bias tile of a near block, the running maximum and the running
sums. Generic in the float type; no program logic here. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

variable {F : FTy → Type} [FloatOps F]

theorem kB_inb (b : ℕ) : ∀ a, (![0, 512 * min b 31, 0] : Fin 3 → ℕ) a + S1x512x128.size a ≤ S1x16384x128.size a := by
  intro a; fin_cases a
  · show 0 + 1 ≤ 1; omega
  · show 512 * min b 31 + 512 ≤ 16384; omega
  · show 0 + 128 ≤ 128; omega

theorem vB_inb (b : ℕ) : ∀ a, (![0, min b 31, 0, 0] : Fin 4 → ℕ) a + S1x1x128x512.size a ≤ S1x32x128x512.size a := by
  intro a; fin_cases a
  · show 0 + 1 ≤ 1; omega
  · show min b 31 + 1 ≤ 32; omega
  · show 0 + 128 ≤ 128; omega
  · show 0 + 512 ≤ 512; omega

theorem tile_inb (m : Fin 2) (d : ℕ) :
    ∀ a, (![m.val, min d 2, 0, 0] : Fin 4 → ℕ) a + S1x1x512x512.size a ≤ S2x3x512x512.size a := by
  intro a; fin_cases a
  · show m.val + 1 ≤ 2; omega
  · show min d 2 + 1 ≤ 3; omega
  · show 0 + 512 ≤ 512; omega
  · show 0 + 512 ≤ 512; omega

theorem cf_inb (r : Fin 2) (h : ℕ) (m : Fin 2) :
    ∀ a, (![r.val, min (2 * h + m.val) 7] : Fin 2 → ℕ) a + S1x1.size a ≤ S2x8.size a := by
  intro a; fin_cases a
  · show r.val + 1 ≤ 2; omega
  · show min (2 * h + m.val) 7 + 1 ≤ 8; omega

theorem q_inb (m : Fin 2) : ∀ a, (![m.val, 0, 0] : Fin 3 → ℕ) a + S1x128x512.size a ≤ S2x128x512.size a := by
  intro a; fin_cases a
  · show m.val + 1 ≤ 2; omega
  · show 0 + 128 ≤ 128; omega
  · show 0 + 512 ≤ 512; omega

/-- Key block `b` of the staged keys. -/
def kB (x6 : Vec F S1x16384x128 .bf16) (b : ℕ) : Vec F S1x512x128 .bf16 :=
  View.ld x6 (Rect.unit ![0, 512 * min b 31, 0] S1x512x128.size (kB_inb b))

/-- Value block `b` of the staged values. -/
def vB (x7 : Vec F S1x32x128x512 .bf16) (b : ℕ) : Vec F S1x1x128x512 .bf16 :=
  View.ld x7 (Rect.unit ![0, min b 31, 0, 0] S1x1x128x512.size (vB_inb b))

/-- The bias tile of map `m` at block distance `d - 1`. -/
def tile (x8 : Vec F S2x3x512x512 .f32) (m : Fin 2) (d : ℕ) : Vec F S1x1x512x512 .f32 :=
  View.ld x8 (Rect.unit ![m.val, min d 2, 0, 0] S1x1x512x512.size (tile_inb m d))

/-- The far constant of side `r`, head `h`, map `m`. -/
def cf (x4 : Vec F S2x8 .f32) (r : Fin 2) (h : ℕ) (m : Fin 2) : Elt F .f32 :=
  View.ld x4 (Rect.unit ![r.val, min (2 * h + m.val) 7] S1x1.size (cf_inb r h m)) (fun a => ⟨0, by fin_cases a <;> exact Nat.one_pos⟩)

/-- The query panel of map `m`. -/
def qP (x11 : Vec F S2x128x512 .bf16) (m : Fin 2) : Vec F S1x128x512 .bf16 :=
  View.ld x11 (Rect.unit ![m.val, 0, 0] S1x128x512.size (q_inb m))

/-- Key block `b` and query block `i` are at most one block apart. -/
@[reducible] def near (i b : ℕ) : Prop := b ≤ i + 1 ∧ i ≤ b + 1

/-- The scores of key block `b` with the bias tile added when the block is near. -/
def sB (x6 : Vec F S1x16384x128 .bf16) (x8 : Vec F S2x3x512x512 .f32) (x11 : Vec F S2x128x512 .bf16) (i : ℕ) (m : Fin 2) (b : ℕ) :
    Vec F S1x512x512 .f32 :=
  if near i b then k0_pay3 (k0_pay17 (kB x6 b) (qP x11 m)) (tile x8 m (b + 1 - i)) else k0_pay17 (kB x6 b) (qP x11 m)

/-- Each query's largest score in key block `b`. -/
def xB (x6 : Vec F S1x16384x128 .bf16) (x8 : Vec F S2x3x512x512 .f32) (x11 : Vec F S2x128x512 .bf16) (i : ℕ) (m : Fin 2) (b : ℕ) :
    Vec F S1x1x512 .f32 :=
  if near i b then k0_pay4 (k0_pay17 (kB x6 b) (qP x11 m)) (tile x8 m (b + 1 - i)) else k0_pay18 (kB x6 b) (qP x11 m)

/-- The constant added to every score of key block `b`: none for a near block. -/
def cB (x4 : Vec F S2x8 .f32) (h i : ℕ) (m : Fin 2) (b : ℕ) : F .f32 :=
  if near i b then Scalar.ofBits .f32 0x00000000#32 else if b < i then cf x4 0 h m else cf x4 1 h m

/-- A block's largest scores with its constant. -/
def xc (c : F .f32) (x : Vec F S1x1x512 .f32) : FVec F S1x512 .f32 :=
  addf (shapeCast S1x512 x shapeCasts_S1x1x512_S1x512) (broadcast S1x512 c)

/-- The running maximum after one more block. -/
def stM (c : F .f32) (x m : Vec F S1x1x512 .f32) : Vec F S1x1x512 .f32 := k0_pay36 (k0_pay32 m) (xc c x)

/-- The running sums after one more block. -/
def stA (c : F .f32) (v : Vec F S1x1x128x512 .bf16) (s : Vec F S1x512x512 .f32) (x m : Vec F S1x1x512 .f32) (a : Vec F S1x144x512 .f32) :
    Vec F S1x144x512 .f32 := k0_pay35 (k0_pay22 v) c (k0_pay32 m) (xc c x) s a

/-- The running maximum before key block `b`. -/
def Mst (x4 : Vec F S2x8 .f32) (x6 : Vec F S1x16384x128 .bf16) (x8 : Vec F S2x3x512x512 .f32) (x11 : Vec F S2x128x512 .bf16)
    (h i : ℕ) (m : Fin 2) : ℕ → Vec F S1x1x512 .f32
  | 0 => fun _ => Scalar.ofBits .f32 0xF149F2CA#32
  | b + 1 => stM (cB x4 h i m b) (xB x6 x8 x11 i m b) (Mst x4 x6 x8 x11 h i m b)

/-- The running sums before key block `b`. -/
def Ast (x4 : Vec F S2x8 .f32) (x6 : Vec F S1x16384x128 .bf16) (x7 : Vec F S1x32x128x512 .bf16) (x8 : Vec F S2x3x512x512 .f32)
    (x11 : Vec F S2x128x512 .bf16) (h i : ℕ) (m : Fin 2) : ℕ → Vec F S1x144x512 .f32
  | 0 => fun _ => Scalar.ofBits .f32 0x00000000#32
  | b + 1 => stA (cB x4 h i m b) (vB x7 b) (sB x6 x8 x11 i m b) (xB x6 x8 x11 i m b) (Mst x4 x6 x8 x11 h i m b) (Ast x4 x6 x7 x8 x11 h i m b)

/-! ## The printed offsets and conditions, in numbers -/

theorem off1_eq : ∀ (i : grid0.Coords) (k : Fin k0_t1_loop.trips), k0_cond1 i k = 1#1 →
    k0_off1 i k = ![0, min (2 * k.val + 1 - (i 2).val) 2, 0, 0] := by decide +kernel
theorem off2_eq : ∀ (i : grid0.Coords) (k : Fin k0_t1_loop.trips), k0_cond1 i k = 1#1 →
    k0_off2 i k = ![1, min (2 * k.val + 1 - (i 2).val) 2, 0, 0] := by decide +kernel
theorem off7_eq : ∀ (i : grid0.Coords) (k : Fin k0_t1_loop.trips), k0_cond2 i k = 1#1 →
    k0_off7 i k = ![0, min (2 * k.val + 1 + 1 - (i 2).val) 2, 0, 0] := by decide +kernel
theorem off8_eq : ∀ (i : grid0.Coords) (k : Fin k0_t1_loop.trips), k0_cond2 i k = 1#1 →
    k0_off8 i k = ![1, min (2 * k.val + 1 + 1 - (i 2).val) 2, 0, 0] := by decide +kernel
theorem off3_eq : ∀ (k : Fin k0_t1_loop.trips), k0_off3 k = ![0, 512 * min (2 * k.val + 1) 31, 0] := by decide +kernel
theorem off9_eq : ∀ (k : Fin k0_t1_loop.trips), k0_off9 k = ![0, 512 * min (2 * (k.val + 1)) 31, 0] := by decide +kernel
theorem off4_eq : ∀ (k : Fin k0_t1_loop.trips), k0_off4 k = ![0, min (2 * k.val) 31, 0, 0] := by decide +kernel
theorem off10_eq : ∀ (k : Fin k0_t1_loop.trips), k0_off10 k = ![0, min (2 * k.val + 1) 31, 0, 0] := by decide +kernel
theorem off5_eq : ∀ (i : grid0.Coords) (m : Fin 2), k0_off5 i (BitVec.ofNat 32 m.val) = ![0, min (2 * (i 1).val + m.val) 7] := by decide +kernel
theorem off6_eq : ∀ (i : grid0.Coords) (m : Fin 2), k0_off6 i (BitVec.ofNat 32 m.val) = ![1, min (2 * (i 1).val + m.val) 7] := by decide +kernel
theorem cond1_iff : ∀ (i : grid0.Coords) (k : Fin k0_t1_loop.trips), k0_cond1 i k = 1#1 ↔ near (i 2).val (2 * k.val) := by decide +kernel
theorem cond2_iff : ∀ (i : grid0.Coords) (k : Fin k0_t1_loop.trips), k0_cond2 i k = 1#1 ↔ near (i 2).val (2 * k.val + 1) := by decide +kernel

end Cert.KernelIdeal.Attn
end
-- ==== Proof.Attn.Reads.lean ====
module

public import proofs.«01_k».proof.Proof.Attn.State

/-! What a load of one half of a buffer finds after stores to halves of it, and what a load of a staged input finds. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

variable {F : FTy → Type} [FloatOps F]

section
variable {sg : RefSig} {κ : Kind} {sp : Space} {s : Shape} {e : EltTy} {Val : EltTy → Type}

/-- A load at the rectangle last stored to finds the payload. -/
theorem readAt_hit (v : View sg κ sp s e) (f : v.ty.Contents Val) {off size : Fin s.rank → ℕ} (inb inb' : ∀ a, off a + size a ≤ s.size a)
    (w : (Rect.unit off size inb').shape.Idx → Val e) (L : List (View.Piece Val s e)) :
    v.readAt Val (Rect.unit off size inb).toLoadRect (v.writes Val f (⟨Rect.unit off size inb', w⟩ :: L)) = w :=
  funext fun y => View.read_writes_cons_emb v f (Rect.unit off size inb') w L y

/-- A load at a rectangle apart on one axis from the one last stored to passes that store by. -/
theorem readAt_miss (v : View sg κ sp s e) (f : v.ty.Contents Val) {off off' size size' : Fin s.rank → ℕ}
    (inb : ∀ a, off a + size a ≤ s.size a) (inb' : ∀ a, off' a + size' a ≤ s.size a)
    (w : (Rect.unit off' size' inb').shape.Idx → Val e) (L : List (View.Piece Val s e)) (a : Fin s.rank)
    (h : off a + size a ≤ off' a ∨ off' a + size' a ≤ off a) :
    v.readAt Val (Rect.unit off size inb).toLoadRect (v.writes Val f (⟨Rect.unit off' size' inb', w⟩ :: L))
      = v.readAt Val (Rect.unit off size inb).toLoadRect (v.writes Val f L) := by
  have e : v.writes Val f (⟨Rect.unit off' size' inb', w⟩ :: L) = v.writes Val (v.writes Val f L) [⟨Rect.unit off' size' inb', w⟩] :=
    View.writes_append v f [⟨Rect.unit off' size' inb', w⟩] L
  rw [e]
  refine View.readAt_writes_of_forall_not_mem v _ _ _ fun j p hp => ?_
  obtain rfl := List.mem_singleton.mp hp
  refine Rect.not_mem_set_of_axis _ _ a (off' a) (size' a) rfl rfl rfl ?_
  have hj : (j a).val < size a := (j a).isLt
  show off a + 1 * (j a).val < _ ∨ _ ≤ off a + 1 * (j a).val
  omega

/-- A load from a staged array finds the array at the rectangle. -/
theorem readAt_staged {m : Memref sg κ sp s e} (h : m.IsWhole) (X : s.Idx → Val e) {off : Fin s.rank → ℕ} {size : Fin s.rank → ℕ}
    (inb : ∀ a, off a + size a ≤ s.size a) :
    m.view.readAt Val (Rect.unit off size inb).toLoadRect (h.unread X) = View.ld X (Rect.unit off size inb) := by
  rw [View.readAt_eq_ld, h.read_unread]

/-- Equal offsets, equal blocks. -/
theorem ld_congr (X : s.Idx → Val e) {off off' size : Fin s.rank → ℕ} (h : off = off') (inb : ∀ a, off a + size a ≤ s.size a)
    (inb' : ∀ a, off' a + size a ≤ s.size a) : View.ld X (Rect.unit off size inb) = View.ld X (Rect.unit off' size inb') := by
  subst h; rfl
end

section
variable {sg : RefSig} {κ : Kind} {sp : Space} {Val : EltTy → Type}

theorem miss_s01 (v : View sg κ sp S2x512x512 .f32) (f : v.ty.Contents Val) (i0 : ∀ a, (![0, 0, 0] : Fin 3 → ℕ) a + S1x512x512.size a ≤ S2x512x512.size a)
    (i1 : ∀ a, (![1, 0, 0] : Fin 3 → ℕ) a + S1x512x512.size a ≤ S2x512x512.size a) (w : S1x512x512.Idx → Val .f32) (L : List (View.Piece Val S2x512x512 .f32)) :
    v.readAt Val (Rect.unit (s := S2x512x512) ![0, 0, 0] S1x512x512.size i0).toLoadRect
        (v.writes Val f (⟨Rect.unit (s := S2x512x512) ![1, 0, 0] S1x512x512.size i1, w⟩ :: L))
      = v.readAt Val (Rect.unit (s := S2x512x512) ![0, 0, 0] S1x512x512.size i0).toLoadRect (v.writes Val f L) :=
  readAt_miss v f i0 i1 w L (0 : Fin 3) (Or.inl (Nat.le_refl 1))
theorem miss_s10 (v : View sg κ sp S2x512x512 .f32) (f : v.ty.Contents Val) (i0 : ∀ a, (![1, 0, 0] : Fin 3 → ℕ) a + S1x512x512.size a ≤ S2x512x512.size a)
    (i1 : ∀ a, (![0, 0, 0] : Fin 3 → ℕ) a + S1x512x512.size a ≤ S2x512x512.size a) (w : S1x512x512.Idx → Val .f32) (L : List (View.Piece Val S2x512x512 .f32)) :
    v.readAt Val (Rect.unit (s := S2x512x512) ![1, 0, 0] S1x512x512.size i0).toLoadRect
        (v.writes Val f (⟨Rect.unit (s := S2x512x512) ![0, 0, 0] S1x512x512.size i1, w⟩ :: L))
      = v.readAt Val (Rect.unit (s := S2x512x512) ![1, 0, 0] S1x512x512.size i0).toLoadRect (v.writes Val f L) :=
  readAt_miss v f i0 i1 w L (0 : Fin 3) (Or.inr (Nat.le_refl 1))
theorem miss_x01 (v : View sg κ sp S2x1x512 .f32) (f : v.ty.Contents Val) (i0 : ∀ a, (![0, 0, 0] : Fin 3 → ℕ) a + S1x1x512.size a ≤ S2x1x512.size a)
    (i1 : ∀ a, (![1, 0, 0] : Fin 3 → ℕ) a + S1x1x512.size a ≤ S2x1x512.size a) (w : S1x1x512.Idx → Val .f32) (L : List (View.Piece Val S2x1x512 .f32)) :
    v.readAt Val (Rect.unit (s := S2x1x512) ![0, 0, 0] S1x1x512.size i0).toLoadRect
        (v.writes Val f (⟨Rect.unit (s := S2x1x512) ![1, 0, 0] S1x1x512.size i1, w⟩ :: L))
      = v.readAt Val (Rect.unit (s := S2x1x512) ![0, 0, 0] S1x1x512.size i0).toLoadRect (v.writes Val f L) :=
  readAt_miss v f i0 i1 w L (0 : Fin 3) (Or.inl (Nat.le_refl 1))
theorem miss_x10 (v : View sg κ sp S2x1x512 .f32) (f : v.ty.Contents Val) (i0 : ∀ a, (![1, 0, 0] : Fin 3 → ℕ) a + S1x1x512.size a ≤ S2x1x512.size a)
    (i1 : ∀ a, (![0, 0, 0] : Fin 3 → ℕ) a + S1x1x512.size a ≤ S2x1x512.size a) (w : S1x1x512.Idx → Val .f32) (L : List (View.Piece Val S2x1x512 .f32)) :
    v.readAt Val (Rect.unit (s := S2x1x512) ![1, 0, 0] S1x1x512.size i0).toLoadRect
        (v.writes Val f (⟨Rect.unit (s := S2x1x512) ![0, 0, 0] S1x1x512.size i1, w⟩ :: L))
      = v.readAt Val (Rect.unit (s := S2x1x512) ![1, 0, 0] S1x1x512.size i0).toLoadRect (v.writes Val f L) :=
  readAt_miss v f i0 i1 w L (0 : Fin 3) (Or.inr (Nat.le_refl 1))
theorem miss_a01 (v : View sg κ sp S2x144x512 .f32) (f : v.ty.Contents Val) (i0 : ∀ a, (![0, 0, 0] : Fin 3 → ℕ) a + S1x144x512.size a ≤ S2x144x512.size a)
    (i1 : ∀ a, (![1, 0, 0] : Fin 3 → ℕ) a + S1x144x512.size a ≤ S2x144x512.size a) (w : S1x144x512.Idx → Val .f32) (L : List (View.Piece Val S2x144x512 .f32)) :
    v.readAt Val (Rect.unit (s := S2x144x512) ![0, 0, 0] S1x144x512.size i0).toLoadRect
        (v.writes Val f (⟨Rect.unit (s := S2x144x512) ![1, 0, 0] S1x144x512.size i1, w⟩ :: L))
      = v.readAt Val (Rect.unit (s := S2x144x512) ![0, 0, 0] S1x144x512.size i0).toLoadRect (v.writes Val f L) :=
  readAt_miss v f i0 i1 w L (0 : Fin 3) (Or.inl (Nat.le_refl 1))
theorem miss_a10 (v : View sg κ sp S2x144x512 .f32) (f : v.ty.Contents Val) (i0 : ∀ a, (![1, 0, 0] : Fin 3 → ℕ) a + S1x144x512.size a ≤ S2x144x512.size a)
    (i1 : ∀ a, (![0, 0, 0] : Fin 3 → ℕ) a + S1x144x512.size a ≤ S2x144x512.size a) (w : S1x144x512.Idx → Val .f32) (L : List (View.Piece Val S2x144x512 .f32)) :
    v.readAt Val (Rect.unit (s := S2x144x512) ![1, 0, 0] S1x144x512.size i0).toLoadRect
        (v.writes Val f (⟨Rect.unit (s := S2x144x512) ![0, 0, 0] S1x144x512.size i1, w⟩ :: L))
      = v.readAt Val (Rect.unit (s := S2x144x512) ![1, 0, 0] S1x144x512.size i0).toLoadRect (v.writes Val f L) :=
  readAt_miss v f i0 i1 w L (0 : Fin 3) (Or.inr (Nat.le_refl 1))
theorem miss_q01 (v : View sg κ sp S2x128x512 .bf16) (f : v.ty.Contents Val) (i0 : ∀ a, (![0, 0, 0] : Fin 3 → ℕ) a + S1x128x512.size a ≤ S2x128x512.size a)
    (i1 : ∀ a, (![1, 0, 0] : Fin 3 → ℕ) a + S1x128x512.size a ≤ S2x128x512.size a) (w : S1x128x512.Idx → Val .bf16) (L : List (View.Piece Val S2x128x512 .bf16)) :
    v.readAt Val (Rect.unit (s := S2x128x512) ![0, 0, 0] S1x128x512.size i0).toLoadRect
        (v.writes Val f (⟨Rect.unit (s := S2x128x512) ![1, 0, 0] S1x128x512.size i1, w⟩ :: L))
      = v.readAt Val (Rect.unit (s := S2x128x512) ![0, 0, 0] S1x128x512.size i0).toLoadRect (v.writes Val f L) :=
  readAt_miss v f i0 i1 w L (0 : Fin 3) (Or.inl (Nat.le_refl 1))
theorem miss_q10 (v : View sg κ sp S2x128x512 .bf16) (f : v.ty.Contents Val) (i0 : ∀ a, (![1, 0, 0] : Fin 3 → ℕ) a + S1x128x512.size a ≤ S2x128x512.size a)
    (i1 : ∀ a, (![0, 0, 0] : Fin 3 → ℕ) a + S1x128x512.size a ≤ S2x128x512.size a) (w : S1x128x512.Idx → Val .bf16) (L : List (View.Piece Val S2x128x512 .bf16)) :
    v.readAt Val (Rect.unit (s := S2x128x512) ![1, 0, 0] S1x128x512.size i0).toLoadRect
        (v.writes Val f (⟨Rect.unit (s := S2x128x512) ![0, 0, 0] S1x128x512.size i1, w⟩ :: L))
      = v.readAt Val (Rect.unit (s := S2x128x512) ![1, 0, 0] S1x128x512.size i0).toLoadRect (v.writes Val f L) :=
  readAt_miss v f i0 i1 w L (0 : Fin 3) (Or.inr (Nat.le_refl 1))
end

section
variable (x4 : Vec F S2x8 .f32) (x6 : Vec F S1x16384x128 .bf16) (x7 : Vec F S1x32x128x512 .bf16) (x8 : Vec F S2x3x512x512 .f32)
  (x11 : Vec F S2x128x512 .bf16) (i : grid0.Coords) (k : Fin k0_t1_loop.trips)

theorem ld_off3 (inb) : View.ld (Val := Elt F) x6 (Rect.unit (k0_off3 k) S1x512x128.size inb) = kB x6 (2 * k.val + 1) := ld_congr x6 (off3_eq k) inb _
theorem ld_off9 (inb) : View.ld (Val := Elt F) x6 (Rect.unit (k0_off9 k) S1x512x128.size inb) = kB x6 (2 * (k.val + 1)) := ld_congr x6 (off9_eq k) inb _
theorem ld_off4 (inb) : View.ld (Val := Elt F) x7 (Rect.unit (k0_off4 k) S1x1x128x512.size inb) = vB x7 (2 * k.val) := ld_congr x7 (off4_eq k) inb _
theorem ld_off10 (inb) : View.ld (Val := Elt F) x7 (Rect.unit (k0_off10 k) S1x1x128x512.size inb) = vB x7 (2 * k.val + 1) := ld_congr x7 (off10_eq k) inb _
theorem ld_off1 (h : k0_cond1 i k = 1#1) (inb) : View.ld (Val := Elt F) x8 (Rect.unit (k0_off1 i k) S1x1x512x512.size inb)
    = tile x8 0 (2 * k.val + 1 - (i 2).val) := ld_congr x8 (off1_eq i k h) inb _
theorem ld_off2 (h : k0_cond1 i k = 1#1) (inb) : View.ld (Val := Elt F) x8 (Rect.unit (k0_off2 i k) S1x1x512x512.size inb)
    = tile x8 1 (2 * k.val + 1 - (i 2).val) := ld_congr x8 (off2_eq i k h) inb _
theorem ld_off7 (h : k0_cond2 i k = 1#1) (inb) : View.ld (Val := Elt F) x8 (Rect.unit (k0_off7 i k) S1x1x512x512.size inb)
    = tile x8 0 (2 * k.val + 1 + 1 - (i 2).val) := ld_congr x8 (off7_eq i k h) inb _
theorem ld_off8 (h : k0_cond2 i k = 1#1) (inb) : View.ld (Val := Elt F) x8 (Rect.unit (k0_off8 i k) S1x1x512x512.size inb)
    = tile x8 1 (2 * k.val + 1 + 1 - (i 2).val) := ld_congr x8 (off8_eq i k h) inb _
theorem ld_q0 (inb) : View.ld (Val := Elt F) x11 (Rect.unit ![0, 0, 0] S1x128x512.size inb) = qP x11 0 := rfl
theorem ld_q1 (inb) : View.ld (Val := Elt F) x11 (Rect.unit ![1, 0, 0] S1x128x512.size inb) = qP x11 1 := rfl

theorem cf_congr (X : S2x8.Idx → Elt F .f32) {off off' : Fin 2 → ℕ} (h : off = off') (inb : ∀ a, off a + S1x1.size a ≤ S2x8.size a)
    (inb' : ∀ a, off' a + S1x1.size a ≤ S2x8.size a) (y : S1x1.Idx) (y' : S1x1.Idx) :
    View.ld (Val := Elt F) X (Rect.unit off S1x1.size inb) y = View.ld X (Rect.unit off' S1x1.size inb') y' := by
  subst h
  have : y = y' := funext fun a => Fin.ext (by
    have h1 : (y a).val < S1x1.size a := (y a).isLt
    have h2 : (y' a).val < S1x1.size a := (y' a).isLt
    fin_cases a <;> (change (y _).val < 1 at h1; change (y' _).val < 1 at h2; omega))
  rw [this]
theorem ld_off50 (inb) (y) : View.ld (Val := Elt F) x4 (Rect.unit (k0_off5 i 0#32) S1x1.size inb) y = cf x4 0 (i 1).val 0 :=
  cf_congr x4 (off5_eq i 0) inb _ y _
theorem ld_off51 (inb) (y) : View.ld (Val := Elt F) x4 (Rect.unit (k0_off5 i 1#32) S1x1.size inb) y = cf x4 0 (i 1).val 1 :=
  cf_congr x4 (off5_eq i 1) inb _ y _
theorem ld_off60 (inb) (y) : View.ld (Val := Elt F) x4 (Rect.unit (k0_off6 i 0#32) S1x1.size inb) y = cf x4 1 (i 1).val 0 :=
  cf_congr x4 (off6_eq i 0) inb _ y _
theorem ld_off61 (inb) (y) : View.ld (Val := Elt F) x4 (Rect.unit (k0_off6 i 1#32) S1x1.size inb) y = cf x4 1 (i 1).val 1 :=
  cf_congr x4 (off6_eq i 1) inb _ y _
end

/-! ## The words that choose the constant -/

/-- The first step's block distance as the kernel computes it. -/
@[reducible] def dA (i : grid0.Coords) (k : Fin k0_t1_loop.trips) : BitVec 32 :=
  Scalar.subi (Scalar.muli 2#32 (Scf.iv 0#32 1#32 k)) (BitVec.ofNat 32 (i 2).val)
/-- The second step's block distance as the kernel computes it. -/
@[reducible] def dB (i : grid0.Coords) (k : Fin k0_t1_loop.trips) : BitVec 32 :=
  Scalar.subi (Scalar.addi (Scalar.muli 2#32 (Scf.iv 0#32 1#32 k)) 1#32) (BitVec.ofNat 32 (i 2).val)
/-- Whether a distance is at most one. -/
@[reducible] def nW (d : BitVec 32) : BitVec 1 := Scalar.cmpi .sle (Scalar.absi d) 1#32

theorem dA_lt : ∀ (i : grid0.Coords) (k : Fin k0_t1_loop.trips), Scalar.cmpi .slt (dA i k) 0#32 = 1#1 ↔ 2 * k.val < (i 2).val := by decide +kernel
theorem dB_lt : ∀ (i : grid0.Coords) (k : Fin k0_t1_loop.trips), Scalar.cmpi .slt (dB i k) 0#32 = 1#1 ↔ 2 * k.val + 1 < (i 2).val := by decide +kernel
theorem nA_iff : ∀ (i : grid0.Coords) (k : Fin k0_t1_loop.trips), nW (dA i k) = 1#1 ↔ near (i 2).val (2 * k.val) := by decide +kernel
theorem nB_iff : ∀ (i : grid0.Coords) (k : Fin k0_t1_loop.trips), nW (dB i k) = 1#1 ↔ near (i 2).val (2 * k.val + 1) := by decide +kernel

end Cert.KernelIdeal.Attn
end
-- ==== Proof.Attn.Pays.lean ====
module

public import proofs.«01_k».proof.Proof.Attn.Reads

/-! The printed forms of the scores, the running maximum and the running sums are the few forms of the recursion. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

section
variable (kb : Vec F S1x512x128 .bf16) (q : Vec F S1x128x512 .bf16) (s : Vec F S1x512x512 .f32) (t : Vec F S1x1x512x512 .f32)
  (v : Vec F S1x1x128x512 .bf16) (m x : Vec F S1x1x512 .f32) (A : Vec F S1x144x512 .f32)

theorem p40 : k0_pay40 kb q = k0_pay17 kb q := rfl
theorem p43 : k0_pay43 kb q = k0_pay17 kb q := rfl
theorem p20 : k0_pay20 kb q = k0_pay17 kb q := rfl
theorem p41 : k0_pay41 kb q = k0_pay18 kb q := rfl
theorem p44 : k0_pay44 kb q = k0_pay18 kb q := rfl
theorem p21 : k0_pay21 (k0_pay19 kb q) = k0_pay18 kb q := rfl
theorem p64 : k0_pay64 (k0_pay62 kb) q = k0_pay17 kb q := rfl
theorem p67 : k0_pay67 (k0_pay62 kb) q = k0_pay17 kb q := rfl
theorem p65 : k0_pay65 (k0_pay62 kb) q = k0_pay18 kb q := rfl
theorem p68 : k0_pay68 (k0_pay62 kb) q = k0_pay18 kb q := rfl
theorem p6 : k0_pay6 s t = k0_pay3 s t := rfl
theorem p9 : k0_pay9 s t = k0_pay3 s t := rfl
theorem p12 : k0_pay12 s t = k0_pay3 s t := rfl
theorem p14 : k0_pay14 (k0_pay7 s t) = k0_pay4 s t := rfl
theorem p10 : k0_pay10 s t = k0_pay4 s t := rfl
theorem p37 : k0_pay37 (k0_pay13 s t) = k0_pay4 s t := rfl

variable (x4 : Vec F S2x8 .f32) (i : grid0.Coords) (k : Fin k0_t1_loop.trips) (h : ℕ) (mm : Fin 2)

/-- The constant chosen by the first step of a trip. -/
theorem cA : k0_pay23 (dA i k) (nW (dA i k)) (cf x4 0 h mm) (cf x4 1 h mm) = cB x4 h (i 2).val mm (2 * k.val) := by
  unfold k0_pay23 cB Scalar.select
  exact if_congr (nA_iff i k) rfl (if_congr (dA_lt i k) rfl rfl)
/-- The constant chosen by the second step of a trip. -/
theorem cA' : k0_pay23 (dB i k) (nW (dB i k)) (cf x4 0 h mm) (cf x4 1 h mm) = cB x4 h (i 2).val mm (2 * k.val + 1) := by
  unfold k0_pay23 cB Scalar.select
  exact if_congr (nB_iff i k) rfl (if_congr (dB_lt i k) rfl rfl)

theorem m30 (w : BitVec 32) (n : BitVec 1) (a b : F .f32) : k0_pay30 (k0_pay25 w n a b m x) = stM (k0_pay23 w n a b) x m := rfl
theorem m36 (w : BitVec 32) (n : BitVec 1) (a b : F .f32) : k0_pay36 (k0_pay32 m) (k0_pay33 w n a b x) = stM (k0_pay23 w n a b) x m := rfl
theorem a29 (w : BitVec 32) (n : BitVec 1) (a b : F .f32) :
    k0_pay29 (k0_pay22 v) (k0_pay25 w n a b m x) (k0_pay26 w n a b m x) (k0_pay27 s) (k0_pay28 w n a b) A = stA (k0_pay23 w n a b) v s x m A := rfl
theorem a35 (w : BitVec 32) (n : BitVec 1) (a b : F .f32) :
    k0_pay35 (k0_pay22 v) (k0_pay31 w n a b) (k0_pay32 m) (k0_pay33 w n a b x) s A = stA (k0_pay23 w n a b) v s x m A := rfl
theorem m50 (w : BitVec 32) (n : BitVec 1) (a b : F .f32) : k0_pay50 (k0_pay48 w n 0#32 a b m x) = stM (k0_pay23 w n a b) x m := rfl
theorem m70 (w : BitVec 32) (n : BitVec 1) (a b : F .f32) : k0_pay70 (k0_pay53 w n a b m x) = stM (k0_pay23 w n a b) x m := rfl
theorem a49 (w : BitVec 32) (n : BitVec 1) (a b : F .f32) :
    k0_pay49 w n (k0_pay45 v) 0#32 a b m x s A = stA (k0_pay23 w n a b) v s x m A := rfl
theorem a69 (w : BitVec 32) (n : BitVec 1) (a b : F .f32) :
    k0_pay69 (k0_pay45 v) (k0_pay54 w n a b m x s) (k0_pay55 w n a b m x A) = stA (k0_pay23 w n a b) v s x m A := rfl
end

section
variable (x4 : Vec F S2x8 .f32) (x6 : Vec F S1x16384x128 .bf16) (x7 : Vec F S1x32x128x512 .bf16) (x8 : Vec F S2x3x512x512 .f32)
  (x11 : Vec F S2x128x512 .bf16) (h i b : ℕ) (m : Fin 2)
theorem Mst_succ : Mst x4 x6 x8 x11 h i m (b + 1) = stM (cB x4 h i m b) (xB x6 x8 x11 i m b) (Mst x4 x6 x8 x11 h i m b) := rfl
theorem Ast_succ : Ast x4 x6 x7 x8 x11 h i m (b + 1)
    = stA (cB x4 h i m b) (vB x7 b) (sB x6 x8 x11 i m b) (xB x6 x8 x11 i m b) (Mst x4 x6 x8 x11 h i m b) (Ast x4 x6 x7 x8 x11 h i m b) := rfl
theorem two_succ (k : ℕ) : 2 * (k + 1) = 2 * k + 1 + 1 := rfl
theorem sB_near (hn : near i b) : sB x6 x8 x11 i m b = k0_pay3 (k0_pay17 (kB x6 b) (qP x11 m)) (tile x8 m (b + 1 - i)) := if_pos hn
theorem sB_far (hn : ¬ near i b) : sB x6 x8 x11 i m b = k0_pay17 (kB x6 b) (qP x11 m) := if_neg hn
theorem xB_near (hn : near i b) : xB x6 x8 x11 i m b = k0_pay4 (k0_pay17 (kB x6 b) (qP x11 m)) (tile x8 m (b + 1 - i)) := if_pos hn
theorem xB_far (hn : ¬ near i b) : xB x6 x8 x11 i m b = k0_pay18 (kB x6 b) (qP x11 m) := if_neg hn
end

end Cert.KernelIdeal.Attn
end
-- ==== Proof.Attn.Trip.lean ====
module

public import proofs.«01_k».proof.Proof.Attn.Pays

/-! One trip of the attention kernel's loop over key blocks: two blocks, from the state before the first to the state
after the second. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

/-- What the halves of the score, maximum and sum buffers hold before key block `b`. -/
def St (x4 : Vec F S2x8 .f32) (x6 : Vec F S1x16384x128 .bf16) (x7 : Vec F S1x32x128x512 .bf16) (x8 : Vec F S2x3x512x512 .f32)
    (x11 : Vec F S2x128x512 .bf16) (h i b : ℕ)
    (arg12 : Memref sig .tc .vmem S2x512x512 .f32) (arg14 : Memref sig .tc .vmem S2x1x512 .f32)
    (arg16 : Memref sig .tc .vmem S2x1x512 .f32) (arg17 : Memref sig .tc .vmem S2x144x512 .f32)
    (f12 : arg12.view.ty.Contents (Elt F)) (f14 : arg14.view.ty.Contents (Elt F)) (f16 : arg16.view.ty.Contents (Elt F))
    (f17 : arg17.view.ty.Contents (Elt F)) : Prop :=
  View.readAt (Elt F) arg12.view (Rect.unit (s := S2x512x512) ![0, 0, 0] S1x512x512.size inb_S2x512x512_S1x512x512_0_0_0).toLoadRect f12
      = k0_pay17 (kB x6 b) (qP x11 0)
  ∧ View.readAt (Elt F) arg12.view (Rect.unit (s := S2x512x512) ![1, 0, 0] S1x512x512.size inb_S2x512x512_S1x512x512_1_0_0).toLoadRect f12
      = k0_pay17 (kB x6 b) (qP x11 1)
  ∧ View.readAt (Elt F) arg14.view (Rect.unit (s := S2x1x512) ![0, 0, 0] S1x1x512.size inb_S2x1x512_S1x1x512_0_0_0).toLoadRect f14
      = k0_pay18 (kB x6 b) (qP x11 0)
  ∧ View.readAt (Elt F) arg14.view (Rect.unit (s := S2x1x512) ![1, 0, 0] S1x1x512.size inb_S2x1x512_S1x1x512_1_0_0).toLoadRect f14
      = k0_pay18 (kB x6 b) (qP x11 1)
  ∧ View.readAt (Elt F) arg16.view (Rect.unit (s := S2x1x512) ![0, 0, 0] S1x1x512.size inb_S2x1x512_S1x1x512_0_0_0).toLoadRect f16
      = Mst x4 x6 x8 x11 h i 0 b
  ∧ View.readAt (Elt F) arg16.view (Rect.unit (s := S2x1x512) ![1, 0, 0] S1x1x512.size inb_S2x1x512_S1x1x512_1_0_0).toLoadRect f16
      = Mst x4 x6 x8 x11 h i 1 b
  ∧ View.readAt (Elt F) arg17.view (Rect.unit (s := S2x144x512) ![0, 0, 0] S1x144x512.size inb_S2x144x512_S1x144x512_0_0_0).toLoadRect f17
      = Ast x4 x6 x7 x8 x11 h i 0 b
  ∧ View.readAt (Elt F) arg17.view (Rect.unit (s := S2x144x512) ![1, 0, 0] S1x144x512.size inb_S2x144x512_S1x144x512_1_0_0).toLoadRect f17
      = Ast x4 x6 x7 x8 x11 h i 1 b

/-- `a` at zero, `b` after. -/
@[reducible] def sel (k : ℕ) (a b : Prop) : Prop := Nat.casesOn k a (fun _ => b)

/-- The buffers before trip `k`: the staged inputs at their contents, the scratch buffers at the state before block `2k`
if they were at the state before block `0` when the loop began (`p`). -/
@[reducible] def Inv (c : Dev nD) (i : grid0.Coords) (arg3 : Memref sig .tc .vmem S4x64 .f32) (harg3 : arg3.IsWhole) (arg4 : Memref sig .tc .smem S2x8 .f32) (harg4 : arg4.IsWhole) (arg5 : Memref sig .tc .vmem S1x1x128x512 .bf16) (harg5 : arg5.IsWhole) (arg6 : Memref sig .tc .vmem S1x16384x128 .bf16) (harg6 : arg6.IsWhole) (arg7 : Memref sig .tc .vmem S1x32x128x512 .bf16) (harg7 : arg7.IsWhole) (arg8 : Memref sig .tc .vmem S2x3x512x512 .f32) (harg8 : arg8.IsWhole) (arg9 : Memref sig .tc .vmem S128x1 .f32) (harg9 : arg9.IsWhole) (arg10 : Memref sig .tc .vmem S1x512x128 .bf16) (harg10 : arg10.IsWhole) (arg11 : Memref sig .tc .vmem S2x128x512 .bf16) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (arg16 : Memref sig .tc .vmem S2x1x512 .f32) (harg16 : arg16.IsWhole) (arg17 : Memref sig .tc .vmem S2x144x512 .f32) (harg17 : arg17.IsWhole)
    (x4 : Vec F S2x8 .f32) (x6 : Vec F S1x16384x128 .bf16) (x7 : Vec F S1x32x128x512 .bf16) (x8 : Vec F S2x3x512x512 .f32)
    (f11 : Buf (Elt F) (arg11.view.loc (c : Thread nD τ))) (p : Prop) (k : ℕ) : sProp 𝕄 :=
  iprop((arg4.view.loc (c : Thread nD τ) ↦[arg4.view.set]{fullShare} (harg4.unread x4 : Buf (Elt F) _))
     ∗ (arg6.view.loc (c : Thread nD τ) ↦[arg6.view.set]{fullShare} (harg6.unread x6 : Buf (Elt F) _))
     ∗ (arg7.view.loc (c : Thread nD τ) ↦[arg7.view.set]{fullShare} (harg7.unread x7 : Buf (Elt F) _))
     ∗ (arg8.view.loc (c : Thread nD τ) ↦[arg8.view.set]{fullShare} (harg8.unread x8 : Buf (Elt F) _))
     ∗ (arg11.view.loc (c : Thread nD τ) ↦[arg11.view.set]{fullShare} f11)
     ∗ (∃ f13, arg13.view.loc (c : Thread nD τ) ↦[arg13.view.set]{fullShare} (f13 : Buf (Elt F) _))
     ∗ (∃ f15, arg15.view.loc (c : Thread nD τ) ↦[arg15.view.set]{fullShare} (f15 : Buf (Elt F) _))
     ∗ ∃ f12 f14 f16 f17,
        (arg12.view.loc (c : Thread nD τ) ↦[arg12.view.set]{fullShare} (f12 : Buf (Elt F) _))
     ∗ (arg14.view.loc (c : Thread nD τ) ↦[arg14.view.set]{fullShare} (f14 : Buf (Elt F) _))
     ∗ (arg16.view.loc (c : Thread nD τ) ↦[arg16.view.set]{fullShare} (f16 : Buf (Elt F) _))
     ∗ (arg17.view.loc (c : Thread nD τ) ↦[arg17.view.set]{fullShare} (f17 : Buf (Elt F) _))
     ∗ ⌜sel k (St x4 x6 x7 x8 (arg11.view.read (Elt F) f11) (i 1).val (i 2).val (2 * k) arg12 arg14 arg16 arg17 f12 f14 f16 f17) True = sel k p True⌝
     ∗ ⌜p → St x4 x6 x7 x8 (arg11.view.read (Elt F) f11) (i 1).val (i 2).val (2 * k) arg12 arg14 arg16 arg17 f12 f14 f16 f17⌝)

/-- One trip, the first block far and the second far. -/
theorem trip_ff (c : Dev nD) (i : grid0.Coords) (arg3 : Memref sig .tc .vmem S4x64 .f32) (harg3 : arg3.IsWhole) (arg4 : Memref sig .tc .smem S2x8 .f32) (harg4 : arg4.IsWhole) (arg5 : Memref sig .tc .vmem S1x1x128x512 .bf16) (harg5 : arg5.IsWhole) (arg6 : Memref sig .tc .vmem S1x16384x128 .bf16) (harg6 : arg6.IsWhole) (arg7 : Memref sig .tc .vmem S1x32x128x512 .bf16) (harg7 : arg7.IsWhole) (arg8 : Memref sig .tc .vmem S2x3x512x512 .f32) (harg8 : arg8.IsWhole) (arg9 : Memref sig .tc .vmem S128x1 .f32) (harg9 : arg9.IsWhole) (arg10 : Memref sig .tc .vmem S1x512x128 .bf16) (harg10 : arg10.IsWhole) (arg11 : Memref sig .tc .vmem S2x128x512 .bf16) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (arg16 : Memref sig .tc .vmem S2x1x512 .f32) (harg16 : arg16.IsWhole) (arg17 : Memref sig .tc .vmem S2x144x512 .f32) (harg17 : arg17.IsWhole)
    (v27 : FVec F S512x128 .bf16) (k : Fin k0_t1_loop.trips) (h1 : ¬ k0_cond1 i k = 1#1) (h2 : ¬ k0_cond2 i k = 1#1)
    (x4 : Vec F S2x8 .f32) (x6 : Vec F S1x16384x128 .bf16) (x7 : Vec F S1x32x128x512 .bf16) (x8 : Vec F S2x3x512x512 .f32)
    (f11 : Buf (Elt F) (arg11.view.loc (c : Thread nD τ))) (p : Prop) :
    Inv c i arg3 harg3 arg4 harg4 arg5 harg5 arg6 harg6 arg7 harg7 arg8 harg8 arg9 harg9 arg10 harg10 arg11 harg11 arg12 harg12 arg13 harg13 arg14 harg14 arg15 harg15 arg16 harg16 arg17 harg17 x4 x6 x7 x8 f11 p k.val
      ⊢ wp Idealize.ShloMosaic.frame (wpE (defs₀ (F := F)) Variants.none (c : Thread nD τ) none) Set.univ
          (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) (BitVec.ofNat 32 (i 2).val) v27 k ())
          (fun _ => Inv c i arg3 harg3 arg4 harg4 arg5 harg5 arg6 harg6 arg7 harg7 arg8 harg8 arg9 harg9 arg10 harg10 arg11 harg11 arg12 harg12 arg13 harg13 arg14 harg14 arg15 harg15 arg16 harg16 arg17 harg17 x4 x6 x7 x8 f11 p (k.val + 1)) := by
  unfold Inv k0_t1_body
  iintro ⟨H4, H6, H7, H8, H11, ⟨%f13, H13⟩, ⟨%f15, H15⟩, ⟨%f12, %f14, %f16, %f17, H12, H14, H16, H17, -, %hSt⟩⟩
  sl_exec (disch := first | sl_exact h1 | sl_exact h2)
  sl_step
  isplitl [H4]; · iexact H4
  isplitl [H6]; · iexact H6
  isplitl [H7]; · iexact H7
  isplitl [H8]; · iexact H8
  isplitl [H11]; · iexact H11
  isplitl [H13]; · iexists _; iexact H13
  isplitl [H15]; · iexists _; iexact H15
  iexists _; iexists _; iexists _; iexists _
  isplitl [H12]; · iexact H12
  isplitl [H14]; · iexact H14
  isplitl [H16]; · iexact H16
  isplitl [H17]; · iexact H17
  isplitr; · ipureintro; rfl
  ipureintro
  intro hp
  replace hSt := hSt hp
  unfold St at hSt
  obtain ⟨e1, e2, e3, e4, e5, e6, e7, e8⟩ := hSt
  unfold St
  have q0 : ∀ inb, View.readAt (Elt F) arg11.view (Rect.unit (s := S2x128x512) ![0, 0, 0] S1x128x512.size inb).toLoadRect f11
      = qP (arg11.view.read (Elt F) f11) 0 := fun _ => rfl
  have q1 : ∀ inb, View.readAt (Elt F) arg11.view (Rect.unit (s := S2x128x512) ![1, 0, 0] S1x128x512.size inb).toLoadRect f11
      = qP (arg11.view.read (Elt F) f11) 1 := fun _ => rfl
  delta trip_ff.sl.H13_2 trip_ff.sl.H15_2 trip_ff.sl.H16_2 trip_ff.sl.H16_3 trip_ff.sl.H17_2 trip_ff.sl.H17_3 trip_ff.sl.arg18 trip_ff.sl.r trip_ff.sl.r_1 trip_ff.sl.r_10 trip_ff.sl.r_11 trip_ff.sl.r_12 trip_ff.sl.r_13 trip_ff.sl.r_14 trip_ff.sl.r_15 trip_ff.sl.r_16 trip_ff.sl.r_17 trip_ff.sl.r_18 trip_ff.sl.r_19 trip_ff.sl.r_2 trip_ff.sl.r_3 trip_ff.sl.r_4 trip_ff.sl.r_5 trip_ff.sl.r_6 trip_ff.sl.r_7 trip_ff.sl.r_8 trip_ff.sl.r_9 trip_ff.sl.v103 trip_ff.sl.v104 trip_ff.sl.v105 trip_ff.sl.v106 trip_ff.sl.v194 trip_ff.sl.v211 trip_ff.sl.v224 trip_ff.sl.v225 trip_ff.sl.v226 trip_ff.sl.v227 trip_ff.sl.v275 trip_ff.sl.v277 trip_ff.sl.v284 trip_ff.sl.v292 trip_ff.sl.v315 trip_ff.sl.v317 trip_ff.sl.v324 trip_ff.sl.v332
  simp -proj only [View.readCov, readAt_hit, miss_s01, miss_s10, miss_x01, miss_x10, miss_a01, miss_a10, View.writes_nil, e1, e2, e3, e4, e5, e6, e7, e8,
    q0, q1, readAt_staged, ld_off3, ld_off9, ld_off4, ld_off10, ld_off50, ld_off51, ld_off60, ld_off61]
  try rw [ld_off50]
  try rw [ld_off60]
  try rw [ld_off51]
  try rw [ld_off61]
  have n1 := mt (cond1_iff i k).2 h1
  have n2 := mt (cond2_iff i k).2 h2
  simp -proj only [p40, p43, p20, p41, p44, p21, p6, p9, p12, p14, p10, p37, m30, m36, a29, a35, cA, m50, m70, a49, a69, cA']
  rw [two_succ, Mst_succ, Mst_succ, Mst_succ, Mst_succ, Ast_succ, Ast_succ, Ast_succ, Ast_succ, Mst_succ, Mst_succ]
  rw [sB_far _ _ _ _ _ 0 n1, sB_far _ _ _ _ _ 1 n1, xB_far _ _ _ _ _ 0 n1, xB_far _ _ _ _ _ 1 n1, sB_far _ _ _ _ _ 0 n2, sB_far _ _ _ _ _ 1 n2, xB_far _ _ _ _ _ 0 n2, xB_far _ _ _ _ _ 1 n2]
  refine ⟨?_, ?_, ?_, ?_, ?_, ?_, ?_, ?_⟩ <;> first | with_reducible rfl | exact trivial

/-- One trip, the first block near and the second far. -/
theorem trip_nf (c : Dev nD) (i : grid0.Coords) (arg3 : Memref sig .tc .vmem S4x64 .f32) (harg3 : arg3.IsWhole) (arg4 : Memref sig .tc .smem S2x8 .f32) (harg4 : arg4.IsWhole) (arg5 : Memref sig .tc .vmem S1x1x128x512 .bf16) (harg5 : arg5.IsWhole) (arg6 : Memref sig .tc .vmem S1x16384x128 .bf16) (harg6 : arg6.IsWhole) (arg7 : Memref sig .tc .vmem S1x32x128x512 .bf16) (harg7 : arg7.IsWhole) (arg8 : Memref sig .tc .vmem S2x3x512x512 .f32) (harg8 : arg8.IsWhole) (arg9 : Memref sig .tc .vmem S128x1 .f32) (harg9 : arg9.IsWhole) (arg10 : Memref sig .tc .vmem S1x512x128 .bf16) (harg10 : arg10.IsWhole) (arg11 : Memref sig .tc .vmem S2x128x512 .bf16) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (arg16 : Memref sig .tc .vmem S2x1x512 .f32) (harg16 : arg16.IsWhole) (arg17 : Memref sig .tc .vmem S2x144x512 .f32) (harg17 : arg17.IsWhole)
    (v27 : FVec F S512x128 .bf16) (k : Fin k0_t1_loop.trips) (h1 : k0_cond1 i k = 1#1) (h2 : ¬ k0_cond2 i k = 1#1)
    (x4 : Vec F S2x8 .f32) (x6 : Vec F S1x16384x128 .bf16) (x7 : Vec F S1x32x128x512 .bf16) (x8 : Vec F S2x3x512x512 .f32)
    (f11 : Buf (Elt F) (arg11.view.loc (c : Thread nD τ))) (p : Prop) :
    Inv c i arg3 harg3 arg4 harg4 arg5 harg5 arg6 harg6 arg7 harg7 arg8 harg8 arg9 harg9 arg10 harg10 arg11 harg11 arg12 harg12 arg13 harg13 arg14 harg14 arg15 harg15 arg16 harg16 arg17 harg17 x4 x6 x7 x8 f11 p k.val
      ⊢ wp Idealize.ShloMosaic.frame (wpE (defs₀ (F := F)) Variants.none (c : Thread nD τ) none) Set.univ
          (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) (BitVec.ofNat 32 (i 2).val) v27 k ())
          (fun _ => Inv c i arg3 harg3 arg4 harg4 arg5 harg5 arg6 harg6 arg7 harg7 arg8 harg8 arg9 harg9 arg10 harg10 arg11 harg11 arg12 harg12 arg13 harg13 arg14 harg14 arg15 harg15 arg16 harg16 arg17 harg17 x4 x6 x7 x8 f11 p (k.val + 1)) := by
  unfold Inv k0_t1_body
  iintro ⟨H4, H6, H7, H8, H11, ⟨%f13, H13⟩, ⟨%f15, H15⟩, ⟨%f12, %f14, %f16, %f17, H12, H14, H16, H17, -, %hSt⟩⟩
  sl_exec (disch := first | sl_exact h1 | sl_exact h2)
  sl_step
  isplitl [H4]; · iexact H4
  isplitl [H6]; · iexact H6
  isplitl [H7]; · iexact H7
  isplitl [H8]; · iexact H8
  isplitl [H11]; · iexact H11
  isplitl [H13]; · iexists _; iexact H13
  isplitl [H15]; · iexists _; iexact H15
  iexists _; iexists _; iexists _; iexists _
  isplitl [H12]; · iexact H12
  isplitl [H14]; · iexact H14
  isplitl [H16]; · iexact H16
  isplitl [H17]; · iexact H17
  isplitr; · ipureintro; rfl
  ipureintro
  intro hp
  replace hSt := hSt hp
  unfold St at hSt
  obtain ⟨e1, e2, e3, e4, e5, e6, e7, e8⟩ := hSt
  unfold St
  have q0 : ∀ inb, View.readAt (Elt F) arg11.view (Rect.unit (s := S2x128x512) ![0, 0, 0] S1x128x512.size inb).toLoadRect f11
      = qP (arg11.view.read (Elt F) f11) 0 := fun _ => rfl
  have q1 : ∀ inb, View.readAt (Elt F) arg11.view (Rect.unit (s := S2x128x512) ![1, 0, 0] S1x128x512.size inb).toLoadRect f11
      = qP (arg11.view.read (Elt F) f11) 1 := fun _ => rfl
  delta trip_nf.sl.H12_2 trip_nf.sl.H13_2 trip_nf.sl.H14_2 trip_nf.sl.H15_2 trip_nf.sl.H16_2 trip_nf.sl.H16_3 trip_nf.sl.H17_2 trip_nf.sl.H17_3 trip_nf.sl.arg18 trip_nf.sl.r trip_nf.sl.r_1 trip_nf.sl.r_10 trip_nf.sl.r_11 trip_nf.sl.r_12 trip_nf.sl.r_13 trip_nf.sl.r_14 trip_nf.sl.r_15 trip_nf.sl.r_16 trip_nf.sl.r_17 trip_nf.sl.r_18 trip_nf.sl.r_19 trip_nf.sl.r_2 trip_nf.sl.r_20 trip_nf.sl.r_3 trip_nf.sl.r_4 trip_nf.sl.r_5 trip_nf.sl.r_6 trip_nf.sl.r_7 trip_nf.sl.r_8 trip_nf.sl.r_9 trip_nf.sl.v103 trip_nf.sl.v104 trip_nf.sl.v105 trip_nf.sl.v106 trip_nf.sl.v156 trip_nf.sl.v163 trip_nf.sl.v194 trip_nf.sl.v196 trip_nf.sl.v203 trip_nf.sl.v211 trip_nf.sl.v224 trip_nf.sl.v225 trip_nf.sl.v226 trip_nf.sl.v227 trip_nf.sl.v275 trip_nf.sl.v277 trip_nf.sl.v284 trip_nf.sl.v292 trip_nf.sl.v315 trip_nf.sl.v317 trip_nf.sl.v324 trip_nf.sl.v332 trip_nf.sl.v359
  simp -proj only [View.readCov, readAt_hit, miss_s01, miss_s10, miss_x01, miss_x10, miss_a01, miss_a10, View.writes_nil, e1, e2, e3, e4, e5, e6, e7, e8,
    q0, q1, readAt_staged, ld_off3, ld_off9, ld_off4, ld_off10, ld_off1 _ _ _ h1, ld_off2 _ _ _ h1, ld_off50, ld_off51, ld_off60, ld_off61]
  try rw [ld_off50]
  try rw [ld_off60]
  try rw [ld_off51]
  try rw [ld_off61]
  have n1 := (cond1_iff i k).1 h1
  have n2 := mt (cond2_iff i k).2 h2
  simp -proj only [p40, p43, p20, p41, p44, p21, p6, p9, p12, p14, p10, p37, m30, m36, a29, a35, cA, m50, m70, a49, a69, cA']
  rw [two_succ, Mst_succ, Mst_succ, Mst_succ, Mst_succ, Ast_succ, Ast_succ, Ast_succ, Ast_succ, Mst_succ, Mst_succ]
  rw [sB_near _ _ _ _ _ 0 n1, sB_near _ _ _ _ _ 1 n1, xB_near _ _ _ _ _ 0 n1, xB_near _ _ _ _ _ 1 n1, sB_far _ _ _ _ _ 0 n2, sB_far _ _ _ _ _ 1 n2, xB_far _ _ _ _ _ 0 n2, xB_far _ _ _ _ _ 1 n2]
  refine ⟨?_, ?_, ?_, ?_, ?_, ?_, ?_, ?_⟩ <;> first | with_reducible rfl | exact trivial

/-- One trip, the first block far and the second near. -/
theorem trip_fn (c : Dev nD) (i : grid0.Coords) (arg3 : Memref sig .tc .vmem S4x64 .f32) (harg3 : arg3.IsWhole) (arg4 : Memref sig .tc .smem S2x8 .f32) (harg4 : arg4.IsWhole) (arg5 : Memref sig .tc .vmem S1x1x128x512 .bf16) (harg5 : arg5.IsWhole) (arg6 : Memref sig .tc .vmem S1x16384x128 .bf16) (harg6 : arg6.IsWhole) (arg7 : Memref sig .tc .vmem S1x32x128x512 .bf16) (harg7 : arg7.IsWhole) (arg8 : Memref sig .tc .vmem S2x3x512x512 .f32) (harg8 : arg8.IsWhole) (arg9 : Memref sig .tc .vmem S128x1 .f32) (harg9 : arg9.IsWhole) (arg10 : Memref sig .tc .vmem S1x512x128 .bf16) (harg10 : arg10.IsWhole) (arg11 : Memref sig .tc .vmem S2x128x512 .bf16) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (arg16 : Memref sig .tc .vmem S2x1x512 .f32) (harg16 : arg16.IsWhole) (arg17 : Memref sig .tc .vmem S2x144x512 .f32) (harg17 : arg17.IsWhole)
    (v27 : FVec F S512x128 .bf16) (k : Fin k0_t1_loop.trips) (h1 : ¬ k0_cond1 i k = 1#1) (h2 : k0_cond2 i k = 1#1)
    (x4 : Vec F S2x8 .f32) (x6 : Vec F S1x16384x128 .bf16) (x7 : Vec F S1x32x128x512 .bf16) (x8 : Vec F S2x3x512x512 .f32)
    (f11 : Buf (Elt F) (arg11.view.loc (c : Thread nD τ))) (p : Prop) :
    Inv c i arg3 harg3 arg4 harg4 arg5 harg5 arg6 harg6 arg7 harg7 arg8 harg8 arg9 harg9 arg10 harg10 arg11 harg11 arg12 harg12 arg13 harg13 arg14 harg14 arg15 harg15 arg16 harg16 arg17 harg17 x4 x6 x7 x8 f11 p k.val
      ⊢ wp Idealize.ShloMosaic.frame (wpE (defs₀ (F := F)) Variants.none (c : Thread nD τ) none) Set.univ
          (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) (BitVec.ofNat 32 (i 2).val) v27 k ())
          (fun _ => Inv c i arg3 harg3 arg4 harg4 arg5 harg5 arg6 harg6 arg7 harg7 arg8 harg8 arg9 harg9 arg10 harg10 arg11 harg11 arg12 harg12 arg13 harg13 arg14 harg14 arg15 harg15 arg16 harg16 arg17 harg17 x4 x6 x7 x8 f11 p (k.val + 1)) := by
  unfold Inv k0_t1_body
  iintro ⟨H4, H6, H7, H8, H11, ⟨%f13, H13⟩, ⟨%f15, H15⟩, ⟨%f12, %f14, %f16, %f17, H12, H14, H16, H17, -, %hSt⟩⟩
  sl_exec (disch := first | sl_exact h1 | sl_exact h2)
  sl_step
  isplitl [H4]; · iexact H4
  isplitl [H6]; · iexact H6
  isplitl [H7]; · iexact H7
  isplitl [H8]; · iexact H8
  isplitl [H11]; · iexact H11
  isplitl [H13]; · iexists _; iexact H13
  isplitl [H15]; · iexists _; iexact H15
  iexists _; iexists _; iexists _; iexists _
  isplitl [H12]; · iexact H12
  isplitl [H14]; · iexact H14
  isplitl [H16]; · iexact H16
  isplitl [H17]; · iexact H17
  isplitr; · ipureintro; rfl
  ipureintro
  intro hp
  replace hSt := hSt hp
  unfold St at hSt
  obtain ⟨e1, e2, e3, e4, e5, e6, e7, e8⟩ := hSt
  unfold St
  have q0 : ∀ inb, View.readAt (Elt F) arg11.view (Rect.unit (s := S2x128x512) ![0, 0, 0] S1x128x512.size inb).toLoadRect f11
      = qP (arg11.view.read (Elt F) f11) 0 := fun _ => rfl
  have q1 : ∀ inb, View.readAt (Elt F) arg11.view (Rect.unit (s := S2x128x512) ![1, 0, 0] S1x128x512.size inb).toLoadRect f11
      = qP (arg11.view.read (Elt F) f11) 1 := fun _ => rfl
  delta trip_fn.sl.H13_2 trip_fn.sl.H13_3 trip_fn.sl.H13_4 trip_fn.sl.H15_4 trip_fn.sl.H16_2 trip_fn.sl.H16_3 trip_fn.sl.H17_2 trip_fn.sl.H17_3 trip_fn.sl.arg18 trip_fn.sl.r trip_fn.sl.r_1 trip_fn.sl.r_10 trip_fn.sl.r_11 trip_fn.sl.r_12 trip_fn.sl.r_13 trip_fn.sl.r_14 trip_fn.sl.r_15 trip_fn.sl.r_16 trip_fn.sl.r_17 trip_fn.sl.r_18 trip_fn.sl.r_19 trip_fn.sl.r_2 trip_fn.sl.r_20 trip_fn.sl.r_3 trip_fn.sl.r_4 trip_fn.sl.r_5 trip_fn.sl.r_6 trip_fn.sl.r_7 trip_fn.sl.r_8 trip_fn.sl.r_9 trip_fn.sl.v103 trip_fn.sl.v104 trip_fn.sl.v105 trip_fn.sl.v106 trip_fn.sl.v194 trip_fn.sl.v211 trip_fn.sl.v224 trip_fn.sl.v225 trip_fn.sl.v226 trip_fn.sl.v227 trip_fn.sl.v275 trip_fn.sl.v277 trip_fn.sl.v284 trip_fn.sl.v292 trip_fn.sl.v315 trip_fn.sl.v317 trip_fn.sl.v324 trip_fn.sl.v332 trip_fn.sl.v344 trip_fn.sl.v359
  simp -proj only [View.readCov, readAt_hit, miss_s01, miss_s10, miss_x01, miss_x10, miss_a01, miss_a10, View.writes_nil, e1, e2, e3, e4, e5, e6, e7, e8,
    q0, q1, readAt_staged, ld_off3, ld_off9, ld_off4, ld_off10, ld_off7 _ _ _ h2, ld_off8 _ _ _ h2, ld_off50, ld_off51, ld_off60, ld_off61]
  try rw [ld_off50]
  try rw [ld_off60]
  try rw [ld_off51]
  try rw [ld_off61]
  have n1 := mt (cond1_iff i k).2 h1
  have n2 := (cond2_iff i k).1 h2
  simp -proj only [p40, p43, p20, p41, p44, p21, p6, p9, p12, p14, p10, p37, m30, m36, a29, a35, cA, m50, m70, a49, a69, cA']
  rw [two_succ, Mst_succ, Mst_succ, Mst_succ, Mst_succ, Ast_succ, Ast_succ, Ast_succ, Ast_succ, Mst_succ, Mst_succ]
  rw [sB_far _ _ _ _ _ 0 n1, sB_far _ _ _ _ _ 1 n1, xB_far _ _ _ _ _ 0 n1, xB_far _ _ _ _ _ 1 n1, sB_near _ _ _ _ _ 0 n2, sB_near _ _ _ _ _ 1 n2, xB_near _ _ _ _ _ 0 n2, xB_near _ _ _ _ _ 1 n2]
  refine ⟨?_, ?_, ?_, ?_, ?_, ?_, ?_, ?_⟩ <;> first | with_reducible rfl | exact trivial

/-- One trip, the first block near and the second near. -/
theorem trip_nn (c : Dev nD) (i : grid0.Coords) (arg3 : Memref sig .tc .vmem S4x64 .f32) (harg3 : arg3.IsWhole) (arg4 : Memref sig .tc .smem S2x8 .f32) (harg4 : arg4.IsWhole) (arg5 : Memref sig .tc .vmem S1x1x128x512 .bf16) (harg5 : arg5.IsWhole) (arg6 : Memref sig .tc .vmem S1x16384x128 .bf16) (harg6 : arg6.IsWhole) (arg7 : Memref sig .tc .vmem S1x32x128x512 .bf16) (harg7 : arg7.IsWhole) (arg8 : Memref sig .tc .vmem S2x3x512x512 .f32) (harg8 : arg8.IsWhole) (arg9 : Memref sig .tc .vmem S128x1 .f32) (harg9 : arg9.IsWhole) (arg10 : Memref sig .tc .vmem S1x512x128 .bf16) (harg10 : arg10.IsWhole) (arg11 : Memref sig .tc .vmem S2x128x512 .bf16) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (arg16 : Memref sig .tc .vmem S2x1x512 .f32) (harg16 : arg16.IsWhole) (arg17 : Memref sig .tc .vmem S2x144x512 .f32) (harg17 : arg17.IsWhole)
    (v27 : FVec F S512x128 .bf16) (k : Fin k0_t1_loop.trips) (h1 : k0_cond1 i k = 1#1) (h2 : k0_cond2 i k = 1#1)
    (x4 : Vec F S2x8 .f32) (x6 : Vec F S1x16384x128 .bf16) (x7 : Vec F S1x32x128x512 .bf16) (x8 : Vec F S2x3x512x512 .f32)
    (f11 : Buf (Elt F) (arg11.view.loc (c : Thread nD τ))) (p : Prop) :
    Inv c i arg3 harg3 arg4 harg4 arg5 harg5 arg6 harg6 arg7 harg7 arg8 harg8 arg9 harg9 arg10 harg10 arg11 harg11 arg12 harg12 arg13 harg13 arg14 harg14 arg15 harg15 arg16 harg16 arg17 harg17 x4 x6 x7 x8 f11 p k.val
      ⊢ wp Idealize.ShloMosaic.frame (wpE (defs₀ (F := F)) Variants.none (c : Thread nD τ) none) Set.univ
          (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) (BitVec.ofNat 32 (i 2).val) v27 k ())
          (fun _ => Inv c i arg3 harg3 arg4 harg4 arg5 harg5 arg6 harg6 arg7 harg7 arg8 harg8 arg9 harg9 arg10 harg10 arg11 harg11 arg12 harg12 arg13 harg13 arg14 harg14 arg15 harg15 arg16 harg16 arg17 harg17 x4 x6 x7 x8 f11 p (k.val + 1)) := by
  unfold Inv k0_t1_body
  iintro ⟨H4, H6, H7, H8, H11, ⟨%f13, H13⟩, ⟨%f15, H15⟩, ⟨%f12, %f14, %f16, %f17, H12, H14, H16, H17, -, %hSt⟩⟩
  sl_exec (disch := first | sl_exact h1 | sl_exact h2)
  sl_step
  isplitl [H4]; · iexact H4
  isplitl [H6]; · iexact H6
  isplitl [H7]; · iexact H7
  isplitl [H8]; · iexact H8
  isplitl [H11]; · iexact H11
  isplitl [H13]; · iexists _; iexact H13
  isplitl [H15]; · iexists _; iexact H15
  iexists _; iexists _; iexists _; iexists _
  isplitl [H12]; · iexact H12
  isplitl [H14]; · iexact H14
  isplitl [H16]; · iexact H16
  isplitl [H17]; · iexact H17
  isplitr; · ipureintro; rfl
  ipureintro
  intro hp
  replace hSt := hSt hp
  unfold St at hSt
  obtain ⟨e1, e2, e3, e4, e5, e6, e7, e8⟩ := hSt
  unfold St
  have q0 : ∀ inb, View.readAt (Elt F) arg11.view (Rect.unit (s := S2x128x512) ![0, 0, 0] S1x128x512.size inb).toLoadRect f11
      = qP (arg11.view.read (Elt F) f11) 0 := fun _ => rfl
  have q1 : ∀ inb, View.readAt (Elt F) arg11.view (Rect.unit (s := S2x128x512) ![1, 0, 0] S1x128x512.size inb).toLoadRect f11
      = qP (arg11.view.read (Elt F) f11) 1 := fun _ => rfl
  delta trip_nn.sl.H12_2 trip_nn.sl.H13_2 trip_nn.sl.H13_3 trip_nn.sl.H13_4 trip_nn.sl.H14_2 trip_nn.sl.H15_4 trip_nn.sl.H16_2 trip_nn.sl.H16_3 trip_nn.sl.H17_2 trip_nn.sl.H17_3 trip_nn.sl.arg18 trip_nn.sl.r trip_nn.sl.r_1 trip_nn.sl.r_10 trip_nn.sl.r_11 trip_nn.sl.r_12 trip_nn.sl.r_13 trip_nn.sl.r_14 trip_nn.sl.r_15 trip_nn.sl.r_16 trip_nn.sl.r_17 trip_nn.sl.r_18 trip_nn.sl.r_19 trip_nn.sl.r_2 trip_nn.sl.r_20 trip_nn.sl.r_21 trip_nn.sl.r_3 trip_nn.sl.r_4 trip_nn.sl.r_5 trip_nn.sl.r_6 trip_nn.sl.r_7 trip_nn.sl.r_8 trip_nn.sl.r_9 trip_nn.sl.v103 trip_nn.sl.v104 trip_nn.sl.v105 trip_nn.sl.v106 trip_nn.sl.v156 trip_nn.sl.v163 trip_nn.sl.v194 trip_nn.sl.v196 trip_nn.sl.v203 trip_nn.sl.v211 trip_nn.sl.v224 trip_nn.sl.v225 trip_nn.sl.v226 trip_nn.sl.v227 trip_nn.sl.v275 trip_nn.sl.v277 trip_nn.sl.v284 trip_nn.sl.v292 trip_nn.sl.v315 trip_nn.sl.v317 trip_nn.sl.v324 trip_nn.sl.v332 trip_nn.sl.v344 trip_nn.sl.v359 trip_nn.sl.v359_1
  simp -proj only [View.readCov, readAt_hit, miss_s01, miss_s10, miss_x01, miss_x10, miss_a01, miss_a10, View.writes_nil, e1, e2, e3, e4, e5, e6, e7, e8,
    q0, q1, readAt_staged, ld_off3, ld_off9, ld_off4, ld_off10, ld_off1 _ _ _ h1, ld_off2 _ _ _ h1, ld_off7 _ _ _ h2, ld_off8 _ _ _ h2, ld_off50, ld_off51, ld_off60, ld_off61]
  try rw [ld_off50]
  try rw [ld_off60]
  try rw [ld_off51]
  try rw [ld_off61]
  have n1 := (cond1_iff i k).1 h1
  have n2 := (cond2_iff i k).1 h2
  simp -proj only [p40, p43, p20, p41, p44, p21, p6, p9, p12, p14, p10, p37, m30, m36, a29, a35, cA, m50, m70, a49, a69, cA']
  rw [two_succ, Mst_succ, Mst_succ, Mst_succ, Mst_succ, Ast_succ, Ast_succ, Ast_succ, Ast_succ, Mst_succ, Mst_succ]
  rw [sB_near _ _ _ _ _ 0 n1, sB_near _ _ _ _ _ 1 n1, xB_near _ _ _ _ _ 0 n1, xB_near _ _ _ _ _ 1 n1, sB_near _ _ _ _ _ 0 n2, sB_near _ _ _ _ _ 1 n2, xB_near _ _ _ _ _ 0 n2, xB_near _ _ _ _ _ 1 n2]
  refine ⟨?_, ?_, ?_, ?_, ?_, ?_, ?_, ?_⟩ <;> first | with_reducible rfl | exact trivial

/-- One trip of the loop. -/
theorem trip (c : Dev nD) (i : grid0.Coords) (arg3 : Memref sig .tc .vmem S4x64 .f32) (harg3 : arg3.IsWhole) (arg4 : Memref sig .tc .smem S2x8 .f32) (harg4 : arg4.IsWhole) (arg5 : Memref sig .tc .vmem S1x1x128x512 .bf16) (harg5 : arg5.IsWhole) (arg6 : Memref sig .tc .vmem S1x16384x128 .bf16) (harg6 : arg6.IsWhole) (arg7 : Memref sig .tc .vmem S1x32x128x512 .bf16) (harg7 : arg7.IsWhole) (arg8 : Memref sig .tc .vmem S2x3x512x512 .f32) (harg8 : arg8.IsWhole) (arg9 : Memref sig .tc .vmem S128x1 .f32) (harg9 : arg9.IsWhole) (arg10 : Memref sig .tc .vmem S1x512x128 .bf16) (harg10 : arg10.IsWhole) (arg11 : Memref sig .tc .vmem S2x128x512 .bf16) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (arg16 : Memref sig .tc .vmem S2x1x512 .f32) (harg16 : arg16.IsWhole) (arg17 : Memref sig .tc .vmem S2x144x512 .f32) (harg17 : arg17.IsWhole)
    (v27 : FVec F S512x128 .bf16) (k : Fin k0_t1_loop.trips)
    (x4 : Vec F S2x8 .f32) (x6 : Vec F S1x16384x128 .bf16) (x7 : Vec F S1x32x128x512 .bf16) (x8 : Vec F S2x3x512x512 .f32)
    (f11 : Buf (Elt F) (arg11.view.loc (c : Thread nD τ))) (p : Prop) :
    Inv c i arg3 harg3 arg4 harg4 arg5 harg5 arg6 harg6 arg7 harg7 arg8 harg8 arg9 harg9 arg10 harg10 arg11 harg11 arg12 harg12 arg13 harg13 arg14 harg14 arg15 harg15 arg16 harg16 arg17 harg17 x4 x6 x7 x8 f11 p k.val
      ⊢ wp Idealize.ShloMosaic.frame (wpE (defs₀ (F := F)) Variants.none (c : Thread nD τ) none) Set.univ
          (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) (BitVec.ofNat 32 (i 2).val) v27 k ())
          (fun _ => Inv c i arg3 harg3 arg4 harg4 arg5 harg5 arg6 harg6 arg7 harg7 arg8 harg8 arg9 harg9 arg10 harg10 arg11 harg11 arg12 harg12 arg13 harg13 arg14 harg14 arg15 harg15 arg16 harg16 arg17 harg17 x4 x6 x7 x8 f11 p (k.val + 1)) := by
  by_cases h1 : k0_cond1 i k = 1#1 <;> by_cases h2 : k0_cond2 i k = 1#1
  · exact trip_nn c i arg3 harg3 arg4 harg4 arg5 harg5 arg6 harg6 arg7 harg7 arg8 harg8 arg9 harg9 arg10 harg10 arg11 harg11 arg12 harg12 arg13 harg13 arg14 harg14 arg15 harg15 arg16 harg16 arg17 harg17 v27 k h1 h2 x4 x6 x7 x8 f11 p
  · exact trip_nf c i arg3 harg3 arg4 harg4 arg5 harg5 arg6 harg6 arg7 harg7 arg8 harg8 arg9 harg9 arg10 harg10 arg11 harg11 arg12 harg12 arg13 harg13 arg14 harg14 arg15 harg15 arg16 harg16 arg17 harg17 v27 k h1 h2 x4 x6 x7 x8 f11 p
  · exact trip_fn c i arg3 harg3 arg4 harg4 arg5 harg5 arg6 harg6 arg7 harg7 arg8 harg8 arg9 harg9 arg10 harg10 arg11 harg11 arg12 harg12 arg13 harg13 arg14 harg14 arg15 harg15 arg16 harg16 arg17 harg17 v27 k h1 h2 x4 x6 x7 x8 f11 p
  · exact trip_ff c i arg3 harg3 arg4 harg4 arg5 harg5 arg6 harg6 arg7 harg7 arg8 harg8 arg9 harg9 arg10 harg10 arg11 harg11 arg12 harg12 arg13 harg13 arg14 harg14 arg15 harg15 arg16 harg16 arg17 harg17 v27 k h1 h2 x4 x6 x7 x8 f11 p

end Cert.KernelIdeal.Attn
end
-- ==== Proof.Attn.Block.lean ====
module

public import proofs.«01_k».proof.Proof.Attn.Pays

/-! What the prologue leaves in the scratch buffers, and the block of the result a grid point stores. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

/-- An index of the whole in a half. -/
def hIx (j : S2x128x512.Idx) : S1x128x512.Idx := fun a => match a with
  | 0 => (0 : Fin 1)
  | 1 => j 1
  | 2 => j 2

/-- Two halves as one array. -/
def glue (a b : Vec F S1x128x512 .bf16) : Vec F S2x128x512 .bf16 :=
  fun j => if (j 0).val = 0 then a (hIx j) else b (hIx j)

/-- The query block masked to each half of the head. -/
def xQ (x5 : Vec F S1x1x128x512 .bf16) : Vec F S2x128x512 .bf16 := glue (k0_pay58 x5) (k0_pay59 x5)

/-- The rows of a running sum that hold the weighted values. -/
def top (A : Vec F S1x144x512 .f32) : Vec F S1x128x512 .f32 :=
  View.ld A (Rect.unit (s := S1x144x512) ![0, 0, 0] S1x128x512.size (by decide))

/-- The row of a running sum that holds the sum of the weights. -/
def row (A : Vec F S1x144x512 .f32) : Vec F S1x1x512 .f32 :=
  View.ld A (Rect.unit (s := S1x144x512) ![0, 128, 0] S1x1x512.size (by decide))

/-- The block of the result that a grid point stores. -/
def outB (x3 : Vec F S4x64 .f32) (x4 : Vec F S2x8 .f32) (x5 : Vec F S1x1x128x512 .bf16) (x6 : Vec F S1x16384x128 .bf16)
    (x7 : Vec F S1x32x128x512 .bf16) (x8 : Vec F S2x3x512x512 .f32) (x9 : Vec F S128x1 .f32) (h i : ℕ) : Vec F S1x512x128 .bf16 :=
  k0_pay1 (k0_pay72 x3 (k0_pay71 x3)
    (top (Ast x4 x6 x7 x8 (xQ x5) h i 0 32)) (top (Ast x4 x6 x7 x8 (xQ x5) h i 1 32))
    (row (Ast x4 x6 x7 x8 (xQ x5) h i 0 32)) (row (Ast x4 x6 x7 x8 (xQ x5) h i 1 32)) x9)

theorem idx_unit {s : Shape} (off size : Fin s.rank → ℕ) (inb : ∀ a, off a + size a ≤ s.size a) (y : (Rect.unit off size inb).shape.Idx) (a : Fin s.rank) :
    ((Rect.unit off size inb).idx y a).val = off a + (y a).val := by
  show off a + 1 * (y a).val = _
  rw [Nat.one_mul]

theorem glue_qP (X : Vec F S2x128x512 .bf16) : glue (qP X 0) (qP X 1) = X := by
  funext j
  unfold glue qP View.ld
  have h0 : (j 0).val < 2 := (j 0).isLt
  split
  · rename_i hj
    refine congrArg X (funext fun a => Fin.ext ?_)
    rw [idx_unit]
    fin_cases a
    · show 0 + 0 = (j 0).val; omega
    · exact Nat.zero_add _
    · exact Nat.zero_add _
  · rename_i hj
    refine congrArg X (funext fun a => Fin.ext ?_)
    rw [idx_unit]
    fin_cases a
    · show 1 + 0 = (j 0).val; omega
    · exact Nat.zero_add _
    · exact Nat.zero_add _

theorem ld_whole2 {s : Shape} {e : EltTy} {Val : EltTy → Type} (X : s.Idx → Val e) (off : Fin s.rank → ℕ) (h : ∀ a, off a = 0)
    (inb : ∀ a, off a + s.size a ≤ s.size a) : View.ld X (Rect.unit off s.size inb) = X := by
  funext y
  refine congrArg X (funext fun a => Fin.ext ?_)
  rw [idx_unit, h, Nat.zero_add]

theorem ld_w3 (x3 : Vec F S4x64 .f32) (inb) : View.ld (Val := Elt F) x3 (Rect.unit ![0, 0] S4x64.size inb) = x3 :=
  ld_whole2 x3 _ (by decide) inb
theorem ld_w9 (x9 : Vec F S128x1 .f32) (inb) : View.ld (Val := Elt F) x9 (Rect.unit ![0, 0] S128x1.size inb) = x9 :=
  ld_whole2 x9 _ (by decide) inb
theorem ld_w5 (x5 : Vec F S1x1x128x512 .bf16) (inb) : View.ld (Val := Elt F) x5 (Rect.unit ![0, 0, 0, 0] S1x1x128x512.size inb) = x5 :=
  ld_whole2 x5 _ (by decide) inb
theorem ld_k0 (x6 : Vec F S1x16384x128 .bf16) (inb) : View.ld (Val := Elt F) x6 (Rect.unit ![0, 0, 0] S1x512x128.size inb) = kB x6 0 := rfl

section
variable {sg : RefSig} {κ : Kind} {sp : Space}

/-- A load after a store to the whole buffer finds the stored array there. -/
theorem readAt_all {s : Shape} {e : EltTy} (v : View sg κ sp s e) (f : v.ty.Contents (Elt F)) (off0 : Fin s.rank → ℕ) (h0 : ∀ a, off0 a = 0)
    (inb0 : ∀ a, off0 a + s.size a ≤ s.size a) (w : s.Idx → Elt F e) (off size : Fin s.rank → ℕ) (inb : ∀ a, off a + size a ≤ s.size a) :
    v.readAt (Elt F) (Rect.unit off size inb).toLoadRect (v.writes (Elt F) f [⟨Rect.unit off0 s.size inb0, w⟩]) = View.ld w (Rect.unit off size inb) := by
  rw [View.readAt_eq_ld]
  refine congrArg (View.ld · (Rect.unit off size inb)) (funext fun y => ?_)
  have hy : (Rect.unit off0 s.size inb0).emb y = y := funext fun a => Fin.ext (by
    show ((Rect.unit off0 s.size inb0).idx y a).val = _
    rw [idx_unit, h0, Nat.zero_add])
  have := View.read_writes_cons_emb v f (Rect.unit off0 s.size inb0) w [] y
  rw [hy] at this
  exact this

theorem read_all {s : Shape} {e : EltTy} (v : View sg κ sp s e) (f : v.ty.Contents (Elt F)) (off0 : Fin s.rank → ℕ) (h0 : ∀ a, off0 a = 0)
    (inb0 : ∀ a, off0 a + s.size a ≤ s.size a) (w : s.Idx → Elt F e) :
    v.read (Elt F) (v.writes (Elt F) f [⟨Rect.unit off0 s.size inb0, w⟩]) = w := by
  refine funext fun y => ?_
  have hy : (Rect.unit off0 s.size inb0).emb y = y := funext fun a => Fin.ext (by
    show ((Rect.unit off0 s.size inb0).idx y a).val = _
    rw [idx_unit, h0, Nat.zero_add])
  have := View.read_writes_cons_emb v f (Rect.unit off0 s.size inb0) w [] y
  rw [hy] at this
  exact this

theorem readAt_m (v : View sg κ sp S2x1x512 .f32) (f : v.ty.Contents (Elt F)) (inb0) (off : Fin 3 → ℕ) (inb) :
    v.readAt (Elt F) (Rect.unit (s := S2x1x512) off S1x1x512.size inb).toLoadRect
      (v.writes (Elt F) f [⟨Rect.unit (s := S2x1x512) ![0, 0, 0] S2x1x512.size inb0, k0_pay60 (F := F)⟩])
      = fun _ => Scalar.ofBits .f32 0xF149F2CA#32 :=
  (readAt_all v f _ (by decide) inb0 _ _ _ inb).trans rfl
theorem readAt_s (v : View sg κ sp S2x144x512 .f32) (f : v.ty.Contents (Elt F)) (inb0) (off : Fin 3 → ℕ) (inb) :
    v.readAt (Elt F) (Rect.unit (s := S2x144x512) off S1x144x512.size inb).toLoadRect
      (v.writes (Elt F) f [⟨Rect.unit (s := S2x144x512) ![0, 0, 0] S2x144x512.size inb0, k0_pay61 (F := F)⟩])
      = fun _ => Scalar.ofBits .f32 0x00000000#32 :=
  (readAt_all v f _ (by decide) inb0 _ _ _ inb).trans rfl

theorem qP_read0 (v : View sg κ sp S2x128x512 .bf16) (f : v.ty.Contents (Elt F)) :
    qP (v.read (Elt F) f) 0 = v.readAt (Elt F) (Rect.unit (s := S2x128x512) ![0, 0, 0] S1x128x512.size inb_S2x128x512_S1x128x512_0_0_0).toLoadRect f := rfl
theorem qP_read1 (v : View sg κ sp S2x128x512 .bf16) (f : v.ty.Contents (Elt F)) :
    qP (v.read (Elt F) f) 1 = v.readAt (Elt F) (Rect.unit (s := S2x128x512) ![1, 0, 0] S1x128x512.size inb_S2x128x512_S1x128x512_1_0_0).toLoadRect f := rfl

/-- The masked queries after both halves are stored. -/
theorem read_xQ (v : View sg κ sp S2x128x512 .bf16) (f : v.ty.Contents (Elt F)) (x5 : Vec F S1x1x128x512 .bf16) (i0) (i1) :
    v.read (Elt F) (v.writes (Elt F) f [⟨Rect.unit (s := S2x128x512) ![1, 0, 0] S1x128x512.size i1, k0_pay59 x5⟩,
      ⟨Rect.unit (s := S2x128x512) ![0, 0, 0] S1x128x512.size i0, k0_pay58 x5⟩]) = xQ x5 := by
  rw [← glue_qP (v.read (Elt F) _), qP_read0, qP_read1, miss_q01, readAt_hit, readAt_hit]
  rfl

/-- Loads of rows of one half are rows of the load of the half. -/
theorem top0 (v : View sg κ sp S2x144x512 .f32) (f : v.ty.Contents (Elt F)) (inb) (inb') :
    v.readAt (Elt F) (Rect.unit (s := S2x144x512) ![0, 0, 0] S1x128x512.size inb).toLoadRect f
      = top (v.readAt (Elt F) (Rect.unit (s := S2x144x512) ![0, 0, 0] S1x144x512.size inb').toLoadRect f) := by
  rw [View.readAt_eq_ld, View.readAt_eq_ld]
  refine funext fun y => congrArg (v.read (Elt F) f) (funext fun a => Fin.ext ?_)
  rw [idx_unit, idx_unit, idx_unit]
  fin_cases a <;> simp
theorem top1 (v : View sg κ sp S2x144x512 .f32) (f : v.ty.Contents (Elt F)) (inb) (inb') :
    v.readAt (Elt F) (Rect.unit (s := S2x144x512) ![1, 0, 0] S1x128x512.size inb).toLoadRect f
      = top (v.readAt (Elt F) (Rect.unit (s := S2x144x512) ![1, 0, 0] S1x144x512.size inb').toLoadRect f) := by
  rw [View.readAt_eq_ld, View.readAt_eq_ld]
  refine funext fun y => congrArg (v.read (Elt F) f) (funext fun a => Fin.ext ?_)
  rw [idx_unit, idx_unit, idx_unit]
  fin_cases a <;> simp
theorem row0 (v : View sg κ sp S2x144x512 .f32) (f : v.ty.Contents (Elt F)) (inb) (inb') :
    v.readAt (Elt F) (Rect.unit (s := S2x144x512) ![0, 128, 0] S1x1x512.size inb).toLoadRect f
      = row (v.readAt (Elt F) (Rect.unit (s := S2x144x512) ![0, 0, 0] S1x144x512.size inb').toLoadRect f) := by
  rw [View.readAt_eq_ld, View.readAt_eq_ld]
  refine funext fun y => congrArg (v.read (Elt F) f) (funext fun a => Fin.ext ?_)
  rw [idx_unit, idx_unit, idx_unit]
  fin_cases a <;> simp
theorem row1 (v : View sg κ sp S2x144x512 .f32) (f : v.ty.Contents (Elt F)) (inb) (inb') :
    v.readAt (Elt F) (Rect.unit (s := S2x144x512) ![1, 128, 0] S1x1x512.size inb).toLoadRect f
      = row (v.readAt (Elt F) (Rect.unit (s := S2x144x512) ![1, 0, 0] S1x144x512.size inb').toLoadRect f) := by
  rw [View.readAt_eq_ld, View.readAt_eq_ld]
  refine funext fun y => congrArg (v.read (Elt F) f) (funext fun a => Fin.ext ?_)
  rw [idx_unit, idx_unit, idx_unit]
  fin_cases a <;> simp
end

end Cert.KernelIdeal.Attn
end
-- ==== Proof.Attn.Body.lean ====
module

public import proofs.«01_k».proof.Proof.Attn.Trip
public import proofs.«01_k».proof.Proof.Attn.Block

/-! One grid point of the attention kernel: the block of the result it stores. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

set_option warn.classDefReducibility false in
/-- The loop's invariant. -/
@[sl_loop] def loopInv (c : Dev nD) (i : grid0.Coords) (arg3 : Memref sig .tc .vmem S4x64 .f32) (harg3 : arg3.IsWhole) (arg4 : Memref sig .tc .smem S2x8 .f32) (harg4 : arg4.IsWhole) (arg5 : Memref sig .tc .vmem S1x1x128x512 .bf16) (harg5 : arg5.IsWhole) (arg6 : Memref sig .tc .vmem S1x16384x128 .bf16) (harg6 : arg6.IsWhole) (arg7 : Memref sig .tc .vmem S1x32x128x512 .bf16) (harg7 : arg7.IsWhole) (arg8 : Memref sig .tc .vmem S2x3x512x512 .f32) (harg8 : arg8.IsWhole) (arg9 : Memref sig .tc .vmem S128x1 .f32) (harg9 : arg9.IsWhole) (arg10 : Memref sig .tc .vmem S1x512x128 .bf16) (harg10 : arg10.IsWhole) (arg11 : Memref sig .tc .vmem S2x128x512 .bf16) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (arg16 : Memref sig .tc .vmem S2x1x512 .f32) (harg16 : arg16.IsWhole) (arg17 : Memref sig .tc .vmem S2x144x512 .f32) (harg17 : arg17.IsWhole)
    (v27 : FVec F S512x128 .bf16)
    (x4 : Vec F S2x8 .f32) (x6 : Vec F S1x16384x128 .bf16) (x7 : Vec F S1x32x128x512 .bf16) (x8 : Vec F S2x3x512x512 .f32)
    (f11 : Buf (Elt F) (arg11.view.loc (c : Thread nD τ))) (p : Prop) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17
      (BitVec.ofNat 32 (i 1).val) (BitVec.ofNat 32 (i 2).val) v27 where
  inv k _ := Inv c i arg3 harg3 arg4 harg4 arg5 harg5 arg6 harg6 arg7 harg7 arg8 harg8 arg9 harg9 arg10 harg10 arg11 harg11 arg12 harg12 arg13 harg13 arg14 harg14 arg15 harg15 arg16 harg16 arg17 harg17 x4 x6 x7 x8 f11 p k
  step k _ := trip c i arg3 harg3 arg4 harg4 arg5 harg5 arg6 harg6 arg7 harg7 arg8 harg8 arg9 harg9 arg10 harg10 arg11 harg11 arg12 harg12 arg13 harg13 arg14 harg14 arg15 harg15 arg16 harg16 arg17 harg17 v27 k x4 x6 x7 x8 f11 p

set_option maxHeartbeats 1000000 in
/-- One grid point: on whole buffers, the inputs' at their contents, it leaves the result's at its block. -/
theorem body_run (c : Dev nD) (i : grid0.Coords) (arg3 : Memref sig .tc .vmem S4x64 .f32) (harg3 : arg3.IsWhole) (arg4 : Memref sig .tc .smem S2x8 .f32) (harg4 : arg4.IsWhole) (arg5 : Memref sig .tc .vmem S1x1x128x512 .bf16) (harg5 : arg5.IsWhole) (arg6 : Memref sig .tc .vmem S1x16384x128 .bf16) (harg6 : arg6.IsWhole) (arg7 : Memref sig .tc .vmem S1x32x128x512 .bf16) (harg7 : arg7.IsWhole) (arg8 : Memref sig .tc .vmem S2x3x512x512 .f32) (harg8 : arg8.IsWhole) (arg9 : Memref sig .tc .vmem S128x1 .f32) (harg9 : arg9.IsWhole) (arg10 : Memref sig .tc .vmem S1x512x128 .bf16) (harg10 : arg10.IsWhole) (arg11 : Memref sig .tc .vmem S2x128x512 .bf16) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (arg16 : Memref sig .tc .vmem S2x1x512 .f32) (harg16 : arg16.IsWhole) (arg17 : Memref sig .tc .vmem S2x144x512 .f32) (harg17 : arg17.IsWhole)
    (x3 : Vec F S4x64 .f32) (x4 : Vec F S2x8 .f32) (x5 : Vec F S1x1x128x512 .bf16) (x6 : Vec F S1x16384x128 .bf16) (x7 : Vec F S1x32x128x512 .bf16) (x8 : Vec F S2x3x512x512 .f32) (x9 : Vec F S128x1 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (outB x3 x4 x5 x6 x7 x8 x9 (i 1).val (i 2).val) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp Idealize.ShloMosaic.frame (wpE (defs₀ (F := F)) Variants.none (c : Thread nD τ) none) Set.univ
          (cc0_diffattn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_diffattn_eq_skeleton]; unfold cc0_diffattn_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩,
    ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec
  sl_step
  have hS := hL12 (by
    delta body_run.sl.r_3 body_run.sl.r_2 body_run.sl.v28 body_run.sl.r body_run.sl.H17_1 body_run.sl.r_1 body_run.sl.H14_2 body_run.sl.H11_2 body_run.sl.H12_2 body_run.sl.H16_1 body_run.sl.v39
    unfold St
    simp -proj only [View.readCov, qP_read0, qP_read1, readAt_hit, miss_s01, miss_x01, miss_q01, readAt_m, readAt_s, readAt_staged, ld_w5, ld_k0,
      p64, p65, p67, p68]
    refine ⟨?_, ?_, ?_, ?_, ?_, ?_, ?_, ?_⟩ <;> first | rfl | exact trivial)
  have hQ : View.read (Elt F) arg11.view (arg11.view.writes (Elt F) arg11.view.junk (body_run.sl.H11_2 c arg5 harg5 x5)) = xQ x5 := by
    delta body_run.sl.r_3 body_run.sl.r_2 body_run.sl.v28 body_run.sl.r body_run.sl.H17_1 body_run.sl.r_1 body_run.sl.H14_2 body_run.sl.H11_2 body_run.sl.H12_2 body_run.sl.H16_1 body_run.sl.v39
    simp -proj only [readAt_staged, ld_w5]
    exact read_xQ _ _ _ _ _
  rw [hQ] at hS
  unfold St at hS
  obtain ⟨-, -, -, -, -, -, e7, e8⟩ := hS
  have hO : View.read (Elt F) arg10.view (arg10.view.writes (Elt F) f10
      [⟨Rect.unit ![0, 0, 0] S1x512x128.size inb_S1x512x128_S1x512x128_0_0_0, k0_pay1 (body_run.sl.r_3 c arg3 harg3 arg9 harg9 arg17 x3 x9 f17L5)⟩])
        = outB x3 x4 x5 x6 x7 x8 x9 (i 1).val (i 2).val := by
    refine (read_all _ _ _ (by decide) _ _).trans ?_
    delta body_run.sl.r_3 body_run.sl.r_2 body_run.sl.v28 body_run.sl.r body_run.sl.H17_1 body_run.sl.r_1 body_run.sl.H14_2 body_run.sl.H11_2 body_run.sl.H12_2 body_run.sl.H16_1 body_run.sl.v39
    simp -proj only [readAt_staged, ld_w3, ld_w9]
    rw [top0 _ _ _ inb_S2x144x512_S1x144x512_0_0_0, top1 _ _ _ inb_S2x144x512_S1x144x512_1_0_0, row0 _ _ _ inb_S2x144x512_S1x144x512_0_0_0,
      row1 _ _ _ inb_S2x144x512_S1x144x512_1_0_0, e7, e8]
    rfl
  iapply Hk
  isplitl [H3]
  · iexists _; isplitr; · ipureintro; exact harg3.read_unread x3
    iexact H3
  isplitl [H4]
  · iexists _; isplitr; · ipureintro; exact harg4.read_unread x4
    iexact H4
  isplitl [H5]
  · iexists _; isplitr; · ipureintro; exact harg5.read_unread x5
    iexact H5
  isplitl [H6]
  · iexists _; isplitr; · ipureintro; exact harg6.read_unread x6
    iexact H6
  isplitl [H7]
  · iexists _; isplitr; · ipureintro; exact harg7.read_unread x7
    iexact H7
  isplitl [H8]
  · iexists _; isplitr; · ipureintro; exact harg8.read_unread x8
    iexact H8
  isplitl [H9]
  · iexists _; isplitr; · ipureintro; exact harg9.read_unread x9
    iexact H9
  isplitl [H10]
  · iexists _; isplitr; · ipureintro; exact hO
    iexact H10
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  iexists _; iexists _; isplitr; swap; · iexact H17
  ipureintro; rfl

end Cert.KernelIdeal.Attn
end
-- ==== Proof.Attn.Run.lean ====
/- The attention kernel's run: every grid point leaves its block of the result; the launch; the frame. -/
module

public import proofs.«01_k».proof.Proof.Attn.Body
public import proofs.«01_k».proof.Proof.Gen.KernelIdeal.Frame
public import Idealize.ShloMosaic.Lib.Pipeline.FrameBody
public import Idealize.ShloMosaic.Lib.Pipeline.Quiescent
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point `t` stores: the block computed from the windows' blocks. -/
def outAt (c : Dev nD) (t : Fin cfg0.N) : Vec F S1x512x128 .bf16 :=
  outB (iblk m c 0 t) (iblk m c 1 t) (iblk m c 2 t) (iblk m c 3 t) (iblk m c 4 t) (iblk m c 5 t) (iblk m c 6 t)
    (grid0.coords t 1).val (grid0.coords t 2).val

/-- Each input's buffer keeps its block; the result's holds the point's block; the scratch buffers are at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

abbrev ms_0 (t : Fin cfg0.N) : Memref sig .tc .vmem S4x64 .f32 := win0_0.stage (cfg0.slots t 0)
abbrev ms_1 (t : Fin cfg0.N) : Memref sig .tc .smem S2x8 .f32 := win0_1.stage (cfg0.slots t 1)
abbrev ms_2 (t : Fin cfg0.N) : Memref sig .tc .vmem S1x1x128x512 .bf16 := win0_2.stage (cfg0.slots t 2)
abbrev ms_3 (t : Fin cfg0.N) : Memref sig .tc .vmem S1x16384x128 .bf16 := win0_3.stage (cfg0.slots t 3)
abbrev ms_4 (t : Fin cfg0.N) : Memref sig .tc .vmem S1x32x128x512 .bf16 := win0_4.stage (cfg0.slots t 4)
abbrev ms_5 (t : Fin cfg0.N) : Memref sig .tc .vmem S2x3x512x512 .f32 := win0_5.stage (cfg0.slots t 5)
abbrev ms_6 (t : Fin cfg0.N) : Memref sig .tc .vmem S128x1 .f32 := win0_6.stage (cfg0.slots t 6)
abbrev ms_7 (t : Fin cfg0.N) : Memref sig .tc .vmem S1x512x128 .bf16 := win0_7.stage (cfg0.slots t 7)

/-- The buffers of a point before the body. -/
def pre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d)))

/-- The buffers of a point after the body. -/
def post (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t))

/-- What the launch hands the kernel beside its windows: the scratch buffers and the generator register, at anything. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]; try rfl

set_option maxHeartbeats 3200000 in
/-- The body at any point. -/
theorem body_sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6]
  rw [show (dats m 0 c).owesAt () t.succ = (dats m 0 c).owesAt () t.castSucc from rfl,
    after_0, after_1, after_2, after_3, after_4, after_5, after_6, after_7]
  rw [show (dats m 0 c).Φ t.castSucc = Pipeline.ΦA spec0 c from rfl, show (dats m 0 c).Φ t.succ = Pipeline.ΦA spec0 c from rfl, PhiA_eq]
  iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, H7, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (body_sound m c t) rfl .rfl fun _ => .rfl

set_option backward.isDefEq.respectTransparency.types false in
set_option maxHeartbeats 800000 in
/-- The launch: every fair execution ends with the result assembled from the points' blocks, and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end unchanged, every counter at zero. -/
theorem frame_all : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_with_sems (Gen.frame_of m ρ (dats m) (A_eq m)) (run_main m ρ)

end Cert.KernelIdeal.Attn

end
-- ==== Proof.Attn.Frames.lean ====
/-  The attention kernel's frames: it and its idealized program leave their arguments alone, and so does the reference. -/
module

public import proofs.«01_k».proof.Defs
public import proofs.«01_k».proof.Proof.Attn.Run
public import proofs.«01_k».proof.Proof.AttnBits.Run
public import proofs.«01_k».proof.Proof.Gen.ReferenceIdeal
public import proofs.«01_k».proof.Proof.Gen.Pre_finite
public import Idealize.ShloMosaic.Lib.Claim
public import Idealize.ShloMosaic.Lib.Pipeline.ValueKit

@[expose] public section

set_option maxRecDepth 16384

noncomputable section

namespace Cert.Proof

open Idealize.ShloMosaic Idealize.SL.Sem

/-- The attention kernel leaves its arguments alone and its semaphores at zero. -/
theorem frame_Kernel : Cert.quiescent_Kernel := fun m ρ _ => Cert.Kernel.Attn.frame_all m ρ

/-- So does its idealized program. -/
theorem frame_KernelIdeal : Cert.quiescent_KernelIdeal := fun m ρ _ => Cert.KernelIdeal.Attn.frame_all m ρ

/-- In particular from finite arguments. -/
theorem frame_KernelIdeal_finite : Cert.quiescent_KernelIdeal_pre_finite := fun m ρ _ => Cert.KernelIdeal.Attn.frame_all m ρ

set_option maxHeartbeats 1600000 in
/-- So does its reference. -/
theorem frame_ReferenceIdeal : Cert.quiescent_ReferenceIdeal := by
  intro m g _
  hlo_run
  · exact fun _ => ⟨trivial, trivial, trivial, trivial, trivial, trivial, trivial, trivial⟩
  · exact sem_eq_zero_of_no_sems rfl _

set_option maxHeartbeats 1600000 in
/-- In particular from finite arguments. -/
theorem frame_ReferenceIdeal_finite : Cert.quiescent_ReferenceIdeal_pre_finite := fun m g _ => frame_ReferenceIdeal m g trivial

end Cert.Proof

end
-- ==== Proof.Attn.Online.lean ====
/-  Real-number facts of the blockwise softmax: the sums kept relative to a running maximum. -/
module

public import Idealize.ShloMosaic.Lib.Pointwise

@[expose] public section

noncomputable section

namespace Cert.Attn

open Idealize.ShloMosaic

/-- A power of two with its exponent in units of `log 2` is an exponential. -/
theorem two_rpow_log (x : ℝ) : (2 : ℝ) ^ (x * (1 / Real.log 2)) = Real.exp x := by
  have h : Real.log 2 ≠ 0 := (Real.log_pos (by norm_num)).ne'
  rw [Real.rpow_def_of_pos two_pos]
  congr 1
  field_simp

/-- The largest of a nonempty finite family of reals is a real. -/
theorem fold_max_real {n : ℕ} (hn : 0 < n) (f : Fin n → ℝ) :
    ∃ x : ℝ, Finset.univ.fold max (⊥ : EReal) (fun k => (f k : EReal)) = (x : EReal) := by
  have key : ∀ s : Finset (Fin n), (s = ∅ ∧ s.fold max (⊥ : EReal) (fun k => (f k : EReal)) = ⊥)
      ∨ ∃ x : ℝ, s.fold max (⊥ : EReal) (fun k => (f k : EReal)) = (x : EReal) := by
    intro s
    induction s using Finset.induction_on with
    | empty => exact Or.inl ⟨rfl, Finset.fold_empty⟩
    | insert a s ha ih =>
      refine Or.inr ?_
      rw [Finset.fold_insert ha]
      rcases ih with ⟨_, h⟩ | ⟨x, h⟩
      · exact ⟨f a, by rw [h]; exact max_eq_left bot_le⟩
      · refine ⟨max (f a) x, ?_⟩
        rw [h]
        exact (EReal.coe_strictMono.monotone.map_max).symm
  rcases key Finset.univ with ⟨h, _⟩ | h
  · exact absurd (h ▸ Finset.mem_univ (⟨0, hn⟩ : Fin n)) (Finset.notMem_empty _)
  · exact h

/-- A finite sum of reals, taken over the extended reals, is the real sum. -/
theorem coe_sum {ι : Type} (s : Finset ι) (f : ι → ℝ) : (∑ k ∈ s, (f k : EReal)) = ((∑ k ∈ s, f k : ℝ) : EReal) := by
  classical
  induction s using Finset.induction_on with
  | empty => rfl
  | insert a s ha ih => rw [Finset.sum_insert ha, Finset.sum_insert ha, ih, EReal.coe_add]

/-- One more block: rescaling what was summed relative to `M` and adding the block's terms relative to `M'` sums all of
them relative to `M'`. -/
theorem online_step {n : ℕ} (s v : ℕ → Fin n → ℝ) (c : ℕ → ℝ) (M M' : ℝ) (b : ℕ) :
    (2 : ℝ) ^ (M - M') * (∑ k ∈ Finset.range b, ∑ l, (2 : ℝ) ^ (s k l + c k - M) * v k l)
        + ∑ l, v b l * (2 : ℝ) ^ (s b l - (M' - c b))
      = ∑ k ∈ Finset.range (b + 1), ∑ l, (2 : ℝ) ^ (s k l + c k - M') * v k l := by
  rw [Finset.sum_range_succ, Finset.mul_sum]
  congr 1
  · refine Finset.sum_congr rfl fun k _ => ?_
    rw [Finset.mul_sum]
    refine Finset.sum_congr rfl fun l _ => ?_
    rw [← mul_assoc, ← Real.rpow_add two_pos]
    congr 2
    ring
  · refine Finset.sum_congr rfl fun l _ => ?_
    rw [mul_comm]
    congr 2
    ring

/-- The quotient of two sums relative to one `M` does not depend on it. -/
theorem quot_rel {ι : Type} (t : Finset ι) (z v : ι → ℝ) (M : ℝ) :
    (∑ k ∈ t, (2 : ℝ) ^ (z k - M) * v k) / (∑ k ∈ t, (2 : ℝ) ^ (z k - M) * 1)
      = (∑ k ∈ t, (2 : ℝ) ^ z k * v k) / (∑ k ∈ t, (2 : ℝ) ^ z k) := by
  have h : ∀ w : ι → ℝ, (∑ k ∈ t, (2 : ℝ) ^ (z k - M) * w k) = (2 : ℝ) ^ (-M) * ∑ k ∈ t, (2 : ℝ) ^ z k * w k := by
    intro w
    rw [Finset.mul_sum]
    refine Finset.sum_congr rfl fun k _ => ?_
    rw [← mul_assoc, ← Real.rpow_add two_pos]
    congr 2
    ring
  rw [h v, h fun _ => 1, mul_div_mul_left _ _ (Real.rpow_pos_of_pos two_pos _).ne']
  simp only [mul_one]

/-- A quotient of reals, taken over the extended reals. -/
theorem div_coe' (x : ℝ) {y : ℝ} (h : y ≠ 0) : Ideal.div (x : EReal) (y : EReal) = ((x / y : ℝ) : EReal) := by
  rw [Ideal.div_coe h, ← EReal.coe_mul, mul_one_div]

/-- A normalised exponential relative to any real is the plain one. -/
theorem softmax_rel {ι : Type} (t : Finset ι) (z : ι → ℝ) (X : ℝ) (k : ι) :
    Real.exp (z k - X) / (∑ j ∈ t, Real.exp (z j - X)) = Real.exp (z k) / ∑ j ∈ t, Real.exp (z j) := by
  have h : (∑ j ∈ t, Real.exp (z j - X)) = Real.exp (-X) * ∑ j ∈ t, Real.exp (z j) := by
    rw [Finset.mul_sum]
    refine Finset.sum_congr rfl fun j _ => ?_
    rw [← Real.exp_add]
    congr 1
    ring
  rw [h, show Real.exp (z k - X) = Real.exp (-X) * Real.exp (z k) by rw [← Real.exp_add]; congr 1; ring,
    mul_div_mul_left _ _ (Real.exp_pos _).ne']

/-- The weighted values of the two maps' difference is the difference of the weighted values. -/
theorem diff_sum {ι : Type} (t : Finset ι) (v e0 e1 : ι → ℝ) (D0 D1 lam : ℝ) :
    (∑ k ∈ t, v k * (e0 k / D0 - lam * (e1 k / D1))) = (∑ k ∈ t, e0 k * v k) / D0 - lam * ((∑ k ∈ t, e1 k * v k) / D1) := by
  rw [Finset.sum_div, Finset.sum_div, Finset.mul_sum, ← Finset.sum_sub_distrib]
  refine Finset.sum_congr rfl fun k _ => ?_
  ring

end Cert.Attn

end
-- ==== Proof.Attn.Payload.lean ====
/-  What the attention kernel's vector terms hold at an index, over the extended reals. -/
module

public import proofs.«01_k».proof.Proof.Attn.Block
public import proofs.«01_k».proof.Proof.Attn.Online
public import Idealize.ShloMosaic.Lib.Pointwise

@[expose] public section

set_option maxRecDepth 16384

noncomputable section

open Idealize.ShloMosaic Idealize.ShloMosaic.TcCoe Idealize.SL.Sem

namespace Cert.KernelIdeal.Attn

open Cert.KernelIdeal Cert.KernelIdeal.Gen

/-- The initial value of the maximum is the least extended real. -/
theorem ninf : Ideal.ofBits .f32 0xFF800000#32 = (⊥ : EReal) := by simp [Ideal.ofBits, Ideal.ieee]

/-- The row test of the first half. -/
theorem slt64 : ∀ d : Fin 128, IntOp.cmpi CmpIPredicate.slt (BitVec.ofNat 32 d.val) 64#32 = if d.val < 64 then 1#1 else 0#1 := by decide +kernel
/-- The row test of the second half. -/
theorem sge64 : ∀ d : Fin 128, IntOp.cmpi CmpIPredicate.sge (BitVec.ofNat 32 d.val) 64#32 = if 64 ≤ d.val then 1#1 else 0#1 := by decide +kernel

/-- The scores of a key block: every key against every query. -/
theorem pay17_at (k : FVec Ideal S1x512x128 .bf16) (q : FVec Ideal S1x128x512 .bf16) (l r : Fin 512) :
    k0_pay17 (F := Ideal) k q (ix3 0 l r) = ∑ d : Fin 128, k (ix3 0 l d) * q (ix3 0 d r) := by
  pointwise [k0_pay17, k0_pay16, k0_pay15]

/-- Each query's largest score. -/
theorem pay18_at (k : FVec Ideal S1x512x128 .bf16) (q : FVec Ideal S1x128x512 .bf16) (r : Fin 512) :
    k0_pay18 (F := Ideal) k q (ix3 0 0 r) = Finset.univ.fold max (⊥ : EReal) fun l : Fin 512 => ∑ d : Fin 128, k (ix3 0 l d) * q (ix3 0 d r) := by
  pointwise [k0_pay18, k0_pay16, k0_pay15]
  rw [ninf]

/-- The scores with a bias tile. -/
theorem pay3_at (s : FVec Ideal S1x512x512 .f32) (t : FVec Ideal S1x1x512x512 .f32) (l r : Fin 512) :
    k0_pay3 (F := Ideal) s t (ix3 0 l r) = s (ix3 0 l r) + t (ix4 0 0 l r) := by
  pointwise [k0_pay3, k0_pay2]

/-- Each query's largest score with a bias tile. -/
theorem pay4_at (s : FVec Ideal S1x512x512 .f32) (t : FVec Ideal S1x1x512x512 .f32) (r : Fin 512) :
    k0_pay4 (F := Ideal) s t (ix3 0 0 r) = Finset.univ.fold max (⊥ : EReal) fun l : Fin 512 => s (ix3 0 l r) + t (ix4 0 0 l r) := by
  pointwise [k0_pay4, k0_pay2]
  rw [ninf]

/-- The running maximum after a block. -/
theorem stM_at (c : EReal) (x m : FVec Ideal S1x1x512 .f32) (r : Fin 512) :
    stM (F := Ideal) c x m (ix3 0 0 r) = max (m (ix3 0 0 r)) (x (ix3 0 0 r) + c) := by
  pointwise [stM, xc, k0_pay36, k0_pay34, k0_pay32]

/-- The running sums after a block: the rows of the values, then rows of ones. -/
theorem stA_at (c : EReal) (v : FVec Ideal S1x1x128x512 .bf16) (s : FVec Ideal S1x512x512 .f32) (x m : FVec Ideal S1x1x512 .f32)
    (a : FVec Ideal S1x144x512 .f32) (e : Fin 144) (r : Fin 512) :
    stA (F := Ideal) c v s x m a (ix3 0 e r)
      = Ideal.exp2 (m (ix3 0 0 r) - max (m (ix3 0 0 r)) (x (ix3 0 0 r) + c)) * a (ix3 0 e r)
        + ∑ l : Fin 512, (if h : e.val < 128 then v (ix4 0 0 ⟨e.val, h⟩ l) else 1)
          * Ideal.exp2 (s (ix3 0 l r) - (max (m (ix3 0 0 r)) (x (ix3 0 0 r) + c) - c)) := by
  pointwise [stA, xc, k0_pay35, k0_pay34, k0_pay32, k0_pay22]
  rfl

/-- The query block with the second half of its rows cleared. -/
theorem pay58_at (q : FVec Ideal S1x1x128x512 .bf16) (d : Fin 128) (r : Fin 512) :
    k0_pay58 (F := Ideal) q (ix3 0 d r) = if d.val < 64 then q (ix4 0 0 d r) else 0 := by
  pointwise [k0_pay58, k0_pay56, k0_pay57]
  rw [slt64]; by_cases h : d.val < 64 <;> simp [h, Scalar.select]

/-- The query block with the first half of its rows cleared. -/
theorem pay59_at (q : FVec Ideal S1x1x128x512 .bf16) (d : Fin 128) (r : Fin 512) :
    k0_pay59 (F := Ideal) q (ix3 0 d r) = if 64 ≤ d.val then q (ix4 0 0 d r) else 0 := by
  pointwise [k0_pay59, k0_pay56, k0_pay57]
  rw [sge64]; by_cases h : 64 ≤ d.val <;> simp [h, Scalar.select]

/-- The normalised row: the row over the root of its mean square, times the gain, times the fixed factor. -/
def TAIL (o sg : Fin 128 → EReal) (e : Fin 128) : EReal :=
  o e * Ideal.rsqrt (Ideal.div (∑ l : Fin 128, o l * o l) (Ideal.ofBits .f32 0x43000000#32)
          + Ideal.ofBits .f32 0x358637BD#32) * sg e * Ideal.ofBits .f32 0x3F4CCCCD#32

/-- The weight of the second map. -/
def LAM (lam : FVec Ideal S4x64 .f32) : EReal :=
  Ideal.exp (∑ d : Fin 64, lam (ix2 0 d) * lam (ix2 1 d)) - Ideal.exp (∑ d : Fin 64, lam (ix2 2 d) * lam (ix2 3 d))
    + Ideal.ofBits .f32 0x3E4CCCCD#32

/-- The stored block from the two maps' sums. -/
theorem fin_at (lam : FVec Ideal S4x64 .f32) (t0 t1 : FVec Ideal S1x128x512 .f32) (r0 r1 : FVec Ideal S1x1x512 .f32)
    (sg : FVec Ideal S128x1 .f32) (r : Fin 512) (e : Fin 128) :
    k0_pay1 (F := Ideal) (k0_pay72 lam (k0_pay71 lam) t0 t1 r0 r1 sg) (ix3 0 r e)
      = TAIL (fun e => Ideal.div (t0 (ix3 0 e r)) (r0 (ix3 0 0 r)) - LAM lam * Ideal.div (t1 (ix3 0 e r)) (r1 (ix3 0 0 r)))
          (fun e => sg (ix2 e 0)) e := by
  pointwise [k0_pay1, k0_pay72, k0_pay71, TAIL, LAM]

end Cert.KernelIdeal.Attn

end
-- ==== Proof.Attn.Closed.lean ====
/-  The attention kernel's blockwise sums in closed form, over real scores and values. -/
module

public import proofs.«01_k».proof.Proof.Attn.Payload

@[expose] public section

set_option maxRecDepth 16384

noncomputable section

open Idealize.ShloMosaic Idealize.ShloMosaic.TcCoe Idealize.SL.Sem

namespace Cert.KernelIdeal.Attn

open Cert.KernelIdeal Cert.KernelIdeal.Gen

/-- The initial running maximum is a real number. -/
theorem big_real : ∃ M : ℝ, Ideal.ofBits .f32 0xF149F2CA#32 = (M : EReal) := by
  refine ⟨-(13234890 * 2 ^ 76), ?_⟩
  simp [Ideal.ofBits, Ideal.ieee]

/-- A key block of the staged keys, read at an index. -/
theorem kB_at (x6 : FVec Ideal S1x16384x128 .bf16) (b : ℕ) (hb : b < 32) (l : Fin 512) (d : Fin 128) :
    kB (F := Ideal) x6 b (ix3 0 l d) = x6 (ix3 0 ⟨b * 512 + l.val, by omega⟩ d) := by
  unfold kB View.ld
  refine congrArg x6 (funext fun a => Fin.ext ?_)
  rw [idx_unit]
  fin_cases a
  · rfl
  · show 512 * min b 31 + l.val = b * 512 + l.val; omega
  · show 0 + d.val = d.val; omega

/-- A value block of the staged values, read at an index. -/
theorem vB_at (x7 : FVec Ideal S1x32x128x512 .bf16) (b : ℕ) (hb : b < 32) (e : Fin 128) (l : Fin 512) :
    vB (F := Ideal) x7 b (ix4 0 0 e l) = x7 (ix4 0 ⟨b, hb⟩ e l) := by
  unfold vB View.ld
  refine congrArg x7 (funext fun a => Fin.ext ?_)
  rw [idx_unit]
  fin_cases a
  · rfl
  · show min b 31 + 0 = b; omega
  · show 0 + e.val = e.val; omega
  · show 0 + l.val = l.val; omega

/-- A bias tile, read at an index. -/
theorem tile_at (x8 : FVec Ideal S2x3x512x512 .f32) (m : Fin 2) (d : ℕ) (hd : d < 3) (l r : Fin 512) :
    tile (F := Ideal) x8 m d (ix4 0 0 l r) = x8 (ix4 m ⟨d, hd⟩ l r) := by
  unfold tile View.ld
  refine congrArg x8 (funext fun a => Fin.ext ?_)
  rw [idx_unit]
  fin_cases a
  · show m.val + 0 = m.val; omega
  · show min d 2 + 0 = d; omega
  · show 0 + l.val = l.val; omega
  · show 0 + r.val = r.val; omega

/-- A far constant. -/
theorem cf_at (x4 : FVec Ideal S2x8 .f32) (r : Fin 2) (h : ℕ) (hh : h < 4) (m : Fin 2) :
    cf (F := Ideal) x4 r h m = x4 (ix2 r ⟨2 * h + m.val, by omega⟩) := by
  unfold cf View.ld
  refine congrArg x4 (funext fun a => Fin.ext ?_)
  rw [idx_unit]
  fin_cases a
  · show r.val + 0 = r.val; omega
  · show min (2 * h + m.val) 7 + 0 = 2 * h + m.val; omega

/-- The query panel of a map: the rows of the other map are zero. -/
theorem qP_at (x5 : FVec Ideal S1x1x128x512 .bf16) (m : Fin 2) (d : Fin 128) (r : Fin 512) :
    qP (F := Ideal) (xQ (F := Ideal) x5) m (ix3 0 d r) = if d.val / 64 = m.val then x5 (ix4 0 0 d r) else 0 := by
  have h : qP (F := Ideal) (xQ (F := Ideal) x5) m (ix3 0 d r) = if m.val = 0 then k0_pay58 (F := Ideal) x5 (ix3 0 d r) else k0_pay59 (F := Ideal) x5 (ix3 0 d r) := by
    unfold qP View.ld xQ glue
    have h1 : ∀ y, (hIx ((Rect.unit (s := S2x128x512) ![m.val, 0, 0] S1x128x512.size (q_inb m)).idx y)) = y := by
      intro y
      funext a
      refine Fin.ext ?_
      fin_cases a
      · show 0 = (y 0).val; have : (y 0).val < 1 := (y 0).isLt; omega
      · exact (idx_unit _ _ _ y 1).trans (Nat.zero_add _)
      · exact (idx_unit _ _ _ y 2).trans (Nat.zero_add _)
    have h0 : ((Rect.unit (s := S2x128x512) ![m.val, 0, 0] S1x128x512.size (q_inb m)).idx (ix3 0 d r) 0).val = m.val := by
      rw [idx_unit]; rfl
    show (if ((Rect.unit (s := S2x128x512) ![m.val, 0, 0] S1x128x512.size (q_inb m)).idx (ix3 0 d r) 0).val = 0 then _ else _) = _
    rw [h0, h1]
  rw [h, pay58_at, pay59_at]
  by_cases hm : m.val = 0
  · rw [if_pos hm]
    exact if_congr (by omega) rfl rfl
  · rw [if_neg hm]
    exact if_congr (by omega) rfl rfl

section
variable (x4 : FVec Ideal S2x8 .f32) (x6 : FVec Ideal S1x16384x128 .bf16) (x7 : FVec Ideal S1x32x128x512 .bf16)
  (x8 : FVec Ideal S2x3x512x512 .f32) (x11 : FVec Ideal S2x128x512 .bf16) (h i : ℕ) (m : Fin 2) (r : Fin 512)

/-- A block's largest score is a real when its scores are. -/
theorem xB_real (b : ℕ) (s : Fin 512 → ℝ) (hs : ∀ l, sB (F := Ideal) x6 x8 x11 i m b (ix3 0 l r) = ((s l : ℝ) : EReal)) :
    ∃ x : ℝ, xB (F := Ideal) x6 x8 x11 i m b (ix3 0 0 r) = (x : EReal) := by
  obtain ⟨x, hx⟩ := Cert.Attn.fold_max_real (by norm_num) s
  refine ⟨x, ?_⟩
  rw [← hx]
  unfold sB at hs
  unfold xB
  by_cases hn : near i b
  · simp only [if_pos hn] at hs ⊢
    rw [pay4_at]
    exact congrArg (fun f => Finset.univ.fold max (⊥ : EReal) f) (funext fun l => (pay3_at _ _ l r).symm.trans (hs l))
  · simp only [if_neg hn] at hs ⊢
    rw [pay18_at]
    exact congrArg (fun f => Finset.univ.fold max (⊥ : EReal) f) (funext fun l => (pay17_at _ _ l r).symm.trans (hs l))

/-- The running maximum stays real, and the running sums are the sums over the keys so far relative to it. -/
theorem closed (s : ℕ → Fin 512 → ℝ) (c : ℕ → ℝ) (v : ℕ → Fin 128 → Fin 512 → ℝ)
    (hs : ∀ b < 32, ∀ l, sB (F := Ideal) x6 x8 x11 i m b (ix3 0 l r) = ((s b l : ℝ) : EReal))
    (hc : ∀ b < 32, cB (F := Ideal) x4 h i m b = ((c b : ℝ) : EReal))
    (hv : ∀ b < 32, ∀ e l, vB (F := Ideal) x7 b (ix4 0 0 e l) = ((v b e l : ℝ) : EReal)) :
    ∀ b ≤ 32, ∃ M : ℝ, Mst (F := Ideal) x4 x6 x8 x11 h i m b (ix3 0 0 r) = (M : EReal)
      ∧ ∀ e : Fin 144, Ast (F := Ideal) x4 x6 x7 x8 x11 h i m b (ix3 0 e r)
        = ((∑ k ∈ Finset.range b, ∑ l, (2 : ℝ) ^ (s k l + c k - M) * (if h : e.val < 128 then v k ⟨e.val, h⟩ l else 1) : ℝ) : EReal) := by
  intro b
  induction b with
  | zero =>
    intro _
    obtain ⟨M, hM⟩ := big_real
    refine ⟨M, hM, fun e => ?_⟩
    rw [Finset.range_zero, Finset.sum_empty]
    exact Ideal.ofBits_zero_f32.trans EReal.coe_zero.symm
  | succ b ih =>
    intro hb
    obtain ⟨M, hM, hA⟩ := ih (by omega)
    obtain ⟨x, hx⟩ := xB_real x6 x8 x11 i m r b (s b) (hs b (by omega))
    have hmax : max (M : EReal) ((x : EReal) + (c b : EReal)) = ((max M (x + c b) : ℝ) : EReal) := by
      rw [← EReal.coe_add]
      exact (EReal.coe_strictMono.monotone.map_max).symm
    refine ⟨max M (x + c b), ?_, fun e => ?_⟩
    · rw [Mst_succ, hc b (by omega)]
      refine (stM_at _ _ _ r).trans ?_
      rw [hM, hx]
      exact hmax
    · rw [Ast_succ, hc b (by omega)]
      refine (stA_at _ _ _ _ _ _ e r).trans ?_
      rw [hM, hx, hmax, hA e]
      rw [← Cert.Attn.online_step s (fun k l => if h : e.val < 128 then v k ⟨e.val, h⟩ l else 1) c M (max M (x + c b)) b]
      rw [EReal.coe_add, EReal.coe_mul]
      refine congrArg₂ (· + ·) (congrArg₂ (· * ·) ?_ rfl)
        ((Finset.sum_congr rfl fun l _ => ?_).trans (Cert.Attn.coe_sum _ _))
      · rw [← EReal.coe_sub, Ideal.exp2_coe]; rfl
      · rw [hs b (by omega) l, EReal.coe_mul, ← EReal.coe_sub, ← EReal.coe_sub, Ideal.exp2_coe]
        refine congrArg₂ (· * ·) ?_ rfl
        by_cases he : e.val < 128
        · rw [dif_pos he, dif_pos he]; exact hv b (by omega) _ l
        · rw [dif_neg he, dif_neg he]; rfl

/-- The weighted values over the sum of the weights, of one map: the softmax over all keys. -/
theorem quot (z : Fin 16384 → ℝ) (V : Fin 16384 → Fin 128 → ℝ) (s : ℕ → Fin 512 → ℝ) (c : ℕ → ℝ)
    (hs : ∀ b < 32, ∀ l, sB (F := Ideal) x6 x8 x11 i m b (ix3 0 l r) = ((s b l : ℝ) : EReal))
    (hc : ∀ b < 32, cB (F := Ideal) x4 h i m b = ((c b : ℝ) : EReal))
    (hz : ∀ (b : Fin 32) (l : Fin 512), s b.val l + c b.val = z ⟨b.val * 512 + l.val, by omega⟩ * (1 / Real.log 2))
    (hv : ∀ (b : Fin 32) (e : Fin 128) (l : Fin 512), x7 (ix4 0 b e l) = ((V ⟨b.val * 512 + l.val, by omega⟩ e : ℝ) : EReal))
    (e : Fin 128) :
    Ideal.div (top (F := Ideal) (Ast (F := Ideal) x4 x6 x7 x8 x11 h i m 32) (ix3 0 e r)) (row (F := Ideal) (Ast (F := Ideal) x4 x6 x7 x8 x11 h i m 32) (ix3 0 0 r))
      = (((∑ n, Real.exp (z n) * V n e) / (∑ n, Real.exp (z n)) : ℝ) : EReal) := by
  obtain ⟨M, -, hA⟩ := closed x4 x6 x7 x8 x11 h i m r s c
    (fun b e l => if hb : b < 32 then V ⟨b * 512 + l.val, by omega⟩ e else 0) hs hc
    (fun b hb e l => by rw [dif_pos hb, vB_at _ _ hb]; exact hv ⟨b, hb⟩ e l) 32 le_rfl
  have htop : top (F := Ideal) (Ast (F := Ideal) x4 x6 x7 x8 x11 h i m 32) (ix3 0 e r) = Ast (F := Ideal) x4 x6 x7 x8 x11 h i m 32 (ix3 0 ⟨e.val, by omega⟩ r) := by
    unfold top View.ld
    refine congrArg _ (funext fun a => Fin.ext ?_)
    rw [idx_unit]
    fin_cases a
    · rfl
    · show 0 + e.val = e.val; omega
    · show 0 + r.val = r.val; omega
  have hrow : row (F := Ideal) (Ast (F := Ideal) x4 x6 x7 x8 x11 h i m 32) (ix3 0 0 r) = Ast (F := Ideal) x4 x6 x7 x8 x11 h i m 32 (ix3 0 ⟨128, by omega⟩ r) := by
    unfold row View.ld
    refine congrArg _ (funext fun a => Fin.ext ?_)
    rw [idx_unit]
    fin_cases a
    · rfl
    · rfl
    · show 0 + r.val = r.val; omega
  have regroup : ∀ (w : Fin 16384 → ℝ) (g : ℕ → Fin 512 → ℝ), (∀ (b : Fin 32) (l : Fin 512), g b.val l = w ⟨b.val * 512 + l.val, by omega⟩) →
      (∑ k ∈ Finset.range 32, ∑ l, (2 : ℝ) ^ (s k l + c k - M) * g k l)
        = ∑ n, (2 : ℝ) ^ (z n * (1 / Real.log 2) - M) * w n := by
    intro w g hg
    rw [Finset.sum_range, Fin.sum_univ_tiles 32 512 rfl]
    refine Finset.sum_congr rfl fun b _ => Finset.sum_congr rfl fun l _ => ?_
    rw [hz b l, hg b l]
  rw [htop, hrow, hA, hA]
  rw [regroup (fun n => V n e) _ (fun b l => by rw [dif_pos (show e.val < 128 from e.isLt), dif_pos b.isLt]),
    regroup (fun _ => 1) _ (fun b l => dif_neg (by show ¬ (128 : ℕ) < 128; omega))]
  have hpos : (∑ n : Fin 16384, (2 : ℝ) ^ (z n * (1 / Real.log 2) - M) * 1) ≠ 0 :=
    (Finset.sum_pos (fun n _ => mul_pos (Real.rpow_pos_of_pos two_pos _) one_pos) ⟨0, Finset.mem_univ _⟩).ne'
  rw [Cert.Attn.div_coe' _ hpos, Cert.Attn.quot_rel]
  simp only [Cert.Attn.two_rpow_log]

end

end Cert.KernelIdeal.Attn

end
-- ==== Proof.Attn.Entry.lean ====
/-  What the attention kernel's prepared arrays hold, from its arguments, over the extended reals. -/
module

public import proofs.«01_k».proof.Proof.Attn.Closed
public import proofs.«01_k».proof.Proof.Attn.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

variable (m : (ℓ : Loc nD τ sig) → Buf (Elt Ideal) ℓ)

/-- The eight arguments, typed. -/
abbrev aQ (c : Dev nD) : FVec Ideal S2x16384x512 .f32 := m ((c : Thread nD τ).loc main_arg0)
abbrev aK (c : Dev nD) : FVec Ideal S2x16384x512 .f32 := m ((c : Thread nD τ).loc main_arg1)
abbrev aV (c : Dev nD) : FVec Ideal S2x16384x512 .f32 := m ((c : Thread nD τ).loc main_arg2)
abbrev aQG (c : Dev nD) : FVec Ideal S64 .f32 := m ((c : Thread nD τ).loc main_arg3)
abbrev aKG (c : Dev nD) : FVec Ideal S64 .f32 := m ((c : Thread nD τ).loc main_arg4)
abbrev aL (c : Dev nD) : FVec Ideal S4x64 .f32 := m ((c : Thread nD τ).loc main_arg5)
abbrev aSG (c : Dev nD) : FVec Ideal S128 .f32 := m ((c : Thread nD τ).loc main_arg6)
abbrev aT (c : Dev nD) : FVec Ideal S32x8 .f32 := m ((c : Thread nD τ).loc main_arg7)

/-- The factor that turns an exponential into a power of two. -/
def LOG2E : FVec Ideal S_ .f32 := Host.divf (constant S_ FTy.f32 1065353216#32) (Host.log (constant S_ FTy.f32 1073741824#32))

/-- The keys with both gains and the factor. -/
def KEYS (k : FVec Ideal S2x16384x512 .f32) (qg kg : FVec Ideal S64 .f32) : FVec Ideal S2x16384x512 .bf16 :=
  truncf .bf16 (mulf k (broadcastInDim S2x16384x512 ![0, 1, 2] bcast_S1x1x512_S2x16384x512_0_1_2
    (broadcastInDim S1x1x512 ![2] bcast_S512_S1x1x512_2
      (mulf (shapeCast S512 (broadcastInDim S8x64 ![0, 1] bcast_S1x64_S8x64_0_1 (shapeCast S1x64 (mulf qg kg) shapeCasts_S64_S1x64))
          shapeCasts_S8x64_S512)
        (broadcastInDim S512 ![] bcast_S_S512 (mulf (constant S_ FTy.f32 1040187392#32) LOG2E)))))) bitsLt_bf16_f32

/-- A sequence of rows in blocks, each block transposed. -/
def BLOCKS (q : FVec Ideal S2x16384x512 .f32) : FVec Ideal S2x32x512x512 .bf16 :=
  truncf .bf16 (transpose S2x32x512x512 [0, 1, 3, 2] (shapeCast S2x32x512x512 q shapeCasts_S2x16384x512_S2x32x512x512)
    transposes_S2x32x512x512_S2x32x512x512_0_1_3_2) bitsLt_bf16_f32

/-- The distance from query to key, of the three block distances. -/
def RELK : IVec S3x512x512 32 :=
  subi (addi (muli (subi (iotaInDim S3x512x512 32 0) (broadcastInDim S3x512x512 ![] bcast_S_S3x512x512 (constantI S_ 32 1#32)))
    (broadcastInDim S3x512x512 ![] bcast_S_S3x512x512 (constantI S_ 32 512#32))) (iotaInDim S3x512x512 32 1)) (iotaInDim S3x512x512 32 2)

/-- One where the distance is at least `k`. -/
def GE (R : IVec S3x512x512 32) (k : BitVec 32) : IVec S3x512x512 32 :=
  extui 32 (cmpi .sge (absi R) (broadcastInDim S3x512x512 ![] bcast_S_S3x512x512 (constantI S_ 32 k))) natLt_1_32

/-- The bucket of a distance before the wrap of negative ones. -/
def BUCK0 (R : IVec S3x512x512 32) : IVec S3x512x512 32 :=
  addi (select (cmpi .sgt R (broadcastInDim S3x512x512 ![] bcast_S_S3x512x512 (constantI S_ 32 0#32)))
      (broadcastInDim S3x512x512 ![] bcast_S_S3x512x512 (constantI S_ 32 16#32))
      (broadcastInDim S3x512x512 ![] bcast_S_S3x512x512 (constantI S_ 32 0#32)))
    (select (cmpi .slt (absi R) (broadcastInDim S3x512x512 ![] bcast_S_S3x512x512 (constantI S_ 32 8#32))) (absi R)
      (addi (broadcastInDim S3x512x512 ![] bcast_S_S3x512x512 (constantI S_ 32 8#32))
        (addi (addi (addi (addi (addi (addi (addi (broadcastInDim S3x512x512 ![] bcast_S_S3x512x512 (constantI S_ 32 0#32))
          (GE R 12#32)) (GE R 16#32)) (GE R 23#32)) (GE R 32#32)) (GE R 46#32)) (GE R 64#32)) (GE R 91#32))))

/-- A word, plus 32 when negative. -/
def WRAP (B : IVec S3x512x512 32) : IVec S3x512x512 32 :=
  select (cmpi .slt B (broadcastInDim S3x512x512 ![] bcast_S_S3x512x512 (constantI S_ 32 0#32)))
    (addi B (broadcastInDim S3x512x512 ![] bcast_S_S3x512x512 (constantI S_ 32 32#32))) B

/-- The bias of the three block distances, by head and map. -/
def BIAS (t : FVec Ideal S32x8 .f32) : FVec Ideal S8x3x512x512 .f32 :=
  mulf (transpose S8x3x512x512 [3, 0, 1, 2]
      (Host.gather gather_S32x8_S3x512x512x1_S3x512x512x8_3_0_n_n_0_3_18 t
        (broadcastInDim S3x512x512x1 ![0, 1, 2] bcast_S3x512x512_S3x512x512x1_0_1_2 (WRAP (BUCK0 RELK))))
      transposes_S3x512x512x8_S8x3x512x512_3_0_1_2)
    (broadcastInDim S8x3x512x512 ![] bcast_S_S8x3x512x512 LOG2E)

/-- The rows of the two far buckets. -/
def CFAR (t : FVec Ideal S32x8 .f32) : FVec Ideal S2x8 .f32 :=
  mulf (Host.gather gather_S32x8_S2x1_S2x8_1_0_n_n_0_1_18 t
        (broadcastInDim S2x1 ![0] bcast_S2_S2x1_0
          (select (cmpi CmpIPredicate.slt (fun i => lit0 (S2.rowMajor i)) (broadcastInDim S2 ![] bcast_S_S2 (constantI S_ 32 0#32)))
            (addi (fun i => lit0 (S2.rowMajor i)) (broadcastInDim S2 ![] bcast_S_S2 (constantI S_ 32 32#32))) fun i => lit0 (S2.rowMajor i))))
      (broadcastInDim S2x8 ![] bcast_S_S2x8 LOG2E)

/-! The arrays as the call finds them. -/

theorem V12_eq (c : Dev nD) : (V m c main_v12 : FVec Ideal S2x16384x512 .bf16) = KEYS (aK m c) (aQG m c) (aKG m c) := by
  unfold V
  simp only [hostOps0, hostOps0_1, hostOps0_2, hostOps0_3, hostOps0_4, List.flatten_cons, List.flatten_nil, List.append_nil, List.cons_append, List.nil_append]
  after_results; rfl
theorem V15_eq (c : Dev nD) : (V m c main_v15 : FVec Ideal S2x32x512x512 .bf16) = BLOCKS (aQ m c) := by
  unfold V
  simp only [hostOps0, hostOps0_1, hostOps0_2, hostOps0_3, hostOps0_4, List.flatten_cons, List.flatten_nil, List.append_nil, List.cons_append, List.nil_append]
  after_results; rfl
theorem V18_eq (c : Dev nD) : (V m c main_v18 : FVec Ideal S2x32x512x512 .bf16) = BLOCKS (aV m c) := by
  unfold V
  simp only [hostOps0, hostOps0_1, hostOps0_2, hostOps0_3, hostOps0_4, List.flatten_cons, List.flatten_nil, List.append_nil, List.cons_append, List.nil_append]
  after_results; rfl
theorem V87_eq (c : Dev nD) : (V m c main_v87 : FVec Ideal S128x1 .f32) = shapeCast S128x1 (aSG m c) shapeCasts_S128_S128x1 := by
  unfold V
  simp only [hostOps0, hostOps0_1, hostOps0_2, hostOps0_3, hostOps0_4, List.flatten_cons, List.flatten_nil, List.append_nil, List.cons_append, List.nil_append]
  after_results; rfl
theorem V86_eq (c : Dev nD) : (V m c main_v86 : FVec Ideal S2x8 .f32) = CFAR (aT m c) := by
  unfold V
  simp only [hostOps0, hostOps0_1, hostOps0_2, hostOps0_3, hostOps0_4, List.flatten_cons, List.flatten_nil, List.append_nil, List.cons_append, List.nil_append]
  after_results; rfl
set_option maxHeartbeats 1600000 in
theorem V77_eq (c : Dev nD) : (V m c main_v77 : FVec Ideal S8x3x512x512 .f32) = BIAS (aT m c) := by
  unfold V
  simp only [hostOps0, hostOps0_1, hostOps0_2, hostOps0_3, hostOps0_4, List.flatten_cons, List.flatten_nil, List.append_nil, List.cons_append, List.nil_append]
  after_results; rfl

/-- A lookup of rows of the table, read at an index: the row its word names, within the table. -/
theorem gather3_at (t : FVec Ideal S32x8 .f32) (idx : IVec S3x512x512x1 32) (d : Fin 3) (l r : Fin 512) (h : Fin 8) :
    Host.gather gather_S32x8_S3x512x512x1_S3x512x512x8_3_0_n_n_0_3_18 t idx (ix4 d l r h)
      = t (ix2 ⟨min (idx (ix4 d l r 0)).toInt.toNat 31, by omega⟩ h) := by
  unfold Host.gather
  refine congrArg t (funext fun a => Fin.ext ?_)
  show GatherDims.start _ _ idx a + GatherDims.batchCoord _ _ a + GatherDims.offCoord _ _ a = _
  rw [GatherDims.batchCoord_eq_zero _ _ _ List.not_mem_nil]
  have ha : a = 0 ∨ a = 1 := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S32x8_S3x512x512x1_S3x512x512x8_3_0_n_n_0_3_18.startIndexMap from List.mem_singleton.mpr rfl)]
    have hsi : GatherDims.siIdx gather_S32x8_S3x512x512x1_S3x512x512x8_3_0_n_n_0_3_18 (ix4 d l r h)
        ⟨List.idxOf (0 : Fin 2) gather_S32x8_S3x512x512x1_S3x512x512x8_3_0_n_n_0_3_18.startIndexMap,
          List.idxOf_lt_length_iff.2 (List.mem_singleton.mpr rfl)⟩ = ix4 d l r 0 := by
      funext b
      refine Fin.ext ?_
      fin_cases b <;> rfl
    rw [hsi]
    rfl
  · have h0 : GatherDims.start gather_S32x8_S3x512x512x1_S3x512x512x8_3_0_n_n_0_3_18 (ix4 d l r h) idx 1 = 0 := by
      unfold GatherDims.start
      rw [dif_neg (by decide)]
    have h1 : GatherDims.offCoord gather_S32x8_S3x512x512x1_S3x512x512x8_3_0_n_n_0_3_18 (ix4 d l r h) 1 = h.val := rfl
    rw [h0, h1]; exact Nat.zero_add _

/-- The same of the two far rows. -/
theorem gather2_at (t : FVec Ideal S32x8 .f32) (idx : IVec S2x1 32) (d : Fin 2) (h : Fin 8) :
    Host.gather gather_S32x8_S2x1_S2x8_1_0_n_n_0_1_18 t idx (ix2 d h)
      = t (ix2 ⟨min (idx (ix2 d 0)).toInt.toNat 31, by omega⟩ h) := by
  unfold Host.gather
  refine congrArg t (funext fun a => Fin.ext ?_)
  show GatherDims.start _ _ idx a + GatherDims.batchCoord _ _ a + GatherDims.offCoord _ _ a = _
  rw [GatherDims.batchCoord_eq_zero _ _ _ List.not_mem_nil]
  have ha : a = 0 ∨ a = 1 := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S32x8_S2x1_S2x8_1_0_n_n_0_1_18.startIndexMap from List.mem_singleton.mpr rfl)]
    have hsi : GatherDims.siIdx gather_S32x8_S2x1_S2x8_1_0_n_n_0_1_18 (ix2 d h)
        ⟨List.idxOf (0 : Fin 2) gather_S32x8_S2x1_S2x8_1_0_n_n_0_1_18.startIndexMap,
          List.idxOf_lt_length_iff.2 (List.mem_singleton.mpr rfl)⟩ = ix2 d 0 := by
      funext b
      refine Fin.ext ?_
      fin_cases b <;> rfl
    rw [hsi]
    rfl
  · have h0 : GatherDims.start gather_S32x8_S2x1_S2x8_1_0_n_n_0_1_18 (ix2 d h) idx 1 = 0 := by
      unfold GatherDims.start
      rw [dif_neg (by decide)]
    have h1 : GatherDims.offCoord gather_S32x8_S2x1_S2x8_1_0_n_n_0_1_18 (ix2 d h) 1 = h.val := rfl
    rw [h0, h1]; exact Nat.zero_add _

theorem KEYS_at (k : FVec Ideal S2x16384x512 .f32) (qg kg : FVec Ideal S64 .f32) (b : Fin 2) (n : Fin 16384) (e : Fin 512) :
    KEYS k qg kg (ix3 b n e) = k (ix3 b n e) * (qg (ix1 ⟨e.val % 64, by omega⟩) * kg (ix1 ⟨e.val % 64, by omega⟩)
      * (Ideal.ofBits .f32 0x3E000000#32 * Ideal.div 1 (Ideal.log (Ideal.ofBits .f32 0x40000000#32)))) := by
  pointwise [KEYS, LOG2E]
theorem BLOCKS_at (q : FVec Ideal S2x16384x512 .f32) (b : Fin 2) (n : Fin 32) (e r : Fin 512) :
    BLOCKS q (ix4 b n e r) = q (ix3 b ⟨n.val * 512 + r.val, by omega⟩ e) := by
  pointwise [BLOCKS]

/-- The kernel's bucket word of a distance word. -/
def word (x : BitVec 32) : BitVec 32 :=
  let ge (k : BitVec 32) : BitVec 32 := (IntOp.cmpi .sge (IntOp.absi x) k).setWidth 32
  let b := IntOp.addi (Scalar.select (IntOp.cmpi .sgt x 0#32) 16#32 0#32)
    (Scalar.select (IntOp.cmpi .slt (IntOp.absi x) 8#32) (IntOp.absi x)
      (IntOp.addi 8#32 (IntOp.addi (IntOp.addi (IntOp.addi (IntOp.addi (IntOp.addi (IntOp.addi (IntOp.addi 0#32
          (ge 12#32)) (ge 16#32)) (ge 23#32)) (ge 32#32)) (ge 46#32)) (ge 64#32)) (ge 91#32))))
  Scalar.select (IntOp.cmpi .slt b 0#32) (IntOp.addi b 32#32) b

theorem BUCK_at (R : IVec S3x512x512 32) (d : Fin 3) (l r : Fin 512) : WRAP (BUCK0 R) (ix3 d l r) = word (R (ix3 d l r)) := rfl
theorem RELK_at (d : Fin 3) (l r : Fin 512) : RELK (ix3 d l r)
    = IntOp.subi (IntOp.addi (IntOp.muli (IntOp.subi (BitVec.ofNat 32 d.val) 1#32) 512#32) (BitVec.ofNat 32 l.val)) (BitVec.ofNat 32 r.val) := by
  pointwise [RELK]
theorem CFAR_at (t : FVec Ideal S32x8 .f32) (d : Fin 2) (h : Fin 8) : CFAR t (ix2 d h)
    = t (ix2 ⟨if d.val = 0 then 15 else 31, by split <;> omega⟩ h) * Ideal.div 1 (Ideal.log (Ideal.ofBits .f32 0x40000000#32)) := by
  have hd : d = 0 ∨ d = 1 := by
    match d with
    | ⟨0, _⟩ => exact Or.inl rfl
    | ⟨1, _⟩ => exact Or.inr rfl
  rcases hd with rfl | rfl <;> pointwise [CFAR, LOG2E, gather2_at] <;> rfl
theorem BIAS_at (t : FVec Ideal S32x8 .f32) (h : Fin 8) (d : Fin 3) (l r : Fin 512) : BIAS t (ix4 h d l r)
    = t (ix2 ⟨min (word (RELK (ix3 d l r))).toInt.toNat 31, by omega⟩ h) * Ideal.div 1 (Ideal.log (Ideal.ofBits .f32 0x40000000#32)) := by
  pointwise [BIAS, LOG2E, gather3_at]
  rfl

end Cert.KernelIdeal.Attn

end
-- ==== Proof.Attn.Bucket.lean ====
/-  The bucket of a distance: the kernel's thresholds and the reference's logarithm give the same. -/
module

public import proofs.«01_k».proof.Proof.Attn.Entry

@[expose] public section

set_option maxRecDepth 16384

noncomputable section

open Idealize.ShloMosaic

namespace Cert.Attn

/-- How many of the seven thresholds a distance reaches. -/
def cnt (n : ℕ) : ℕ := (if 12 ≤ n then 1 else 0) + (if 16 ≤ n then 1 else 0) + (if 23 ≤ n then 1 else 0) + (if 32 ≤ n then 1 else 0)
  + (if 46 ≤ n then 1 else 0) + (if 64 ≤ n then 1 else 0) + (if 91 ≤ n then 1 else 0)

theorem cnt_le (n : ℕ) : cnt n ≤ 7 := by
  unfold cnt
  have h : ∀ k : ℕ, (if k ≤ n then 1 else 0) ≤ 1 := fun k => by split <;> omega
  have h1 := h 12
  have h2 := h 16
  have h3 := h 23
  have h4 := h 32
  have h5 := h 46
  have h6 := h 64
  have h7 := h 91
  omega

/-- The half of the table a distance without sign falls in. -/
def mag (n : ℕ) : ℕ := if n < 8 then n else 8 + cnt n

theorem mag_lt (n : ℕ) : mag n < 16 := by
  have := cnt_le n
  unfold mag; split <;> omega

/-- The bucket of a distance. -/
def BK (x : ℤ) : ℕ := (if 0 < x then 16 else 0) + mag x.natAbs

theorem BK_lt (x : ℤ) : BK x < 32 := by
  have := mag_lt x.natAbs
  unfold BK; split <;> omega

/-- A far distance's bucket: the last of its half. -/
theorem BK_far_neg (x : ℤ) (h : x ≤ -91) : BK x = 15 := by
  have h8 : ¬ x.natAbs < 8 := by omega
  unfold BK mag cnt
  rw [if_neg (by omega), if_neg h8, if_pos (by omega), if_pos (by omega), if_pos (by omega), if_pos (by omega), if_pos (by omega),
    if_pos (by omega), if_pos (by omega)]
theorem BK_far_pos (x : ℤ) (h : 91 ≤ x) : BK x = 31 := by
  have h8 : ¬ x.natAbs < 8 := by omega
  unfold BK mag cnt
  rw [if_pos (by omega), if_neg h8, if_pos (by omega), if_pos (by omega), if_pos (by omega), if_pos (by omega), if_pos (by omega),
    if_pos (by omega), if_pos (by omega)]

/-! Words of small integers. -/

theorem toInt_small (x : ℤ) (h : -2147483648 ≤ x ∧ x < 2147483648) : (BitVec.ofInt 32 x).toInt = x := by
  rw [BitVec.toInt_ofInt, Int.bmod_eq_of_le (by omega) (by omega)]

theorem slt_small (x y : ℤ) (h : -2147483648 ≤ x ∧ x < 2147483648) (h' : -2147483648 ≤ y ∧ y < 2147483648) :
    (BitVec.ofInt 32 x).slt (BitVec.ofInt 32 y) = decide (x < y) := by
  rw [BitVec.slt_eq_decide, toInt_small x h, toInt_small y h']

theorem absi_small (x : ℤ) (h : -2147483648 < x ∧ x < 2147483648) : IntOp.absi (BitVec.ofInt 32 x) = BitVec.ofInt 32 x.natAbs := by
  unfold IntOp.absi
  rw [BitVec.msb_eq_toInt, toInt_small x ⟨by omega, h.2⟩]
  by_cases hx : x < 0
  · rw [if_pos (decide_eq_true hx), ← BitVec.ofInt_neg]
    congr 1; omega
  · rw [if_neg (by simpa using hx)]
    congr 1; omega

/-- The kernel's bucket word, of the distances it meets. -/
theorem word_all : ∀ x : Fin 2047, (Cert.KernelIdeal.Attn.word (BitVec.ofInt 32 ((x.val : ℤ) - 1023))).toInt.toNat = BK ((x.val : ℤ) - 1023) := by
  decide +kernel

theorem word_BK (x : ℤ) (h : -1023 ≤ x ∧ x ≤ 1023) : (Cert.KernelIdeal.Attn.word (BitVec.ofInt 32 x)).toInt.toNat = BK x := by
  have := word_all ⟨(x + 1023).toNat, by omega⟩
  have e : (((x + 1023).toNat : ℕ) : ℤ) - 1023 = x := by omega
  simpa only [e] using this

theorem ofInt_sub' (a b : ℤ) : BitVec.ofInt 32 (a - b) = BitVec.ofInt 32 a - BitVec.ofInt 32 b := by
  rw [Int.sub_eq_add_neg, BitVec.ofInt_add, BitVec.ofInt_neg, BitVec.sub_eq_add_neg]

theorem RELK_word (d : Fin 3) (l r : Fin 512) :
    Cert.KernelIdeal.Attn.RELK (ix3 d l r) = BitVec.ofInt 32 (((d.val : ℤ) - 1) * 512 + l.val - r.val) := by
  rw [Cert.KernelIdeal.Attn.RELK_at]
  unfold IntOp.subi IntOp.addi IntOp.muli
  rw [ofInt_sub', BitVec.ofInt_add, BitVec.ofInt_mul, ofInt_sub']
  rfl

theorem KBK (d : Fin 3) (l r : Fin 512) :
    min (Cert.KernelIdeal.Attn.word (Cert.KernelIdeal.Attn.RELK (ix3 d l r))).toInt.toNat 31 = BK (((d.val : ℤ) - 1) * 512 + l.val - r.val) := by
  rw [RELK_word, word_BK _ (by omega)]
  have := BK_lt (((d.val : ℤ) - 1) * 512 + l.val - r.val)
  omega

/-! The reference's word. -/

/-- A word, plus 32 when negative. -/
def wrap (b : BitVec 32) : BitVec 32 := Scalar.select (IntOp.cmpi .slt b 0#32) (IntOp.addi b 32#32) b

/-- The reference's bucket word of a distance word and its logarithmic step. -/
def rword (x g : BitVec 32) : BitVec 32 :=
  wrap (IntOp.addi (Scalar.select (IntOp.cmpi .sgt x 0#32) 16#32 0#32)
    (Scalar.select (IntOp.cmpi .slt (IntOp.absi x) 8#32) (IntOp.absi x) (IntOp.minsi (IntOp.addi 8#32 g) 15#32)))

theorem last_all : ∀ (p : Bool) (B : Fin 16),
    (wrap (IntOp.addi (Scalar.select (BitVec.ofBool p) 16#32 0#32) (BitVec.ofInt 32 (B.val : ℤ)))).toInt.toNat = (if p then 16 else 0) + B.val := by decide +kernel

theorem step_all : ∀ g : Fin 23, IntOp.minsi (IntOp.addi 8#32 (BitVec.ofInt 32 (g.val : ℤ))) 15#32 = BitVec.ofInt 32 ((min (8 + g.val) 15 : ℕ) : ℤ) := by
  decide +kernel

theorem rword_BK (x : ℤ) (hx : -16384 < x ∧ x < 16384) (g : BitVec 32)
    (hg : 8 ≤ x.natAbs → ∃ f : ℕ, f < 23 ∧ g = BitVec.ofInt 32 (f : ℤ) ∧ min (8 + f) 15 = 8 + cnt x.natAbs) :
    (rword (BitVec.ofInt 32 x) g).toInt.toNat = BK x := by
  have hs : Scalar.select (IntOp.cmpi .slt (IntOp.absi (BitVec.ofInt 32 x)) 8#32) (IntOp.absi (BitVec.ofInt 32 x)) (IntOp.minsi (IntOp.addi 8#32 g) 15#32)
      = BitVec.ofInt 32 (mag x.natAbs : ℤ) := by
    rw [absi_small x (by omega)]
    have hc : IntOp.cmpi .slt (BitVec.ofInt 32 (x.natAbs : ℤ)) 8#32 = BitVec.ofBool (decide ((x.natAbs : ℤ) < 8)) :=
      congrArg BitVec.ofBool (slt_small (x.natAbs : ℤ) 8 (by omega) (by omega))
    rw [hc]
    unfold mag
    by_cases h8 : x.natAbs < 8
    · rw [decide_eq_true (by omega : (x.natAbs : ℤ) < 8), if_pos h8]
      rfl
    · obtain ⟨f, hf, rfl, he⟩ := hg (by omega)
      rw [decide_eq_false (by omega : ¬ (x.natAbs : ℤ) < 8), if_neg h8, step_all ⟨f, hf⟩, ← he]
      rfl
  have hp : IntOp.cmpi .sgt (BitVec.ofInt 32 x) 0#32 = BitVec.ofBool (decide (0 < x)) :=
    congrArg BitVec.ofBool (slt_small 0 x (by omega) (by omega))
  have h := last_all (decide (0 < x)) ⟨mag x.natAbs, mag_lt _⟩
  unfold rword
  rw [hs, hp]
  refine h.trans ?_
  unfold BK
  by_cases h0 : 0 < x
  · simp [h0]
  · simp [h0]

/-- The logarithmic step reaches `k` where the distance's square reaches `64 · 2 ^ k`. -/
theorem le_step (n k : ℕ) (hn : 8 ≤ n) : (k : ℝ) ≤ Real.log ((n : ℝ) / 8) / Real.log 16 * 8 ↔ 64 * 2 ^ k ≤ n ^ 2 := by
  have hn' : (0 : ℝ) < (n : ℝ) / 8 := by
    have : (0 : ℝ) < n := by exact_mod_cast (by omega : 0 < n)
    positivity
  have h16 : (0 : ℝ) < Real.log 16 := Real.log_pos (by norm_num)
  have e1 : Real.log ((n : ℝ) / 8) / Real.log 16 * 8 = Real.log (((n : ℝ) / 8) ^ 8) / Real.log 16 := by
    rw [Real.log_pow]; push_cast; ring
  rw [e1, le_div_iff₀ h16, ← Real.log_pow, Real.log_le_log_iff (by positivity) (by positivity)]
  have e2 : (16 : ℝ) ^ k = ((2 : ℝ) ^ k) ^ 4 := by rw [← pow_mul, mul_comm, pow_mul]; norm_num
  have e3 : ((n : ℝ) / 8) ^ 8 = ((n : ℝ) ^ 2 / 64) ^ 4 := by ring
  rw [e2, e3, pow_le_pow_iff_left₀ (by positivity) (by positivity) (by norm_num), le_div_iff₀ (by norm_num)]
  constructor
  · intro h
    have : ((64 * 2 ^ k : ℕ) : ℝ) ≤ ((n ^ 2 : ℕ) : ℝ) := by push_cast; linarith
    exact_mod_cast this
  · intro h
    have : ((64 * 2 ^ k : ℕ) : ℝ) ≤ ((n ^ 2 : ℕ) : ℝ) := by exact_mod_cast h
    push_cast at this; linarith

/-- The step, cut to a whole number, gives the count of thresholds. -/
theorem step_cnt (n : ℕ) (hn : 8 ≤ n) (hN : n < 16384) :
    ∃ f : ℕ, f < 23 ∧ Ideal.fptosi 32 ((Real.log ((n : ℝ) / 8) / Real.log 16 * 8 : ℝ) : EReal) = BitVec.ofInt 32 (f : ℤ)
      ∧ min (8 + f) 15 = 8 + cnt n := by
  generalize ht : Real.log ((n : ℝ) / 8) / Real.log 16 * 8 = t
  have key : ∀ k : ℕ, (k : ℝ) ≤ t ↔ 64 * 2 ^ k ≤ n ^ 2 := fun k => ht ▸ le_step n k hn
  have h0 : (0 : ℝ) ≤ t := by simpa using (key 0).2 (by nlinarith)
  have hf : ∀ k : ℕ, k ≤ ⌊t⌋₊ ↔ 64 * 2 ^ k ≤ n ^ 2 := fun k => (Nat.le_floor_iff h0).trans (key k)
  have h23 : ¬ 23 ≤ ⌊t⌋₊ := fun h => by
    have := (hf 23).1 h
    have : n ^ 2 ≤ 16384 ^ 2 := Nat.pow_le_pow_left hN.le 2
    omega
  refine ⟨⌊t⌋₊, by omega, ?_, ?_⟩
  · unfold Ideal.fptosi
    rw [Ideal.toIntClamped_coe, if_pos h0, ← Int.natCast_floor_eq_floor h0]
    congr 1
    omega
  · have t1 : 1 ≤ ⌊t⌋₊ ↔ 12 ≤ n := (hf 1).trans ⟨fun h => by nlinarith, fun h => by nlinarith⟩
    have t2 : 2 ≤ ⌊t⌋₊ ↔ 16 ≤ n := (hf 2).trans ⟨fun h => by nlinarith, fun h => by nlinarith⟩
    have t3 : 3 ≤ ⌊t⌋₊ ↔ 23 ≤ n := (hf 3).trans ⟨fun h => by nlinarith, fun h => by nlinarith⟩
    have t4 : 4 ≤ ⌊t⌋₊ ↔ 32 ≤ n := (hf 4).trans ⟨fun h => by nlinarith, fun h => by nlinarith⟩
    have t5 : 5 ≤ ⌊t⌋₊ ↔ 46 ≤ n := (hf 5).trans ⟨fun h => by nlinarith, fun h => by nlinarith⟩
    have t6 : 6 ≤ ⌊t⌋₊ ↔ 64 ≤ n := (hf 6).trans ⟨fun h => by nlinarith, fun h => by nlinarith⟩
    have t7 : 7 ≤ ⌊t⌋₊ ↔ 91 ≤ n := (hf 7).trans ⟨fun h => by nlinarith, fun h => by nlinarith⟩
    unfold cnt
    simp only [← t1, ← t2, ← t3, ← t4, ← t5, ← t6, ← t7]
    generalize ⌊t⌋₊ = f at h23 ⊢
    have : f < 23 := by omega
    interval_cases f <;> rfl

end Cert.Attn

end
-- ==== Proof.Attn.Score.lean ====
/-  The attention over the reals, and the constants both programs use. -/
module

public import proofs.«01_k».proof.Proof.Attn.Bucket
public import proofs.«01_k».proof.Proof.Attn.Online

@[expose] public section

set_option maxRecDepth 16384

noncomputable section

open Idealize.ShloMosaic

namespace Cert.Attn

theorem c_eighth : Ideal.ofBits .f32 0x3E000000#32 = ((1 / 8 : ℝ) : EReal) := by
  simp [Ideal.ofBits, Ideal.ieee]
  rw [← EReal.coe_mul]
  congr 1
  norm_num
theorem c_two : Ideal.ofBits .f32 0x40000000#32 = ((2 : ℝ) : EReal) := by
  simp [Ideal.ofBits, Ideal.ieee]
  rw [← EReal.coe_mul]
  congr 1
  norm_num
theorem c_eight : Ideal.ofBits .f32 0x41000000#32 = ((8 : ℝ) : EReal) := by
  simp [Ideal.ofBits, Ideal.ieee]
  rw [← EReal.coe_mul]
  congr 1
  norm_num
theorem c_sixteen : Ideal.ofBits .f32 0x41800000#32 = ((16 : ℝ) : EReal) := by
  simp [Ideal.ofBits, Ideal.ieee]
  rw [← EReal.coe_mul]
  congr 1
  norm_num
theorem c_fifth : ∃ x : ℝ, Ideal.ofBits .f32 0x3E4CCCCD#32 = (x : EReal) := by
  refine ⟨13421773 * (2 ^ 26)⁻¹, ?_⟩
  simp [Ideal.ofBits, Ideal.ieee]
  try norm_num

/-- The factor that turns an exponential into a power of two. -/
theorem c_log2e : Ideal.div 1 (Ideal.log (Ideal.ofBits .f32 0x40000000#32)) = ((1 / Real.log 2 : ℝ) : EReal) := by
  have h2 : Real.log 2 ≠ 0 := (Real.log_pos (by norm_num)).ne'
  rw [c_two, Ideal.log_coe, if_neg (by norm_num), ← EReal.coe_one, div_coe' _ h2]

/-- A score: the product of a query row and a key row, scaled, plus the bias of their distance. -/
def zed (q k : Fin 2 → Fin 16384 → Fin 512 → ℝ) (qg kg : Fin 64 → ℝ) (t : Fin 32 → Fin 8 → ℝ) (b : Fin 2) (h : Fin 4) (mm : Fin 2)
    (l x : Fin 16384) : ℝ :=
  (∑ d : Fin 64, q b l ⟨h.val * 128 + mm.val * 64 + d.val, by omega⟩ * qg d * (1 / 8)
      * (k b x ⟨h.val * 128 + mm.val * 64 + d.val, by omega⟩ * kg d))
    + t ⟨BK ((x.val : ℤ) - l.val), BK_lt _⟩ ⟨h.val * 2 + mm.val, by omega⟩

/-- The difference of two softmaxes' weighted values. -/
def att (z : Fin 2 → Fin 16384 → ℝ) (v : Fin 16384 → Fin 128 → ℝ) (lam : ℝ) (e : Fin 128) : ℝ :=
  (∑ n, Real.exp (z 0 n) * v n e) / (∑ n, Real.exp (z 0 n)) - lam * ((∑ n, Real.exp (z 1 n) * v n e) / (∑ n, Real.exp (z 1 n)))

/-- The weight of the second map is real where its arrays are. -/
theorem lam_real (lam : FVec Ideal ⟨2, ![4, 64]⟩ .f32) (h : ∀ a d, ∃ x : ℝ, lam (ix2 a d) = (x : EReal)) :
    ∃ x : ℝ, Cert.KernelIdeal.Attn.LAM lam = (x : EReal) := by
  choose f hf using h
  obtain ⟨c, hc⟩ := c_fifth
  refine ⟨Real.exp (∑ d : Fin 64, f 0 d * f 1 d) - Real.exp (∑ d : Fin 64, f 2 d * f 3 d) + c, ?_⟩
  unfold Cert.KernelIdeal.Attn.LAM
  rw [hc, EReal.coe_add, EReal.coe_sub, ← Ideal.exp_coe, ← Ideal.exp_coe, ← coe_sum, ← coe_sum]
  simp only [hf, EReal.coe_mul]

/-- The largest of reals, as the reference's reduction takes it, is real. -/
theorem hostmax_real {s t u : Shape} {axes : List (Fin s.rank)} (x : s.Idx → Ideal .f32) (init : u.Idx → Ideal .f32)
    (h : s.ReducesTo axes t) (hu : 0 < u.numel) (j : t.Idx) (hx : ∀ i, ∃ r : ℝ, x i = (r : EReal)) (hi : init (Shape.Idx.first hu) = (⊥ : EReal))
    (hne : ∃ i, h.drop i = j) : ∃ r : ℝ, Host.reduce (FloatOps.maximumf (F := Ideal) (φ := .f32)) x init h hu j = (r : EReal) := by
  unfold Host.reduce
  have key : ∀ (L : List (Fin s.numel)) (a : EReal), ((a = ⊥ ∧ L ≠ []) ∨ ∃ r : ℝ, a = r) →
      ∃ r : ℝ, L.foldl (fun r n => FloatOps.maximumf (F := Ideal) (φ := .f32) r (x (s.rowMajor.symm n))) a = (r : EReal) := by
    intro L
    induction L with
    | nil => rintro a (⟨_, h⟩ | h)
             · exact absurd rfl h
             · exact h
    | cons n L ih =>
      intro a ha
      refine ih _ (Or.inr ?_)
      obtain ⟨r, hr⟩ := hx (s.rowMajor.symm n)
      rcases ha with ⟨rfl, _⟩ | ⟨y, rfl⟩
      · exact ⟨r, by show max (⊥ : EReal) (x _) = _; rw [hr]; exact max_eq_right bot_le⟩
      · exact ⟨max y r, by show max (y : EReal) (x _) = _; rw [hr]; exact (EReal.coe_strictMono.monotone.map_max).symm⟩
  refine key _ _ (Or.inl ⟨hi, ?_⟩)
  obtain ⟨i, rfl⟩ := hne
  exact List.ne_nil_of_mem (List.mem_filter.2 ⟨List.mem_finRange (s.rowMajor i), by simp⟩)

end Cert.Attn

end
-- ==== Proof.Attn.Ref.lean ====
/-  What the attention kernel's reference computes, read at an index, over the extended reals. -/
module

public import proofs.«01_k».proof.Proof.Gen.ReferenceIdeal
public import proofs.«01_k».proof.Proof.Attn.Score
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen

/-- The queries with their gain and the scale. -/
def QS (q : FVec Ideal S2x16384x512 .f32) (g : FVec Ideal S64 .f32) : FVec Ideal S2x16384x4x2x64 .f32 :=
  mulf (mulf (shapeCast S2x16384x4x2x64 q shapeCasts_S2x16384x512_S2x16384x4x2x64)
    (broadcastInDim S2x16384x4x2x64 ![0, 1, 2, 3, 4] bcast_S1x1x1x1x64_S2x16384x4x2x64_0_1_2_3_4
      (broadcastInDim S1x1x1x1x64 ![4] bcast_S64_S1x1x1x1x64_4 g)))
    (broadcastInDim S2x16384x4x2x64 ![] bcast_S_S2x16384x4x2x64 (constant S_ .f32 0x3E000000#32))

/-- The keys with their gain. -/
def KS (k : FVec Ideal S2x16384x512 .f32) (g : FVec Ideal S64 .f32) : FVec Ideal S2x16384x4x2x64 .f32 :=
  mulf (shapeCast S2x16384x4x2x64 k shapeCasts_S2x16384x512_S2x16384x4x2x64)
    (broadcastInDim S2x16384x4x2x64 ![0, 1, 2, 3, 4] bcast_S1x1x1x1x64_S2x16384x4x2x64_0_1_2_3_4
      (broadcastInDim S1x1x1x1x64 ![4] bcast_S64_S1x1x1x1x64_4 g))

/-- The weight of the second map. -/
def LAMR (lam : FVec Ideal S4x64 .f32) : FVec Ideal S_ .f32 :=
  addf (subf
    (Host.exp (Host.reduceAdd (mulf (shapeCast S64 (extractStridedSlice S1x64 ![0, 0] lam slices_S4x64_S1x64_0_0) shapeCasts_S1x64_S64)
      (shapeCast S64 (extractStridedSlice S1x64 ![1, 0] lam slices_S4x64_S1x64_1_0) shapeCasts_S1x64_S64)) (constant S_ .f32 0x00000000#32)
      reducesTo_S64_S_d0 h_S_))
    (Host.exp (Host.reduceAdd (mulf (shapeCast S64 (extractStridedSlice S1x64 ![2, 0] lam slices_S4x64_S1x64_2_0) shapeCasts_S1x64_S64)
      (shapeCast S64 (extractStridedSlice S1x64 ![3, 0] lam slices_S4x64_S1x64_3_0) shapeCasts_S1x64_S64)) (constant S_ .f32 0x00000000#32)
      reducesTo_S64_S_d0 h_S_)))
    (constant S_ .f32 0x3E4CCCCD#32)

/-- The distance from query to key. -/
def RELR : IVec S16384x16384 32 :=
  subi (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0)))

/-- The steps of the logarithmic buckets. -/
def LOGS (R : IVec S16384x16384 32) : IVec S16384x16384 32 :=
  fptosi 32 (mulf (Host.divf
      (Host.log (Host.divf (sitofp .f32 (maxsi (absi R) (broadcastInDim S16384x16384 ![] bcast_S_S16384x16384 (constantI S_ 32 1#32))))
        (broadcastInDim S16384x16384 ![] bcast_S_S16384x16384 (constant (F := Ideal) S_ .f32 0x41000000#32))))
      (broadcastInDim S16384x16384 ![] bcast_S_S16384x16384 (Host.log (constant (F := Ideal) S_ .f32 0x41800000#32))))
    (broadcastInDim S16384x16384 ![] bcast_S_S16384x16384 (constant (F := Ideal) S_ .f32 0x41000000#32)))

/-- The bucket of a distance from its logarithmic step, before the wrap of negative ones. -/
def BUCK0 (R G : IVec S16384x16384 32) : IVec S16384x16384 32 :=
  addi (select (cmpi .sgt R (broadcastInDim S16384x16384 ![] bcast_S_S16384x16384 (constantI S_ 32 0#32)))
      (broadcastInDim S16384x16384 ![] bcast_S_S16384x16384 (constantI S_ 32 16#32))
      (broadcastInDim S16384x16384 ![] bcast_S_S16384x16384 (constantI S_ 32 0#32)))
    (select (cmpi .slt (absi R) (broadcastInDim S16384x16384 ![] bcast_S_S16384x16384 (constantI S_ 32 8#32))) (absi R)
      (minsi (addi (broadcastInDim S16384x16384 ![] bcast_S_S16384x16384 (constantI S_ 32 8#32)) G)
        (broadcastInDim S16384x16384 ![] bcast_S_S16384x16384 (constantI S_ 32 15#32))))

/-- A word, plus 32 when negative. -/
def WRAP (B : IVec S16384x16384 32) : IVec S16384x16384 32 :=
  select (cmpi .slt B (broadcastInDim S16384x16384 ![] bcast_S_S16384x16384 (constantI S_ 32 0#32)))
    (addi B (broadcastInDim S16384x16384 ![] bcast_S_S16384x16384 (constantI S_ 32 32#32))) B

/-- The bias, by head and map. -/
def BIASR (t : FVec Ideal S32x8 .f32) : FVec Ideal S4x2x16384x16384 .f32 :=
  shapeCast S4x2x16384x16384 (transpose S8x16384x16384 [2, 0, 1]
    (Host.gather gather_S32x8_S16384x16384x1_S16384x16384x8_2_0_n_n_0_2_18 t
      (broadcastInDim S16384x16384x1 ![0, 1] bcast_S16384x16384_S16384x16384x1_0_1 (WRAP (BUCK0 RELR (LOGS RELR)))))
    transposes_S16384x16384x8_S8x16384x16384_2_0_1) shapeCasts_S8x16384x16384_S4x2x16384x16384

/-- The scores. -/
def SC (qs ks : FVec Ideal S2x16384x4x2x64 .f32) (bias : FVec Ideal S4x2x16384x16384 .f32) : FVec Ideal S2x4x2x16384x16384 .f32 :=
  addf (Host.dotGeneral dot_S2x16384x4x2x64_S2x16384x4x2x64_S2x4x2x16384x16384_4_4_1_1_023_023 none qs ks)
    (broadcastInDim S2x4x2x16384x16384 ![0, 1, 2, 3, 4] bcast_S1x4x2x16384x16384_S2x4x2x16384x16384_0_1_2_3_4
      (broadcastInDim S1x4x2x16384x16384 ![1, 2, 3, 4] bcast_S4x2x16384x16384_S1x4x2x16384x16384_1_2_3_4 bias))

/-- Each query's largest score. -/
def MX (s : FVec Ideal S2x4x2x16384x16384 .f32) : FVec Ideal S2x4x2x16384 .f32 :=
  maximumf (broadcastInDim S2x4x2x16384 ![] bcast_S_S2x4x2x16384 (constant S_ .f32 0xFF800000#32))
    (Host.reduce FloatOps.maximumf s (constant S_ .f32 0xFF800000#32) reducesTo_S2x4x2x16384x16384_S2x4x2x16384_d4 h_S_)

/-- The exponentials of the scores relative to a number for each query. -/
def EX (s : FVec Ideal S2x4x2x16384x16384 .f32) (x : FVec Ideal S2x4x2x16384 .f32) : FVec Ideal S2x4x2x16384x16384 .f32 :=
  Host.exp (subf s (broadcastInDim S2x4x2x16384x16384 ![0, 1, 2, 3, 4] bcast_S2x4x2x16384x1_S2x4x2x16384x16384_0_1_2_3_4
    (broadcastInDim S2x4x2x16384x1 ![0, 1, 2, 3] bcast_S2x4x2x16384_S2x4x2x16384x1_0_1_2_3 x)))

/-- The exponentials over their sum. -/
def PR (e : FVec Ideal S2x4x2x16384x16384 .f32) : FVec Ideal S2x4x2x16384x16384 .f32 :=
  Host.divf e (broadcastInDim S2x4x2x16384x16384 ![0, 1, 2, 3, 4] bcast_S2x4x2x16384x1_S2x4x2x16384x16384_0_1_2_3_4
    (broadcastInDim S2x4x2x16384x1 ![0, 1, 2, 3] bcast_S2x4x2x16384_S2x4x2x16384x1_0_1_2_3
      (Host.reduceAdd e (constant S_ .f32 0x00000000#32) reducesTo_S2x4x2x16384x16384_S2x4x2x16384_d4 h_S_)))

/-- The difference of the two maps. -/
def DIFF (p : FVec Ideal S2x4x2x16384x16384 .f32) (lam : FVec Ideal S_ .f32) : FVec Ideal S2x4x16384x16384 .f32 :=
  subf (shapeCast S2x4x16384x16384 (extractStridedSlice S2x4x1x16384x16384 ![0, 0, 0, 0, 0] p slices_S2x4x2x16384x16384_S2x4x1x16384x16384_0_0_0_0_0)
      shapeCasts_S2x4x1x16384x16384_S2x4x16384x16384)
    (mulf (broadcastInDim S2x4x16384x16384 ![] bcast_S_S2x4x16384x16384 lam)
      (shapeCast S2x4x16384x16384 (extractStridedSlice S2x4x1x16384x16384 ![0, 0, 1, 0, 0] p slices_S2x4x2x16384x16384_S2x4x1x16384x16384_0_0_1_0_0)
        shapeCasts_S2x4x1x16384x16384_S2x4x16384x16384))

/-- The weighted values. -/
def OV (v : FVec Ideal S2x16384x512 .f32) (a : FVec Ideal S2x4x16384x16384 .f32) : FVec Ideal S2x16384x4x128 .f32 :=
  transpose S2x16384x4x128 [0, 3, 1, 2]
    (Host.dotGeneral dot_S2x16384x4x128_S2x4x16384x16384_S2x4x128x16384_1_3_3_2_02_01 none
      (shapeCast S2x16384x4x128 v shapeCasts_S2x16384x512_S2x16384x4x128) a)
    transposes_S2x4x128x16384_S2x16384x4x128_0_3_1_2

/-- The normalised rows, with the gain and the fixed factor. -/
def OUT (o : FVec Ideal S2x16384x4x128 .f32) (sg : FVec Ideal S128 .f32) : FVec Ideal S2x16384x512 .bf16 :=
  truncf .bf16 (shapeCast S2x16384x512
    (mulf (mulf (mulf o
      (broadcastInDim S2x16384x4x128 ![0, 1, 2, 3] bcast_S2x16384x4x1_S2x16384x4x128_0_1_2_3
        (Host.rsqrt (addf (Host.divf (broadcastInDim S2x16384x4x1 ![0, 1, 2] bcast_S2x16384x4_S2x16384x4x1_0_1_2
            (Host.reduceAdd (mulf o o) (constant S_ .f32 0x00000000#32) reducesTo_S2x16384x4x128_S2x16384x4_d3 h_S_))
          (broadcastInDim S2x16384x4x1 ![] bcast_S_S2x16384x4x1 (constant S_ .f32 0x43000000#32)))
          (broadcastInDim S2x16384x4x1 ![] bcast_S_S2x16384x4x1 (constant S_ .f32 0x358637BD#32))))))
      (broadcastInDim S2x16384x4x128 ![0, 1, 2, 3] bcast_S1x1x1x128_S2x16384x4x128_0_1_2_3
        (broadcastInDim S1x1x1x128 ![3] bcast_S128_S1x1x1x128_3 sg)))
      (broadcastInDim S2x16384x4x128 ![] bcast_S_S2x16384x4x128 (constant S_ .f32 0x3F4CCCCD#32)))
    shapeCasts_S2x16384x4x128_S2x16384x512) bitsLt_bf16_f32

/-- The reference's result over its arguments. -/
def REF (q k v : FVec Ideal S2x16384x512 .f32) (qg kg : FVec Ideal S64 .f32) (lam : FVec Ideal S4x64 .f32) (sg : FVec Ideal S128 .f32)
    (t : FVec Ideal S32x8 .f32) : FVec Ideal S2x16384x512 .bf16 :=
  OUT (OV v (DIFF (PR (EX (SC (QS q qg) (KS k kg) (BIASR t)) (MX (SC (QS q qg) (KS k kg) (BIASR t))))) (LAMR lam))) sg

/-- A lookup of rows of the table, read at an index: the row its word names, within the table. -/
theorem gather_at (t : FVec Ideal S32x8 .f32) (idx : IVec S16384x16384x1 32) (l r : Fin 16384) (h : Fin 8) :
    Host.gather gather_S32x8_S16384x16384x1_S16384x16384x8_2_0_n_n_0_2_18 t idx (ix3 l r h)
      = t (ix2 ⟨min (idx (ix3 l r 0)).toInt.toNat 31, by omega⟩ h) := by
  unfold Host.gather
  refine congrArg t (funext fun a => Fin.ext ?_)
  show GatherDims.start _ _ idx a + GatherDims.batchCoord _ _ a + GatherDims.offCoord _ _ a = _
  rw [GatherDims.batchCoord_eq_zero _ _ _ List.not_mem_nil]
  have ha : a = 0 ∨ a = 1 := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S32x8_S16384x16384x1_S16384x16384x8_2_0_n_n_0_2_18.startIndexMap from List.mem_singleton.mpr rfl)]
    have hsi : GatherDims.siIdx gather_S32x8_S16384x16384x1_S16384x16384x8_2_0_n_n_0_2_18 (ix3 l r h)
        ⟨List.idxOf (0 : Fin 2) gather_S32x8_S16384x16384x1_S16384x16384x8_2_0_n_n_0_2_18.startIndexMap,
          List.idxOf_lt_length_iff.2 (List.mem_singleton.mpr rfl)⟩ = ix3 l r 0 := by
      funext b
      refine Fin.ext ?_
      fin_cases b <;> rfl
    rw [hsi]
    rfl
  · have h0 : GatherDims.start gather_S32x8_S16384x16384x1_S16384x16384x8_2_0_n_n_0_2_18 (ix3 l r h) idx 1 = 0 := by
      unfold GatherDims.start
      rw [dif_neg (by decide)]
    have h1 : GatherDims.offCoord gather_S32x8_S16384x16384x1_S16384x16384x8_2_0_n_n_0_2_18 (ix3 l r h) 1 = h.val := rfl
    rw [h0, h1]; exact Nat.zero_add _

theorem LAMR_at (lam : FVec Ideal S4x64 .f32) (j : S_.Idx) : LAMR lam j = Cert.KernelIdeal.Attn.LAM lam := by
  pointwise [LAMR]
  rfl

theorem RELR_at (l r : Fin 16384) : RELR (ix2 l r) = BitVec.ofInt 32 ((r.val : ℤ) - l.val) := by
  rw [Cert.Attn.ofInt_sub']
  rfl

theorem BUCK_at (R G : IVec S16384x16384 32) (l r : Fin 16384) :
    WRAP (BUCK0 R G) (ix2 l r) = Cert.Attn.rword (R (ix2 l r)) (G (ix2 l r)) := rfl

theorem LOGS_at (R : IVec S16384x16384 32) (l r : Fin 16384) : LOGS R (ix2 l r)
    = Ideal.fptosi 32 (Ideal.div (Ideal.log (Ideal.div (((IntOp.maxsi (IntOp.absi (R (ix2 l r))) 1#32).toInt : ℝ) : EReal)
        (Ideal.ofBits .f32 0x41000000#32))) (Ideal.log (Ideal.ofBits .f32 0x41800000#32)) * Ideal.ofBits .f32 0x41000000#32) := by
  pointwise [LOGS]
  rfl

/-- The reference's bucket of a query and a key. -/
theorem RBK (l r : Fin 16384) :
    min (WRAP (BUCK0 RELR (LOGS RELR)) (ix2 l r)).toInt.toNat 31 = Cert.Attn.BK ((r.val : ℤ) - l.val) := by
  rw [BUCK_at, LOGS_at, RELR_at]
  have hr := r.isLt
  have hl := l.isLt
  generalize hx : (r.val : ℤ) - l.val = x
  have hx' : -16384 < x ∧ x < 16384 := by omega
  rw [Cert.Attn.rword_BK x hx' _ ?_]
  · have := Cert.Attn.BK_lt x
    omega
  intro h8
  have hm : IntOp.maxsi (IntOp.absi (BitVec.ofInt 32 x)) 1#32 = BitVec.ofInt 32 (x.natAbs : ℤ) := by
    rw [Cert.Attn.absi_small x (by omega)]
    unfold IntOp.maxsi
    exact if_pos ((Cert.Attn.slt_small 1 x.natAbs (by omega) (by omega)).trans (decide_eq_true (by omega)))
  have hpos : (0 : ℝ) < (x.natAbs : ℝ) / 8 := by
    have : (0 : ℝ) < (x.natAbs : ℝ) := by exact_mod_cast (by omega : 0 < x.natAbs)
    positivity
  rw [hm, Cert.Attn.toInt_small _ (by omega), Cert.Attn.c_eight, Cert.Attn.c_sixteen, Int.cast_natCast, Cert.Attn.div_coe' _ (by norm_num),
    Ideal.log_coe, Ideal.log_coe, if_neg (by linarith), if_neg (by norm_num),
    Cert.Attn.div_coe' _ (Real.log_pos (by norm_num : (1 : ℝ) < 16)).ne', ← EReal.coe_mul]
  exact Cert.Attn.step_cnt x.natAbs h8 (by omega)

theorem BIASR_at (t : FVec Ideal S32x8 .f32) (h : Fin 4) (mm : Fin 2) (l r : Fin 16384) : BIASR t (ix4 h mm l r)
    = t (ix2 ⟨Cert.Attn.BK ((r.val : ℤ) - l.val), Cert.Attn.BK_lt _⟩ ⟨h.val * 2 + mm.val, by omega⟩) := by
  have e : (⟨min (WRAP (BUCK0 RELR (LOGS RELR)) (ix2 l r)).toInt.toNat 31, by omega⟩ : Fin 32)
      = ⟨Cert.Attn.BK ((r.val : ℤ) - l.val), Cert.Attn.BK_lt _⟩ := Fin.ext (RBK l r)
  rw [← e]
  pointwise [BIASR, gather_at]

theorem SC_at (q k : FVec Ideal S2x16384x512 .f32) (qg kg : FVec Ideal S64 .f32) (bias) (b : Fin 2) (h : Fin 4) (mm : Fin 2) (l r : Fin 16384) :
    SC (QS q qg) (KS k kg) bias (ix5 b h mm l r)
      = (∑ d : Fin 64, q (ix3 b l ⟨h.val * 128 + mm.val * 64 + d.val, by omega⟩) * qg (ix1 d) * Ideal.ofBits .f32 0x3E000000#32
          * (k (ix3 b r ⟨h.val * 128 + mm.val * 64 + d.val, by omega⟩) * kg (ix1 d))) + bias (ix4 h mm l r) := by
  pointwise [SC, QS, KS]

/-- Each query's largest score is real where the scores are. -/
theorem MX_real (s : FVec Ideal S2x4x2x16384x16384 .f32) (hs : ∀ i, ∃ x : ℝ, s i = (x : EReal)) (b : Fin 2) (h : Fin 4) (mm : Fin 2)
    (l : Fin 16384) : ∃ x : ℝ, MX s (ix4 b h mm l) = (x : EReal) := by
  obtain ⟨x, hx⟩ := Cert.Attn.hostmax_real s (constant (F := Ideal) S_ .f32 0xFF800000#32) reducesTo_S2x4x2x16384x16384_S2x4x2x16384_d4 h_S_ (ix4 b h mm l) hs
    Cert.KernelIdeal.Attn.ninf ⟨_, (Shape.ReducesTo.fiber_r5_a4 reducesTo_S2x4x2x16384x16384_S2x4x2x16384_d4 (ix4 b h mm l) _).2 ⟨0, rfl⟩⟩
  refine ⟨x, ?_⟩
  unfold MX
  have e : ∀ (u v : FVec Ideal S2x4x2x16384 .f32) (j : S2x4x2x16384.Idx), maximumf u v j = max (u j) (v j) := fun _ _ _ => rfl
  rw [e, hx]
  have e0 : broadcastInDim S2x4x2x16384 ![] bcast_S_S2x4x2x16384 (constant (F := Ideal) S_ .f32 0xFF800000#32) (ix4 b h mm l) = (⊥ : EReal) :=
    Cert.KernelIdeal.Attn.ninf
  rw [e0]
  exact max_eq_right bot_le

theorem PR_at (s x) (b : Fin 2) (h : Fin 4) (mm : Fin 2) (l r : Fin 16384) :
    PR (EX s x) (ix5 b h mm l r) = Ideal.div (Ideal.exp (s (ix5 b h mm l r) - x (ix4 b h mm l)))
      (∑ j : Fin 16384, Ideal.exp (s (ix5 b h mm l j) - x (ix4 b h mm l))) := by
  pointwise [PR, EX]

theorem OV_at (v p lam) (b : Fin 2) (l : Fin 16384) (h : Fin 4) (e : Fin 128) :
    OV v (DIFF p lam) (ix4 b l h e)
      = ∑ j : Fin 16384, v (ix3 b j ⟨h.val * 128 + e.val, by omega⟩) * (p (ix5 b h 0 l j) - lam ix0 * p (ix5 b h 1 l j)) := by
  pointwise [OV, DIFF]

theorem OUT_at (o sg) (b : Fin 2) (l : Fin 16384) (c : Fin 512) : OUT o sg (ix3 b l c)
    = Cert.KernelIdeal.Attn.TAIL (fun e => o (ix4 b l ⟨c.val / 128, by omega⟩ e)) (fun e => sg (ix1 e)) ⟨c.val % 128, by omega⟩ := by
  pointwise [OUT]
  rfl

open Cert.Attn in
/-- The reference's result, of arrays of reals. -/
theorem REF_at (q k v : FVec Ideal S2x16384x512 .f32) (qg kg : FVec Ideal S64 .f32) (lam : FVec Ideal S4x64 .f32) (sg : FVec Ideal S128 .f32)
    (t : FVec Ideal S32x8 .f32) (q' k' v' : Fin 2 → Fin 16384 → Fin 512 → ℝ) (qg' kg' : Fin 64 → ℝ) (t' : Fin 32 → Fin 8 → ℝ) (lam' : ℝ)
    (hq : ∀ b n e, q (ix3 b n e) = (q' b n e : EReal)) (hk : ∀ b n e, k (ix3 b n e) = (k' b n e : EReal))
    (hv : ∀ b n e, v (ix3 b n e) = (v' b n e : EReal)) (hqg : ∀ d, qg (ix1 d) = (qg' d : EReal)) (hkg : ∀ d, kg (ix1 d) = (kg' d : EReal))
    (ht : ∀ x y, t (ix2 x y) = (t' x y : EReal)) (hl : Cert.KernelIdeal.Attn.LAM lam = (lam' : EReal))
    (b : Fin 2) (l : Fin 16384) (c : Fin 512) :
    REF q k v qg kg lam sg t (ix3 b l c) = Cert.KernelIdeal.Attn.TAIL
      (fun e => ((att (fun mm x => zed q' k' qg' kg' t' b ⟨c.val / 128, by omega⟩ mm l x)
        (fun n e => v' b n ⟨c.val / 128 * 128 + e.val, by omega⟩) lam' e : ℝ) : EReal)) (fun e => sg (ix1 e)) ⟨c.val % 128, by omega⟩ := by
  unfold REF
  generalize hS : SC (QS q qg) (KS k kg) (BIASR t) = S
  have hSv : ∀ (b : Fin 2) (h : Fin 4) (mm : Fin 2) (l r : Fin 16384), S (ix5 b h mm l r) = (zed q' k' qg' kg' t' b h mm l r : EReal) := by
    intro b h mm l r
    rw [← hS, SC_at, BIASR_at, ht, c_eighth]
    unfold zed
    rw [EReal.coe_add, ← coe_sum]
    refine congrArg (· + _) (Finset.sum_congr rfl fun d _ => ?_)
    rw [hq, hk, hqg, hkg, EReal.coe_mul, EReal.coe_mul, EReal.coe_mul, EReal.coe_mul]
  have hSr : ∀ i, ∃ x : ℝ, S i = (x : EReal) := fun i => by
    have e : i = ix5 (i 0) (i 1) (i 2) (i 3) (i 4) := by
      funext a
      match a with
      | ⟨0, _⟩ => rfl
      | ⟨1, _⟩ => rfl
      | ⟨2, _⟩ => rfl
      | ⟨3, _⟩ => rfl
      | ⟨4, _⟩ => rfl
    exact ⟨_, (congrArg S e).trans (hSv (i 0) (i 1) (i 2) (i 3) (i 4))⟩
  have hP : ∀ (b : Fin 2) (h : Fin 4) (mm : Fin 2) (l r : Fin 16384), PR (EX S (MX S)) (ix5 b h mm l r)
      = ((Real.exp (zed q' k' qg' kg' t' b h mm l r) / ∑ j, Real.exp (zed q' k' qg' kg' t' b h mm l j) : ℝ) : EReal) := by
    intro b h mm l r
    obtain ⟨X, hX⟩ := MX_real S hSr b h mm l
    rw [PR_at, hX]
    have e : ∀ j, Ideal.exp (S (ix5 b h mm l j) - (X : EReal)) = ((Real.exp (zed q' k' qg' kg' t' b h mm l j - X) : ℝ) : EReal) := fun j => by
      rw [hSv, ← EReal.coe_sub, Ideal.exp_coe]
    rw [e r, (Finset.sum_congr rfl fun j _ => e j).trans (coe_sum _ _), div_coe' _ (Finset.sum_pos (fun _ _ => Real.exp_pos _) ⟨0, Finset.mem_univ _⟩).ne',
      softmax_rel]
  rw [OUT_at]
  refine congrArg (fun o => Cert.KernelIdeal.Attn.TAIL o _ _) (funext fun e => ?_)
  rw [OV_at]
  have hterm : ∀ j : Fin 16384, v (ix3 b j ⟨c.val / 128 * 128 + e.val, by omega⟩)
        * (PR (EX S (MX S)) (ix5 b ⟨c.val / 128, by omega⟩ 0 l j) - LAMR lam ix0 * PR (EX S (MX S)) (ix5 b ⟨c.val / 128, by omega⟩ 1 l j))
      = ((v' b j ⟨c.val / 128 * 128 + e.val, by omega⟩
          * (Real.exp (zed q' k' qg' kg' t' b ⟨c.val / 128, by omega⟩ 0 l j) / (∑ j, Real.exp (zed q' k' qg' kg' t' b ⟨c.val / 128, by omega⟩ 0 l j))
            - lam' * (Real.exp (zed q' k' qg' kg' t' b ⟨c.val / 128, by omega⟩ 1 l j) / (∑ j, Real.exp (zed q' k' qg' kg' t' b ⟨c.val / 128, by omega⟩ 1 l j)))) : ℝ) : EReal) := by
    intro j
    rw [hv, hP, hP, LAMR_at, hl, ← EReal.coe_mul, ← EReal.coe_sub, ← EReal.coe_mul]
  rw [(Finset.sum_congr rfl fun j _ => hterm j).trans (coe_sum _ _)]
  refine congrArg _ ?_
  exact diff_sum _ _ _ _ _ _ _

end Cert.ReferenceIdeal.Attn

end
-- ==== Proof.Attn.Value.lean ====
/-  What the attention kernel's result array holds, over the extended reals: its reference's term. -/
module

public import proofs.«01_k».proof.Proof.Attn.Ref
public import proofs.«01_k».proof.Proof.Attn.Run

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Attn

variable (m : (ℓ : Loc nD τ sig) → Buf (Elt Ideal) ℓ)

/-- The windows' block indices at each grid point: batch `t / 128`, head `t / 32 % 4`, query block `t % 32`. -/
theorem idx : ∀ t : Fin cfg0.N, win0_0.index t = ![0, 0] ∧ win0_1.index t = ![0, 0]
    ∧ win0_2.index t = ![t.val / 128, t.val % 32, t.val / 32 % 4, 0] ∧ win0_3.index t = ![t.val / 128, 0, t.val / 32 % 4]
    ∧ win0_4.index t = ![t.val / 128, 0, t.val / 32 % 4, 0] ∧ win0_5.index t = ![t.val / 32 % 4, 0, 0, 0]
    ∧ win0_6.index t = ![0, 0] ∧ win0_7.index t = ![t.val / 128, t.val % 32, t.val / 32 % 4]
    ∧ (grid0.coords t 1).val = t.val / 32 % 4 ∧ (grid0.coords t 2).val = t.val % 32 ∧ t.val < 256 :=
  (by decide +kernel : ∀ t : Fin grid0.N, _)

theorem lt256 (t : Fin cfg0.N) : t.val < 256 := (idx t).2.2.2.2.2.2.2.2.2.2

/-- A point's batch, head and query block. -/
abbrev pb (t : Fin cfg0.N) : Fin 2 := ⟨t.val / 128, by have := lt256 t; omega⟩
abbrev ph (t : Fin cfg0.N) : Fin 4 := ⟨t.val / 32 % 4, by omega⟩
abbrev pi (t : Fin cfg0.N) : Fin 32 := ⟨t.val % 32, by omega⟩

/-! The input blocks of point `t`, at an entry, over the arguments. -/

theorem blk0_at (c : Dev nD) (t : Fin cfg0.N) (a : Fin 4) (d : Fin 64) :
    (iblk m c 0 t : FVec Ideal S4x64 .f32) (ix2 a d) = aL m c (ix2 a d) := by
  have e : (iblk m c 0 t : FVec Ideal S4x64 .f32) (ix2 a d) = (V m c main_arg5 : FVec Ideal S4x64 .f32) (ix2 a d) := by
    blk_ext [iblk, idx t]
  rw [e]
  exact congrFun (V_main_arg5 m c) (ix2 a d)
theorem blk1_at (c : Dev nD) (t : Fin cfg0.N) (a : Fin 2) (d : Fin 8) :
    (iblk m c 1 t : FVec Ideal S2x8 .f32) (ix2 a d) = CFAR (aT m c) (ix2 a d) := by
  have e : (iblk m c 1 t : FVec Ideal S2x8 .f32) (ix2 a d) = (V m c main_v86 : FVec Ideal S2x8 .f32) (ix2 a d) := by
    blk_ext [iblk, idx t]
  rw [e, V86_eq]
theorem blk2_at (c : Dev nD) (t : Fin cfg0.N) (d : Fin 128) (r : Fin 512) :
    (iblk m c 2 t : FVec Ideal S1x1x128x512 .bf16) (ix4 0 0 d r)
      = aQ m c (ix3 (pb t) ⟨t.val % 32 * 512 + r.val, by omega⟩ ⟨t.val / 32 % 4 * 128 + d.val, by omega⟩) := by
  have e : (iblk m c 2 t : FVec Ideal S1x1x128x512 .bf16) (ix4 0 0 d r)
      = (V m c main_v15 : FVec Ideal S2x32x512x512 .bf16) (ix4 (pb t) (pi t) ⟨t.val / 32 % 4 * 128 + d.val, by omega⟩ r) := by
    blk_ext [iblk, idx t]
  rw [e, V15_eq, BLOCKS_at]
theorem blk3_at (c : Dev nD) (t : Fin cfg0.N) (n : Fin 16384) (d : Fin 128) :
    (iblk m c 3 t : FVec Ideal S1x16384x128 .bf16) (ix3 0 n d)
      = KEYS (aK m c) (aQG m c) (aKG m c) (ix3 (pb t) n ⟨t.val / 32 % 4 * 128 + d.val, by omega⟩) := by
  have e : (iblk m c 3 t : FVec Ideal S1x16384x128 .bf16) (ix3 0 n d)
      = (V m c main_v12 : FVec Ideal S2x16384x512 .bf16) (ix3 (pb t) n ⟨t.val / 32 % 4 * 128 + d.val, by omega⟩) := by
    blk_ext [iblk, idx t]
  rw [e, V12_eq]
theorem blk4_at (c : Dev nD) (t : Fin cfg0.N) (b : Fin 32) (d : Fin 128) (l : Fin 512) :
    (iblk m c 4 t : FVec Ideal S1x32x128x512 .bf16) (ix4 0 b d l)
      = aV m c (ix3 (pb t) ⟨b.val * 512 + l.val, by omega⟩ ⟨t.val / 32 % 4 * 128 + d.val, by omega⟩) := by
  have e : (iblk m c 4 t : FVec Ideal S1x32x128x512 .bf16) (ix4 0 b d l)
      = (V m c main_v18 : FVec Ideal S2x32x512x512 .bf16) (ix4 (pb t) b ⟨t.val / 32 % 4 * 128 + d.val, by omega⟩ l) := by
    blk_ext [iblk, idx t]
  rw [e, V18_eq, BLOCKS_at]
set_option maxHeartbeats 3200000 in
theorem blk5_at (c : Dev nD) (t : Fin cfg0.N) (mm : Fin 2) (d : Fin 3) (l r : Fin 512) :
    (iblk m c 5 t : FVec Ideal S2x3x512x512 .f32) (ix4 mm d l r)
      = BIAS (aT m c) (ix4 ⟨t.val / 32 % 4 * 2 + mm.val, by omega⟩ d l r) := by
  have e : (iblk m c 5 t : FVec Ideal S2x3x512x512 .f32) (ix4 mm d l r)
      = (V m c main_v77 : FVec Ideal S8x3x512x512 .f32) (ix4 ⟨t.val / 32 % 4 * 2 + mm.val, by omega⟩ d l r) := by
    blk_ext [iblk, idx t]
  rw [e, V77_eq]
theorem blk6_at (c : Dev nD) (t : Fin cfg0.N) (e : Fin 128) :
    (iblk m c 6 t : FVec Ideal S128x1 .f32) (ix2 e 0) = aSG m c (ix1 e) := by
  have h : (iblk m c 6 t : FVec Ideal S128x1 .f32) (ix2 e 0) = (V m c main_v87 : FVec Ideal S128x1 .f32) (ix2 e 0) := by
    blk_ext [iblk, idx t]
  rw [h, V87_eq]
  pointwise

/-- A sum over 128 rows of which only one half counts. -/
theorem half_sum (f : Fin 128 → ℝ) (mm : Fin 2) :
    (∑ d : Fin 128, if d.val / 64 = mm.val then f d else 0) = ∑ d : Fin 64, f ⟨mm.val * 64 + d.val, by omega⟩ := by
  have h := Fin.sum_univ_add (fun d : Fin (64 + 64) => if d.val / 64 = mm.val then f d else 0)
  refine h.trans ?_
  have hm : mm = 0 ∨ mm = 1 := by
    match mm with
    | ⟨0, _⟩ => exact Or.inl rfl
    | ⟨1, _⟩ => exact Or.inr rfl
  rcases hm with rfl | rfl
  · refine (congrArg₂ (· + ·) (Finset.sum_congr rfl fun d _ => if_pos ?_) ((Finset.sum_congr rfl fun d _ => if_neg ?_).trans Finset.sum_const_zero)).trans
      ((add_zero _).trans (Finset.sum_congr rfl fun d _ => congrArg f (Fin.ext ?_)))
    · show d.val / 64 = 0; omega
    · show ¬ (64 + d.val) / 64 = 0; omega
    · show d.val = 0 * 64 + d.val; omega
  · refine (congrArg₂ (· + ·) ((Finset.sum_congr rfl fun d _ => if_neg ?_).trans Finset.sum_const_zero) (Finset.sum_congr rfl fun d _ => if_pos ?_)).trans
      ((zero_add _).trans (Finset.sum_congr rfl fun d _ => congrArg f (Fin.ext ?_)))
    · show ¬ d.val / 64 = 1; omega
    · show (64 + d.val) / 64 = 1; omega
    · show 64 + d.val = 1 * 64 + d.val; omega

section Value

variable (c : Dev nD) (q' k' v' : Fin 2 → Fin 16384 → Fin 512 → ℝ) (qg' kg' : Fin 64 → ℝ) (t' : Fin 32 → Fin 8 → ℝ) (lam' : ℝ)

/-- The product part of a score. -/
def dot' (b : Fin 2) (h : Fin 4) (mm : Fin 2) (l x : Fin 16384) : ℝ :=
  ∑ d : Fin 64, q' b l ⟨h.val * 128 + mm.val * 64 + d.val, by omega⟩ * qg' d * (1 / 8)
      * (k' b x ⟨h.val * 128 + mm.val * 64 + d.val, by omega⟩ * kg' d)

variable (hq : ∀ b n e, aQ m c (ix3 b n e) = (q' b n e : EReal)) (hk : ∀ b n e, aK m c (ix3 b n e) = (k' b n e : EReal))
    (hv : ∀ b n e, aV m c (ix3 b n e) = (v' b n e : EReal)) (hqg : ∀ d, aQG m c (ix1 d) = (qg' d : EReal)) (hkg : ∀ d, aKG m c (ix1 d) = (kg' d : EReal))
    (ht : ∀ x y, aT m c (ix2 x y) = (t' x y : EReal)) (hl : LAM (aL m c) = (lam' : EReal))

include hq hk hqg hkg in
/-- A product of the kernel: the score's product part in powers of two. -/
theorem dot_at (t : Fin cfg0.N) (mm : Fin 2) (b : ℕ) (hb : b < 32) (l r : Fin 512) :
    k0_pay17 (F := Ideal) (kB (F := Ideal) (iblk m c 3 t) b) (qP (F := Ideal) (xQ (F := Ideal) (iblk m c 2 t)) mm) (ix3 0 l r)
      = ((dot' q' k' qg' kg' (pb t) (ph t) mm ⟨t.val % 32 * 512 + r.val, by omega⟩ ⟨b * 512 + l.val, by omega⟩ * (1 / Real.log 2) : ℝ) : EReal) := by
  rw [pay17_at]
  have e : ∀ d : Fin 128, kB (F := Ideal) (iblk m c 3 t) b (ix3 0 l d) * qP (F := Ideal) (xQ (F := Ideal) (iblk m c 2 t)) mm (ix3 0 d r)
      = ((if d.val / 64 = mm.val then (k' (pb t) ⟨b * 512 + l.val, by omega⟩ ⟨t.val / 32 % 4 * 128 + d.val, by omega⟩
          * (qg' ⟨d.val % 64, by omega⟩ * kg' ⟨d.val % 64, by omega⟩ * (1 / 8 * (1 / Real.log 2))))
          * q' (pb t) ⟨t.val % 32 * 512 + r.val, by omega⟩ ⟨t.val / 32 % 4 * 128 + d.val, by omega⟩ else 0 : ℝ) : EReal) := by
    intro d
    rw [kB_at _ b hb, qP_at]
    by_cases hd : d.val / 64 = mm.val
    · rw [if_pos hd, if_pos hd, blk3_at, blk2_at, KEYS_at, hq, hk, hqg, hkg, c_eighth, c_log2e]
      have e64 : (t.val / 32 % 4 * 128 + d.val) % 64 = d.val % 64 := by omega
      simp only [e64, EReal.coe_mul]
    · rw [if_neg hd, if_neg hd, mul_zero, EReal.coe_zero]
  rw [(Finset.sum_congr rfl fun d _ => e d).trans (coe_sum _ _), half_sum]
  refine congrArg _ ?_
  unfold dot'
  rw [Finset.sum_mul]
  refine Finset.sum_congr rfl fun d _ => ?_
  have e1 : (⟨t.val / 32 % 4 * 128 + (mm.val * 64 + d.val), by omega⟩ : Fin 512) = ⟨t.val / 32 % 4 * 128 + mm.val * 64 + d.val, by omega⟩ :=
    Fin.ext (by show _ + (_ + _) = _ + _ + _; omega)
  have e2 : (⟨(mm.val * 64 + d.val) % 64, by omega⟩ : Fin 64) = d := Fin.ext (by show (mm.val * 64 + d.val) % 64 = d.val; omega)
  simp only [e1, e2]
  ring

include ht in
/-- A near block's bias tile. -/
theorem bias_at (t : Fin cfg0.N) (mm : Fin 2) (b : ℕ) (hb : b < 32) (hn : near (t.val % 32) b) (l r : Fin 512) :
    tile (F := Ideal) (iblk m c 5 t) mm (b + 1 - t.val % 32) (ix4 0 0 l r)
      = ((t' ⟨BK (((b * 512 + l.val : ℕ) : ℤ) - ((t.val % 32 * 512 + r.val : ℕ) : ℤ)), BK_lt _⟩ ⟨t.val / 32 % 4 * 2 + mm.val, by omega⟩ * (1 / Real.log 2) : ℝ) : EReal) := by
  have hd : b + 1 - t.val % 32 < 3 := by have := hn.1; omega
  rw [tile_at _ _ _ hd, blk5_at, BIAS_at, c_log2e, EReal.coe_mul, ← ht]
  refine congrArg (fun x => aT m c (ix2 x _) * _) (Fin.ext ?_)
  refine (KBK ⟨b + 1 - t.val % 32, hd⟩ l r).trans (congrArg BK ?_)
  have := hn.2
  show (((b + 1 - t.val % 32 : ℕ) : ℤ) - 1) * 512 + l.val - r.val = _
  omega

include ht in
/-- A far block's constant. -/
theorem far_at (t : Fin cfg0.N) (mm : Fin 2) (b : ℕ) (hb : b < 32) (hn : ¬ near (t.val % 32) b) (l r : Fin 512) :
    cB (F := Ideal) (iblk m c 1 t) (t.val / 32 % 4) (t.val % 32) mm b
      = ((t' ⟨BK (((b * 512 + l.val : ℕ) : ℤ) - ((t.val % 32 * 512 + r.val : ℕ) : ℤ)), BK_lt _⟩ ⟨t.val / 32 % 4 * 2 + mm.val, by omega⟩ * (1 / Real.log 2) : ℝ) : EReal) := by
  have e2 : (⟨2 * (t.val / 32 % 4) + mm.val, by omega⟩ : Fin 8) = ⟨t.val / 32 % 4 * 2 + mm.val, by omega⟩ := Fin.ext (by show 2 * _ + _ = _ * 2 + _; omega)
  unfold near at hn
  unfold cB
  rw [if_neg hn]
  by_cases hlt : b < t.val % 32
  · rw [if_pos hlt, cf_at _ _ _ (by omega), blk1_at, CFAR_at, c_log2e, EReal.coe_mul, ← ht, e2]
    refine congrArg (fun x => aT m c (ix2 x _) * _) (Fin.ext ?_)
    exact (BK_far_neg _ (by omega)).symm
  · rw [if_neg hlt, cf_at _ _ _ (by omega), blk1_at, CFAR_at, c_log2e, EReal.coe_mul, ← ht, e2]
    refine congrArg (fun x => aT m c (ix2 x _) * _) (Fin.ext ?_)
    exact (BK_far_pos _ (by omega)).symm

include hq hk hv hqg hkg ht in
/-- One map's weighted values over its sums: the softmax. -/
theorem map_at (t : Fin cfg0.N) (mm : Fin 2) (r : Fin 512) (e : Fin 128) :
    Ideal.div
        (top (F := Ideal) (Ast (F := Ideal) (iblk m c 1 t) (iblk m c 3 t) (iblk m c 4 t) (iblk m c 5 t) (xQ (F := Ideal) (iblk m c 2 t)) (t.val / 32 % 4) (t.val % 32) mm 32) (ix3 0 e r))
        (row (F := Ideal) (Ast (F := Ideal) (iblk m c 1 t) (iblk m c 3 t) (iblk m c 4 t) (iblk m c 5 t) (xQ (F := Ideal) (iblk m c 2 t)) (t.val / 32 % 4) (t.val % 32) mm 32) (ix3 0 0 r))
      = (((∑ n, Real.exp (zed q' k' qg' kg' t' (pb t) (ph t) mm ⟨t.val % 32 * 512 + r.val, by omega⟩ n) * v' (pb t) n ⟨t.val / 32 % 4 * 128 + e.val, by omega⟩)
          / (∑ n, Real.exp (zed q' k' qg' kg' t' (pb t) (ph t) mm ⟨t.val % 32 * 512 + r.val, by omega⟩ n)) : ℝ) : EReal) := by
  let Q : Fin 16384 := ⟨t.val % 32 * 512 + r.val, by omega⟩
  let P : Fin 16384 → ℝ := fun n => dot' q' k' qg' kg' (pb t) (ph t) mm Q n
  let T : Fin 16384 → ℝ := fun n => t' ⟨BK ((n.val : ℤ) - (Q.val : ℤ)), BK_lt _⟩ ⟨t.val / 32 % 4 * 2 + mm.val, by omega⟩
  let L : ℝ := 1 / Real.log 2
  refine quot _ _ _ _ _ _ _ mm r (fun n => zed q' k' qg' kg' t' (pb t) (ph t) mm Q n) (fun n e => v' (pb t) n ⟨t.val / 32 % 4 * 128 + e.val, by omega⟩)
    (fun b l => if hb : b < 32 then (if near (t.val % 32) b then P ⟨b * 512 + l.val, by omega⟩ * L + T ⟨b * 512 + l.val, by omega⟩ * L
      else P ⟨b * 512 + l.val, by omega⟩ * L) else 0)
    (fun b => if hb : b < 32 then (if near (t.val % 32) b then 0 else T ⟨b * 512, by omega⟩ * L) else 0) ?_ ?_ ?_ ?_ e
  · intro b hb l
    rw [dif_pos hb]
    unfold sB
    by_cases hn : near (t.val % 32) b
    · rw [if_pos hn, if_pos hn, pay3_at, dot_at m c q' k' qg' kg' hq hk hqg hkg t mm b hb l r, bias_at m c t' ht t mm b hb hn l r, ← EReal.coe_add]
    · rw [if_neg hn, if_neg hn]
      exact dot_at m c q' k' qg' kg' hq hk hqg hkg t mm b hb l r
  · intro b hb
    rw [dif_pos hb]
    by_cases hn : near (t.val % 32) b
    · rw [if_pos hn]
      unfold cB
      rw [if_pos hn]
      exact Ideal.ofBits_zero_f32.trans EReal.coe_zero.symm
    · rw [if_neg hn]
      exact far_at m c t' ht t mm b hb hn 0 r
  · intro b l
    rw [dif_pos b.isLt, dif_pos b.isLt]
    have hz : zed q' k' qg' kg' t' (pb t) (ph t) mm Q ⟨b.val * 512 + l.val, by omega⟩ = P ⟨b.val * 512 + l.val, by omega⟩ + T ⟨b.val * 512 + l.val, by omega⟩ := rfl
    rw [hz]
    by_cases hn : near (t.val % 32) b.val
    · rw [if_pos hn, if_pos hn]
      show _ = (_ + _) * L
      ring
    · rw [if_neg hn, if_neg hn]
      have hT : T ⟨b.val * 512, by omega⟩ = T ⟨b.val * 512 + l.val, by omega⟩ := by
        show t' _ _ = t' _ _
        unfold near at hn
        refine congrArg (fun x => t' x _) (Fin.ext ?_)
        show BK (((b.val * 512 : ℕ) : ℤ) - ((t.val % 32 * 512 + r.val : ℕ) : ℤ)) = BK (((b.val * 512 + l.val : ℕ) : ℤ) - ((t.val % 32 * 512 + r.val : ℕ) : ℤ))
        by_cases hlt : b.val < t.val % 32
        · rw [BK_far_neg _ (by omega), BK_far_neg _ (by omega)]
        · rw [BK_far_pos _ (by omega), BK_far_pos _ (by omega)]
      rw [hT]
      show _ = (_ + _) * L
      ring
  · intro b e l
    rw [blk4_at, hv]

include hq hk hv hqg hkg ht hl in
/-- What point `t` stores, at an entry: the reference's term there. -/
theorem out_at (t : Fin cfg0.N) (r : Fin 512) (e : Fin 128) :
    outAt m c t (ix3 0 r e)
      = Cert.ReferenceIdeal.Attn.REF (aQ m c) (aK m c) (aV m c) (aQG m c) (aKG m c) (aL m c) (aSG m c) (aT m c)
          (ix3 (pb t) ⟨t.val % 32 * 512 + r.val, by omega⟩ ⟨t.val / 32 % 4 * 128 + e.val, by omega⟩) := by
  rw [Cert.ReferenceIdeal.Attn.REF_at _ _ _ _ _ _ _ _ q' k' v' qg' kg' t' lam' hq hk hv hqg hkg ht hl]
  unfold outAt outB
  obtain ⟨-, -, -, -, -, -, -, -, h1, h2, -⟩ := idx t
  rw [h1, h2]
  refine (fin_at _ _ _ _ _ _ r e).trans ?_
  have hL : LAM (iblk m c 0 t) = (lam' : EReal) := by
    rw [← hl]
    unfold LAM
    simp only [blk0_at]
  have e1 : (⟨(t.val / 32 % 4 * 128 + e.val) / 128, by omega⟩ : Fin 4) = ph t := Fin.ext (by show _ / 128 = t.val / 32 % 4; omega)
  have e2 : (⟨(t.val / 32 % 4 * 128 + e.val) % 128, by omega⟩ : Fin 128) = e := Fin.ext (by show _ % 128 = e.val; omega)
  have e3 : ∀ e' : Fin 128, (⟨(t.val / 32 % 4 * 128 + e.val) / 128 * 128 + e'.val, by omega⟩ : Fin 512) = ⟨t.val / 32 % 4 * 128 + e'.val, by omega⟩ :=
    fun e' => Fin.ext (by show _ / 128 * 128 + _ = _ + _; omega)
  simp only [e1, e2, e3]
  rw [hL]
  have hs : (fun e : Fin 128 => (iblk m c 6 t : FVec Ideal S128x1 .f32) (ix2 e 0)) = fun e => aSG m c (ix1 e) := funext fun e => blk6_at m c t e
  have ho : (fun e : Fin 128 => Ideal.div
        (top (F := Ideal) (Ast (F := Ideal) (iblk m c 1 t) (iblk m c 3 t) (iblk m c 4 t) (iblk m c 5 t) (xQ (F := Ideal) (iblk m c 2 t)) (t.val / 32 % 4) (t.val % 32) 0 32) (ix3 0 e r))
        (row (F := Ideal) (Ast (F := Ideal) (iblk m c 1 t) (iblk m c 3 t) (iblk m c 4 t) (iblk m c 5 t) (xQ (F := Ideal) (iblk m c 2 t)) (t.val / 32 % 4) (t.val % 32) 0 32) (ix3 0 0 r))
      - (lam' : EReal) * Ideal.div
        (top (F := Ideal) (Ast (F := Ideal) (iblk m c 1 t) (iblk m c 3 t) (iblk m c 4 t) (iblk m c 5 t) (xQ (F := Ideal) (iblk m c 2 t)) (t.val / 32 % 4) (t.val % 32) 1 32) (ix3 0 e r))
        (row (F := Ideal) (Ast (F := Ideal) (iblk m c 1 t) (iblk m c 3 t) (iblk m c 4 t) (iblk m c 5 t) (xQ (F := Ideal) (iblk m c 2 t)) (t.val / 32 % 4) (t.val % 32) 1 32) (ix3 0 0 r)))
      = fun e => ((att (fun mm x => zed q' k' qg' kg' t' (pb t) (ph t) mm ⟨t.val % 32 * 512 + r.val, by omega⟩ x)
        (fun n e => v' (pb t) n ⟨t.val / 32 % 4 * 128 + e.val, by omega⟩) lam' e : ℝ) : EReal) := by
    funext e
    rw [map_at m c q' k' v' qg' kg' t' hq hk hv hqg hkg ht t 0 r e, map_at m c q' k' v' qg' kg' t' hq hk hv hqg hkg ht t 1 r e,
      ← EReal.coe_mul, ← EReal.coe_sub]
    rfl
  exact congrArg₂ (fun o s => TAIL o s e) ho hs

/-- A block's index is a row and a column. -/
theorem exists_ix3 (j : S1x512x128.Idx) : ∃ (r : Fin 512) (e : Fin 128), j = ix3 0 r e := ⟨j 1, j 2, by
  funext a
  match a with
  | ⟨0, _⟩ => exact Fin.ext (by have : (j 0).val < 1 := (j 0).isLt; show (j 0).val = 0; omega)
  | ⟨1, _⟩ => rfl
  | ⟨2, _⟩ => rfl⟩

include hq hk hv hqg hkg ht hl in
/-- The result array after the whole grid: the reference's term. -/
theorem final : ((dats m 0 c).arrAt 7 (cfgs 0).N : FVec Ideal S2x16384x512 .bf16)
    = Cert.ReferenceIdeal.Attn.REF (aQ m c) (aK m c) (aV m c) (aQG m c) (aKG m c) (aL m c) (aSG m c) (aT m c) := by
  refine (dats m 0 c).arrAt_eq_of_covers 7 _ (by decide +kernel) fun t hf y => ?_
  blk_simp
  rw [after_7]
  obtain ⟨r, e, rfl⟩ := exists_ix3 y
  refine (out_at m c q' k' v' qg' kg' t' lam' hq hk hv hqg hkg ht hl t r e).trans ?_
  refine congrArg _ ?_
  funext a
  refine Fin.ext ?_
  match a with
  | ⟨0, _⟩ => blk_simp [idx t]; rfl
  | ⟨1, _⟩ => blk_simp [idx t]
  | ⟨2, _⟩ => blk_simp [idx t]

end Value

end Cert.KernelIdeal.Attn

end
-- ==== Proof.Attn.Finite.lean ====
/-  What the precondition says: every entry of the attention's arguments is a real number. -/
module

public import proofs.«01_k».proof.Defs
public import proofs.«01_k».proof.Proof.Gen.Pre_finite
public import Idealize.ShloMosaic.Lib.Pointwise

@[expose] public section

set_option maxRecDepth 16384

noncomputable section

open Idealize.ShloMosaic Idealize.SL.Sem

namespace Cert.Attn

theorem and_one (x y : BitVec 1) (h : IntOp.andi x y = 1#1) : x = 1#1 ∧ y = 1#1 := by
  revert x y; decide

/-- A conjunction over an array that comes out true is true of every entry. -/
theorem all_of_reduce {s t u : Shape} {axes : List (Fin s.rank)} (x : IVec s 1) (init : IVec u 1) (h : s.ReducesTo axes t) (hu : 0 < u.numel)
    (j : t.Idx) (hr : Host.reduce IntOp.andi x init h hu j = 1#1) : ∀ i, h.drop i = j → x i = 1#1 := by
  unfold Host.reduce at hr
  have key : ∀ (L : List (Fin s.numel)) (a : BitVec 1), L.foldl (fun r n => IntOp.andi r (x (s.rowMajor.symm n))) a = 1#1 →
      a = 1#1 ∧ ∀ n ∈ L, x (s.rowMajor.symm n) = 1#1 := by
    intro L
    induction L with
    | nil => exact fun a h => ⟨h, fun n hn => absurd hn List.not_mem_nil⟩
    | cons n L ih =>
      intro a h
      obtain ⟨h1, h2⟩ := ih _ h
      obtain ⟨ha, hn⟩ := and_one _ _ h1
      refine ⟨ha, fun k hk => ?_⟩
      rcases List.mem_cons.1 hk with rfl | hk
      · exact hn
      · exact h2 k hk
  intro i hi
  have := (key _ _ hr).2 (s.rowMajor i) (List.mem_filter.2 ⟨List.mem_finRange _, by simpa using hi⟩)
  simpa using this

/-- A value below infinity in size is real. -/
theorem real_of_lt (x : EReal) (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  have hlt := (Ideal.cmp_olt_eq_one _ _).1 h
  rw [hinf] at hlt
  induction x using EReal.rec with
  | bot => simp at hlt
  | coe r => exact ⟨r, rfl⟩
  | top => simp at hlt

/-- An array whose test of size below infinity is true everywhere holds reals. -/
theorem real_of_all {s u : Shape} {axes : List (Fin s.rank)} (x : FVec Ideal s .f32) (B : FVec Ideal s .f32)
    (hB : ∀ i, B i = Ideal.ofBits .f32 0x7F800000#32) (init : IVec u 1) (h : s.ReducesTo axes ⟨0, ![]⟩) (hu : 0 < u.numel) (j : (⟨0, ![]⟩ : Shape).Idx)
    (hr : Host.reduce IntOp.andi (cmpf .olt (Host.absf x) B) init h hu j = 1#1) (i : s.Idx) : ∃ r : ℝ, x i = (r : EReal) := by
  have h1 := all_of_reduce _ init h hu j hr i (funext fun a => a.elim0)
  refine real_of_lt (x i) ?_
  rw [← hB i]
  exact h1

/-- The precondition, read: every entry of every argument but the last gain is real. -/
theorem finite_reads (a0 a1 a2 : FVec Ideal Cert.Pre_finite.S2x16384x512 .f32) (a3 a4 : FVec Ideal Cert.Pre_finite.S64 .f32)
    (a5 : FVec Ideal Cert.Pre_finite.S4x64 .f32) (a6 : FVec Ideal Cert.Pre_finite.S128 .f32) (a7 : FVec Ideal Cert.Pre_finite.S32x8 .f32)
    (h : Cert.Pre_finite.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a7 i = (r : EReal)) := by
  have h0 := congrFun h (fun a => a.elim0)
  unfold Cert.Pre_finite.fn Cert.Pre_finite.fn_part1 Cert.Pre_finite.fn_part2 at h0
  obtain ⟨h0, r7⟩ := and_one _ _ h0
  obtain ⟨h0, r5⟩ := and_one _ _ h0
  obtain ⟨h0, r4⟩ := and_one _ _ h0
  obtain ⟨h0, r3⟩ := and_one _ _ h0
  obtain ⟨h0, r2⟩ := and_one _ _ h0
  obtain ⟨h0, r1⟩ := and_one _ _ h0
  obtain ⟨h0, r0⟩ := and_one _ _ h0
  exact ⟨real_of_all _ _ (fun _ => rfl) _ _ _ _ r0, real_of_all _ _ (fun _ => rfl) _ _ _ _ r1, real_of_all _ _ (fun _ => rfl) _ _ _ _ r2,
    real_of_all _ _ (fun _ => rfl) _ _ _ _ r3, real_of_all _ _ (fun _ => rfl) _ _ _ _ r4, real_of_all _ _ (fun _ => rfl) _ _ _ _ r5,
    real_of_all _ _ (fun _ => rfl) _ _ _ _ r7⟩

end Cert.Attn

end
-- ==== Proof.Attn.Claims.lean ====
/-  The attention kernel's value claim: it and its reference compute one array from finite arguments, over the extended reals. -/
module

public import proofs.«01_k».proof.Proof.Attn.Frames
public import proofs.«01_k».proof.Proof.Attn.Value
public import proofs.«01_k».proof.Proof.Attn.Finite

@[expose] public section

set_option maxRecDepth 16384

noncomputable section

namespace Cert.KernelIdeal.Attn

open Idealize.ShloMosaic Idealize.ShloMosaic.TcCoe Idealize.SL.Sem
open Cert.KernelIdeal Cert.KernelIdeal.Gen

/-- From finite arguments the result array is the reference's term. -/
theorem result (m : (ℓ : Loc nD τ sig) → Buf (Elt Ideal) ℓ) (h : Cert.Pre_KernelIdeal_finite m) (c : Dev nD) :
    ((dats m 0 c).arrAt 7 (cfgs 0).N : FVec Ideal S2x16384x512 .bf16)
      = Cert.ReferenceIdeal.Attn.REF (aQ m c) (aK m c) (aV m c) (aQG m c) (aKG m c) (aL m c) (aSG m c) (aT m c) := by
  obtain ⟨h0, h1, h2, h3, h4, h5, h7⟩ := Cert.Attn.finite_reads _ _ _ _ _ _ _ _ (h c)
  choose q hq using h0
  choose k hk using h1
  choose v hv using h2
  choose qg hqg using h3
  choose kg hkg using h4
  choose t ht using h7
  obtain ⟨l, hl⟩ := Cert.Attn.lam_real (aL m c) fun a d => h5 (ix2 a d)
  exact final m c (fun b n e => q (ix3 b n e)) (fun b n e => k (ix3 b n e)) (fun b n e => v (ix3 b n e)) (fun d => qg (ix1 d)) (fun d => kg (ix1 d))
    (fun x y => t (ix2 x y)) l (fun b n e => hq _) (fun b n e => hk _) (fun b n e => hv _) (fun d => hqg _) (fun d => hkg _) (fun x y => ht _) hl

end Cert.KernelIdeal.Attn

namespace Cert.Proof

open Idealize.ShloMosaic Idealize.SL.Sem

set_option maxHeartbeats 3200000 in
/-- The attention kernel's result is its reference's, from the same finite arguments, over the extended reals. -/
theorem algebraic_Kernel : Cert.algebraic_KernelIdeal_ReferenceIdeal_pre_finite := by
  pair_intro
  · run_from Cert.KernelIdeal.Attn.run_main m g
    · exact (hc.1 c).1 7
    · exact ((hc.1 c).2 Cert.KernelIdeal.main_arg0 (Pipeline.mem_restRefs_of Cert.KernelIdeal.main_arg0 (by decide)
        (by decide))).trans (Cert.KernelIdeal.Gen.V_main_arg0 m c)
    · exact ((hc.1 c).2 Cert.KernelIdeal.main_arg1 (Pipeline.mem_restRefs_of Cert.KernelIdeal.main_arg1 (by decide)
        (by decide))).trans (Cert.KernelIdeal.Gen.V_main_arg1 m c)
    · exact ((hc.1 c).2 Cert.KernelIdeal.main_arg2 (Pipeline.mem_restRefs_of Cert.KernelIdeal.main_arg2 (by decide)
        (by decide))).trans (Cert.KernelIdeal.Gen.V_main_arg2 m c)
    · exact ((hc.1 c).2 Cert.KernelIdeal.main_arg3 (Pipeline.mem_restRefs_of Cert.KernelIdeal.main_arg3 (by decide)
        (by decide))).trans (Cert.KernelIdeal.Gen.V_main_arg3 m c)
    · exact ((hc.1 c).2 Cert.KernelIdeal.main_arg4 (Pipeline.mem_restRefs_of Cert.KernelIdeal.main_arg4 (by decide)
        (by decide))).trans (Cert.KernelIdeal.Gen.V_main_arg4 m c)
    · exact ((hc.1 c).1 0).trans (((Cert.KernelIdeal.Attn.dats m 0 c).arrAt_in 0 rfl _).trans
        ((Cert.KernelIdeal.Attn.A_eq m c 0).trans (Cert.KernelIdeal.Gen.V_main_arg5 m c)))
    · exact ((hc.1 c).2 Cert.KernelIdeal.main_arg6 (Pipeline.mem_restRefs_of Cert.KernelIdeal.main_arg6 (by decide)
        (by decide))).trans (Cert.KernelIdeal.Gen.V_main_arg6 m c)
    · exact ((hc.1 c).2 Cert.KernelIdeal.main_arg7 (Pipeline.mem_restRefs_of Cert.KernelIdeal.main_arg7 (by decide)
        (by decide))).trans (Cert.KernelIdeal.Gen.V_main_arg7 m c)
  · hlo_run
    exact (Cert.KernelIdeal.Attn.result m hpre c).symm

end Cert.Proof

end
-- ==== Proof.Mlp.Payload.lean ====
/-  What one block of the feed-forward kernel computes, read at an index, over the extended reals. -/
module

public import proofs.«01_k».proof.Proof.Gen.Kernel2Ideal.Skeleton
public import Idealize.ShloMosaic.Lib.Pointwise

@[expose] public section

set_option maxRecDepth 16384

noncomputable section

open Idealize.ShloMosaic Idealize.ShloMosaic.TcCoe Idealize.SL.Sem

namespace Cert.Kernel2Ideal.Value

open Cert.Kernel2Ideal Cert.Kernel2Ideal.Gen

/-- The normalised row: each entry times the reciprocal root of the row's mean square (plus the small
    constant) times the gain. -/
theorem hn_at (x : FVec Ideal S1024x1024 .f32) (g : FVec Ideal S1x1024 .f32) (r k : Fin 1024) :
    k0_pay2 (F := Ideal) x g (ix2 r k)
      = x (ix2 r k) * Ideal.rsqrt (Ideal.div (∑ l : Fin 1024, x (ix2 r l) * x (ix2 r l)) (Ideal.ofBits .f32 0x44800000#32)
          + Ideal.ofBits .f32 0x358637BD#32) * g (ix2 0 k) := by
  pointwise [k0_pay2, k0_pay1]

/-- The block's update: what the output held, plus the block's hidden units (the positive part of the projected
    row, squared) times their output weights. -/
theorem upd_at (hn w1 : FVec Ideal S1024x1024 .bf16) (acc : FVec Ideal S1024x1024 .f32) (w2 : FVec Ideal S1024x1024 .bf16)
    (r k : Fin 1024) :
    k0_pay3 (F := Ideal) hn w1 acc w2 (ix2 r k)
      = acc (ix2 r k) + ∑ f : Fin 1024, (max (∑ l : Fin 1024, hn (ix2 r l) * w1 (ix2 l f)) 0
          * max (∑ l : Fin 1024, hn (ix2 r l) * w1 (ix2 l f)) 0) * w2 (ix2 f k) := by
  pointwise [k0_pay3]

end Cert.Kernel2Ideal.Value

end
-- ==== Proof.Mlp.Value.lean ====
/-  What the feed-forward kernel's result array holds, and that it is the reference's term, over the extended reals. -/
module

public import proofs.«01_k».proof.Proof.Mlp.Payload
public import proofs.«01_k».proof.Proof.Gen.Kernel2Ideal.Frame
public import proofs.«01_k».proof.Proof.Gen.Reference2Ideal
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

variable (m : (ℓ : Loc nD τ sig) → Buf (Elt Ideal) ℓ)

/-- The positive part, as the reference writes it. -/
abbrev RELU (H : FVec Ideal Cert.Reference2Ideal.S2x16384x4096 .f32) : FVec Ideal Cert.Reference2Ideal.S2x16384x4096 .f32 :=
  maximumf H (broadcastInDim Cert.Reference2Ideal.S2x16384x4096 ![] Cert.Reference2Ideal.Gen.facts.bcast_S_S2x16384x4096
    (constant Cert.Reference2Ideal.S_ FTy.f32 0#32))

/-- The reference's composed term over its arguments. -/
def REF (X : FVec Ideal S2x16384x1024 .f32) (G : FVec Ideal S1024 .f32) (W1 : FVec Ideal S1024x4096 .f32)
    (W2 : FVec Ideal S4096x1024 .f32) : FVec Ideal S2x16384x1024 .f32 :=
  addf X
    (Host.dotGeneral Reference2Ideal.dot_S2x16384x4096_S4096x1024_S2x16384x1024_2_0_01_1_n_n none
      (mulf
        (RELU (Host.dotGeneral Reference2Ideal.dot_S2x16384x1024_S1024x4096_S2x16384x4096_2_0_01_1_n_n none
          (mulf (mulf X (broadcastInDim Reference2Ideal.S2x16384x1024 ![0, 1, 2] Cert.Reference2Ideal.Gen.facts.bcast_S2x16384x1_S2x16384x1024_0_1_2
            (Host.rsqrt (addf (Host.divf
              (broadcastInDim Reference2Ideal.S2x16384x1 ![0, 1] Cert.Reference2Ideal.Gen.facts.bcast_S2x16384_S2x16384x1_0_1
                (Host.reduceAdd (mulf X X) (constant Reference2Ideal.S_ FTy.f32 0#32) Cert.Reference2Ideal.Gen.facts.reducesTo_S2x16384x1024_S2x16384_d2 Cert.Reference2Ideal.Gen.facts.h_S_))
              (broadcastInDim Reference2Ideal.S2x16384x1 ![] Cert.Reference2Ideal.Gen.facts.bcast_S_S2x16384x1 (constant Reference2Ideal.S_ FTy.f32 1149239296#32)))
              (broadcastInDim Reference2Ideal.S2x16384x1 ![] Cert.Reference2Ideal.Gen.facts.bcast_S_S2x16384x1 (constant Reference2Ideal.S_ FTy.f32 897988541#32))))))
            (broadcastInDim Reference2Ideal.S2x16384x1024 ![0, 1, 2] Cert.Reference2Ideal.Gen.facts.bcast_S1x1x1024_S2x16384x1024_0_1_2
              (broadcastInDim Reference2Ideal.S1x1x1024 ![2] Cert.Reference2Ideal.Gen.facts.bcast_S1024_S1x1x1024_2 G)))
          W1))
        (RELU (Host.dotGeneral Reference2Ideal.dot_S2x16384x1024_S1024x4096_S2x16384x4096_2_0_01_1_n_n none
          (mulf (mulf X (broadcastInDim Reference2Ideal.S2x16384x1024 ![0, 1, 2] Cert.Reference2Ideal.Gen.facts.bcast_S2x16384x1_S2x16384x1024_0_1_2
            (Host.rsqrt (addf (Host.divf
              (broadcastInDim Reference2Ideal.S2x16384x1 ![0, 1] Cert.Reference2Ideal.Gen.facts.bcast_S2x16384_S2x16384x1_0_1
                (Host.reduceAdd (mulf X X) (constant Reference2Ideal.S_ FTy.f32 0#32) Cert.Reference2Ideal.Gen.facts.reducesTo_S2x16384x1024_S2x16384_d2 Cert.Reference2Ideal.Gen.facts.h_S_))
              (broadcastInDim Reference2Ideal.S2x16384x1 ![] Cert.Reference2Ideal.Gen.facts.bcast_S_S2x16384x1 (constant Reference2Ideal.S_ FTy.f32 1149239296#32)))
              (broadcastInDim Reference2Ideal.S2x16384x1 ![] Cert.Reference2Ideal.Gen.facts.bcast_S_S2x16384x1 (constant Reference2Ideal.S_ FTy.f32 897988541#32))))))
            (broadcastInDim Reference2Ideal.S2x16384x1024 ![0, 1, 2] Cert.Reference2Ideal.Gen.facts.bcast_S1x1x1024_S2x16384x1024_0_1_2
              (broadcastInDim Reference2Ideal.S1x1x1024 ![2] Cert.Reference2Ideal.Gen.facts.bcast_S1024_S1x1x1024_2 G)))
          W1)))
      W2)

/-- The normalised row of the reference, at an entry. -/
def hnR (X : FVec Ideal S2x16384x1024 .f32) (G : FVec Ideal S1024 .f32) (b : Fin 2) (q : Fin 16384) (k : Fin 1024) : EReal :=
  X (ix3 b q k) * Ideal.rsqrt (Ideal.div (∑ l : Fin 1024, X (ix3 b q l) * X (ix3 b q l)) (Ideal.ofBits .f32 0x44800000#32)
    + Ideal.ofBits .f32 0x358637BD#32) * G (ix1 k)

/-- One hidden unit of the reference times its output weight. -/
def unitR (X : FVec Ideal S2x16384x1024 .f32) (G : FVec Ideal S1024 .f32) (W1 : FVec Ideal S1024x4096 .f32)
    (W2 : FVec Ideal S4096x1024 .f32) (b : Fin 2) (q : Fin 16384) (c : Fin 1024) (f : Fin 4096) : EReal :=
  (max (∑ l : Fin 1024, hnR X G b q l * W1 (ix2 l f)) 0 * max (∑ l : Fin 1024, hnR X G b q l * W1 (ix2 l f)) 0) * W2 (ix2 f c)

/-- The reference's term at an entry: the entry plus the sum over the hidden units. -/
theorem ref_at (X : FVec Ideal S2x16384x1024 .f32) (G : FVec Ideal S1024 .f32) (W1 : FVec Ideal S1024x4096 .f32)
    (W2 : FVec Ideal S4096x1024 .f32) (b : Fin 2) (q : Fin 16384) (c : Fin 1024) :
    REF X G W1 W2 (ix3 b q c) = X (ix3 b q c) + ∑ f : Fin 4096, unitR X G W1 W2 b q c f := by
  pointwise [REF, unitR, hnR]

/-- The windows' block indices at each grid point: row block `t / 4`, hidden block `t % 4`. -/
theorem idx : ∀ t : Fin cfg0.N, win0_0.index t = ![t.val / 4, 0] ∧ win0_1.index t = ![0, 0]
    ∧ win0_2.index t = ![0, t.val % 4] ∧ win0_3.index t = ![t.val % 4, 0] ∧ win0_4.index t = ![t.val / 4, 0] ∧ t.val / 4 < 32 :=
  (by decide +kernel : ∀ t : Fin grid0.N, _)

/-- The four arguments, typed. -/
abbrev aX (c : Dev nD) : FVec Ideal S2x16384x1024 .f32 := m ((c : Thread nD τ).loc main_arg0)
abbrev aG (c : Dev nD) : FVec Ideal S1024 .f32 := m ((c : Thread nD τ).loc main_arg1)
abbrev aW1 (c : Dev nD) : FVec Ideal S1024x4096 .f32 := m ((c : Thread nD τ).loc main_arg2)
abbrev aW2 (c : Dev nD) : FVec Ideal S4096x1024 .f32 := m ((c : Thread nD τ).loc main_arg3)

/-- The arrays as the call finds them, each from the argument the host reshapes or narrows. -/
theorem V0_eq (c : Dev nD) : (V m c main_v0 : FVec Ideal S32768x1024 .f32)
    = shapeCast S32768x1024 (aX m c) shapeCasts_S2x16384x1024_S32768x1024 := by
  entry_read; rfl
theorem V1_eq (c : Dev nD) : (V m c main_v1 : FVec Ideal S1024x4096 .bf16) = aW1 m c := by
  entry_read; rfl
theorem V2_eq (c : Dev nD) : (V m c main_v2 : FVec Ideal S4096x1024 .bf16) = aW2 m c := by
  entry_read; rfl
theorem V3_eq (c : Dev nD) : (V m c main_v3 : FVec Ideal S1x1024 .f32)
    = shapeCast S1x1024 (aG m c) shapeCasts_S1024_S1x1024 := by
  entry_read; rfl

/-- The input blocks of point `t`, at an entry, over the arguments. -/
theorem blk0_at (c : Dev nD) (t : Fin cfg0.N) (r k : Fin 1024) (b : Fin 2) (q : Fin 16384)
    (h : b.val * 16384 + q.val = t.val / 4 * 1024 + r.val) :
    (iblk m c 0 t : FVec Ideal S1024x1024 .f32) (ix2 r k) = aX m c (ix3 b q k) := by
  have e : (iblk m c 0 t : FVec Ideal S1024x1024 .f32) (ix2 r k)
      = (V m c main_v0 : FVec Ideal S32768x1024 .f32) (ix2 ⟨t.val / 4 * 1024 + r.val, by omega⟩ k) := by
    blk_ext [iblk, idx t]
  rw [e, V0_eq]
  pointwise
  blk_ext
theorem blk1_at (c : Dev nD) (t : Fin cfg0.N) (k : Fin 1024) :
    (iblk m c 1 t : FVec Ideal S1x1024 .f32) (ix2 0 k) = aG m c (ix1 k) := by
  have e : (iblk m c 1 t : FVec Ideal S1x1024 .f32) (ix2 0 k) = (V m c main_v3 : FVec Ideal S1x1024 .f32) (ix2 0 k) := by
    blk_ext [iblk, idx t]
  rw [e, V3_eq]
  pointwise
theorem blk2_at (c : Dev nD) (t : Fin cfg0.N) (k f : Fin 1024) (F : Fin 4096) (h : F.val = t.val % 4 * 1024 + f.val) :
    (iblk m c 2 t : FVec Ideal S1024x1024 .bf16) (ix2 k f) = aW1 m c (ix2 k F) := by
  have e : (iblk m c 2 t : FVec Ideal S1024x1024 .bf16) (ix2 k f) = (V m c main_v1 : FVec Ideal S1024x4096 .bf16) (ix2 k F) := by
    blk_ext [iblk, idx t]
  rw [e, V1_eq]
theorem blk3_at (c : Dev nD) (t : Fin cfg0.N) (f k : Fin 1024) (F : Fin 4096) (h : F.val = t.val % 4 * 1024 + f.val) :
    (iblk m c 3 t : FVec Ideal S1024x1024 .bf16) (ix2 f k) = aW2 m c (ix2 F k) := by
  have e : (iblk m c 3 t : FVec Ideal S1024x1024 .bf16) (ix2 f k) = (V m c main_v2 : FVec Ideal S4096x1024 .bf16) (ix2 F k) := by
    blk_ext [iblk, idx t]
  rw [e, V2_eq]

/-- The row block does not move within a run of four points. -/
theorem blk0_prev (c : Dev nD) (t : Fin cfg0.N) (h : ¬ t.val % 4 = 0) :
    (iblk m c 0 ⟨t.val - 1, by omega⟩ : FVec Ideal S1024x1024 .f32) = (iblk m c 0 t : FVec Ideal S1024x1024 .f32) := by
  blk_ext! [iblk, idx t, idx ⟨t.val - 1, by omega⟩]
theorem blk1_prev (c : Dev nD) (t : Fin cfg0.N) (h : ¬ t.val % 4 = 0) :
    (iblk m c 1 ⟨t.val - 1, by omega⟩ : FVec Ideal S1x1024 .f32) = (iblk m c 1 t : FVec Ideal S1x1024 .f32) := by
  blk_ext! [iblk, idx t, idx ⟨t.val - 1, by omega⟩]

/-- The carried scratch after every point: the normalised rows of the point's own row block. -/
theorem scr (c : Dev nD) : ∀ (n : ℕ) (hn : n < cfg0.N),
    (outsAt0 m c n hn).2 = k0_pay2 (F := Ideal) (iblk m c 0 ⟨n, hn⟩) (iblk m c 1 ⟨n, hn⟩) := by
  intro n
  induction n with
  | zero =>
    intro hn
    rw [outsAt0_A m c ⟨0, hn⟩ rfl]; frame_out
  | succ n ih =>
    intro hn
    by_cases h : (n + 1) % 4 = 0
    · rw [outsAt0_A m c ⟨n + 1, hn⟩ h]; frame_out
    · rw [outsAt0_B m c ⟨n + 1, hn⟩ h]; unfold sout0_B_0
      simp only [Nat.add_sub_cancel]
      rw [ih, ← blk0_prev m c ⟨n + 1, hn⟩ h, ← blk1_prev m c ⟨n + 1, hn⟩ h]
      rfl

/-- What one point adds to an entry of its row block: its 1024 hidden units (and, at the run's first point, the
    entry of the rows itself). -/
def part (m : (ℓ : Loc nD τ sig) → Buf (Elt Ideal) ℓ) (c : Dev nD) (t : Fin cfg0.N) (j : S1024x1024.Idx) : EReal :=
  (if t.val % 4 = 0 then X t j else (0 : EReal))
    + ∑ f : Fin 1024, (max (∑ l : Fin 1024, k0_pay2 (F := Ideal) (iblk m c 0 t) (iblk m c 1 t) (ix2 (j 0) l) * W1 t (ix2 l f)) 0
        * max (∑ l : Fin 1024, k0_pay2 (F := Ideal) (iblk m c 0 t) (iblk m c 1 t) (ix2 (j 0) l) * W1 t (ix2 l f)) 0)
        * W2 t (ix2 f (j 1))
where
  X (t : Fin cfg0.N) : FVec Ideal S1024x1024 .f32 := iblk m c 0 t
  W1 (t : Fin cfg0.N) : FVec Ideal S1024x1024 .bf16 := iblk m c 2 t
  W2 (t : Fin cfg0.N) : FVec Ideal S1024x1024 .bf16 := iblk m c 3 t

/-- A point's part over the arguments. -/
theorem part_at (c : Dev nD) (t : Fin cfg0.N) (r k : Fin 1024) (b : Fin 2) (q : Fin 16384)
    (h : b.val * 16384 + q.val = t.val / 4 * 1024 + r.val) :
    part m c t (ix2 r k) = (if t.val % 4 = 0 then aX m c (ix3 b q k) else (0 : EReal))
      + ∑ f : Fin 1024, unitR (aX m c) (aG m c) (aW1 m c) (aW2 m c) b q k ⟨t.val % 4 * 1024 + f.val, by omega⟩ := by
  have hx : part.X m c t (ix2 r k) = aX m c (ix3 b q k) := blk0_at m c t r k b q h
  have hh : ∀ l : Fin 1024, k0_pay2 (F := Ideal) (iblk m c 0 t) (iblk m c 1 t) (ix2 r l) = hnR (aX m c) (aG m c) b q l := by
    intro l
    rw [hn_at]
    unfold hnR
    simp only [blk0_at m c t r _ b q h, blk1_at m c t]
  have hf : ∀ f : Fin 1024, ∀ l : Fin 1024, part.W1 m c t (ix2 l f) = aW1 m c (ix2 l ⟨t.val % 4 * 1024 + f.val, by omega⟩) :=
    fun f l => blk2_at m c t l f _ rfl
  have h2 : ∀ f : Fin 1024, part.W2 m c t (ix2 f k) = aW2 m c (ix2 ⟨t.val % 4 * 1024 + f.val, by omega⟩ k) :=
    fun f => blk3_at m c t f k _ rfl
  unfold part unitR
  simp only [ix2_0, ix2_1, hx, hh, hf, h2]

/-- The four points of a row block's run add up to the reference's entry. -/
theorem run_sum (c : Dev nD) (t : Fin cfg0.N) (hp : ∀ s : Fin 4, 4 * (t.val / 4) + s.val < cfg0.N) (r k : Fin 1024) (b : Fin 2) (q : Fin 16384)
    (h : b.val * 16384 + q.val = t.val / 4 * 1024 + r.val) :
    ∑ s : Fin 4, part m c ⟨4 * (t.val / 4) + s.val, hp s⟩ (ix2 r k)
      = REF (aX m c) (aG m c) (aW1 m c) (aW2 m c) (ix3 b q k) := by
  rw [ref_at]
  have e : ∀ s : Fin 4, part m c ⟨4 * (t.val / 4) + s.val, hp s⟩ (ix2 r k)
      = (if s.val = 0 then aX m c (ix3 b q k) else (0 : EReal))
        + ∑ f : Fin 1024, unitR (aX m c) (aG m c) (aW1 m c) (aW2 m c) b q k ⟨s.val * 1024 + f.val, by omega⟩ := by
    intro s
    have hs : (4 * (t.val / 4) + s.val) % 4 = s.val := by omega
    rw [part_at m c ⟨4 * (t.val / 4) + s.val, hp s⟩ r k b q (by show _ = (4 * (t.val / 4) + s.val) / 4 * 1024 + r.val; omega)]
    simp only [hs]
  simp only [e]
  rw [Finset.sum_add_distrib]
  congr 1
  · rw [Fin.sum_univ_four]; simp
  · refine Fin.sum_mul_add_congr fun s f hl => rfl

/-- A block's index is a row and a column. -/
theorem exists_ix2 (j : S1024x1024.Idx) : ∃ r k : Fin 1024, j = ix2 r k := ⟨j 0, j 1, eq_ix2 j⟩

/-- At the first point of a run the output block is left holding that point's part alone. -/
theorem step_first (c : Dev nD) (t : Fin cfg0.N) (h : t.val % 4 = 0) (j : S1024x1024.Idx) :
    (outsAt0 m c t.val t.isLt).1 j = (0 : EReal) + part m c t j := by
  obtain ⟨r, k, rfl⟩ := exists_ix2 j
  have e : (outsAt0 m c t.val t.isLt).1 = k0_pay3 (F := Ideal) (k0_pay2 (iblk m c 0 t) (iblk m c 1 t)) (iblk m c 2 t)
      (k0_pay1 (iblk m c 0 t)) (iblk m c 3 t) := by
    rw [outsAt0_A m c t h]; frame_out
  have hx : k0_pay1 (F := Ideal) (iblk m c 0 t) (ix2 r k) = part.X m c t (ix2 r k) := by
    pointwise [k0_pay1]
    rfl
  rw [e, upd_at, zero_add, hx]
  unfold part
  rw [if_pos h]
  simp only [part.W1, part.W2, ix2_0, ix2_1]

/-- Every later point adds its part to what the block held. -/
theorem step_next (c : Dev nD) (t : Fin cfg0.N) (h : ¬ t.val % 4 = 0) (j : S1024x1024.Idx) :
    (outsAt0 m c t.val t.isLt).1 j
      = (outsAt0 m c (t.val - 1) (Nat.lt_of_le_of_lt (Nat.sub_le _ _) t.isLt)).1 j + part m c t j := by
  have hs : (outsAt0 m c (t.val - 1) (Nat.lt_of_le_of_lt (Nat.sub_le _ _) t.isLt)).2
      = k0_pay2 (F := Ideal) (iblk m c 0 t) (iblk m c 1 t) := by
    rw [scr, blk0_prev m c t h, blk1_prev m c t h]
  obtain ⟨r, k, rfl⟩ := exists_ix2 j
  have e : (outsAt0 m c t.val t.isLt).1 = k0_pay3 (F := Ideal) (k0_pay2 (iblk m c 0 t) (iblk m c 1 t)) (iblk m c 2 t)
      (outsAt0 m c (t.val - 1) (Nat.lt_of_le_of_lt (Nat.sub_le _ _) t.isLt)).1 (iblk m c 3 t) := by
    rw [outsAt0_B m c t h]; frame_out
    rw [hs]
    exact congrArg (fun z => k0_pay3 (F := Ideal) z _ _ _) ((Memref.isWhole_whole cc0_scratch0).read_unread _)
  rw [e, upd_at]
  unfold part
  rw [if_neg h, zero_add]
  simp only [part.W1, part.W2, ix2_0, ix2_1]

/-- The output block at the point that writes it back. -/
theorem acc (c : Dev nD) (t : Fin cfg0.N) (hf : t.val % 4 = 3) (r k : Fin 1024) (b : Fin 2) (q : Fin 16384)
    (h : b.val * 16384 + q.val = t.val / 4 * 1024 + r.val) :
    (outsAt0 m c t.val t.isLt).1 (ix2 r k) = REF (aX m c) (aG m c) (aW1 m c) (aW2 m c) (ix3 b q k) := by
  rw [Pipeline.eq_sum_fin_of_reset_step_apply_of_flush (fun n h => (outsAt0 m c n h).1) 4 (fun _ => (0 : EReal)) (part m c)
    (fun t h j => step_first m c t h j) (fun t h j => step_next m c t h j) t hf (ix2 r k), zero_add]
  exact run_sum m c t _ r k b q h

/-- The result array after the whole grid: the reference's term, its rows numbered through both batches. -/
theorem final (c : Dev nD) : ((dats m 0 c).arrAt 4 (cfgs 0).N : FVec Ideal S32768x1024 .f32)
    = shapeCast S32768x1024 (REF (aX m c) (aG m c) (aW1 m c) (aW2 m c)) shapeCasts_S2x16384x1024_S32768x1024 := by
  refine (dats m 0 c).arrAt_eq_of_covers 4 _ (by decide +kernel) fun t hf y => ?_
  blk_simp
  rw [after0_4]
  obtain ⟨r, k, rfl⟩ := exists_ix2 y
  have ht : t.val < 128 := t.isLt
  refine (acc m c t ((flush0_4 t).mp hf) r k ⟨(t.val / 4 * 1024 + r.val) / 16384, by omega⟩ ⟨(t.val / 4 * 1024 + r.val) % 16384, by omega⟩
    (by show _ / _ * _ + _ % _ = _; omega)).trans ?_
  pointwise
  have e0 : (((View.whole main_v4).slice (win0_4.rect t)).emb (ix2 r k) 0).val = t.val / 4 * 1024 + r.val := by
    blk_simp [idx t]
  have e1 : (((View.whole main_v4).slice (win0_4.rect t)).emb (ix2 r k) 1).val = k.val := by
    blk_simp [idx t]
  simp only [e0, show ((View.whole main_v4).slice (win0_4.rect t)).emb (ix2 r k) 1 = k from Fin.ext e1]

/-- A buffer that is no window's array and that the tail does not write ends as the call found it. -/
theorem tail_of_ne (c : Dev nD) (b : Ref sig .tc) (h5 : Proc.devRef (τ := τ) .tc b ≠ Proc.devRef .tc main_v5) (hw : ∀ w : Fin cfg0.W, Pipeline.arrRef spec0 w ≠ b) :
    Pipeline.afterTail₀ cfgs (dats m) 0 (V0 m) [hostOps1] c b = V m c b := by
  unfold Pipeline.afterTail₀
  refine (StableHlo.after_of_forall_not_mem (b := Proc.devRef .tc b) _ _ (List.forall_iff_forall_mem.mp ?_)).trans
    (Pipeline.withArrays_of_ne spec0 c _ _ _ hw)
  simp only [hostOps1, List.flatten_cons, List.flatten_nil, List.append_nil, List.Forall, StableHlo.reshape_writes, Finset.mem_singleton]
  exact h5

/-- The program's result after its tail: the reference's term. -/
theorem tail (c : Dev nD) : (Pipeline.afterTail₀ cfgs (dats m) 0 (V0 m) [hostOps1] c main_v5 : FVec Ideal S2x16384x1024 .f32)
    = REF (aX m c) (aG m c) (aW1 m c) (aW2 m c) := by
  unfold Pipeline.afterTail₀
  have h4 : Pipeline.withArrays spec0 c (V0 m c) (fun w => (dats m 0 c).arrAt w (cfgs 0).N) (Proc.devRef .tc main_v4)
      = (dats m 0 c).arrAt 4 (cfgs 0).N := Pipeline.withArrays_arr spec0 (by decide) c _ _ 4
  have h5 : ∀ W : Valuation τ sig (Elt Ideal), StableHlo.after (List.flatten [hostOps1]) W (Proc.devRef .tc main_v5)
      = shapeCast S2x16384x1024 (W (Proc.devRef .tc main_v4) : FVec Ideal S32768x1024 .f32) shapeCasts_S32768x1024_S2x16384x1024 := by
    intro W
    show StableHlo.after hostOps1 W _ = _
    after_results
    rfl
  rw [h5]
  refine (congrArg (fun z => shapeCast S2x16384x1024 (z : FVec Ideal S32768x1024 .f32) shapeCasts_S32768x1024_S2x16384x1024)
    (h4.trans (final m c))).trans ?_
  funext i
  idx_vars i
  pointwise

end Cert.Kernel2Ideal.Value

end
-- ==== Proof.Mlp.Claims.lean ====
/-  The feed-forward kernel's claims: its frames, its reference's frame, and that both programs compute one array. -/
module

public import proofs.«01_k».proof.Defs
public import proofs.«01_k».proof.Proof.Gen.Kernel2.Frame
public import proofs.«01_k».proof.Proof.Mlp.Value

@[expose] public section

set_option maxRecDepth 16384

noncomputable section

namespace Cert.Proof

open Idealize.ShloMosaic Idealize.SL.Sem

/-- The feed-forward kernel leaves its arguments alone and its semaphores at zero. -/
theorem frame_Kernel2 : Cert.quiescent_Kernel2 := fun m ρ _ => Cert.Kernel2.Gen.frame m ρ

/-- So does its idealized program. -/
theorem frame_Kernel2Ideal : Cert.quiescent_Kernel2Ideal := fun m ρ _ => Cert.Kernel2Ideal.Gen.frame m ρ

/-- So does its reference. -/
theorem frame_Reference2Ideal : Cert.quiescent_Reference2Ideal := by
  intro m g _
  hlo_run
  · exact fun _ => ⟨trivial, trivial, trivial, trivial⟩
  · exact sem_eq_zero_of_no_sems rfl _

/-- The feed-forward kernel's result is its reference's, from the same arguments, over the extended reals. -/
theorem algebraic_Kernel2 : Cert.algebraic_Kernel2Ideal_Reference2Ideal := by
  pair_intro
  · run_from Cert.Kernel2Ideal.Gen.run_main m g
    · exact (Cert.Kernel2Ideal.Value.tail_of_ne m c _ (StableHlo.devRef_ne_of_ne (by decide)) (by decide)).trans (Cert.Kernel2Ideal.Gen.V_main_arg0 m c)
    · exact (Cert.Kernel2Ideal.Value.tail_of_ne m c _ (StableHlo.devRef_ne_of_ne (by decide)) (by decide)).trans (Cert.Kernel2Ideal.Gen.V_main_arg1 m c)
    · exact (Cert.Kernel2Ideal.Value.tail_of_ne m c _ (StableHlo.devRef_ne_of_ne (by decide)) (by decide)).trans (Cert.Kernel2Ideal.Gen.V_main_arg2 m c)
    · exact (Cert.Kernel2Ideal.Value.tail_of_ne m c _ (StableHlo.devRef_ne_of_ne (by decide)) (by decide)).trans (Cert.Kernel2Ideal.Gen.V_main_arg3 m c)
  · hlo_run
    exact (Cert.Kernel2Ideal.Value.tail m c).symm

end Cert.Proof

end
-- ==== Proof.InEven.Payload.lean ====
/-  What one block of the even layer's input projection computes, read at an index, over the extended reals. -/
module

public import proofs.«01_k».proof.Proof.Gen.Kernel3Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel3Ideal.Value

open Cert.Kernel3Ideal Cert.Kernel3Ideal.Gen

/-- The normalised row: each entry times the reciprocal root of the row's mean square (plus the small
    constant) times the gain. -/
theorem hn_at (x : FVec Ideal S512x1024 .f32) (g : FVec Ideal S1x1024 .f32) (r : Fin 512) (k : Fin 1024) :
    k0_pay5 (F := Ideal) x g (ix2 r k)
      = x (ix2 r k) * Ideal.rsqrt (Ideal.div (∑ l : Fin 1024, x (ix2 r l) * x (ix2 r l)) (Ideal.ofBits .f32 0x44800000#32)
          + Ideal.ofBits .f32 0x358637BD#32) * g (ix2 0 k) := by
  pointwise [k0_pay5]

/-- The projected rows. -/
theorem yk_at (x : FVec Ideal S512x1024 .f32) (g : FVec Ideal S1x1024 .f32) (w : FVec Ideal S1024x512 .bf16) (r n : Fin 512) :
    k0_pay6 (F := Ideal) x g w (ix2 r n) = ∑ l : Fin 1024, k0_pay5 (F := Ideal) x g (ix2 r l) * w (ix2 l n) := by
  pointwise [k0_pay6]

/-- The projected columns. -/
theorem yt_at (hn : FVec Ideal S512x1024 .bf16) (w : FVec Ideal S2560x1024 .bf16) (n : Fin 2560) (r : Fin 512) :
    k0_pay1 (F := Ideal) hn w (ix2 n r) = ∑ l : Fin 1024, w (ix2 n l) * hn (ix2 r l) := by
  pointwise [k0_pay1]

/-- A key after its head's norm, read off the projected rows (lane `j` of chunk `c`): the head's mean square is taken with the
    group matrix. -/
def CH (y : FVec Ideal S512x512 .f32) (G : FVec Ideal S128x128 .bf16) (gain : FVec Ideal S1x512 .f32) (r : Fin 512) (c : Fin 4)
    (j : Fin 128) : EReal :=
  y (ix2 r ⟨128 * c.val + j.val, by omega⟩) * Ideal.rsqrt ((∑ l : Fin 128, (y (ix2 r ⟨128 * c.val + l.val, by omega⟩)
        * y (ix2 r ⟨128 * c.val + l.val, by omega⟩)) * G (ix2 l j)) * Ideal.ofBits .f32 0x3C800000#32 + Ideal.ofBits .f32 0x358637BD#32)
    * gain (ix2 0 ⟨128 * c.val + j.val, by omega⟩)

/-- The keys' block. -/
theorem k_at (x0 : FVec Ideal S512x1024 .f32) (x1 : FVec Ideal S1x1024 .f32) (x2 : FVec Ideal S1024x512 .bf16)
    (x3 : FVec Ideal S1x512 .f32) (x4 : FVec Ideal S128x128 .bf16) (x5 : FVec Ideal S2560x1024 .bf16) (y : S512x512.Idx)
    (r : Fin 512) (c : Fin 4) (j : Fin 128) (hy0 : (y 0).val = r.val) (hy1 : (y 1).val = 128 * c.val + j.val) :
    out0_6 (F := Ideal) x0 x1 x2 x3 x4 x5 y = CH (k0_pay6 (F := Ideal) x0 x1 x2) x4 x3 r c j := by
  frame_out
  canon_tiles z h
  case piece0 =>
    obtain rfl : c = 3 := Fin.ext (by show c.val = 3; omega)
    obtain rfl : r = z 0 := Fin.ext (by omega)
    obtain rfl : j = z 1 := Fin.ext (by change _ = 128 * 3 + _ at hy1; omega)
    open_payloads
    generalize k0_pay6 (F := Ideal) x0 x1 x2 = Y
    pointwise [CH]
  case piece1 =>
    obtain rfl : c = 2 := Fin.ext (by show c.val = 2; omega)
    obtain rfl : r = z 0 := Fin.ext (by omega)
    obtain rfl : j = z 1 := Fin.ext (by change _ = 128 * 2 + _ at hy1; omega)
    open_payloads
    generalize k0_pay6 (F := Ideal) x0 x1 x2 = Y
    pointwise [CH]
  case piece2 =>
    obtain rfl : c = 1 := Fin.ext (by show c.val = 1; omega)
    obtain rfl : r = z 0 := Fin.ext (by omega)
    obtain rfl : j = z 1 := Fin.ext (by change _ = 128 * 1 + _ at hy1; omega)
    open_payloads
    generalize k0_pay6 (F := Ideal) x0 x1 x2 = Y
    pointwise [CH]
  case piece3 =>
    obtain rfl : c = 0 := Fin.ext (by show c.val = 0; omega)
    obtain rfl : r = z 0 := Fin.ext (by omega)
    obtain rfl : j = z 1 := Fin.ext (by change _ = 128 * 0 + _ at hy1; omega)
    open_payloads
    generalize k0_pay6 (F := Ideal) x0 x1 x2 = Y
    pointwise [CH]

/-- The queries' block. -/
theorem q_at (x0 : FVec Ideal S512x1024 .f32) (x1 : FVec Ideal S1x1024 .f32) (x2 : FVec Ideal S1024x512 .bf16)
    (x3 : FVec Ideal S1x512 .f32) (x4 : FVec Ideal S128x128 .bf16) (x5 : FVec Ideal S2560x1024 .bf16) (h : Fin 8) (d : Fin 64) (r : Fin 512) :
    out0_7 (F := Ideal) x0 x1 x2 x3 x4 x5 (ix4 0 0 ⟨h.val * 64 + d.val, by omega⟩ r)
      = k0_pay1 (F := Ideal) (k0_pay5 (F := Ideal) x0 x1) x5 (ix2 ⟨h.val * 64 + d.val, by omega⟩ r)
        * Ideal.rsqrt (Ideal.div (∑ e : Fin 64, k0_pay1 (F := Ideal) (k0_pay5 (F := Ideal) x0 x1) x5 (ix2 ⟨h.val * 64 + e.val, by omega⟩ r)
          * k0_pay1 (F := Ideal) (k0_pay5 (F := Ideal) x0 x1) x5 (ix2 ⟨h.val * 64 + e.val, by omega⟩ r)) (Ideal.ofBits .f32 0x42800000#32)
          + Ideal.ofBits .f32 0x358637BD#32) := by
  have e : out0_7 (F := Ideal) x0 x1 x2 x3 x4 x5 = k0_pay2 (F := Ideal) (k0_pay5 (F := Ideal) x0 x1) x5 := by
    unfold_out out0_7
    frame_out
  rw [e]
  generalize k0_pay5 (F := Ideal) x0 x1 = hn
  pointwise [k0_pay2]

/-- The values' block. -/
theorem v_at (x0 : FVec Ideal S512x1024 .f32) (x1 : FVec Ideal S1x1024 .f32) (x2 : FVec Ideal S1024x512 .bf16)
    (x3 : FVec Ideal S1x512 .f32) (x4 : FVec Ideal S128x128 .bf16) (x5 : FVec Ideal S2560x1024 .bf16) (n r : Fin 512) :
    out0_8 (F := Ideal) x0 x1 x2 x3 x4 x5 (ix4 0 0 n r)
      = k0_pay1 (F := Ideal) (k0_pay5 (F := Ideal) x0 x1) x5 (ix2 ⟨512 + n.val, by omega⟩ r) := by
  have e : out0_8 (F := Ideal) x0 x1 x2 x3 x4 x5 = k0_pay3 (F := Ideal) (k0_pay5 (F := Ideal) x0 x1) x5 := by
    unfold_out out0_8
    frame_out
  rw [e]
  generalize k0_pay5 (F := Ideal) x0 x1 = hn
  pointwise [k0_pay3]

/-- The convolution's block. -/
theorem u_at (x0 : FVec Ideal S512x1024 .f32) (x1 : FVec Ideal S1x1024 .f32) (x2 : FVec Ideal S1024x512 .bf16)
    (x3 : FVec Ideal S1x512 .f32) (x4 : FVec Ideal S128x128 .bf16) (x5 : FVec Ideal S2560x1024 .bf16) (n : Fin 1536) (r : Fin 512) :
    out0_9 (F := Ideal) x0 x1 x2 x3 x4 x5 (ix3 0 n r)
      = k0_pay1 (F := Ideal) (k0_pay5 (F := Ideal) x0 x1) x5 (ix2 ⟨1024 + n.val, by omega⟩ r) := by
  have e : out0_9 (F := Ideal) x0 x1 x2 x3 x4 x5 = k0_pay4 (F := Ideal) (k0_pay5 (F := Ideal) x0 x1) x5 := by
    unfold_out out0_9
    frame_out
  rw [e]
  generalize k0_pay5 (F := Ideal) x0 x1 = hn
  pointwise [k0_pay4]

end Cert.Kernel3Ideal.Value

end
-- ==== Proof.InEven.Math.lean ====
/-  The arithmetic of the input projections over the extended reals: sums against the matrix that groups lanes by heads, and the
    constants that stand for division. -/
module

public import Idealize.ShloMosaic.Lib.Claim
public import Idealize.ShloMosaic.Lib.Pointwise

@[expose] public section

set_option maxRecDepth 16384

noncomputable section

open Idealize.ShloMosaic

namespace Cert.Inproj

/-- The constants of the head norms and of the key scale. -/
theorem c_64th : Ideal.ofBits .f32 0x3C800000#32 = ((1 / 64 : ℝ) : EReal) := by
  simp [Ideal.ofBits, Ideal.ieee]
  rw [← EReal.coe_mul]
  congr 1
  norm_num
theorem c_64 : Ideal.ofBits .f32 0x42800000#32 = ((64 : ℝ) : EReal) := by
  simp [Ideal.ofBits, Ideal.ieee]
  rw [← EReal.coe_mul]
  congr 1
  norm_num
theorem c_2 : Ideal.ofBits .f32 0x40000000#32 = ((2 : ℝ) : EReal) := by
  simp [Ideal.ofBits, Ideal.ieee]
  rw [← EReal.coe_mul]
  congr 1
  norm_num
theorem b_one : Ideal.ofBits .bf16 0x3F80#16 = 1 := by
  simp [Ideal.ofBits, Ideal.ieee]
  try rw [← EReal.coe_mul]
  try norm_num
theorem b_zero : Ideal.ofBits .bf16 0x0000#16 = 0 := by
  simp [Ideal.ofBits, Ideal.ieee]

/-- Dividing by sixty-four is multiplying by its reciprocal's constant. -/
theorem div_64 (s : EReal) : s * Ideal.ofBits .f32 0x3C800000#32 = Ideal.div s (Ideal.ofBits .f32 0x42800000#32) := by
  rw [c_64th, c_64, Ideal.div_coe (by norm_num)]

/-- Dividing by the logarithm of two is multiplying by its reciprocal. -/
theorem div_log2 (s : EReal) : s * Ideal.div 1 (Ideal.log (Ideal.ofBits .f32 0x40000000#32))
    = Ideal.div s (Ideal.log (Ideal.ofBits .f32 0x40000000#32)) := by
  have h2 : Real.log 2 ≠ 0 := (Real.log_pos (by norm_num)).ne'
  rw [c_2, Ideal.log_coe, if_neg (by norm_num), Ideal.div_coe h2, Ideal.div_coe h2, one_mul]

/-- A sum over 128 lanes against the indicator of the lane's half is the sum over that half. -/
theorem half_sum (f : Fin 128 → EReal) (G : Fin 128 → EReal) (h : Fin 2)
    (hG : ∀ i : Fin 128, G i = if i.val / 64 = h.val then 1 else 0) :
    ∑ i : Fin 128, f i * G i = ∑ d : Fin 64, f ⟨64 * h.val + d.val, by omega⟩ := by
  have e : ∑ i : Fin 128, f i * G i = ∑ i : Fin (64 + 64), (fun i : Fin 128 => f i * G i) i := rfl
  rw [e, Fin.sum_univ_add]
  match h with
  | ⟨0, _⟩ =>
    have z : ∑ i : Fin 64, (fun i : Fin 128 => f i * G i) (Fin.natAdd 64 i) = 0 :=
      Finset.sum_eq_zero fun i _ => by
        show f _ * G _ = 0
        rw [hG, if_neg (by show ¬ ((64 + i.val) / 64 = 0); omega), mul_zero]
    rw [z, add_zero]
    refine Finset.sum_congr rfl fun i _ => ?_
    show f _ * G _ = _
    rw [hG, if_pos (by show i.val / 64 = 0; omega), mul_one]
    exact congrArg f (Fin.ext (by show i.val = 64 * 0 + i.val; omega))
  | ⟨1, _⟩ =>
    have z : ∑ i : Fin 64, (fun i : Fin 128 => f i * G i) (Fin.castAdd 64 i) = 0 :=
      Finset.sum_eq_zero fun i _ => by
        show f _ * G _ = 0
        rw [hG, if_neg (by show ¬ (i.val / 64 = 1); omega), mul_zero]
    rw [z, zero_add]
    refine Finset.sum_congr rfl fun i _ => ?_
    show f _ * G _ = _
    rw [hG, if_pos (by show (64 + i.val) / 64 = 1; omega), mul_one]
    exact congrArg f (Fin.ext (by show 64 + i.val = 64 * 1 + i.val; omega))

/-- A head's normalised key with both gains: the kernel multiplies the gains and the scale together first. -/
theorem key_scale (y r kg qg e : EReal) :
    y * r * ((qg * kg) * (e * Ideal.div 1 (Ideal.log (Ideal.ofBits .f32 0x40000000#32))))
      = Ideal.div (y * r * kg * qg * e) (Ideal.log (Ideal.ofBits .f32 0x40000000#32)) := by
  rw [← div_log2 (y * r * kg * qg * e)]
  simp only [mul_assoc, mul_left_comm, mul_comm]

end Cert.Inproj

end
-- ==== Proof.InEven.Ref.lean ====
/-  What the reference of the even layer's input projection computes, read at an index, over the extended reals. -/
module

public import proofs.«01_k».proof.Proof.Gen.Reference3Ideal
public import proofs.«01_k».proof.Proof.InEven.Math
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Reference3Ideal.Value

open Cert.Reference3Ideal Cert.Reference3Ideal.Gen

/-- The normalised rows. -/
def HN (X : FVec Ideal S2x16384x1024 .f32) (G : FVec Ideal S1024 .f32) : FVec Ideal S2x16384x1024 .f32 :=
  mulf (mulf X (broadcastInDim S2x16384x1024 ![0, 1, 2] facts.bcast_S2x16384x1_S2x16384x1024_0_1_2
    (Host.rsqrt (addf (Host.divf
      (broadcastInDim S2x16384x1 ![0, 1] facts.bcast_S2x16384_S2x16384x1_0_1
        (Host.reduceAdd (mulf X X) (constant S_ FTy.f32 0#32) facts.reducesTo_S2x16384x1024_S2x16384_d2 facts.h_S_))
      (broadcastInDim S2x16384x1 ![] facts.bcast_S_S2x16384x1 (constant S_ FTy.f32 1149239296#32)))
      (broadcastInDim S2x16384x1 ![] facts.bcast_S_S2x16384x1 (constant S_ FTy.f32 897988541#32))))))
    (broadcastInDim S2x16384x1024 ![0, 1, 2] facts.bcast_S1x1x1024_S2x16384x1024_0_1_2
      (broadcastInDim S1x1x1024 ![2] facts.bcast_S1024_S1x1x1024_2 G))

/-- The projection. -/
def PROJ (X : FVec Ideal S2x16384x1024 .f32) (G : FVec Ideal S1024 .f32) (W : FVec Ideal S1024x3072 .f32) : FVec Ideal S2x16384x3072 .f32 :=
  Host.dotGeneral dot_S2x16384x1024_S1024x3072_S2x16384x3072_2_0_01_1_n_n none (HN X G) W

/-- Rows of heads, each head normalised. -/
def HEADS (y : FVec Ideal S2x16384x8x64 .f32) : FVec Ideal S2x16384x8x64 .f32 :=
  mulf y (broadcastInDim S2x16384x8x64 ![0, 1, 2, 3] facts.bcast_S2x16384x8x1_S2x16384x8x64_0_1_2_3
    (Host.rsqrt (addf (Host.divf
      (broadcastInDim S2x16384x8x1 ![0, 1, 2] facts.bcast_S2x16384x8_S2x16384x8x1_0_1_2
        (Host.reduceAdd (mulf y y) (constant S_ FTy.f32 0#32) facts.reducesTo_S2x16384x8x64_S2x16384x8_d3 facts.h_S_))
      (broadcastInDim S2x16384x8x1 ![] facts.bcast_S_S2x16384x8x1 (constant S_ FTy.f32 0x42800000#32)))
      (broadcastInDim S2x16384x8x1 ![] facts.bcast_S_S2x16384x8x1 (constant S_ FTy.f32 897988541#32)))))

/-- The keys. -/
def KREF (P : FVec Ideal S2x16384x3072 .f32) (QG KG : FVec Ideal S64 .f32) : FVec Ideal S2x16384x512 .bf16 :=
  truncf .bf16 (shapeCast S2x16384x512
    (Host.divf
      (mulf
        (mulf
          (mulf (HEADS (shapeCast S2x16384x8x64 (extractStridedSlice S2x16384x512 ![0, 0, 512] P facts.slices_S2x16384x3072_S2x16384x512_0_0_512)
              facts.shapeCasts_S2x16384x512_S2x16384x8x64))
            (broadcastInDim S2x16384x8x64 ![0, 1, 2, 3] facts.bcast_S1x1x1x64_S2x16384x8x64_0_1_2_3
              (broadcastInDim S1x1x1x64 ![3] facts.bcast_S64_S1x1x1x64_3 KG)))
          (broadcastInDim S2x16384x8x64 ![0, 1, 2, 3] facts.bcast_S1x1x1x64_S2x16384x8x64_0_1_2_3
            (broadcastInDim S1x1x1x64 ![3] facts.bcast_S64_S1x1x1x64_3 QG)))
        (broadcastInDim S2x16384x8x64 ![] facts.bcast_S_S2x16384x8x64 (constant S_ FTy.f32 0x3E000000#32)))
      (broadcastInDim S2x16384x8x64 ![] facts.bcast_S_S2x16384x8x64 (Host.log (constant S_ FTy.f32 0x40000000#32))))
    facts.shapeCasts_S2x16384x8x64_S2x16384x512) facts.bitsLt_bf16_f32

/-- The queries, in transposed blocks. -/
def QREF (P : FVec Ideal S2x16384x3072 .f32) : FVec Ideal S2x32x512x512 .bf16 :=
  truncf .bf16 (transpose S2x32x512x512 [0, 1, 3, 2]
    (shapeCast S2x32x512x512
      (HEADS (shapeCast S2x16384x8x64 (extractStridedSlice S2x16384x512 ![0, 0, 0] P facts.slices_S2x16384x3072_S2x16384x512_0_0_0)
        facts.shapeCasts_S2x16384x512_S2x16384x8x64))
      facts.shapeCasts_S2x16384x8x64_S2x32x512x512)
    facts.transposes_S2x32x512x512_S2x32x512x512_0_1_3_2) facts.bitsLt_bf16_f32

/-- The values, in transposed blocks. -/
def VREF (P : FVec Ideal S2x16384x3072 .f32) : FVec Ideal S2x32x512x512 .bf16 :=
  truncf .bf16 (transpose S2x32x512x512 [0, 1, 3, 2]
    (shapeCast S2x32x512x512 (extractStridedSlice S2x16384x512 ![0, 0, 1024] P facts.slices_S2x16384x3072_S2x16384x512_0_0_1024)
      facts.shapeCasts_S2x16384x512_S2x32x512x512)
    facts.transposes_S2x32x512x512_S2x32x512x512_0_1_3_2) facts.bitsLt_bf16_f32

/-- The convolution's channels. -/
def UREF (P : FVec Ideal S2x16384x3072 .f32) : FVec Ideal S2x1536x16384 .f32 :=
  transpose S2x1536x16384 [0, 2, 1] (extractStridedSlice S2x16384x1536 ![0, 0, 1536] P facts.slices_S2x16384x3072_S2x16384x1536_0_0_1536)
    facts.transposes_S2x16384x1536_S2x1536x16384_0_2_1

/-- The normalised row, at an entry. -/
theorem hn_at (X G) (b : Fin 2) (q : Fin 16384) (k : Fin 1024) : HN X G (ix3 b q k)
    = X (ix3 b q k) * Ideal.rsqrt (Ideal.div (∑ l : Fin 1024, X (ix3 b q l) * X (ix3 b q l)) (Ideal.ofBits .f32 0x44800000#32)
      + Ideal.ofBits .f32 0x358637BD#32) * G (ix1 k) := by
  pointwise [HN]

/-- The projection, at an entry. -/
theorem proj_at (X G W) (b : Fin 2) (q : Fin 16384) (n : Fin 3072) : PROJ X G W (ix3 b q n)
    = ∑ l : Fin 1024, HN X G (ix3 b q l) * W (ix2 l n) := by
  pointwise [PROJ]

/-- A head's normalised row, at an entry. -/
theorem heads_at (y) (b : Fin 2) (q : Fin 16384) (h : Fin 8) (d : Fin 64) : HEADS y (ix4 b q h d)
    = y (ix4 b q h d) * Ideal.rsqrt (Ideal.div (∑ e : Fin 64, y (ix4 b q h e) * y (ix4 b q h e)) (Ideal.ofBits .f32 0x42800000#32)
      + Ideal.ofBits .f32 0x358637BD#32) := by
  pointwise [HEADS]

/-- The keys, at an entry. -/
theorem k_at (P QG KG) (b : Fin 2) (q : Fin 16384) (h : Fin 8) (d : Fin 64) :
    KREF P QG KG (ix3 b q ⟨h.val * 64 + d.val, by omega⟩)
      = Ideal.div (P (ix3 b q ⟨512 + (h.val * 64 + d.val), by omega⟩)
          * Ideal.rsqrt (Ideal.div (∑ e : Fin 64, P (ix3 b q ⟨512 + (h.val * 64 + e.val), by omega⟩) * P (ix3 b q ⟨512 + (h.val * 64 + e.val), by omega⟩))
            (Ideal.ofBits .f32 0x42800000#32) + Ideal.ofBits .f32 0x358637BD#32)
          * KG (ix1 d) * QG (ix1 d) * Ideal.ofBits .f32 0x3E000000#32) (Ideal.log (Ideal.ofBits .f32 0x40000000#32)) := by
  pointwise [KREF, heads_at]

/-- The queries, at an entry. -/
theorem q_at (P) (b : Fin 2) (t : Fin 32) (r : Fin 512) (h : Fin 8) (d : Fin 64) :
    QREF P (ix4 b t ⟨h.val * 64 + d.val, by omega⟩ r)
      = P (ix3 b ⟨t.val * 512 + r.val, by omega⟩ ⟨h.val * 64 + d.val, by omega⟩)
          * Ideal.rsqrt (Ideal.div (∑ e : Fin 64, P (ix3 b ⟨t.val * 512 + r.val, by omega⟩ ⟨h.val * 64 + e.val, by omega⟩)
              * P (ix3 b ⟨t.val * 512 + r.val, by omega⟩ ⟨h.val * 64 + e.val, by omega⟩))
            (Ideal.ofBits .f32 0x42800000#32) + Ideal.ofBits .f32 0x358637BD#32) := by
  pointwise [QREF, heads_at]

/-- The values, at an entry. -/
theorem v_at (P) (b : Fin 2) (t : Fin 32) (n r : Fin 512) :
    VREF P (ix4 b t n r) = P (ix3 b ⟨t.val * 512 + r.val, by omega⟩ ⟨1024 + n.val, by omega⟩) := by
  pointwise [VREF]

/-- The convolution's channels, at an entry. -/
theorem u_at (P) (b : Fin 2) (n : Fin 1536) (q : Fin 16384) :
    UREF P (ix3 b n q) = P (ix3 b q ⟨1536 + n.val, by omega⟩) := by
  pointwise [UREF]

end Cert.Reference3Ideal.Value

end
-- ==== Proof.InEven.Table.lean ====
/-  The matrix that groups lanes by heads: one where row and column lie in the same half of the lanes, else zero. -/
module

public import proofs.«01_k».proof.Proof.Gen.Kernel3Ideal.Skeleton

@[expose] public section

set_option maxRecDepth 65536

noncomputable section

open Idealize.ShloMosaic

namespace Cert.Kernel3Ideal.Value

open Cert.Kernel3Ideal

/-- Every entry of the table, by evaluation. -/
theorem table : ∀ a b : Fin 128, lit0t (a.val * 128 + b.val) = if a.val / 64 = b.val / 64 then 0x3F80#16 else 0x0000#16 := by
  decide +kernel

end Cert.Kernel3Ideal.Value

end
-- ==== Proof.InEven.Value.lean ====
/-  What the even layer's input projection computes, block by block and as a whole, and that its four arrays are the reference's,
    over the extended reals. -/
module

public import proofs.«01_k».proof.Proof.InEven.Payload
public import proofs.«01_k».proof.Proof.InEven.Ref
public import proofs.«01_k».proof.Proof.InEven.Table

@[expose] public section

set_option maxRecDepth 16384

noncomputable section

open Idealize.ShloMosaic Idealize.ShloMosaic.TcCoe Idealize.SL.Sem
open Idealize.ShloMosaic.Pipeline (Dat)
open Cert.Reference3Ideal.Value (HN PROJ KREF QREF VREF UREF)

namespace Cert.Kernel3Ideal.Value

open Cert.Kernel3Ideal Cert.Kernel3Ideal.Gen

variable (m : (ℓ : Loc nD τ sig) → Buf (Elt Ideal) ℓ)

/-- The windows' block indices at each grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val / 32, t.val % 32, 0, 0] ∧ win0_8.index t = ![t.val / 32, t.val % 32, 0, 0]
    ∧ win0_9.index t = ![t.val / 32, 0, t.val % 32] ∧ t.val < 64 :=
  (by decide +kernel : ∀ t : Fin grid0.N, _)

/-- The five arguments, typed. -/
abbrev aX (c : Dev nD) : FVec Ideal S2x16384x1024 .f32 := m ((c : Thread nD τ).loc main_arg0)
abbrev aG (c : Dev nD) : FVec Ideal S1024 .f32 := m ((c : Thread nD τ).loc main_arg1)
abbrev aW (c : Dev nD) : FVec Ideal S1024x3072 .f32 := m ((c : Thread nD τ).loc main_arg2)
abbrev aQG (c : Dev nD) : FVec Ideal S64 .f32 := m ((c : Thread nD τ).loc main_arg3)
abbrev aKG (c : Dev nD) : FVec Ideal S64 .f32 := m ((c : Thread nD τ).loc main_arg4)

/-- The gain vector the host prepares: both gains, the score's scale and the factor of the power of two. -/
def GAIN (QG KG : FVec Ideal S64 .f32) : FVec Ideal S512 .f32 :=
  mulf (shapeCast S512 (broadcastInDim S8x64 ![0, 1] bcast_S1x64_S8x64_0_1 (shapeCast S1x64 (mulf QG KG) shapeCasts_S64_S1x64))
      shapeCasts_S8x64_S512)
    (broadcastInDim S512 ![] bcast_S_S512 (mulf (constant S_ FTy.f32 0x3E000000#32)
      (Host.divf (constant S_ FTy.f32 0x3F800000#32) (Host.log (constant S_ FTy.f32 0x40000000#32)))))

/-- The weights' columns of queries, values and convolution, turned to rows. -/
def WCM (W : FVec Ideal S1024x3072 .f32) : FVec Ideal S2560x1024 .bf16 :=
  transpose S2560x1024 [1, 0] (concatenate S1024x2560 1
    [⟨S1024x512, extractStridedSlice S1024x512 ![0, 0] (truncf .bf16 W bitsLt_bf16_f32) slices_S1024x3072_S1024x512_0_0⟩,
      ⟨S1024x2048, extractStridedSlice S1024x2048 ![0, 1024] (truncf .bf16 W bitsLt_bf16_f32) slices_S1024x3072_S1024x2048_0_1024⟩]
    concatenates_S1024x512_S1024x2048_S1024x2560_d1) transposes_S1024x2560_S2560x1024_1_0

/-- The arrays as the call finds them. -/
theorem V14_eq (c : Dev nD) : (V m c main_v14 : FVec Ideal S32768x1024 .f32)
    = shapeCast S32768x1024 (aX m c) shapeCasts_S2x16384x1024_S32768x1024 := by
  entry_read; rfl
theorem V16_eq (c : Dev nD) : (V m c main_v16 : FVec Ideal S1x1024 .f32) = shapeCast S1x1024 (aG m c) shapeCasts_S1024_S1x1024 := by
  entry_read; rfl
theorem V15_eq (c : Dev nD) : (V m c main_v15 : FVec Ideal S1024x512 .bf16)
    = extractStridedSlice S1024x512 ![0, 512] (aW m c) slices_S1024x3072_S1024x512_0_512 := by
  entry_read; rfl
theorem V17_eq (c : Dev nD) : (V m c main_v17 : FVec Ideal S1x512 .f32) = shapeCast S1x512 (GAIN (aQG m c) (aKG m c)) shapeCasts_S512_S1x512 := by
  entry_read; rfl
theorem Vcst_eq (c : Dev nD) : (V m c main_cst : FVec Ideal S128x128 .bf16)
    = (fun i => FloatOps.ofBits (F := Ideal) .bf16 (lit0 (S128x128.rowMajor i)) : FVec Ideal S128x128 .bf16) := by
  show StableHlo.after hostOps0 _ _ = _
  after_results
  try rfl
theorem V13_eq (c : Dev nD) : (V m c main_v13 : FVec Ideal S2560x1024 .bf16) = WCM (aW m c) := by
  entry_read; rfl

/-- The prepared arrays, at an entry. -/
theorem gain_at (QG KG : FVec Ideal S64 .f32) (h : Fin 8) (d : Fin 64) : GAIN QG KG (ix1 ⟨h.val * 64 + d.val, by omega⟩)
    = (QG (ix1 d) * KG (ix1 d)) * (Ideal.ofBits .f32 0x3E000000#32 * Ideal.div 1 (Ideal.log (Ideal.ofBits .f32 0x40000000#32))) := by
  pointwise [GAIN]
theorem wcm_low (W : FVec Ideal S1024x3072 .f32) (n : Fin 512) (l : Fin 1024) :
    WCM W (ix2 ⟨n.val, by omega⟩ l) = W (ix2 l ⟨n.val, by omega⟩) := by
  pointwise [WCM]
theorem wcm_high (W : FVec Ideal S1024x3072 .f32) (n : Fin 2048) (l : Fin 1024) :
    WCM W (ix2 ⟨512 + n.val, by omega⟩ l) = W (ix2 l ⟨1024 + n.val, by omega⟩) := by
  pointwise [WCM]

/-- The input blocks of point `t`, at an entry, over the arguments. -/
theorem blk0_at (c : Dev nD) (t : Fin cfg0.N) (r : Fin 512) (k : Fin 1024) (b : Fin 2) (q : Fin 16384)
    (h : b.val * 16384 + q.val = t.val * 512 + r.val) :
    (iblk m c 0 t : FVec Ideal S512x1024 .f32) (ix2 r k) = aX m c (ix3 b q k) := by
  have ht := (idx t).2.2.2.2.2.2.2.2.2.2
  have e : (iblk m c 0 t : FVec Ideal S512x1024 .f32) (ix2 r k)
      = (V m c main_v14 : FVec Ideal S32768x1024 .f32) (ix2 ⟨t.val * 512 + r.val, by omega⟩ k) := by
    blk_ext [iblk, idx t]
  rw [e, V14_eq]
  pointwise
  blk_ext
theorem blk1_at (c : Dev nD) (t : Fin cfg0.N) (k : Fin 1024) :
    (iblk m c 1 t : FVec Ideal S1x1024 .f32) (ix2 0 k) = aG m c (ix1 k) := by
  have e : (iblk m c 1 t : FVec Ideal S1x1024 .f32) (ix2 0 k) = (V m c main_v16 : FVec Ideal S1x1024 .f32) (ix2 0 k) := by
    blk_ext [iblk, idx t]
  rw [e, V16_eq]
  pointwise
theorem blk2_at (c : Dev nD) (t : Fin cfg0.N) (l : Fin 1024) (n : Fin 512) :
    (iblk m c 2 t : FVec Ideal S1024x512 .bf16) (ix2 l n) = aW m c (ix2 l ⟨512 + n.val, by omega⟩) := by
  have e : (iblk m c 2 t : FVec Ideal S1024x512 .bf16) (ix2 l n) = (V m c main_v15 : FVec Ideal S1024x512 .bf16) (ix2 l n) := by
    blk_ext [iblk, idx t]
  rw [e, V15_eq]
  pointwise
theorem blk3_at (c : Dev nD) (t : Fin cfg0.N) (h : Fin 8) (d : Fin 64) (n : Fin 512) (hn : n.val = h.val * 64 + d.val) :
    (iblk m c 3 t : FVec Ideal S1x512 .f32) (ix2 0 n) = (aQG m c (ix1 d) * aKG m c (ix1 d))
      * (Ideal.ofBits .f32 0x3E000000#32 * Ideal.div 1 (Ideal.log (Ideal.ofBits .f32 0x40000000#32))) := by
  have e : (iblk m c 3 t : FVec Ideal S1x512 .f32) (ix2 0 n) = (V m c main_v17 : FVec Ideal S1x512 .f32) (ix2 0 n) := by
    blk_ext [iblk, idx t]
  rw [e, V17_eq, ← gain_at (aQG m c) (aKG m c) h d]
  generalize GAIN (aQG m c) (aKG m c) = g
  obtain rfl : n = ⟨h.val * 64 + d.val, by clear hn e; omega⟩ := Fin.ext hn
  pointwise
theorem blk4_at (c : Dev nD) (t : Fin cfg0.N) (a b : Fin 128) :
    (iblk m c 4 t : FVec Ideal S128x128 .bf16) (ix2 a b) = if a.val / 64 = b.val / 64 then (1 : EReal) else (0 : EReal) := by
  have e : (iblk m c 4 t : FVec Ideal S128x128 .bf16) (ix2 a b) = (V m c main_cst : FVec Ideal S128x128 .bf16) (ix2 a b) := by
    blk_ext [iblk, idx t]
  have e' : lit0 (S128x128.rowMajor (ix2 a b)) = lit0t (a.val * 128 + b.val) :=
    congrArg lit0t (Shape.rowMajor_val_two (ix2 a b))
  rw [e, Vcst_eq]
  show Ideal.ofBits .bf16 (lit0 (S128x128.rowMajor (ix2 a b))) = _
  rw [e', table a b]
  split
  · exact Cert.Inproj.b_one
  · exact Cert.Inproj.b_zero
theorem blk5_at (c : Dev nD) (t : Fin cfg0.N) (n : Fin 2560) (l : Fin 1024) :
    (iblk m c 5 t : FVec Ideal S2560x1024 .bf16) (ix2 n l) = WCM (aW m c) (ix2 n l) := by
  have e : (iblk m c 5 t : FVec Ideal S2560x1024 .bf16) (ix2 n l) = (V m c main_v13 : FVec Ideal S2560x1024 .bf16) (ix2 n l) := by
    blk_ext [iblk, idx t]
  rw [e, V13_eq]

/-- The reference's projection of the arguments. -/
abbrev aP (c : Dev nD) : FVec Ideal Cert.Reference3Ideal.S2x16384x3072 .f32 := PROJ (aX m c) (aG m c) (aW m c)

/-- The block's normalised rows are the reference's. -/
theorem hnP (c : Dev nD) (t : Fin cfg0.N) (r : Fin 512) (k : Fin 1024) (b : Fin 2) (q : Fin 16384)
    (h : b.val * 16384 + q.val = t.val * 512 + r.val) :
    k0_pay5 (F := Ideal) (iblk m c 0 t) (iblk m c 1 t) (ix2 r k) = HN (aX m c) (aG m c) (ix3 b q k) := by
  rw [hn_at, Cert.Reference3Ideal.Value.hn_at, blk1_at]
  simp only [blk0_at m c t r _ b q h]

/-- The block's projected rows are the reference's. -/
theorem ykP (c : Dev nD) (t : Fin cfg0.N) (r n : Fin 512) (b : Fin 2) (q : Fin 16384)
    (h : b.val * 16384 + q.val = t.val * 512 + r.val) :
    k0_pay6 (F := Ideal) (iblk m c 0 t) (iblk m c 1 t) (iblk m c 2 t) (ix2 r n) = aP m c (ix3 b q ⟨512 + n.val, by omega⟩) := by
  rw [yk_at]
  refine Eq.trans ?_ (Cert.Reference3Ideal.Value.proj_at (aX m c) (aG m c) (aW m c) b q _).symm
  refine Finset.sum_congr rfl fun l _ => ?_
  rw [hnP m c t r l b q h, blk2_at]

/-- The block's projected columns are the reference's. -/
theorem yt_low (c : Dev nD) (t : Fin cfg0.N) (r n : Fin 512) (b : Fin 2) (q : Fin 16384)
    (h : b.val * 16384 + q.val = t.val * 512 + r.val) :
    k0_pay1 (F := Ideal) (k0_pay5 (F := Ideal) (iblk m c 0 t) (iblk m c 1 t)) (iblk m c 5 t) (ix2 ⟨n.val, by omega⟩ r)
      = aP m c (ix3 b q ⟨n.val, by omega⟩) := by
  rw [yt_at]
  refine Eq.trans ?_ (Cert.Reference3Ideal.Value.proj_at (aX m c) (aG m c) (aW m c) b q _).symm
  refine Finset.sum_congr rfl fun l _ => ?_
  rw [hnP m c t r l b q h, blk5_at, wcm_low, mul_comm]
theorem yt_high (c : Dev nD) (t : Fin cfg0.N) (r : Fin 512) (n : Fin 2048) (b : Fin 2) (q : Fin 16384)
    (h : b.val * 16384 + q.val = t.val * 512 + r.val) :
    k0_pay1 (F := Ideal) (k0_pay5 (F := Ideal) (iblk m c 0 t) (iblk m c 1 t)) (iblk m c 5 t) (ix2 ⟨512 + n.val, by omega⟩ r)
      = aP m c (ix3 b q ⟨1024 + n.val, by omega⟩) := by
  rw [yt_at]
  refine Eq.trans ?_ (Cert.Reference3Ideal.Value.proj_at (aX m c) (aG m c) (aW m c) b q _).symm
  refine Finset.sum_congr rfl fun l _ => ?_
  rw [hnP m c t r l b q h, blk5_at, wcm_high, mul_comm]

/-- The keys left at a point: the reference's. -/
theorem acc_k (c : Dev nD) (t : Fin cfg0.N) (r : Fin 512) (h : Fin 8) (d : Fin 64) (b : Fin 2) (q : Fin 16384)
    (hr : b.val * 16384 + q.val = t.val * 512 + r.val) (y : S512x512.Idx) (hy0 : (y 0).val = r.val)
    (hy1 : (y 1).val = h.val * 64 + d.val) :
    ((dats m 0 c).after 6 t : FVec Ideal S512x512 .bf16) y
      = KREF (aP m c) (aQG m c) (aKG m c) (ix3 b q ⟨h.val * 64 + d.val, by omega⟩) := by
  rw [after0_6]
  refine (k_at _ _ _ _ _ _ y r ⟨h.val / 2, by omega⟩ ⟨64 * (h.val % 2) + d.val, by omega⟩ hy0
    (by show _ = 128 * (h.val / 2) + (64 * (h.val % 2) + d.val); omega)).trans ?_
  rw [Cert.Reference3Ideal.Value.k_at, ← Cert.Inproj.key_scale, ← Cert.Inproj.div_64]
  have hP : ∀ (e : Fin 64) (n : Fin 512), n.val = h.val * 64 + e.val →
      k0_pay6 (F := Ideal) (iblk m c 0 t) (iblk m c 1 t) (iblk m c 2 t) (ix2 r n)
        = aP m c (ix3 b q ⟨512 + (h.val * 64 + e.val), by omega⟩) := fun e n hn =>
    (ykP m c t r n b q hr).trans (congrArg (fun z => aP m c (ix3 b q z)) (Fin.ext (by show 512 + n.val = 512 + (h.val * 64 + e.val); omega)))
  unfold CH
  rw [hP d _ (by show 128 * (h.val / 2) + (64 * (h.val % 2) + d.val) = _; omega),
    blk3_at m c t h d _ (by show 128 * (h.val / 2) + (64 * (h.val % 2) + d.val) = _; omega),
    Cert.Inproj.half_sum _ _ ⟨h.val % 2, by omega⟩ (fun i => (blk4_at m c t i _).trans (by
      show (if i.val / 64 = (64 * (h.val % 2) + d.val) / 64 then (1 : EReal) else 0) = if i.val / 64 = h.val % 2 then 1 else 0
      rw [show (64 * (h.val % 2) + d.val) / 64 = h.val % 2 by omega]))]
  have hs : ∀ e : Fin 64, k0_pay6 (F := Ideal) (iblk m c 0 t) (iblk m c 1 t) (iblk m c 2 t)
      (ix2 r ⟨128 * (h.val / 2) + (64 * (h.val % 2) + e.val), by omega⟩) = aP m c (ix3 b q ⟨512 + (h.val * 64 + e.val), by omega⟩) :=
    fun e => hP e _ (by show 128 * (h.val / 2) + (64 * (h.val % 2) + e.val) = _; omega)
  simp only [hs]

/-- The queries left at a point: the reference's. -/
theorem acc_q (c : Dev nD) (t : Fin cfg0.N) (b : Fin 2) (u : Fin 32) (r : Fin 512) (h : Fin 8) (d : Fin 64)
    (ht : t.val = b.val * 32 + u.val) :
    ((dats m 0 c).after 7 t : FVec Ideal S1x1x512x512 .bf16) (ix4 0 0 ⟨h.val * 64 + d.val, by omega⟩ r)
      = QREF (aP m c) (ix4 b u ⟨h.val * 64 + d.val, by omega⟩ r) := by
  rw [after0_7]
  refine (q_at _ _ _ _ _ _ h d r).trans ?_
  rw [Cert.Reference3Ideal.Value.q_at]
  have hs : ∀ e : Fin 64, k0_pay1 (F := Ideal) (k0_pay5 (F := Ideal) (iblk m c 0 t) (iblk m c 1 t)) (iblk m c 5 t)
      (ix2 ⟨h.val * 64 + e.val, by omega⟩ r) = aP m c (ix3 b ⟨u.val * 512 + r.val, by omega⟩ ⟨h.val * 64 + e.val, by omega⟩) :=
    fun e => yt_low m c t r ⟨h.val * 64 + e.val, by omega⟩ b ⟨u.val * 512 + r.val, by omega⟩ (by show _ + (_ * 512 + _) = _; omega)
  simp only [hs]

/-- The values left at a point: the reference's. -/
theorem acc_v (c : Dev nD) (t : Fin cfg0.N) (b : Fin 2) (u : Fin 32) (n r : Fin 512) (ht : t.val = b.val * 32 + u.val) :
    ((dats m 0 c).after 8 t : FVec Ideal S1x1x512x512 .bf16) (ix4 0 0 n r) = VREF (aP m c) (ix4 b u n r) := by
  rw [after0_8]
  refine (v_at _ _ _ _ _ _ n r).trans ?_
  rw [Cert.Reference3Ideal.Value.v_at]
  exact yt_high m c t r ⟨n.val, by omega⟩ b ⟨u.val * 512 + r.val, by omega⟩ (by show _ + (_ * 512 + _) = _; omega)

/-- The convolution's channels left at a point: the reference's. -/
theorem acc_u (c : Dev nD) (t : Fin cfg0.N) (b : Fin 2) (q : Fin 16384) (n : Fin 1536) (r : Fin 512)
    (h : b.val * 16384 + q.val = t.val * 512 + r.val) :
    ((dats m 0 c).after 9 t : FVec Ideal S1x1536x512 .f32) (ix3 0 n r) = UREF (aP m c) (ix3 b n q) := by
  rw [after0_9]
  refine (u_at _ _ _ _ _ _ n r).trans ?_
  rw [Cert.Reference3Ideal.Value.u_at]
  refine (congrArg _ (congrArg (fun z => ix2 z r) (Fin.ext (by show 1024 + n.val = 512 + (512 + n.val); omega)))).trans
    ((yt_high m c t r ⟨512 + n.val, by omega⟩ b q h).trans
      (congrArg (fun z => aP m c (ix3 b q z)) (Fin.ext (by show 1024 + (512 + n.val) = 1536 + n.val; omega))))

/-- The keys after the whole grid: the reference's, their rows numbered through both batches. -/
theorem final_k (c : Dev nD) : ((dats m 0 c).arrAt 6 (cfgs 0).N : FVec Ideal S32768x512 .bf16)
    = shapeCast S32768x512 (KREF (aP m c) (aQG m c) (aKG m c)) shapeCasts_S32768x512_S2x16384x512.symm := by
  have hb : ∀ (h : Fin 8) (d : Fin 64), h.val * 64 + d.val < 512 := fun h d => by omega
  refine (dats m 0 c).arrAt_eq_of_covers 6 _ (by decide +kernel) fun t hf y => ?_
  blk_simp
  obtain ⟨r, k, rfl⟩ : ∃ (r : Fin 512) (k : Fin 512), y = ix2 r k := ⟨y 0, y 1, eq_ix2 y⟩
  have ht := (idx t).2.2.2.2.2.2.2.2.2.2
  obtain ⟨h, d, rfl⟩ : ∃ (h : Fin 8) (d : Fin 64), k = ⟨h.val * 64 + d.val, hb h d⟩ :=
    ⟨⟨k.val / 64, by omega⟩, ⟨k.val % 64, by omega⟩, Fin.ext (by show k.val = k.val / 64 * 64 + k.val % 64; omega)⟩
  refine (acc_k m c t r h d ⟨(t.val * 512 + r.val) / 16384, by omega⟩ ⟨(t.val * 512 + r.val) % 16384, by omega⟩
    (by show _ / _ * _ + _ % _ = _; omega) _ rfl rfl).trans ?_
  pointwise
  have e0 : (((View.whole main_v18_0).slice (win0_6.rect t)).emb (ix2 r ⟨h.val * 64 + d.val, by omega⟩) 0).val = t.val * 512 + r.val := by
    blk_simp [idx t]
  have e1 : (((View.whole main_v18_0).slice (win0_6.rect t)).emb (ix2 r ⟨h.val * 64 + d.val, by omega⟩) 1).val = h.val * 64 + d.val := by
    blk_simp [idx t]
  simp only [e0, show ((View.whole main_v18_0).slice (win0_6.rect t)).emb (ix2 r ⟨h.val * 64 + d.val, by omega⟩) 1
    = ⟨h.val * 64 + d.val, by omega⟩ from Fin.ext e1]
  rfl

/-- The queries after the whole grid: the reference's. -/
theorem final_q (c : Dev nD) : ((dats m 0 c).arrAt 7 (cfgs 0).N : FVec Ideal S2x32x512x512 .bf16) = QREF (aP m c) := by
  have hb : ∀ (h : Fin 8) (d : Fin 64), h.val * 64 + d.val < 512 := fun h d => by omega
  refine (dats m 0 c).arrAt_eq_of_covers 7 _ (by decide +kernel) fun t hf y => ?_
  blk_simp
  have h0 : (y 0).val = 0 := by have := (y 0).isLt; change _ < 1 at this; omega
  have h1 : (y 1).val = 0 := by have := (y 1).isLt; change _ < 1 at this; omega
  obtain ⟨k, r, rfl⟩ : ∃ (k : Fin 512) (r : Fin 512), y = ix4 0 0 k r :=
    ⟨y 2, y 3, (eq_ix4 y).trans (by rw [show y 0 = (0 : Fin 1) from Fin.ext h0, show y 1 = (0 : Fin 1) from Fin.ext h1])⟩
  have ht := (idx t).2.2.2.2.2.2.2.2.2.2
  obtain ⟨h, d, rfl⟩ : ∃ (h : Fin 8) (d : Fin 64), k = ⟨h.val * 64 + d.val, hb h d⟩ :=
    ⟨⟨k.val / 64, by omega⟩, ⟨k.val % 64, by omega⟩, Fin.ext (by show k.val = k.val / 64 * 64 + k.val % 64; omega)⟩
  refine (acc_q m c t ⟨t.val / 32, by omega⟩ ⟨t.val % 32, by omega⟩ r h d (by show _ = _ / _ * _ + _ % _; omega)).trans ?_
  blk_ext [idx t]

/-- The values after the whole grid: the reference's. -/
theorem final_v (c : Dev nD) : ((dats m 0 c).arrAt 8 (cfgs 0).N : FVec Ideal S2x32x512x512 .bf16) = VREF (aP m c) := by
  refine (dats m 0 c).arrAt_eq_of_covers 8 _ (by decide +kernel) fun t hf y => ?_
  blk_simp
  have h0 : (y 0).val = 0 := by have := (y 0).isLt; change _ < 1 at this; omega
  have h1 : (y 1).val = 0 := by have := (y 1).isLt; change _ < 1 at this; omega
  obtain ⟨k, r, rfl⟩ : ∃ (k : Fin 512) (r : Fin 512), y = ix4 0 0 k r :=
    ⟨y 2, y 3, (eq_ix4 y).trans (by rw [show y 0 = (0 : Fin 1) from Fin.ext h0, show y 1 = (0 : Fin 1) from Fin.ext h1])⟩
  have ht := (idx t).2.2.2.2.2.2.2.2.2.2
  refine (acc_v m c t ⟨t.val / 32, by omega⟩ ⟨t.val % 32, by omega⟩ k r (by show _ = _ / _ * _ + _ % _; omega)).trans ?_
  blk_ext [idx t]

/-- The convolution's channels after the whole grid: the reference's. -/
theorem final_u (c : Dev nD) : ((dats m 0 c).arrAt 9 (cfgs 0).N : FVec Ideal S2x1536x16384 .f32) = UREF (aP m c) := by
  refine (dats m 0 c).arrAt_eq_of_covers 9 _ (by decide +kernel) fun t hf y => ?_
  blk_simp
  have h0 : (y 0).val = 0 := by have := (y 0).isLt; change _ < 1 at this; omega
  obtain ⟨k, r, rfl⟩ : ∃ (k : Fin 1536) (r : Fin 512), y = ix3 0 k r :=
    ⟨y 1, y 2, (eq_ix3 y).trans (by rw [show y 0 = (0 : Fin 1) from Fin.ext h0])⟩
  have ht := (idx t).2.2.2.2.2.2.2.2.2.2
  refine (acc_u m c t ⟨t.val / 32, by omega⟩ ⟨t.val % 32 * 512 + r.val, by omega⟩ k r
    (by show _ / _ * _ + (_ % _ * _ + _) = _; omega)).trans ?_
  blk_ext [idx t]

/-- The keys after the program's tail: the reference's. -/
theorem tail (c : Dev nD) : (Pipeline.afterTail₀ cfgs (dats m) 0 (V0 m) [hostOps1] c main_v19 : FVec Ideal S2x16384x512 .bf16)
    = KREF (aP m c) (aQG m c) (aKG m c) := by
  unfold Pipeline.afterTail₀
  have h4 : Pipeline.withArrays spec0 c (V0 m c) (fun w => (dats m 0 c).arrAt w (cfgs 0).N) (Proc.devRef .tc main_v18_0)
      = (dats m 0 c).arrAt 6 (cfgs 0).N := Pipeline.withArrays_arr spec0 (by decide) c _ _ 6
  have h5 : ∀ W : Valuation τ sig (Elt Ideal), StableHlo.after (List.flatten [hostOps1]) W (Proc.devRef .tc main_v19)
      = shapeCast S2x16384x512 (W (Proc.devRef .tc main_v18_0) : FVec Ideal S32768x512 .bf16) shapeCasts_S32768x512_S2x16384x512 := by
    intro W
    show StableHlo.after hostOps1 W _ = _
    after_results
    rfl
  rw [h5]
  refine (congrArg (fun z => shapeCast S2x16384x512 (z : FVec Ideal S32768x512 .bf16) shapeCasts_S32768x512_S2x16384x512)
    (h4.trans (final_k m c))).trans ?_
  generalize KREF (aP m c) (aQG m c) (aKG m c) = K
  funext i
  idx_vars i
  pointwise

end Cert.Kernel3Ideal.Value

end
-- ==== Proof.InEven.Claims.lean ====
/-  The claims of the input projection of the even layer: its frames, its reference's frame, and that both programs compute the same arrays. -/
module

public import proofs.«01_k».proof.Defs
public import proofs.«01_k».proof.Proof.Gen.Kernel3.Frame
public import proofs.«01_k».proof.Proof.Gen.Kernel3Ideal.Frame
public import proofs.«01_k».proof.Proof.Gen.Reference3Ideal
public import proofs.«01_k».proof.Proof.InEven.Value
public import Idealize.ShloMosaic.Lib.Claim
public import Idealize.ShloMosaic.Lib.Pipeline.ValueKit

@[expose] public section

set_option maxRecDepth 16384

noncomputable section

namespace Cert.Proof

open Idealize.ShloMosaic Idealize.SL.Sem

/-- The input projection of the even layer leaves its arguments alone and its semaphores at zero. -/
theorem frame_Kernel3 : Cert.quiescent_Kernel3 := fun m ρ _ => Cert.Kernel3.Gen.frame m ρ

/-- So does its idealized program. -/
theorem frame_Kernel3Ideal : Cert.quiescent_Kernel3Ideal := fun m ρ _ => Cert.Kernel3Ideal.Gen.frame m ρ

/-- So does its reference. -/
theorem frame_Reference3Ideal : Cert.quiescent_Reference3Ideal := by
  intro m g _
  hlo_run
  · exact fun _ => ⟨trivial, trivial, trivial, trivial, trivial⟩
  · exact sem_eq_zero_of_no_sems rfl _

set_option maxHeartbeats 4000000 in
/-- THE VALUE CLAIM: over the extended reals the input projection and its reference end with equal results. -/
theorem algebraic_Kernel3 : Cert.algebraic_Kernel3Ideal_Reference3Ideal := by
  pair_intro
  · run_from Cert.Kernel3Ideal.Gen.run_main m g
    · exact Cert.Kernel3Ideal.Gen.W_main_arg0 m _ c
    · exact Cert.Kernel3Ideal.Gen.W_main_arg1 m _ c
    · exact Cert.Kernel3Ideal.Gen.W_main_arg2 m _ c
    · exact Cert.Kernel3Ideal.Gen.W_main_arg3 m _ c
    · exact Cert.Kernel3Ideal.Gen.W_main_arg4 m _ c
  · hlo_run
    · exact (Cert.Kernel3Ideal.Value.tail m c).symm
    · exact (Cert.Kernel3Ideal.Value.final_q m c).symm
    · exact (Cert.Kernel3Ideal.Value.final_v m c).symm
    · exact (Cert.Kernel3Ideal.Value.final_u m c).symm

end Cert.Proof

end
-- ==== Proof.OutEven.Value.lean ====
/-  What the even layer's output projection computes, block by block and as a whole, and that it is the reference's term, over
    the extended reals. -/
module

public import proofs.«01_k».proof.Proof.Gen.Kernel4Ideal.Frame
public import proofs.«01_k».proof.Proof.Gen.Reference4Ideal
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen

variable (m : (ℓ : Loc nD τ sig) → Buf (Elt Ideal) ℓ)

/-- The reference's two halves side by side: the attention's rows and the convolution's, the latter turned to rows. -/
def CAT (A : FVec Ideal S2x16384x512 .bf16) (B : FVec Ideal S2x512x16384 .f32) : FVec Ideal S2x16384x1024 .f32 :=
  concatenate Reference4Ideal.S2x16384x1024 2 [⟨Reference4Ideal.S2x16384x512, extf .f32 A Reference4Ideal.Gen.facts.bitsLt_bf16_f32⟩,
    ⟨Reference4Ideal.S2x16384x512, transpose Reference4Ideal.S2x16384x512 [0, 2, 1] B Reference4Ideal.Gen.facts.transposes_S2x512x16384_S2x16384x512_0_2_1⟩]
    Reference4Ideal.Gen.facts.concatenates_S2x16384x512_S2x16384x512_S2x16384x1024_d2

/-- The reference's composed term over its arguments. -/
def REF (X : FVec Ideal S2x16384x1024 .f32) (A : FVec Ideal S2x16384x512 .bf16) (B : FVec Ideal S2x512x16384 .f32)
    (W : FVec Ideal S1024x1024 .f32) : FVec Ideal S2x16384x1024 .f32 :=
  addf X (Host.dotGeneral Reference4Ideal.dot_S2x16384x1024_S1024x1024_S2x16384x1024_2_0_01_1_n_n none (CAT A B) W)

theorem cat_left (A B) (b : Fin 2) (q : Fin 16384) (k : Fin 512) :
    CAT A B (ix3 b q ⟨k.val, by omega⟩) = A (ix3 b q k) := by
  pointwise [CAT]

theorem cat_right (A B) (b : Fin 2) (q : Fin 16384) (k : Fin 512) :
    CAT A B (ix3 b q ⟨512 + k.val, by omega⟩) = B (ix3 b k q) := by
  pointwise [CAT]

/-- The reference's term at an entry, its sum cut at the seam. -/
theorem ref_at (X A B W) (b : Fin 2) (q : Fin 16384) (c : Fin 1024) :
    REF X A B W (ix3 b q c) = X (ix3 b q c) + (∑ k : Fin 512, A (ix3 b q k) * W (ix2 ⟨k.val, by omega⟩ c))
      + ∑ k : Fin 512, B (ix3 b k q) * W (ix2 ⟨512 + k.val, by omega⟩ c) := by
  have e : REF X A B W (ix3 b q c) = X (ix3 b q c) + ∑ k : Fin (512 + 512), CAT A B (ix3 b q k) * W (ix2 k c) := by
    pointwise [REF]
  rw [e, Fin.sum_univ_add, add_assoc]
  refine congrArg (X (ix3 b q c) + ·) (congrArg₂ (· + ·) (Finset.sum_congr rfl fun k _ => ?_) (Finset.sum_congr rfl fun k _ => ?_))
  · exact congrArg (· * _) (cat_left A B b q k)
  · exact congrArg (· * _) (cat_right A B b q k)

/-- What one block computes, at an entry. -/
theorem pay_at (v0 : FVec Ideal S1x512x512 .f32) (v4 : FVec Ideal S512x1024 .f32) (v6 : FVec Ideal S512x512 .bf16)
    (v8 v12 : FVec Ideal S512x1024 .bf16) (r : Fin 512) (c : Fin 1024) :
    k0_pay1 (F := Ideal) v0 v4 v6 v8 v12 (ix2 r c)
      = v4 (ix2 r c) + (∑ k : Fin 512, v6 (ix2 r k) * v8 (ix2 k c)) + ∑ k : Fin 512, v0 (ix3 0 k r) * v12 (ix2 k c) := by
  pointwise [k0_pay1]

/-- The windows' block indices at each grid point. -/
theorem idx : ∀ t : Fin cfg0.N, win0_0.index t = ![t.val, 0] ∧ win0_1.index t = ![t.val, 0]
    ∧ win0_2.index t = ![t.val / 32, 0, t.val % 32] ∧ win0_3.index t = ![0, 0] ∧ win0_4.index t = ![0, 0]
    ∧ win0_5.index t = ![t.val, 0] ∧ t.val < 64 :=
  (by decide +kernel : ∀ t : Fin grid0.N, _)

/-- The four arguments, typed. -/
abbrev aX (c : Dev nD) : FVec Ideal S2x16384x1024 .f32 := m ((c : Thread nD τ).loc main_arg0)
abbrev aA (c : Dev nD) : FVec Ideal S2x16384x512 .bf16 := m ((c : Thread nD τ).loc main_arg1)
abbrev aB (c : Dev nD) : FVec Ideal S2x512x16384 .f32 := m ((c : Thread nD τ).loc main_arg2)
abbrev aW (c : Dev nD) : FVec Ideal S1024x1024 .f32 := m ((c : Thread nD τ).loc main_arg3)

/-- The arrays as the call finds them. -/
theorem V1_eq (c : Dev nD) : (V m c main_v1 : FVec Ideal S32768x1024 .f32)
    = shapeCast S32768x1024 (aX m c) shapeCasts_S2x16384x1024_S32768x1024 := by
  entry_read; rfl
theorem V2_eq (c : Dev nD) : (V m c main_v2 : FVec Ideal S32768x512 .bf16)
    = shapeCast S32768x512 (aA m c) shapeCasts_S2x16384x512_S32768x512 := by
  entry_read; rfl
theorem V3_eq (c : Dev nD) : (V m c main_v3 : FVec Ideal S512x1024 .bf16)
    = extractStridedSlice S512x1024 ![0, 0] (aW m c) slices_S1024x1024_S512x1024_0_0 := by
  entry_read; rfl
theorem V4_eq (c : Dev nD) : (V m c main_v4 : FVec Ideal S512x1024 .bf16)
    = extractStridedSlice S512x1024 ![512, 0] (aW m c) slices_S1024x1024_S512x1024_512_0 := by
  entry_read; rfl

/-- The input blocks of point `t`, at an entry, over the arguments. -/
theorem blk0_at (c : Dev nD) (t : Fin cfg0.N) (r : Fin 512) (k : Fin 1024) (b : Fin 2) (q : Fin 16384)
    (h : b.val * 16384 + q.val = t.val * 512 + r.val) :
    (iblk m c 0 t : FVec Ideal S512x1024 .f32) (ix2 r k) = aX m c (ix3 b q k) := by
  have ht := (idx t).2.2.2.2.2.2
  have e : (iblk m c 0 t : FVec Ideal S512x1024 .f32) (ix2 r k)
      = (V m c main_v1 : FVec Ideal S32768x1024 .f32) (ix2 ⟨t.val * 512 + r.val, by omega⟩ k) := by
    blk_ext [iblk, idx t]
  rw [e, V1_eq]
  pointwise
  blk_ext
theorem blk1_at (c : Dev nD) (t : Fin cfg0.N) (r k : Fin 512) (b : Fin 2) (q : Fin 16384)
    (h : b.val * 16384 + q.val = t.val * 512 + r.val) :
    (iblk m c 1 t : FVec Ideal S512x512 .bf16) (ix2 r k) = aA m c (ix3 b q k) := by
  have ht := (idx t).2.2.2.2.2.2
  have e : (iblk m c 1 t : FVec Ideal S512x512 .bf16) (ix2 r k)
      = (V m c main_v2 : FVec Ideal S32768x512 .bf16) (ix2 ⟨t.val * 512 + r.val, by omega⟩ k) := by
    blk_ext [iblk, idx t]
  rw [e, V2_eq]
  pointwise
  blk_ext
theorem blk2_at (c : Dev nD) (t : Fin cfg0.N) (k r : Fin 512) (b : Fin 2) (q : Fin 16384)
    (h : b.val * 16384 + q.val = t.val * 512 + r.val) :
    (iblk m c 2 t : FVec Ideal S1x512x512 .f32) (ix3 0 k r) = aB m c (ix3 b k q) := by
  have ht := (idx t).2.2.2.2.2.2
  have e : (iblk m c 2 t : FVec Ideal S1x512x512 .f32) (ix3 0 k r) = (V m c main_arg2 : FVec Ideal S2x512x16384 .f32) (ix3 b k q) := by
    blk_ext [iblk, idx t]
  rw [e, V_main_arg2]
theorem blk3_at (c : Dev nD) (t : Fin cfg0.N) (k : Fin 512) (n : Fin 1024) :
    (iblk m c 3 t : FVec Ideal S512x1024 .bf16) (ix2 k n) = aW m c (ix2 ⟨k.val, by omega⟩ n) := by
  have e : (iblk m c 3 t : FVec Ideal S512x1024 .bf16) (ix2 k n) = (V m c main_v3 : FVec Ideal S512x1024 .bf16) (ix2 k n) := by
    blk_ext [iblk, idx t]
  rw [e, V3_eq]
  pointwise
theorem blk4_at (c : Dev nD) (t : Fin cfg0.N) (k : Fin 512) (n : Fin 1024) :
    (iblk m c 4 t : FVec Ideal S512x1024 .bf16) (ix2 k n) = aW m c (ix2 ⟨512 + k.val, by omega⟩ n) := by
  have e : (iblk m c 4 t : FVec Ideal S512x1024 .bf16) (ix2 k n) = (V m c main_v4 : FVec Ideal S512x1024 .bf16) (ix2 k n) := by
    blk_ext [iblk, idx t]
  rw [e, V4_eq]
  pointwise

/-- The block left at a point, at an entry: the reference's entry. -/
theorem acc (c : Dev nD) (t : Fin cfg0.N) (r : Fin 512) (k : Fin 1024) (b : Fin 2) (q : Fin 16384)
    (h : b.val * 16384 + q.val = t.val * 512 + r.val) :
    ((dats m 0 c).after 5 t : FVec Ideal S512x1024 .f32) (ix2 r k) = REF (aX m c) (aA m c) (aB m c) (aW m c) (ix3 b q k) := by
  rw [after0_5]
  have e : (out0_5 (iblk m c 0 t) (iblk m c 1 t) (iblk m c 2 t) (iblk m c 3 t) (iblk m c 4 t) : FVec Ideal S512x1024 .f32)
      = k0_pay1 (F := Ideal) (iblk m c 2 t) (iblk m c 0 t) (iblk m c 1 t) (iblk m c 3 t) (iblk m c 4 t) := by
    frame_out
  rw [e, pay_at, ref_at, blk0_at m c t r k b q h]
  simp only [blk1_at m c t r _ b q h, blk2_at m c t _ r b q h, blk3_at m c t, blk4_at m c t]

/-- The result array after the whole grid: the reference's term, its rows numbered through both batches. -/
theorem final (c : Dev nD) : ((dats m 0 c).arrAt 5 (cfgs 0).N : FVec Ideal S32768x1024 .f32)
    = shapeCast S32768x1024 (REF (aX m c) (aA m c) (aB m c) (aW m c)) shapeCasts_S2x16384x1024_S32768x1024 := by
  refine (dats m 0 c).arrAt_eq_of_covers 5 _ (by decide +kernel) fun t hf y => ?_
  blk_simp
  obtain ⟨r, k, rfl⟩ : ∃ (r : Fin 512) (k : Fin 1024), y = ix2 r k := ⟨y 0, y 1, eq_ix2 y⟩
  have ht := (idx t).2.2.2.2.2.2
  refine (acc m c t r k ⟨(t.val * 512 + r.val) / 16384, by omega⟩ ⟨(t.val * 512 + r.val) % 16384, by omega⟩
    (by show _ / _ * _ + _ % _ = _; omega)).trans ?_
  pointwise
  have e0 : (((View.whole main_v5).slice (win0_5.rect t)).emb (ix2 r k) 0).val = t.val * 512 + r.val := by
    blk_simp [idx t]
  have e1 : (((View.whole main_v5).slice (win0_5.rect t)).emb (ix2 r k) 1).val = k.val := by
    blk_simp [idx t]
  simp only [e0, show ((View.whole main_v5).slice (win0_5.rect t)).emb (ix2 r k) 1 = k from Fin.ext e1]

/-- The program's result after its tail: the reference's term. -/
theorem tail (c : Dev nD) : (Pipeline.afterTail₀ cfgs (dats m) 0 (V0 m) [hostOps1] c main_v6 : FVec Ideal S2x16384x1024 .f32)
    = REF (aX m c) (aA m c) (aB m c) (aW m c) := by
  unfold Pipeline.afterTail₀
  have h4 : Pipeline.withArrays spec0 c (V0 m c) (fun w => (dats m 0 c).arrAt w (cfgs 0).N) (Proc.devRef .tc main_v5)
      = (dats m 0 c).arrAt 5 (cfgs 0).N := Pipeline.withArrays_arr spec0 (by decide) c _ _ 5
  have h5 : ∀ W : Valuation τ sig (Elt Ideal), StableHlo.after (List.flatten [hostOps1]) W (Proc.devRef .tc main_v6)
      = shapeCast S2x16384x1024 (W (Proc.devRef .tc main_v5) : FVec Ideal S32768x1024 .f32) shapeCasts_S32768x1024_S2x16384x1024 := by
    intro W
    show StableHlo.after hostOps1 W _ = _
    after_results
    rfl
  rw [h5]
  refine (congrArg (fun z => shapeCast S2x16384x1024 (z : FVec Ideal S32768x1024 .f32) shapeCasts_S32768x1024_S2x16384x1024)
    (h4.trans (final m c))).trans ?_
  funext i
  idx_vars i
  pointwise

end Cert.Kernel4Ideal.Value

end
-- ==== Proof.OutEven.Claims.lean ====
/-  The claims of the output projection of the even layer: its frames, its reference's frame, and that both programs compute the same arrays. -/
module

public import proofs.«01_k».proof.Defs
public import proofs.«01_k».proof.Proof.Gen.Kernel4.Frame
public import proofs.«01_k».proof.Proof.Gen.Kernel4Ideal.Frame
public import proofs.«01_k».proof.Proof.Gen.Reference4Ideal
public import proofs.«01_k».proof.Proof.OutEven.Value
public import Idealize.ShloMosaic.Lib.Claim
public import Idealize.ShloMosaic.Lib.Pipeline.ValueKit

@[expose] public section

set_option maxRecDepth 16384

noncomputable section

namespace Cert.Proof

open Idealize.ShloMosaic Idealize.SL.Sem

/-- The output projection of the even layer leaves its arguments alone and its semaphores at zero. -/
theorem frame_Kernel4 : Cert.quiescent_Kernel4 := fun m ρ _ => Cert.Kernel4.Gen.frame m ρ

/-- So does its idealized program. -/
theorem frame_Kernel4Ideal : Cert.quiescent_Kernel4Ideal := fun m ρ _ => Cert.Kernel4Ideal.Gen.frame m ρ

/-- So does its reference. -/
theorem frame_Reference4Ideal : Cert.quiescent_Reference4Ideal := by
  intro m g _
  hlo_run
  · exact fun _ => ⟨trivial, trivial, trivial, trivial⟩
  · exact sem_eq_zero_of_no_sems rfl _

/-- THE VALUE CLAIM: over the extended reals the output projection and its reference end with equal results. -/
theorem algebraic_Kernel4 : Cert.algebraic_Kernel4Ideal_Reference4Ideal := by
  pair_intro
  · run_from Cert.Kernel4Ideal.Gen.run_main m g
    · exact Cert.Kernel4Ideal.Gen.W_main_arg0 m _ c
    · exact Cert.Kernel4Ideal.Gen.W_main_arg1 m _ c
    · exact Cert.Kernel4Ideal.Gen.W_main_arg3 m _ c
  · hlo_run
    rw [show m' (c.tc.loc Cert.Reference4Ideal.main_arg1) = m (c.tc.loc Cert.Kernel4Ideal.main_arg1) from (hagree c).2.1,
      show m' (c.tc.loc Cert.Reference4Ideal.main_arg2) = m (c.tc.loc Cert.Kernel4Ideal.main_arg2) from (hagree c).2.2.1]
    exact (Cert.Kernel4Ideal.Value.tail m c).symm

end Cert.Proof

end
-- ==== Proof.InOdd.Payload.lean ====
/-  What one block of the odd layer's input projection computes, read at an index, over the extended reals. -/
module

public import proofs.«01_k».proof.Proof.Gen.Kernel5Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel5Ideal.Value

open Cert.Kernel5Ideal Cert.Kernel5Ideal.Gen

/-- The normalised row: each entry times the reciprocal root of the row's mean square (plus the small
    constant) times the gain. -/
theorem hn_at (x : FVec Ideal S512x1024 .f32) (g : FVec Ideal S1x1024 .f32) (r : Fin 512) (k : Fin 1024) :
    k0_pay2 (F := Ideal) x g (ix2 r k)
      = x (ix2 r k) * Ideal.rsqrt (Ideal.div (∑ l : Fin 1024, x (ix2 r l) * x (ix2 r l)) (Ideal.ofBits .f32 0x44800000#32)
          + Ideal.ofBits .f32 0x358637BD#32) * g (ix2 0 k) := by
  pointwise [k0_pay2]

/-- The projected rows of the keys. -/
theorem yk_at (x : FVec Ideal S512x1024 .f32) (g : FVec Ideal S1x1024 .f32) (w : FVec Ideal S1024x640 .bf16) (r : Fin 512) (n : Fin 640) :
    k0_pay3 (F := Ideal) x g w (ix2 r n) = ∑ l : Fin 1024, k0_pay2 (F := Ideal) x g (ix2 r l) * w (ix2 l n) := by
  pointwise [k0_pay3]

/-- The projected rows of the values. -/
theorem yv_at (hn : FVec Ideal S512x1024 .bf16) (w : FVec Ideal S1024x640 .bf16) (r : Fin 512) (n : Fin 640) :
    k0_pay17 (F := Ideal) hn w (ix2 r n) = ∑ l : Fin 1024, hn (ix2 r l) * w (ix2 l n) := by
  pointwise [k0_pay17]

/-- The queries' projected columns. -/
def YT (hn : FVec Ideal S512x1024 .bf16) (w : FVec Ideal S1024x1024 .bf16) (n : Fin 1024) (r : Fin 512) : EReal :=
  ∑ l : Fin 1024, w (ix2 n l) * hn (ix2 r l)

/-- The queries, each head normalised. -/
theorem yq_at (hn : FVec Ideal S512x1024 .bf16) (w : FVec Ideal S1024x1024 .bf16) (h : Fin 16) (d : Fin 64) (r : Fin 512) :
    k0_pay18 (F := Ideal) hn w (ix2 ⟨h.val * 64 + d.val, by omega⟩ r) = YT hn w ⟨h.val * 64 + d.val, by omega⟩ r
        * Ideal.rsqrt (Ideal.div (∑ e : Fin 64, YT hn w ⟨h.val * 64 + e.val, by omega⟩ r * YT hn w ⟨h.val * 64 + e.val, by omega⟩ r)
          (Ideal.ofBits .f32 0x42800000#32) + Ideal.ofBits .f32 0x358637BD#32) := by
  pointwise [k0_pay18, YT]

/-- A key after its head's norm, read off the projected rows (lane `j` of chunk `c`): the head's mean square is taken with the
    group matrix. -/
def CH (y : FVec Ideal S512x640 .f32) (G : FVec Ideal S128x128 .bf16) (gain : FVec Ideal S1x640 .f32) (r : Fin 512) (c : Fin 5)
    (j : Fin 128) : EReal :=
  y (ix2 r ⟨128 * c.val + j.val, by omega⟩) * Ideal.rsqrt ((∑ l : Fin 128, (y (ix2 r ⟨128 * c.val + l.val, by omega⟩)
        * y (ix2 r ⟨128 * c.val + l.val, by omega⟩)) * G (ix2 l j)) * Ideal.ofBits .f32 0x3C800000#32 + Ideal.ofBits .f32 0x358637BD#32)
    * gain (ix2 0 ⟨128 * c.val + j.val, by omega⟩)

/-- The keys' block. -/
theorem k_at (x0 : FVec Ideal S512x1024 .f32) (x1 : FVec Ideal S1x1024 .f32) (x2 : FVec Ideal S1024x640 .bf16)
    (x3 : FVec Ideal S1x640 .f32) (x4 : FVec Ideal S128x128 .bf16) (x5 : FVec Ideal S1024x640 .bf16) (x6 : FVec Ideal S1024x1024 .bf16) (y : S512x640.Idx)
    (r : Fin 512) (c : Fin 5) (j : Fin 128) (hy0 : (y 0).val = r.val) (hy1 : (y 1).val = 128 * c.val + j.val) :
    out0_7 (F := Ideal) x0 x1 x2 x3 x4 x5 x6 y = CH (k0_pay3 (F := Ideal) x0 x1 x2) x4 x3 r c j := by
  frame_out
  canon_tiles z h
  case piece0 =>
    obtain rfl : c = 4 := Fin.ext (by show c.val = 4; omega)
    obtain rfl : r = z 0 := Fin.ext (by omega)
    obtain rfl : j = z 1 := Fin.ext (by change _ = 128 * 4 + _ at hy1; omega)
    open_payloads
    generalize k0_pay3 (F := Ideal) x0 x1 x2 = Y
    pointwise [CH]
  case piece1 =>
    obtain rfl : c = 3 := Fin.ext (by show c.val = 3; omega)
    obtain rfl : r = z 0 := Fin.ext (by omega)
    obtain rfl : j = z 1 := Fin.ext (by change _ = 128 * 3 + _ at hy1; omega)
    open_payloads
    generalize k0_pay3 (F := Ideal) x0 x1 x2 = Y
    pointwise [CH]
  case piece2 =>
    obtain rfl : c = 2 := Fin.ext (by show c.val = 2; omega)
    obtain rfl : r = z 0 := Fin.ext (by omega)
    obtain rfl : j = z 1 := Fin.ext (by change _ = 128 * 2 + _ at hy1; omega)
    open_payloads
    generalize k0_pay3 (F := Ideal) x0 x1 x2 = Y
    pointwise [CH]
  case piece3 =>
    obtain rfl : c = 1 := Fin.ext (by show c.val = 1; omega)
    obtain rfl : r = z 0 := Fin.ext (by omega)
    obtain rfl : j = z 1 := Fin.ext (by change _ = 128 * 1 + _ at hy1; omega)
    open_payloads
    generalize k0_pay3 (F := Ideal) x0 x1 x2 = Y
    pointwise [CH]
  case piece4 =>
    obtain rfl : c = 0 := Fin.ext (by show c.val = 0; omega)
    obtain rfl : r = z 0 := Fin.ext (by omega)
    obtain rfl : j = z 1 := Fin.ext (by change _ = 128 * 0 + _ at hy1; omega)
    open_payloads
    generalize k0_pay3 (F := Ideal) x0 x1 x2 = Y
    pointwise [CH]

/-- The values' block. -/
theorem v_at (x0 : FVec Ideal S512x1024 .f32) (x1 : FVec Ideal S1x1024 .f32) (x2 : FVec Ideal S1024x640 .bf16)
    (x3 : FVec Ideal S1x640 .f32) (x4 : FVec Ideal S128x128 .bf16) (x5 : FVec Ideal S1024x640 .bf16) (x6 : FVec Ideal S1024x1024 .bf16) :
    out0_8 (F := Ideal) x0 x1 x2 x3 x4 x5 x6 = k0_pay17 (F := Ideal) (k0_pay2 (F := Ideal) x0 x1) x5 := by
  unfold_out out0_8
  frame_out

/-- The queries' block. -/
theorem q_at (x0 : FVec Ideal S512x1024 .f32) (x1 : FVec Ideal S1x1024 .f32) (x2 : FVec Ideal S1024x640 .bf16)
    (x3 : FVec Ideal S1x640 .f32) (x4 : FVec Ideal S128x128 .bf16) (x5 : FVec Ideal S1024x640 .bf16) (x6 : FVec Ideal S1024x1024 .bf16) (n : Fin 1024) (r : Fin 512) :
    out0_9 (F := Ideal) x0 x1 x2 x3 x4 x5 x6 (ix3 0 n r) = k0_pay18 (F := Ideal) (k0_pay2 (F := Ideal) x0 x1) x6 (ix2 n r) := by
  have e : out0_9 (F := Ideal) x0 x1 x2 x3 x4 x5 x6 = k0_pay1 (F := Ideal) (k0_pay18 (F := Ideal) (k0_pay2 (F := Ideal) x0 x1) x6) := by
    unfold_out out0_9
    frame_out
  rw [e]
  generalize k0_pay18 (F := Ideal) (k0_pay2 (F := Ideal) x0 x1) x6 = y
  pointwise [k0_pay1]

end Cert.Kernel5Ideal.Value

end
-- ==== Proof.InOdd.Ref.lean ====
/-  What the reference of the odd layer's input projection computes, read at an index, over the extended reals. -/
module

public import proofs.«01_k».proof.Proof.Gen.Reference5Ideal
public import proofs.«01_k».proof.Proof.InEven.Math
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Reference5Ideal.Value

open Cert.Reference5Ideal Cert.Reference5Ideal.Gen

/-- The normalised rows. -/
def HN (X : FVec Ideal S2x16384x1024 .f32) (G : FVec Ideal S1024 .f32) : FVec Ideal S2x16384x1024 .f32 :=
  mulf (mulf X (broadcastInDim S2x16384x1024 ![0, 1, 2] facts.bcast_S2x16384x1_S2x16384x1024_0_1_2
    (Host.rsqrt (addf (Host.divf
      (broadcastInDim S2x16384x1 ![0, 1] facts.bcast_S2x16384_S2x16384x1_0_1
        (Host.reduceAdd (mulf X X) (constant S_ FTy.f32 0#32) facts.reducesTo_S2x16384x1024_S2x16384_d2 facts.h_S_))
      (broadcastInDim S2x16384x1 ![] facts.bcast_S_S2x16384x1 (constant S_ FTy.f32 1149239296#32)))
      (broadcastInDim S2x16384x1 ![] facts.bcast_S_S2x16384x1 (constant S_ FTy.f32 897988541#32))))))
    (broadcastInDim S2x16384x1024 ![0, 1, 2] facts.bcast_S1x1x1024_S2x16384x1024_0_1_2
      (broadcastInDim S1x1x1024 ![2] facts.bcast_S1024_S1x1x1024_2 G))

/-- The projection. -/
def PROJ (X : FVec Ideal S2x16384x1024 .f32) (G : FVec Ideal S1024 .f32) (W : FVec Ideal S1024x2304 .f32) : FVec Ideal S2x16384x2304 .f32 :=
  Host.dotGeneral dot_S2x16384x1024_S1024x2304_S2x16384x2304_2_0_01_1_n_n none (HN X G) W

/-- Rows of heads, each head normalised. -/
def HEADS (y : FVec Ideal S2x16384x8x64 .f32) : FVec Ideal S2x16384x8x64 .f32 :=
  mulf y (broadcastInDim S2x16384x8x64 ![0, 1, 2, 3] facts.bcast_S2x16384x8x1_S2x16384x8x64_0_1_2_3
    (Host.rsqrt (addf (Host.divf
      (broadcastInDim S2x16384x8x1 ![0, 1, 2] facts.bcast_S2x16384x8_S2x16384x8x1_0_1_2
        (Host.reduceAdd (mulf y y) (constant S_ FTy.f32 0#32) facts.reducesTo_S2x16384x8x64_S2x16384x8_d3 facts.h_S_))
      (broadcastInDim S2x16384x8x1 ![] facts.bcast_S_S2x16384x8x1 (constant S_ FTy.f32 0x42800000#32)))
      (broadcastInDim S2x16384x8x1 ![] facts.bcast_S_S2x16384x8x1 (constant S_ FTy.f32 897988541#32)))))

/-- Rows of two heads, each head normalised. -/
def HEADS2 (y : FVec Ideal S2x16384x2x64 .f32) : FVec Ideal S2x16384x2x64 .f32 :=
  mulf y (broadcastInDim S2x16384x2x64 ![0, 1, 2, 3] facts.bcast_S2x16384x2x1_S2x16384x2x64_0_1_2_3
    (Host.rsqrt (addf (Host.divf
      (broadcastInDim S2x16384x2x1 ![0, 1, 2] facts.bcast_S2x16384x2_S2x16384x2x1_0_1_2
        (Host.reduceAdd (mulf y y) (constant S_ FTy.f32 0#32) facts.reducesTo_S2x16384x2x64_S2x16384x2_d3 facts.h_S_))
      (broadcastInDim S2x16384x2x1 ![] facts.bcast_S_S2x16384x2x1 (constant S_ FTy.f32 0x42800000#32)))
      (broadcastInDim S2x16384x2x1 ![] facts.bcast_S_S2x16384x2x1 (constant S_ FTy.f32 897988541#32)))))

/-- The first kind's keys: eight heads. -/
def KNA (P : FVec Ideal S2x16384x2304 .f32) (QG KG : FVec Ideal S64 .f32) : FVec Ideal S2x16384x512 .f32 :=
  shapeCast S2x16384x512
    (Host.divf
      (mulf
        (mulf
          (mulf (HEADS (shapeCast S2x16384x8x64 (extractStridedSlice S2x16384x512 ![0, 0, 512] P facts.slices_S2x16384x2304_S2x16384x512_0_0_512)
              facts.shapeCasts_S2x16384x512_S2x16384x8x64))
            (broadcastInDim S2x16384x8x64 ![0, 1, 2, 3] facts.bcast_S1x1x1x64_S2x16384x8x64_0_1_2_3
              (broadcastInDim S1x1x1x64 ![3] facts.bcast_S64_S1x1x1x64_3 KG)))
          (broadcastInDim S2x16384x8x64 ![0, 1, 2, 3] facts.bcast_S1x1x1x64_S2x16384x8x64_0_1_2_3
            (broadcastInDim S1x1x1x64 ![3] facts.bcast_S64_S1x1x1x64_3 QG)))
        (broadcastInDim S2x16384x8x64 ![] facts.bcast_S_S2x16384x8x64 (constant S_ FTy.f32 0x3E000000#32)))
      (broadcastInDim S2x16384x8x64 ![] facts.bcast_S_S2x16384x8x64 (Host.log (constant S_ FTy.f32 0x40000000#32))))
    facts.shapeCasts_S2x16384x8x64_S2x16384x512

/-- The second kind's keys: two heads. -/
def KWG (P : FVec Ideal S2x16384x2304 .f32) (QG KG : FVec Ideal S64 .f32) : FVec Ideal S2x16384x128 .f32 :=
  shapeCast S2x16384x128
    (Host.divf
      (mulf
        (mulf
          (mulf (HEADS2 (shapeCast S2x16384x2x64 (extractStridedSlice S2x16384x128 ![0, 0, 2048] P facts.slices_S2x16384x2304_S2x16384x128_0_0_2048)
              facts.shapeCasts_S2x16384x128_S2x16384x2x64))
            (broadcastInDim S2x16384x2x64 ![0, 1, 2, 3] facts.bcast_S1x1x1x64_S2x16384x2x64_0_1_2_3
              (broadcastInDim S1x1x1x64 ![3] facts.bcast_S64_S1x1x1x64_3 KG)))
          (broadcastInDim S2x16384x2x64 ![0, 1, 2, 3] facts.bcast_S1x1x1x64_S2x16384x2x64_0_1_2_3
            (broadcastInDim S1x1x1x64 ![3] facts.bcast_S64_S1x1x1x64_3 QG)))
        (broadcastInDim S2x16384x2x64 ![] facts.bcast_S_S2x16384x2x64 (constant S_ FTy.f32 0x3E000000#32)))
      (broadcastInDim S2x16384x2x64 ![] facts.bcast_S_S2x16384x2x64 (Host.log (constant S_ FTy.f32 0x40000000#32))))
    facts.shapeCasts_S2x16384x2x64_S2x16384x128

/-- All keys. -/
def KREF (P : FVec Ideal S2x16384x2304 .f32) (QG KG QG' KG' : FVec Ideal S64 .f32) : FVec Ideal S2x16384x640 .bf16 :=
  truncf .bf16 (concatenate S2x16384x640 2 [⟨S2x16384x512, KNA P QG KG⟩, ⟨S2x16384x128, KWG P QG' KG'⟩]
    facts.concatenates_S2x16384x512_S2x16384x128_S2x16384x640_d2) facts.bitsLt_bf16_f32

/-- All values. -/
def VREF (P : FVec Ideal S2x16384x2304 .f32) : FVec Ideal S2x16384x640 .bf16 :=
  truncf .bf16 (concatenate S2x16384x640 2
    [⟨S2x16384x512, extractStridedSlice S2x16384x512 ![0, 0, 1024] P facts.slices_S2x16384x2304_S2x16384x512_0_0_1024⟩,
      ⟨S2x16384x128, extractStridedSlice S2x16384x128 ![0, 0, 2176] P facts.slices_S2x16384x2304_S2x16384x128_0_0_2176⟩]
    facts.concatenates_S2x16384x512_S2x16384x128_S2x16384x640_d2) facts.bitsLt_bf16_f32

/-- Queries of eight heads, normalised. -/
def QH (y : FVec Ideal S2x16384x512 .f32) : FVec Ideal S2x16384x512 .f32 :=
  shapeCast S2x16384x512 (HEADS (shapeCast S2x16384x8x64 y facts.shapeCasts_S2x16384x512_S2x16384x8x64))
    facts.shapeCasts_S2x16384x8x64_S2x16384x512

/-- All queries, channel-major. -/
def QREF (P : FVec Ideal S2x16384x2304 .f32) : FVec Ideal S2x1024x16384 .bf16 :=
  truncf .bf16 (transpose S2x1024x16384 [0, 2, 1] (concatenate S2x16384x1024 2
    [⟨S2x16384x512, QH (extractStridedSlice S2x16384x512 ![0, 0, 0] P facts.slices_S2x16384x2304_S2x16384x512_0_0_0)⟩,
      ⟨S2x16384x512, QH (extractStridedSlice S2x16384x512 ![0, 0, 1536] P facts.slices_S2x16384x2304_S2x16384x512_0_0_1536)⟩]
    facts.concatenates_S2x16384x512_S2x16384x512_S2x16384x1024_d2) facts.transposes_S2x16384x1024_S2x1024x16384_0_2_1)
    facts.bitsLt_bf16_f32

/-- The normalised row, at an entry. -/
theorem hn_at (X G) (b : Fin 2) (q : Fin 16384) (k : Fin 1024) : HN X G (ix3 b q k)
    = X (ix3 b q k) * Ideal.rsqrt (Ideal.div (∑ l : Fin 1024, X (ix3 b q l) * X (ix3 b q l)) (Ideal.ofBits .f32 0x44800000#32)
      + Ideal.ofBits .f32 0x358637BD#32) * G (ix1 k) := by
  pointwise [HN]

/-- The projection, at an entry. -/
theorem proj_at (X G W) (b : Fin 2) (q : Fin 16384) (n : Fin 2304) : PROJ X G W (ix3 b q n)
    = ∑ l : Fin 1024, HN X G (ix3 b q l) * W (ix2 l n) := by
  pointwise [PROJ]

/-- A head's normalised row, at an entry. -/
theorem heads_at (y) (b : Fin 2) (q : Fin 16384) (h : Fin 8) (d : Fin 64) : HEADS y (ix4 b q h d)
    = y (ix4 b q h d) * Ideal.rsqrt (Ideal.div (∑ e : Fin 64, y (ix4 b q h e) * y (ix4 b q h e)) (Ideal.ofBits .f32 0x42800000#32)
      + Ideal.ofBits .f32 0x358637BD#32) := by
  pointwise [HEADS]

/-- A head's normalised row where there are two, at an entry. -/
theorem heads2_at (y) (b : Fin 2) (q : Fin 16384) (h : Fin 2) (d : Fin 64) : HEADS2 y (ix4 b q h d)
    = y (ix4 b q h d) * Ideal.rsqrt (Ideal.div (∑ e : Fin 64, y (ix4 b q h e) * y (ix4 b q h e)) (Ideal.ofBits .f32 0x42800000#32)
      + Ideal.ofBits .f32 0x358637BD#32) := by
  pointwise [HEADS2]

/-- The keys, at an entry: the first kind's, then the second's. -/
theorem k_low (P QG KG QG' KG') (b : Fin 2) (q : Fin 16384) (h : Fin 8) (d : Fin 64) :
    KREF P QG KG QG' KG' (ix3 b q ⟨h.val * 64 + d.val, by omega⟩)
      = Ideal.div (P (ix3 b q ⟨512 + (h.val * 64 + d.val), by omega⟩)
          * Ideal.rsqrt (Ideal.div (∑ e : Fin 64, P (ix3 b q ⟨512 + (h.val * 64 + e.val), by omega⟩) * P (ix3 b q ⟨512 + (h.val * 64 + e.val), by omega⟩))
            (Ideal.ofBits .f32 0x42800000#32) + Ideal.ofBits .f32 0x358637BD#32)
          * KG (ix1 d) * QG (ix1 d) * Ideal.ofBits .f32 0x3E000000#32) (Ideal.log (Ideal.ofBits .f32 0x40000000#32)) := by
  pointwise [KREF, KNA, heads_at]
  rw [dif_pos (by omega)]

theorem k_high (P QG KG QG' KG') (b : Fin 2) (q : Fin 16384) (h : Fin 2) (d : Fin 64) :
    KREF P QG KG QG' KG' (ix3 b q ⟨512 + (h.val * 64 + d.val), by omega⟩)
      = Ideal.div (P (ix3 b q ⟨2048 + (h.val * 64 + d.val), by omega⟩)
          * Ideal.rsqrt (Ideal.div (∑ e : Fin 64, P (ix3 b q ⟨2048 + (h.val * 64 + e.val), by omega⟩) * P (ix3 b q ⟨2048 + (h.val * 64 + e.val), by omega⟩))
            (Ideal.ofBits .f32 0x42800000#32) + Ideal.ofBits .f32 0x358637BD#32)
          * KG' (ix1 d) * QG' (ix1 d) * Ideal.ofBits .f32 0x3E000000#32) (Ideal.log (Ideal.ofBits .f32 0x40000000#32)) := by
  pointwise [KREF, KWG, heads2_at]

/-- The values, at an entry. -/
theorem v_low (P) (b : Fin 2) (q : Fin 16384) (n : Fin 512) :
    VREF P (ix3 b q ⟨n.val, by omega⟩) = P (ix3 b q ⟨1024 + n.val, by omega⟩) := by
  pointwise [VREF]
theorem v_high (P) (b : Fin 2) (q : Fin 16384) (n : Fin 128) :
    VREF P (ix3 b q ⟨512 + n.val, by omega⟩) = P (ix3 b q ⟨2176 + n.val, by omega⟩) := by
  pointwise [VREF]

/-- The queries of eight heads, at an entry. -/
theorem qh_at (y) (b : Fin 2) (q : Fin 16384) (h : Fin 8) (d : Fin 64) : QH y (ix3 b q ⟨h.val * 64 + d.val, by omega⟩)
    = y (ix3 b q ⟨h.val * 64 + d.val, by omega⟩) * Ideal.rsqrt (Ideal.div (∑ e : Fin 64, y (ix3 b q ⟨h.val * 64 + e.val, by omega⟩)
        * y (ix3 b q ⟨h.val * 64 + e.val, by omega⟩)) (Ideal.ofBits .f32 0x42800000#32) + Ideal.ofBits .f32 0x358637BD#32) := by
  pointwise [QH, heads_at]

/-- The queries, at an entry. -/
theorem q_low (P) (b : Fin 2) (q : Fin 16384) (h : Fin 8) (d : Fin 64) :
    QREF P (ix3 b ⟨h.val * 64 + d.val, by omega⟩ q)
      = P (ix3 b q ⟨h.val * 64 + d.val, by omega⟩) * Ideal.rsqrt (Ideal.div (∑ e : Fin 64, P (ix3 b q ⟨h.val * 64 + e.val, by omega⟩) * P (ix3 b q ⟨h.val * 64 + e.val, by omega⟩))
            (Ideal.ofBits .f32 0x42800000#32) + Ideal.ofBits .f32 0x358637BD#32) := by
  pointwise [QREF, qh_at]
  rw [dif_pos (by omega)]

theorem q_high (P) (b : Fin 2) (q : Fin 16384) (h : Fin 8) (d : Fin 64) :
    QREF P (ix3 b ⟨512 + (h.val * 64 + d.val), by omega⟩ q)
      = P (ix3 b q ⟨1536 + (h.val * 64 + d.val), by omega⟩) * Ideal.rsqrt (Ideal.div (∑ e : Fin 64, P (ix3 b q ⟨1536 + (h.val * 64 + e.val), by omega⟩) * P (ix3 b q ⟨1536 + (h.val * 64 + e.val), by omega⟩))
            (Ideal.ofBits .f32 0x42800000#32) + Ideal.ofBits .f32 0x358637BD#32) := by
  pointwise [QREF, qh_at]

end Cert.Reference5Ideal.Value

end
-- ==== Proof.InOdd.Table.lean ====
/-  The matrix that groups lanes by heads: one where row and column lie in the same half of the lanes, else zero. -/
module

public import proofs.«01_k».proof.Proof.Gen.Kernel5Ideal.Skeleton

@[expose] public section

set_option maxRecDepth 65536

noncomputable section

open Idealize.ShloMosaic

namespace Cert.Kernel5Ideal.Value

open Cert.Kernel5Ideal

/-- Every entry of the table, by evaluation. -/
theorem table : ∀ a b : Fin 128, lit0t (a.val * 128 + b.val) = if a.val / 64 = b.val / 64 then 0x3F80#16 else 0x0000#16 := by
  decide +kernel

end Cert.Kernel5Ideal.Value

end
-- ==== Proof.InOdd.Value.lean ====
/-  What the odd layer's input projection computes, block by block and as a whole, and that its three arrays are the reference's,
    over the extended reals. -/
module

public import proofs.«01_k».proof.Proof.InOdd.Payload
public import proofs.«01_k».proof.Proof.InOdd.Ref
public import proofs.«01_k».proof.Proof.InOdd.Table
public import proofs.«01_k».proof.Proof.InEven.Math

@[expose] public section

set_option maxRecDepth 16384

noncomputable section

open Idealize.ShloMosaic Idealize.ShloMosaic.TcCoe Idealize.SL.Sem
open Idealize.ShloMosaic.Pipeline (Dat)
open Cert.Reference5Ideal.Value (HN PROJ KREF QREF VREF)

namespace Cert.Kernel5Ideal.Value

open Cert.Kernel5Ideal Cert.Kernel5Ideal.Gen

variable (m : (ℓ : Loc nD τ sig) → Buf (Elt Ideal) ℓ)

/-- The windows' block indices at each grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0]
    ∧ win0_9.index t = ![t.val / 32, 0, t.val % 32] ∧ t.val < 64 :=
  (by decide +kernel : ∀ t : Fin grid0.N, _)

/-- The seven arguments, typed: the gains of queries and keys, first of the one kind, then of the other. -/
abbrev aX (c : Dev nD) : FVec Ideal S2x16384x1024 .f32 := m ((c : Thread nD τ).loc main_arg0)
abbrev aG (c : Dev nD) : FVec Ideal S1024 .f32 := m ((c : Thread nD τ).loc main_arg1)
abbrev aW (c : Dev nD) : FVec Ideal S1024x2304 .f32 := m ((c : Thread nD τ).loc main_arg2)
abbrev aQG (c : Dev nD) : FVec Ideal S64 .f32 := m ((c : Thread nD τ).loc main_arg3)
abbrev aKG (c : Dev nD) : FVec Ideal S64 .f32 := m ((c : Thread nD τ).loc main_arg4)
abbrev aQG' (c : Dev nD) : FVec Ideal S64 .f32 := m ((c : Thread nD τ).loc main_arg5)
abbrev aKG' (c : Dev nD) : FVec Ideal S64 .f32 := m ((c : Thread nD τ).loc main_arg6)

/-- The score's scale times the factor of the power of two. -/
def SC : FVec Ideal S_ .f32 :=
  mulf (constant S_ FTy.f32 0x3E000000#32) (Host.divf (constant S_ FTy.f32 0x3F800000#32) (Host.log (constant S_ FTy.f32 0x40000000#32)))

/-- The gain vector of the first kind's eight heads. -/
def GNA (QG KG : FVec Ideal S64 .f32) : FVec Ideal S512 .f32 :=
  mulf (shapeCast S512 (broadcastInDim S8x64 ![0, 1] bcast_S1x64_S8x64_0_1 (shapeCast S1x64 (mulf QG KG) shapeCasts_S64_S1x64))
      shapeCasts_S8x64_S512)
    (broadcastInDim S512 ![] bcast_S_S512 SC)
/-- The gain vector of the second kind's two heads. -/
def GWG (QG KG : FVec Ideal S64 .f32) : FVec Ideal S128 .f32 :=
  mulf (shapeCast S128 (broadcastInDim S2x64 ![0, 1] bcast_S1x64_S2x64_0_1 (shapeCast S1x64 (mulf QG KG) shapeCasts_S64_S1x64))
      shapeCasts_S2x64_S128)
    (broadcastInDim S128 ![] bcast_S_S128 SC)
/-- Both, one after the other. -/
def GAIN (QG KG QG' KG' : FVec Ideal S64 .f32) : FVec Ideal S640 .f32 :=
  concatenate S640 0 [⟨S512, GNA QG KG⟩, ⟨S128, GWG QG' KG'⟩] concatenates_S512_S128_S640_d0

/-- The weights' columns of the keys. -/
def WK (W : FVec Ideal S1024x2304 .f32) : FVec Ideal S1024x640 .bf16 :=
  concatenate S1024x640 1
    [⟨S1024x512, extractStridedSlice S1024x512 ![0, 512] (truncf .bf16 W bitsLt_bf16_f32) slices_S1024x2304_S1024x512_0_512⟩,
      ⟨S1024x128, extractStridedSlice S1024x128 ![0, 2048] (truncf .bf16 W bitsLt_bf16_f32) slices_S1024x2304_S1024x128_0_2048⟩]
    concatenates_S1024x512_S1024x128_S1024x640_d1
/-- The weights' columns of the values. -/
def WV (W : FVec Ideal S1024x2304 .f32) : FVec Ideal S1024x640 .bf16 :=
  concatenate S1024x640 1
    [⟨S1024x512, extractStridedSlice S1024x512 ![0, 1024] (truncf .bf16 W bitsLt_bf16_f32) slices_S1024x2304_S1024x512_0_1024⟩,
      ⟨S1024x128, extractStridedSlice S1024x128 ![0, 2176] (truncf .bf16 W bitsLt_bf16_f32) slices_S1024x2304_S1024x128_0_2176⟩]
    concatenates_S1024x512_S1024x128_S1024x640_d1
/-- The weights' columns of the queries, turned to rows. -/
def WQ (W : FVec Ideal S1024x2304 .f32) : FVec Ideal S1024x1024 .bf16 :=
  transpose S1024x1024 [1, 0] (concatenate S1024x1024 1
    [⟨S1024x512, extractStridedSlice S1024x512 ![0, 0] (truncf .bf16 W bitsLt_bf16_f32) slices_S1024x2304_S1024x512_0_0⟩,
      ⟨S1024x512, extractStridedSlice S1024x512 ![0, 1536] (truncf .bf16 W bitsLt_bf16_f32) slices_S1024x2304_S1024x512_0_1536⟩]
    concatenates_S1024x512_S1024x512_S1024x1024_d1) transposes_S1024x1024_S1024x1024_1_0

/-- The arrays as the call finds them. -/
theorem V28_eq (c : Dev nD) : (V m c main_v28 : FVec Ideal S32768x1024 .f32)
    = shapeCast S32768x1024 (aX m c) shapeCasts_S2x16384x1024_S32768x1024 := by
  entry_read; rfl
theorem V29_eq (c : Dev nD) : (V m c main_v29 : FVec Ideal S1x1024 .f32) = shapeCast S1x1024 (aG m c) shapeCasts_S1024_S1x1024 := by
  entry_read; rfl
theorem V5_eq (c : Dev nD) : (V m c main_v5 : FVec Ideal S1024x640 .bf16) = WK (aW m c) := by
  entry_read; rfl
theorem V30_eq (c : Dev nD) : (V m c main_v30 : FVec Ideal S1x640 .f32)
    = shapeCast S1x640 (GAIN (aQG m c) (aKG m c) (aQG' m c) (aKG' m c)) shapeCasts_S640_S1x640 := by
  entry_read; rfl
theorem Vcst_eq (c : Dev nD) : (V m c main_cst : FVec Ideal S128x128 .bf16)
    = (fun i => FloatOps.ofBits (F := Ideal) .bf16 (lit0 (S128x128.rowMajor i)) : FVec Ideal S128x128 .bf16) := by
  show StableHlo.after hostOps0 _ _ = _
  after_results
  try rfl
theorem V8_eq (c : Dev nD) : (V m c main_v8 : FVec Ideal S1024x640 .bf16) = WV (aW m c) := by
  entry_read; rfl
theorem V12_eq (c : Dev nD) : (V m c main_v12 : FVec Ideal S1024x1024 .bf16) = WQ (aW m c) := by
  entry_read; rfl

/-- The prepared arrays, at an entry. -/
theorem gain_low (QG KG QG' KG' : FVec Ideal S64 .f32) (h : Fin 8) (d : Fin 64) :
    GAIN QG KG QG' KG' (ix1 ⟨h.val * 64 + d.val, by omega⟩)
    = (QG (ix1 d) * KG (ix1 d)) * (Ideal.ofBits .f32 0x3E000000#32 * Ideal.div 1 (Ideal.log (Ideal.ofBits .f32 0x40000000#32))) := by
  pointwise [GAIN, GNA, SC]
  rw [dif_pos (by omega)]
theorem gain_high (QG KG QG' KG' : FVec Ideal S64 .f32) (h : Fin 2) (d : Fin 64) :
    GAIN QG KG QG' KG' (ix1 ⟨512 + (h.val * 64 + d.val), by omega⟩)
    = (QG' (ix1 d) * KG' (ix1 d)) * (Ideal.ofBits .f32 0x3E000000#32 * Ideal.div 1 (Ideal.log (Ideal.ofBits .f32 0x40000000#32))) := by
  pointwise [GAIN, GWG, SC]
theorem wk_low (W : FVec Ideal S1024x2304 .f32) (l : Fin 1024) (n : Fin 512) :
    WK W (ix2 l ⟨n.val, by omega⟩) = W (ix2 l ⟨512 + n.val, by omega⟩) := by
  pointwise [WK]
theorem wk_high (W : FVec Ideal S1024x2304 .f32) (l : Fin 1024) (n : Fin 128) :
    WK W (ix2 l ⟨512 + n.val, by omega⟩) = W (ix2 l ⟨2048 + n.val, by omega⟩) := by
  pointwise [WK]
theorem wv_low (W : FVec Ideal S1024x2304 .f32) (l : Fin 1024) (n : Fin 512) :
    WV W (ix2 l ⟨n.val, by omega⟩) = W (ix2 l ⟨1024 + n.val, by omega⟩) := by
  pointwise [WV]
theorem wv_high (W : FVec Ideal S1024x2304 .f32) (l : Fin 1024) (n : Fin 128) :
    WV W (ix2 l ⟨512 + n.val, by omega⟩) = W (ix2 l ⟨2176 + n.val, by omega⟩) := by
  pointwise [WV]
theorem wq_low (W : FVec Ideal S1024x2304 .f32) (l : Fin 1024) (n : Fin 512) :
    WQ W (ix2 ⟨n.val, by omega⟩ l) = W (ix2 l ⟨n.val, by omega⟩) := by
  pointwise [WQ]
theorem wq_high (W : FVec Ideal S1024x2304 .f32) (l : Fin 1024) (n : Fin 512) :
    WQ W (ix2 ⟨512 + n.val, by omega⟩ l) = W (ix2 l ⟨1536 + n.val, by omega⟩) := by
  pointwise [WQ]

/-- The input blocks of point `t`, at an entry, over the arguments. -/
theorem blk0_at (c : Dev nD) (t : Fin cfg0.N) (r : Fin 512) (k : Fin 1024) (b : Fin 2) (q : Fin 16384)
    (h : b.val * 16384 + q.val = t.val * 512 + r.val) :
    (iblk m c 0 t : FVec Ideal S512x1024 .f32) (ix2 r k) = aX m c (ix3 b q k) := by
  have ht := (idx t).2.2.2.2.2.2.2.2.2.2
  have e : (iblk m c 0 t : FVec Ideal S512x1024 .f32) (ix2 r k)
      = (V m c main_v28 : FVec Ideal S32768x1024 .f32) (ix2 ⟨t.val * 512 + r.val, by omega⟩ k) := by
    blk_ext [iblk, idx t]
  rw [e, V28_eq]
  pointwise
  blk_ext
theorem blk1_at (c : Dev nD) (t : Fin cfg0.N) (k : Fin 1024) :
    (iblk m c 1 t : FVec Ideal S1x1024 .f32) (ix2 0 k) = aG m c (ix1 k) := by
  have e : (iblk m c 1 t : FVec Ideal S1x1024 .f32) (ix2 0 k) = (V m c main_v29 : FVec Ideal S1x1024 .f32) (ix2 0 k) := by
    blk_ext [iblk, idx t]
  rw [e, V29_eq]
  pointwise
theorem blk2_at (c : Dev nD) (t : Fin cfg0.N) (l : Fin 1024) (n : Fin 640) :
    (iblk m c 2 t : FVec Ideal S1024x640 .bf16) (ix2 l n) = WK (aW m c) (ix2 l n) := by
  have e : (iblk m c 2 t : FVec Ideal S1024x640 .bf16) (ix2 l n) = (V m c main_v5 : FVec Ideal S1024x640 .bf16) (ix2 l n) := by
    blk_ext [iblk, idx t]
  rw [e, V5_eq]
theorem blk3_at (c : Dev nD) (t : Fin cfg0.N) (n : Fin 640) :
    (iblk m c 3 t : FVec Ideal S1x640 .f32) (ix2 0 n) = GAIN (aQG m c) (aKG m c) (aQG' m c) (aKG' m c) (ix1 n) := by
  have e : (iblk m c 3 t : FVec Ideal S1x640 .f32) (ix2 0 n) = (V m c main_v30 : FVec Ideal S1x640 .f32) (ix2 0 n) := by
    blk_ext [iblk, idx t]
  rw [e, V30_eq]
  generalize GAIN (aQG m c) (aKG m c) (aQG' m c) (aKG' m c) = g
  pointwise
theorem blk4_at (c : Dev nD) (t : Fin cfg0.N) (a b : Fin 128) :
    (iblk m c 4 t : FVec Ideal S128x128 .bf16) (ix2 a b) = if a.val / 64 = b.val / 64 then (1 : EReal) else (0 : EReal) := by
  have e : (iblk m c 4 t : FVec Ideal S128x128 .bf16) (ix2 a b) = (V m c main_cst : FVec Ideal S128x128 .bf16) (ix2 a b) := by
    blk_ext [iblk, idx t]
  have e' : lit0 (S128x128.rowMajor (ix2 a b)) = lit0t (a.val * 128 + b.val) :=
    congrArg lit0t (Shape.rowMajor_val_two (ix2 a b))
  rw [e, Vcst_eq]
  show Ideal.ofBits .bf16 (lit0 (S128x128.rowMajor (ix2 a b))) = _
  rw [e', table a b]
  split
  · exact Cert.Inproj.b_one
  · exact Cert.Inproj.b_zero
theorem blk5_at (c : Dev nD) (t : Fin cfg0.N) (l : Fin 1024) (n : Fin 640) :
    (iblk m c 5 t : FVec Ideal S1024x640 .bf16) (ix2 l n) = WV (aW m c) (ix2 l n) := by
  have e : (iblk m c 5 t : FVec Ideal S1024x640 .bf16) (ix2 l n) = (V m c main_v8 : FVec Ideal S1024x640 .bf16) (ix2 l n) := by
    blk_ext [iblk, idx t]
  rw [e, V8_eq]
theorem blk6_at (c : Dev nD) (t : Fin cfg0.N) (n l : Fin 1024) :
    (iblk m c 6 t : FVec Ideal S1024x1024 .bf16) (ix2 n l) = WQ (aW m c) (ix2 n l) := by
  have e : (iblk m c 6 t : FVec Ideal S1024x1024 .bf16) (ix2 n l) = (V m c main_v12 : FVec Ideal S1024x1024 .bf16) (ix2 n l) := by
    blk_ext [iblk, idx t]
  rw [e, V12_eq]

/-- The reference's projection of the arguments. -/
abbrev aP (c : Dev nD) : FVec Ideal Cert.Reference5Ideal.S2x16384x2304 .f32 := PROJ (aX m c) (aG m c) (aW m c)

/-- The block's normalised rows are the reference's. -/
theorem hnP (c : Dev nD) (t : Fin cfg0.N) (r : Fin 512) (k : Fin 1024) (b : Fin 2) (q : Fin 16384)
    (h : b.val * 16384 + q.val = t.val * 512 + r.val) :
    k0_pay2 (F := Ideal) (iblk m c 0 t) (iblk m c 1 t) (ix2 r k) = HN (aX m c) (aG m c) (ix3 b q k) := by
  rw [hn_at, Cert.Reference5Ideal.Value.hn_at, blk1_at]
  simp only [blk0_at m c t r _ b q h]

/-- The projected keys, values and queries of a block are the reference's, where the weights' columns are. -/
theorem ykP (c : Dev nD) (t : Fin cfg0.N) (r : Fin 512) (n : Fin 640) (n' : Fin 2304) (b : Fin 2) (q : Fin 16384)
    (h : b.val * 16384 + q.val = t.val * 512 + r.val) (hw : ∀ l, WK (aW m c) (ix2 l n) = aW m c (ix2 l n')) :
    k0_pay3 (F := Ideal) (iblk m c 0 t) (iblk m c 1 t) (iblk m c 2 t) (ix2 r n) = aP m c (ix3 b q n') := by
  rw [yk_at]
  refine Eq.trans ?_ (Cert.Reference5Ideal.Value.proj_at (aX m c) (aG m c) (aW m c) b q _).symm
  refine Finset.sum_congr rfl fun l _ => ?_
  rw [hnP m c t r l b q h, blk2_at, hw]
theorem yvP (c : Dev nD) (t : Fin cfg0.N) (r : Fin 512) (n : Fin 640) (n' : Fin 2304) (b : Fin 2) (q : Fin 16384)
    (h : b.val * 16384 + q.val = t.val * 512 + r.val) (hw : ∀ l, WV (aW m c) (ix2 l n) = aW m c (ix2 l n')) :
    k0_pay17 (F := Ideal) (k0_pay2 (F := Ideal) (iblk m c 0 t) (iblk m c 1 t)) (iblk m c 5 t) (ix2 r n) = aP m c (ix3 b q n') := by
  rw [yv_at]
  refine Eq.trans ?_ (Cert.Reference5Ideal.Value.proj_at (aX m c) (aG m c) (aW m c) b q _).symm
  refine Finset.sum_congr rfl fun l _ => ?_
  rw [hnP m c t r l b q h, blk5_at, hw]
theorem yqP (c : Dev nD) (t : Fin cfg0.N) (r : Fin 512) (n : Fin 1024) (n' : Fin 2304) (b : Fin 2) (q : Fin 16384)
    (h : b.val * 16384 + q.val = t.val * 512 + r.val) (hw : ∀ l, WQ (aW m c) (ix2 n l) = aW m c (ix2 l n')) :
    YT (k0_pay2 (F := Ideal) (iblk m c 0 t) (iblk m c 1 t)) (iblk m c 6 t) n r = aP m c (ix3 b q n') := by
  unfold YT
  refine Eq.trans ?_ (Cert.Reference5Ideal.Value.proj_at (aX m c) (aG m c) (aW m c) b q _).symm
  refine Finset.sum_congr rfl fun l _ => ?_
  rw [hnP m c t r l b q h, blk6_at, hw, mul_comm]

/-- A key left at a point, where its head's columns and gains are: the head's norm, the gains and the scale. -/
theorem key (c : Dev nD) (t : Fin cfg0.N) (r : Fin 512) (H : Fin 10) (d : Fin 64) (b : Fin 2) (q : Fin 16384)
    (hr : b.val * 16384 + q.val = t.val * 512 + r.val) (y : S512x640.Idx) (hy0 : (y 0).val = r.val)
    (hy1 : (y 1).val = H.val * 64 + d.val) (p : Fin 64 → Fin 2304) (QG KG : FVec Ideal S64 .f32)
    (hw : ∀ (e : Fin 64) (l : Fin 1024), WK (aW m c) (ix2 l ⟨H.val * 64 + e.val, by omega⟩) = aW m c (ix2 l (p e)))
    (hg : GAIN (aQG m c) (aKG m c) (aQG' m c) (aKG' m c) (ix1 ⟨H.val * 64 + d.val, by omega⟩)
      = (QG (ix1 d) * KG (ix1 d)) * (Ideal.ofBits .f32 0x3E000000#32 * Ideal.div 1 (Ideal.log (Ideal.ofBits .f32 0x40000000#32)))) :
    ((dats m 0 c).after 7 t : FVec Ideal S512x640 .bf16) y
      = Ideal.div (aP m c (ix3 b q (p d))
          * Ideal.rsqrt (Ideal.div (∑ e : Fin 64, aP m c (ix3 b q (p e)) * aP m c (ix3 b q (p e)))
            (Ideal.ofBits .f32 0x42800000#32) + Ideal.ofBits .f32 0x358637BD#32)
          * KG (ix1 d) * QG (ix1 d) * Ideal.ofBits .f32 0x3E000000#32) (Ideal.log (Ideal.ofBits .f32 0x40000000#32)) := by
  rw [after0_7]
  refine (k_at _ _ _ _ _ _ _ y r ⟨H.val / 2, by omega⟩ ⟨64 * (H.val % 2) + d.val, by omega⟩ hy0
    (by show _ = 128 * (H.val / 2) + (64 * (H.val % 2) + d.val); omega)).trans ?_
  rw [← Cert.Inproj.key_scale, ← Cert.Inproj.div_64]
  have hP : ∀ (e : Fin 64) (n : Fin 640), n.val = H.val * 64 + e.val →
      k0_pay3 (F := Ideal) (iblk m c 0 t) (iblk m c 1 t) (iblk m c 2 t) (ix2 r n) = aP m c (ix3 b q (p e)) := fun e n hn =>
    ykP m c t r n (p e) b q hr fun l => (congrArg (fun z => WK (aW m c) (ix2 l z)) (Fin.ext hn)).trans (hw e l)
  have hG : ∀ n : Fin 640, n.val = H.val * 64 + d.val → (iblk m c 3 t : FVec Ideal S1x640 .f32) (ix2 0 n) = _ := fun n hn =>
    (blk3_at m c t n).trans ((congrArg (fun z => GAIN (aQG m c) (aKG m c) (aQG' m c) (aKG' m c) (ix1 z)) (Fin.ext hn)).trans hg)
  unfold CH
  rw [hP d _ (by show 128 * (H.val / 2) + (64 * (H.val % 2) + d.val) = _; omega),
    hG _ (by show 128 * (H.val / 2) + (64 * (H.val % 2) + d.val) = _; omega),
    Cert.Inproj.half_sum _ _ ⟨H.val % 2, by omega⟩ (fun i => (blk4_at m c t i _).trans (by
      show (if i.val / 64 = (64 * (H.val % 2) + d.val) / 64 then (1 : EReal) else 0) = if i.val / 64 = H.val % 2 then 1 else 0
      rw [show (64 * (H.val % 2) + d.val) / 64 = H.val % 2 by omega]))]
  have hs : ∀ e : Fin 64, k0_pay3 (F := Ideal) (iblk m c 0 t) (iblk m c 1 t) (iblk m c 2 t)
      (ix2 r ⟨128 * (H.val / 2) + (64 * (H.val % 2) + e.val), by omega⟩) = aP m c (ix3 b q (p e)) :=
    fun e => hP e _ (by show 128 * (H.val / 2) + (64 * (H.val % 2) + e.val) = _; omega)
  simp only [hs]

/-- The keys of the arguments, by the reference. -/
abbrev aK (c : Dev nD) : FVec Ideal Cert.Reference5Ideal.S2x16384x640 .bf16 := KREF (aP m c) (aQG m c) (aKG m c) (aQG' m c) (aKG' m c)

/-- The keys left at a point: the reference's. -/
theorem acc_k (c : Dev nD) (t : Fin cfg0.N) (r : Fin 512) (n : Fin 640) (b : Fin 2) (q : Fin 16384)
    (hr : b.val * 16384 + q.val = t.val * 512 + r.val) :
    ((dats m 0 c).after 7 t : FVec Ideal S512x640 .bf16) (ix2 r n) = aK m c (ix3 b q n) := by
  by_cases hn : n.val < 512
  · have e := Cert.Reference5Ideal.Value.k_low (aP m c) (aQG m c) (aKG m c) (aQG' m c) (aKG' m c) b q ⟨n.val / 64, by omega⟩ ⟨n.val % 64, by omega⟩
    have hn' : n = ⟨n.val / 64 * 64 + n.val % 64, by omega⟩ := Fin.ext (by show n.val = n.val / 64 * 64 + n.val % 64; omega)
    refine Eq.trans ?_ (e.symm.trans (congrArg (fun z => aK m c (ix3 b q z)) hn'.symm))
    refine key m c t r ⟨n.val / 64, by omega⟩ ⟨n.val % 64, by omega⟩ b q hr _ rfl (congrArg Fin.val hn')
      (fun e => ⟨512 + (n.val / 64 * 64 + e.val), by omega⟩) (aQG m c) (aKG m c) (fun e l => ?_) ?_
    · exact wk_low (aW m c) l ⟨n.val / 64 * 64 + e.val, by omega⟩
    · exact gain_low (aQG m c) (aKG m c) (aQG' m c) (aKG' m c) ⟨n.val / 64, by omega⟩ ⟨n.val % 64, by omega⟩
  · have e := Cert.Reference5Ideal.Value.k_high (aP m c) (aQG m c) (aKG m c) (aQG' m c) (aKG' m c) b q ⟨(n.val - 512) / 64, by omega⟩ ⟨n.val % 64, by omega⟩
    have hn' : n = ⟨512 + ((n.val - 512) / 64 * 64 + n.val % 64), by omega⟩ :=
      Fin.ext (by show n.val = 512 + ((n.val - 512) / 64 * 64 + n.val % 64); omega)
    have hm : ∀ (e : Fin 64), (⟨(8 + (n.val - 512) / 64) * 64 + e.val, by omega⟩ : Fin 640)
        = ⟨512 + ((n.val - 512) / 64 * 64 + e.val), by omega⟩ := fun e => Fin.ext (by
      show (8 + (n.val - 512) / 64) * 64 + e.val = 512 + ((n.val - 512) / 64 * 64 + e.val); omega)
    refine Eq.trans ?_ (e.symm.trans (congrArg (fun z => aK m c (ix3 b q z)) hn'.symm))
    refine key m c t r ⟨8 + (n.val - 512) / 64, by omega⟩ ⟨n.val % 64, by omega⟩ b q hr _ rfl
      (by show n.val = (8 + (n.val - 512) / 64) * 64 + n.val % 64; omega)
      (fun e => ⟨2048 + ((n.val - 512) / 64 * 64 + e.val), by omega⟩) (aQG' m c) (aKG' m c) (fun e l => ?_) ?_
    · exact (congrArg (fun z => WK (aW m c) (ix2 l z)) (hm e)).trans (wk_high (aW m c) l ⟨(n.val - 512) / 64 * 64 + e.val, by omega⟩)
    · exact (congrArg (fun z => GAIN (aQG m c) (aKG m c) (aQG' m c) (aKG' m c) (ix1 z)) (hm ⟨n.val % 64, by omega⟩)).trans
        (gain_high (aQG m c) (aKG m c) (aQG' m c) (aKG' m c) ⟨(n.val - 512) / 64, by omega⟩ ⟨n.val % 64, by omega⟩)

/-- The values left at a point: the reference's. -/
theorem acc_v (c : Dev nD) (t : Fin cfg0.N) (r : Fin 512) (n : Fin 640) (b : Fin 2) (q : Fin 16384)
    (hr : b.val * 16384 + q.val = t.val * 512 + r.val) :
    ((dats m 0 c).after 8 t : FVec Ideal S512x640 .bf16) (ix2 r n) = VREF (aP m c) (ix3 b q n) := by
  rw [after0_8]
  refine (congrFun (v_at _ _ _ _ _ _ _) _).trans ?_
  by_cases hn : n.val < 512
  · exact (yvP m c t r n ⟨1024 + n.val, by omega⟩ b q hr fun l => wv_low (aW m c) l ⟨n.val, hn⟩).trans
      (Cert.Reference5Ideal.Value.v_low (aP m c) b q ⟨n.val, hn⟩).symm
  · have hn' : n = ⟨512 + (n.val - 512), by omega⟩ := Fin.ext (by show n.val = 512 + (n.val - 512); omega)
    refine (yvP m c t r n ⟨2176 + (n.val - 512), by omega⟩ b q hr fun l =>
      (congrArg (fun z => WV (aW m c) (ix2 l z)) hn').trans (wv_high (aW m c) l ⟨n.val - 512, by omega⟩)).trans ?_
    exact ((congrArg (fun z => VREF (aP m c) (ix3 b q z)) hn').trans
      (Cert.Reference5Ideal.Value.v_high (aP m c) b q ⟨n.val - 512, by omega⟩)).symm

/-- The queries left at a point: the reference's. -/
theorem acc_q (c : Dev nD) (t : Fin cfg0.N) (r : Fin 512) (n : Fin 1024) (b : Fin 2) (q : Fin 16384)
    (hr : b.val * 16384 + q.val = t.val * 512 + r.val) :
    ((dats m 0 c).after 9 t : FVec Ideal S1x1024x512 .bf16) (ix3 0 n r) = QREF (aP m c) (ix3 b n q) := by
  rw [after0_9]
  refine (q_at _ _ _ _ _ _ _ n r).trans ?_
  have hn : n = ⟨n.val / 64 * 64 + n.val % 64, by omega⟩ := Fin.ext (by show n.val = n.val / 64 * 64 + n.val % 64; omega)
  refine (congrArg (fun z => k0_pay18 (F := Ideal) (k0_pay2 (F := Ideal) (iblk m c 0 t) (iblk m c 1 t)) (iblk m c 6 t) (ix2 z r)) hn).trans ?_
  refine (yq_at _ _ ⟨n.val / 64, by omega⟩ ⟨n.val % 64, by omega⟩ r).trans ?_
  by_cases hl : n.val < 512
  · have e := Cert.Reference5Ideal.Value.q_low (aP m c) b q ⟨n.val / 64, by omega⟩ ⟨n.val % 64, by omega⟩
    refine Eq.trans ?_ (e.symm.trans (congrArg (fun z => QREF (aP m c) (ix3 b z q)) hn.symm))
    have hs : ∀ e : Fin 64, YT (k0_pay2 (F := Ideal) (iblk m c 0 t) (iblk m c 1 t)) (iblk m c 6 t) ⟨n.val / 64 * 64 + e.val, by omega⟩ r
        = aP m c (ix3 b q ⟨n.val / 64 * 64 + e.val, by omega⟩) := fun e =>
      yqP m c t r _ _ b q hr fun l => wq_low (aW m c) l ⟨n.val / 64 * 64 + e.val, by omega⟩
    simp only [hs]
    exact congrArg (· * _) (hs ⟨n.val % 64, by omega⟩)
  · have e := Cert.Reference5Ideal.Value.q_high (aP m c) b q ⟨(n.val - 512) / 64, by omega⟩ ⟨n.val % 64, by omega⟩
    have hn' : n = ⟨512 + ((n.val - 512) / 64 * 64 + n.val % 64), by omega⟩ :=
      Fin.ext (by show n.val = 512 + ((n.val - 512) / 64 * 64 + n.val % 64); omega)
    refine Eq.trans ?_ (e.symm.trans (congrArg (fun z => QREF (aP m c) (ix3 b z q)) hn'.symm))
    have hs : ∀ e : Fin 64, YT (k0_pay2 (F := Ideal) (iblk m c 0 t) (iblk m c 1 t)) (iblk m c 6 t) ⟨n.val / 64 * 64 + e.val, by omega⟩ r
        = aP m c (ix3 b q ⟨1536 + ((n.val - 512) / 64 * 64 + e.val), by omega⟩) := fun e =>
      yqP m c t r _ _ b q hr fun l => (congrArg (fun z => WQ (aW m c) (ix2 z l)) (Fin.ext (by
        show n.val / 64 * 64 + e.val = 512 + ((n.val - 512) / 64 * 64 + e.val); omega))).trans
        (wq_high (aW m c) l ⟨(n.val - 512) / 64 * 64 + e.val, by omega⟩)
    simp only [hs]
    exact congrArg (· * _) (hs ⟨n.val % 64, by omega⟩)

/-- The keys after the whole grid: the reference's, their rows numbered through both batches. -/
theorem final_k (c : Dev nD) : ((dats m 0 c).arrAt 7 (cfgs 0).N : FVec Ideal S32768x640 .bf16)
    = shapeCast S32768x640 (aK m c) shapeCasts_S32768x640_S2x16384x640.symm := by
  refine (dats m 0 c).arrAt_eq_of_covers 7 _ (by decide +kernel) fun t hf y => ?_
  blk_simp
  obtain ⟨r, k, rfl⟩ : ∃ (r : Fin 512) (k : Fin 640), y = ix2 r k := ⟨y 0, y 1, eq_ix2 y⟩
  have ht := (idx t).2.2.2.2.2.2.2.2.2.2
  refine (acc_k m c t r k ⟨(t.val * 512 + r.val) / 16384, by omega⟩ ⟨(t.val * 512 + r.val) % 16384, by omega⟩
    (by show _ / _ * _ + _ % _ = _; omega)).trans ?_
  generalize aK m c = R
  pointwise
  have e0 : (((View.whole main_v31_0).slice (win0_7.rect t)).emb (ix2 r k) 0).val = t.val * 512 + r.val := by
    blk_simp [idx t]
  have e1 : (((View.whole main_v31_0).slice (win0_7.rect t)).emb (ix2 r k) 1).val = k.val := by
    blk_simp [idx t]
  simp only [e0, show ((View.whole main_v31_0).slice (win0_7.rect t)).emb (ix2 r k) 1 = k from Fin.ext e1]

/-- The values after the whole grid: the reference's, their rows numbered through both batches. -/
theorem final_v (c : Dev nD) : ((dats m 0 c).arrAt 8 (cfgs 0).N : FVec Ideal S32768x640 .bf16)
    = shapeCast S32768x640 (VREF (aP m c)) shapeCasts_S32768x640_S2x16384x640.symm := by
  refine (dats m 0 c).arrAt_eq_of_covers 8 _ (by decide +kernel) fun t hf y => ?_
  blk_simp
  obtain ⟨r, k, rfl⟩ : ∃ (r : Fin 512) (k : Fin 640), y = ix2 r k := ⟨y 0, y 1, eq_ix2 y⟩
  have ht := (idx t).2.2.2.2.2.2.2.2.2.2
  refine (acc_v m c t r k ⟨(t.val * 512 + r.val) / 16384, by omega⟩ ⟨(t.val * 512 + r.val) % 16384, by omega⟩
    (by show _ / _ * _ + _ % _ = _; omega)).trans ?_
  generalize VREF (aP m c) = R
  pointwise
  have e0 : (((View.whole main_v31_1).slice (win0_8.rect t)).emb (ix2 r k) 0).val = t.val * 512 + r.val := by
    blk_simp [idx t]
  have e1 : (((View.whole main_v31_1).slice (win0_8.rect t)).emb (ix2 r k) 1).val = k.val := by
    blk_simp [idx t]
  simp only [e0, show ((View.whole main_v31_1).slice (win0_8.rect t)).emb (ix2 r k) 1 = k from Fin.ext e1]

/-- The queries after the whole grid: the reference's. -/
theorem final_q (c : Dev nD) : ((dats m 0 c).arrAt 9 (cfgs 0).N : FVec Ideal S2x1024x16384 .bf16) = QREF (aP m c) := by
  refine (dats m 0 c).arrAt_eq_of_covers 9 _ (by decide +kernel) fun t hf y => ?_
  blk_simp
  have h0 : (y 0).val = 0 := by have := (y 0).isLt; change _ < 1 at this; omega
  obtain ⟨k, r, rfl⟩ : ∃ (k : Fin 1024) (r : Fin 512), y = ix3 0 k r :=
    ⟨y 1, y 2, (eq_ix3 y).trans (by rw [show y 0 = (0 : Fin 1) from Fin.ext h0])⟩
  have ht := (idx t).2.2.2.2.2.2.2.2.2.2
  refine (acc_q m c t r k ⟨t.val / 32, by omega⟩ ⟨t.val % 32 * 512 + r.val, by omega⟩
    (by show _ / _ * _ + (_ % _ * _ + _) = _; omega)).trans ?_
  blk_ext [idx t]

/-- The keys after the program's tail: the reference's. -/
theorem tail_k (c : Dev nD) : (Pipeline.afterTail₀ cfgs (dats m) 0 (V0 m) [hostOps1] c main_v32 : FVec Ideal S2x16384x640 .bf16)
    = aK m c := by
  unfold Pipeline.afterTail₀
  have h4 : Pipeline.withArrays spec0 c (V0 m c) (fun w => (dats m 0 c).arrAt w (cfgs 0).N) (Proc.devRef .tc main_v31_0)
      = (dats m 0 c).arrAt 7 (cfgs 0).N := Pipeline.withArrays_arr spec0 (by decide) c _ _ 7
  have h5 : ∀ W : Valuation τ sig (Elt Ideal), StableHlo.after (List.flatten [hostOps1]) W (Proc.devRef .tc main_v32)
      = shapeCast S2x16384x640 (W (Proc.devRef .tc main_v31_0) : FVec Ideal S32768x640 .bf16) shapeCasts_S32768x640_S2x16384x640 := by
    intro W
    show StableHlo.after hostOps1 W _ = _
    after_results
    rfl
  rw [h5]
  refine (congrArg (fun z => shapeCast S2x16384x640 (z : FVec Ideal S32768x640 .bf16) shapeCasts_S32768x640_S2x16384x640)
    (h4.trans (final_k m c))).trans ?_
  generalize aK m c = R
  funext i
  idx_vars i
  pointwise

/-- The values after the program's tail: the reference's. -/
theorem tail_v (c : Dev nD) : (Pipeline.afterTail₀ cfgs (dats m) 0 (V0 m) [hostOps1] c main_v33 : FVec Ideal S2x16384x640 .bf16)
    = VREF (aP m c) := by
  unfold Pipeline.afterTail₀
  have h4 : Pipeline.withArrays spec0 c (V0 m c) (fun w => (dats m 0 c).arrAt w (cfgs 0).N) (Proc.devRef .tc main_v31_1)
      = (dats m 0 c).arrAt 8 (cfgs 0).N := Pipeline.withArrays_arr spec0 (by decide) c _ _ 8
  have h5 : ∀ W : Valuation τ sig (Elt Ideal), StableHlo.after (List.flatten [hostOps1]) W (Proc.devRef .tc main_v33)
      = shapeCast S2x16384x640 (W (Proc.devRef .tc main_v31_1) : FVec Ideal S32768x640 .bf16) shapeCasts_S32768x640_S2x16384x640 := by
    intro W
    show StableHlo.after hostOps1 W _ = _
    after_results
    rfl
  rw [h5]
  refine (congrArg (fun z => shapeCast S2x16384x640 (z : FVec Ideal S32768x640 .bf16) shapeCasts_S32768x640_S2x16384x640)
    (h4.trans (final_v m c))).trans ?_
  generalize VREF (aP m c) = R
  funext i
  idx_vars i
  pointwise

end Cert.Kernel5Ideal.Value

end
-- ==== Proof.InOdd.Claims.lean ====
/-  The claims of the input projection of the odd layer: its frames, its reference's frame, and that both programs compute the same arrays. -/
module

public import proofs.«01_k».proof.Defs
public import proofs.«01_k».proof.Proof.Gen.Kernel5.Frame
public import proofs.«01_k».proof.Proof.Gen.Kernel5Ideal.Frame
public import proofs.«01_k».proof.Proof.Gen.Reference5Ideal
public import proofs.«01_k».proof.Proof.InOdd.Value
public import Idealize.ShloMosaic.Lib.Claim
public import Idealize.ShloMosaic.Lib.Pipeline.ValueKit

@[expose] public section

set_option maxRecDepth 16384

noncomputable section

namespace Cert.Proof

open Idealize.ShloMosaic Idealize.SL.Sem

/-- The input projection of the odd layer leaves its arguments alone and its semaphores at zero. -/
theorem frame_Kernel5 : Cert.quiescent_Kernel5 := fun m ρ _ => Cert.Kernel5.Gen.frame m ρ

/-- So does its idealized program. -/
theorem frame_Kernel5Ideal : Cert.quiescent_Kernel5Ideal := fun m ρ _ => Cert.Kernel5Ideal.Gen.frame m ρ

/-- So does its reference. -/
theorem frame_Reference5Ideal : Cert.quiescent_Reference5Ideal := by
  intro m g _
  hlo_run
  · exact fun _ => ⟨trivial, trivial, trivial, trivial, trivial, trivial, trivial⟩
  · exact sem_eq_zero_of_no_sems rfl _

set_option maxHeartbeats 4000000 in
/-- THE VALUE CLAIM: over the extended reals the input projection and its reference end with equal results. -/
theorem algebraic_Kernel5 : Cert.algebraic_Kernel5Ideal_Reference5Ideal := by
  pair_intro
  · run_from Cert.Kernel5Ideal.Gen.run_main m g
    · exact Cert.Kernel5Ideal.Gen.W_main_arg0 m _ c
    · exact Cert.Kernel5Ideal.Gen.W_main_arg1 m _ c
    · exact Cert.Kernel5Ideal.Gen.W_main_arg2 m _ c
    · exact Cert.Kernel5Ideal.Gen.W_main_arg3 m _ c
    · exact Cert.Kernel5Ideal.Gen.W_main_arg4 m _ c
    · exact Cert.Kernel5Ideal.Gen.W_main_arg5 m _ c
    · exact Cert.Kernel5Ideal.Gen.W_main_arg6 m _ c
  · hlo_run
    all_goals try rw [show m' (c.tc.loc Cert.Reference5Ideal.main_arg0) = m (c.tc.loc Cert.Kernel5Ideal.main_arg0) from (hagree c).1]
    all_goals try rw [show m' (c.tc.loc Cert.Reference5Ideal.main_arg1) = m (c.tc.loc Cert.Kernel5Ideal.main_arg1) from (hagree c).2.1]
    all_goals try rw [show m' (c.tc.loc Cert.Reference5Ideal.main_arg2) = m (c.tc.loc Cert.Kernel5Ideal.main_arg2) from (hagree c).2.2.1]
    all_goals try rw [show m' (c.tc.loc Cert.Reference5Ideal.main_arg3) = m (c.tc.loc Cert.Kernel5Ideal.main_arg3) from (hagree c).2.2.2.1]
    all_goals try rw [show m' (c.tc.loc Cert.Reference5Ideal.main_arg4) = m (c.tc.loc Cert.Kernel5Ideal.main_arg4) from (hagree c).2.2.2.2.1]
    all_goals try rw [show m' (c.tc.loc Cert.Reference5Ideal.main_arg5) = m (c.tc.loc Cert.Kernel5Ideal.main_arg5) from (hagree c).2.2.2.2.2.1]
    all_goals try rw [show m' (c.tc.loc Cert.Reference5Ideal.main_arg6) = m (c.tc.loc Cert.Kernel5Ideal.main_arg6) from (hagree c).2.2.2.2.2.2]
    · exact (Cert.Kernel5Ideal.Value.tail_k m c).symm
    · exact (Cert.Kernel5Ideal.Value.tail_v m c).symm
    · exact (Cert.Kernel5Ideal.Value.final_q m c).symm

end Cert.Proof

end
-- ==== Proof.OutOdd.Value.lean ====
/-  What the odd layer's output projection computes, block by block and as a whole, and that it is the reference's term, over
    the extended reals. -/
module

public import proofs.«01_k».proof.Proof.Gen.Kernel6Ideal.Frame
public import proofs.«01_k».proof.Proof.Gen.Reference6Ideal
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel6Ideal.Value

open Cert.Kernel6Ideal Cert.Kernel6Ideal.Gen

variable (m : (ℓ : Loc nD τ sig) → Buf (Elt Ideal) ℓ)

/-- The reference's second half: the heads put back in their order. -/
def ORD (B : FVec Ideal S2x16384x512 .bf16) : FVec Ideal S2x16384x512 .f32 :=
  shapeCast Reference6Ideal.S2x16384x512
    (transpose Reference6Ideal.S2x16384x2x4x64 [0, 1, 3, 2, 4]
      (shapeCast Reference6Ideal.S2x16384x4x2x64 (extf .f32 B Reference6Ideal.Gen.facts.bitsLt_bf16_f32 : FVec Ideal S2x16384x512 .f32)
        Reference6Ideal.Gen.facts.shapeCasts_S2x16384x512_S2x16384x4x2x64)
      Reference6Ideal.Gen.facts.transposes_S2x16384x4x2x64_S2x16384x2x4x64_0_1_3_2_4)
    Reference6Ideal.Gen.facts.shapeCasts_S2x16384x2x4x64_S2x16384x512

/-- The reference's two halves side by side. -/
def CAT (A B : FVec Ideal S2x16384x512 .bf16) : FVec Ideal S2x16384x1024 .f32 :=
  concatenate Reference6Ideal.S2x16384x1024 2 [⟨Reference6Ideal.S2x16384x512, extf .f32 A Reference6Ideal.Gen.facts.bitsLt_bf16_f32⟩,
    ⟨Reference6Ideal.S2x16384x512, ORD B⟩]
    Reference6Ideal.Gen.facts.concatenates_S2x16384x512_S2x16384x512_S2x16384x1024_d2

/-- The reference's composed term over its arguments. -/
def REF (X : FVec Ideal S2x16384x1024 .f32) (A B : FVec Ideal S2x16384x512 .bf16)
    (W : FVec Ideal S1024x1024 .f32) : FVec Ideal S2x16384x1024 .f32 :=
  addf X (Host.dotGeneral Reference6Ideal.dot_S2x16384x1024_S1024x1024_S2x16384x1024_2_0_01_1_n_n none (CAT A B) W)

/-- Where the lane `k` of the permuted heads belongs in the weights' second half. -/
def fwd (k : Fin 512) : Fin 512 := ⟨(k.val / 64 % 2 * 4 + k.val / 64 / 2) * 64 + k.val % 64, by omega⟩
/-- The way back. -/
def bwd (n : Fin 512) : Fin 512 := ⟨(n.val / 64 % 4 * 2 + n.val / 64 / 4) * 64 + n.val % 64, by omega⟩
/-- The permutation of lanes that the permuted heads make. -/
def perm : Fin 512 ≃ Fin 512 where
  toFun := fwd
  invFun := bwd
  left_inv k := Fin.ext (by simp only [fwd, bwd]; omega)
  right_inv n := Fin.ext (by simp only [fwd, bwd]; omega)

theorem ord_at (B) (b : Fin 2) (q : Fin 16384) (v : Fin 2) (g : Fin 4) (d : Fin 64) :
    ORD B (ix3 b q ⟨v.val * 256 + (g.val * 64 + d.val), by omega⟩) = B (ix3 b q ⟨g.val * 128 + v.val * 64 + d.val, by omega⟩) := by
  pointwise [ORD]

/-- The reordered half at the place of lane `k`: that lane. -/
theorem ord_fwd (B) (b : Fin 2) (q : Fin 16384) (k : Fin 512) : ORD B (ix3 b q (fwd k)) = B (ix3 b q k) := by
  have e := ord_at B b q ⟨k.val / 64 % 2, by omega⟩ ⟨k.val / 64 / 2, by omega⟩ ⟨k.val % 64, by omega⟩
  refine (congrArg (fun z => ORD B (ix3 b q z)) (Fin.ext ?_)).trans (e.trans (congrArg (fun z => B (ix3 b q z)) (Fin.ext ?_)))
  · show (k.val / 64 % 2 * 4 + k.val / 64 / 2) * 64 + k.val % 64 = k.val / 64 % 2 * 256 + (k.val / 64 / 2 * 64 + k.val % 64)
    omega
  · show k.val / 64 / 2 * 128 + k.val / 64 % 2 * 64 + k.val % 64 = k.val
    omega

theorem cat_left (A B) (b : Fin 2) (q : Fin 16384) (k : Fin 512) :
    CAT A B (ix3 b q ⟨k.val, by omega⟩) = A (ix3 b q k) := by
  pointwise [CAT]

theorem cat_right (A B) (b : Fin 2) (q : Fin 16384) (k : Fin 512) :
    CAT A B (ix3 b q ⟨512 + k.val, by omega⟩) = ORD B (ix3 b q k) := by
  unfold CAT
  generalize ORD B = O
  pointwise

/-- The reference's term at an entry, its sum cut at the seam, the second half in the permuted heads' order. -/
theorem ref_at (X A B W) (b : Fin 2) (q : Fin 16384) (c : Fin 1024) :
    REF X A B W (ix3 b q c) = X (ix3 b q c) + (∑ k : Fin 512, A (ix3 b q k) * W (ix2 ⟨k.val, by omega⟩ c))
      + ∑ k : Fin 512, B (ix3 b q k) * W (ix2 ⟨512 + (fwd k).val, by omega⟩ c) := by
  have e : REF X A B W (ix3 b q c) = X (ix3 b q c) + ∑ k : Fin (512 + 512), CAT A B (ix3 b q k) * W (ix2 k c) := by
    pointwise [REF]
  rw [e, Fin.sum_univ_add, add_assoc]
  refine congrArg (X (ix3 b q c) + ·) (congrArg₂ (· + ·) (Finset.sum_congr rfl fun k _ => ?_) ?_)
  · exact congrArg (· * _) (cat_left A B b q k)
  · refine Eq.trans ?_ (Fintype.sum_equiv perm (fun k => B (ix3 b q k) * W (ix2 ⟨512 + (fwd k).val, by omega⟩ c))
      (fun n => ORD B (ix3 b q n) * W (ix2 ⟨512 + n.val, by omega⟩ c)) fun k => ?_).symm
    · refine Finset.sum_congr rfl fun k _ => ?_
      exact congrArg (· * _) (cat_right A B b q k)
    · exact congrArg (· * _) (ord_fwd B b q k).symm

/-- What one block computes, at an entry. -/
theorem pay_at (v0 : FVec Ideal S512x512 .bf16) (v4 : FVec Ideal S512x1024 .f32) (v6 : FVec Ideal S512x512 .bf16)
    (v8 v12 : FVec Ideal S512x1024 .bf16) (r : Fin 512) (c : Fin 1024) :
    k0_pay1 (F := Ideal) v0 v4 v6 v8 v12 (ix2 r c)
      = v4 (ix2 r c) + (∑ k : Fin 512, v6 (ix2 r k) * v8 (ix2 k c)) + ∑ k : Fin 512, v0 (ix2 r k) * v12 (ix2 k c) := by
  pointwise [k0_pay1]

/-- The rows of the weights' second half in the permuted heads' order, as the host writes them. -/
def ROWS : IVec S512x1 32 :=
  broadcastInDim S512x1 ![0] bcast_S512_S512x1_0
    (select (constantI S512 1 0#1)
      (addi (fun i => lit0 (S512.rowMajor i)) (broadcastInDim S512 ![] bcast_S_S512 (constantI S_ 32 1024#32)))
      fun i => lit0 (S512.rowMajor i))

/-- A row's number, within the weights. -/
theorem table : ∀ k : Fin 512, min (lit0t k.val).toInt.toNat 1023 = 512 + (fwd k).val := by
  decide +kernel

theorem rows_at (k : Fin 512) : ROWS (ix2 k 0) = lit0t k.val := by
  have e : lit0 (S512.rowMajor (ix1 k)) = lit0t k.val := congrArg lit0t (Shape.rowMajor_val_one (ix1 k))
  refine Eq.trans ?_ e
  pointwise [ROWS]

/-- A lookup of rows of the weights, read at an index: the row its word names, within the weights. -/
theorem gather_at (w : FVec Ideal S1024x1024 .bf16) (idx : IVec S512x1 32) (k : Fin 512) (n : Fin 1024) :
    Host.gather gather_S1024x1024_S512x1_S512x1024_1_0_n_n_0_1_11024 w idx (ix2 k n)
      = w (ix2 ⟨min (idx (ix2 k 0)).toInt.toNat 1023, by omega⟩ n) := by
  unfold Host.gather
  refine congrArg w (funext fun a => Fin.ext ?_)
  show GatherDims.start _ _ idx a + GatherDims.batchCoord _ _ a + GatherDims.offCoord _ _ a = _
  rw [GatherDims.batchCoord_eq_zero _ _ _ List.not_mem_nil]
  have ha : a = 0 ∨ a = 1 := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S1024x1024_S512x1_S512x1024_1_0_n_n_0_1_11024.startIndexMap from List.mem_singleton.mpr rfl)]
    have hsi : GatherDims.siIdx gather_S1024x1024_S512x1_S512x1024_1_0_n_n_0_1_11024 (ix2 k n)
        ⟨List.idxOf (0 : Fin 2) gather_S1024x1024_S512x1_S512x1024_1_0_n_n_0_1_11024.startIndexMap,
          List.idxOf_lt_length_iff.2 (List.mem_singleton.mpr rfl)⟩ = ix2 k 0 := by
      funext b
      refine Fin.ext ?_
      fin_cases b <;> rfl
    rw [hsi]
    rfl
  · have h0 : GatherDims.start gather_S1024x1024_S512x1_S512x1024_1_0_n_n_0_1_11024 (ix2 k n) idx 1 = 0 := by
      unfold GatherDims.start
      rw [dif_neg (by decide)]
    have h1 : GatherDims.offCoord gather_S1024x1024_S512x1_S512x1024_1_0_n_n_0_1_11024 (ix2 k n) 1 = n.val := rfl
    rw [h0, h1]; exact Nat.zero_add _

/-- The windows' block indices at each grid point. -/
theorem idx : ∀ t : Fin cfg0.N, win0_0.index t = ![t.val, 0] ∧ win0_1.index t = ![t.val, 0]
    ∧ win0_2.index t = ![t.val, 0] ∧ win0_3.index t = ![0, 0] ∧ win0_4.index t = ![0, 0]
    ∧ win0_5.index t = ![t.val, 0] ∧ t.val < 64 :=
  (by decide +kernel : ∀ t : Fin grid0.N, _)

/-- The four arguments, typed. -/
abbrev aX (c : Dev nD) : FVec Ideal S2x16384x1024 .f32 := m ((c : Thread nD τ).loc main_arg0)
abbrev aA (c : Dev nD) : FVec Ideal S2x16384x512 .bf16 := m ((c : Thread nD τ).loc main_arg1)
abbrev aB (c : Dev nD) : FVec Ideal S2x16384x512 .bf16 := m ((c : Thread nD τ).loc main_arg2)
abbrev aW (c : Dev nD) : FVec Ideal S1024x1024 .f32 := m ((c : Thread nD τ).loc main_arg3)

/-- The arrays as the call finds them. -/
theorem V1_eq (c : Dev nD) : (V m c main_v1 : FVec Ideal S32768x1024 .f32)
    = shapeCast S32768x1024 (aX m c) shapeCasts_S2x16384x1024_S32768x1024 := by
  entry_read; rfl
theorem V2_eq (c : Dev nD) : (V m c main_v2 : FVec Ideal S32768x512 .bf16)
    = shapeCast S32768x512 (aA m c) shapeCasts_S2x16384x512_S32768x512 := by
  entry_read; rfl
theorem V3_eq (c : Dev nD) : (V m c main_v3 : FVec Ideal S32768x512 .bf16)
    = shapeCast S32768x512 (aB m c) shapeCasts_S2x16384x512_S32768x512 := by
  entry_read; rfl
theorem V4_eq (c : Dev nD) : (V m c main_v4 : FVec Ideal S512x1024 .bf16)
    = extractStridedSlice S512x1024 ![0, 0] (aW m c) slices_S1024x1024_S512x1024_0_0 := by
  entry_read; rfl
theorem V9_eq (c : Dev nD) : (V m c main_v9 : FVec Ideal S512x1024 .bf16)
    = Host.gather gather_S1024x1024_S512x1_S512x1024_1_0_n_n_0_1_11024 (aW m c) ROWS := by
  entry_read; rfl

/-- The input blocks of point `t`, at an entry, over the arguments. -/
theorem blk0_at (c : Dev nD) (t : Fin cfg0.N) (r : Fin 512) (k : Fin 1024) (b : Fin 2) (q : Fin 16384)
    (h : b.val * 16384 + q.val = t.val * 512 + r.val) :
    (iblk m c 0 t : FVec Ideal S512x1024 .f32) (ix2 r k) = aX m c (ix3 b q k) := by
  have ht := (idx t).2.2.2.2.2.2
  have e : (iblk m c 0 t : FVec Ideal S512x1024 .f32) (ix2 r k)
      = (V m c main_v1 : FVec Ideal S32768x1024 .f32) (ix2 ⟨t.val * 512 + r.val, by omega⟩ k) := by
    blk_ext [iblk, idx t]
  rw [e, V1_eq]
  pointwise
  blk_ext
theorem blk1_at (c : Dev nD) (t : Fin cfg0.N) (r k : Fin 512) (b : Fin 2) (q : Fin 16384)
    (h : b.val * 16384 + q.val = t.val * 512 + r.val) :
    (iblk m c 1 t : FVec Ideal S512x512 .bf16) (ix2 r k) = aA m c (ix3 b q k) := by
  have ht := (idx t).2.2.2.2.2.2
  have e : (iblk m c 1 t : FVec Ideal S512x512 .bf16) (ix2 r k)
      = (V m c main_v2 : FVec Ideal S32768x512 .bf16) (ix2 ⟨t.val * 512 + r.val, by omega⟩ k) := by
    blk_ext [iblk, idx t]
  rw [e, V2_eq]
  pointwise
  blk_ext
theorem blk2_at (c : Dev nD) (t : Fin cfg0.N) (r k : Fin 512) (b : Fin 2) (q : Fin 16384)
    (h : b.val * 16384 + q.val = t.val * 512 + r.val) :
    (iblk m c 2 t : FVec Ideal S512x512 .bf16) (ix2 r k) = aB m c (ix3 b q k) := by
  have ht := (idx t).2.2.2.2.2.2
  have e : (iblk m c 2 t : FVec Ideal S512x512 .bf16) (ix2 r k)
      = (V m c main_v3 : FVec Ideal S32768x512 .bf16) (ix2 ⟨t.val * 512 + r.val, by omega⟩ k) := by
    blk_ext [iblk, idx t]
  rw [e, V3_eq]
  pointwise
  blk_ext
theorem blk3_at (c : Dev nD) (t : Fin cfg0.N) (k : Fin 512) (n : Fin 1024) :
    (iblk m c 3 t : FVec Ideal S512x1024 .bf16) (ix2 k n) = aW m c (ix2 ⟨k.val, by omega⟩ n) := by
  have e : (iblk m c 3 t : FVec Ideal S512x1024 .bf16) (ix2 k n) = (V m c main_v4 : FVec Ideal S512x1024 .bf16) (ix2 k n) := by
    blk_ext [iblk, idx t]
  rw [e, V4_eq]
  pointwise
theorem blk4_at (c : Dev nD) (t : Fin cfg0.N) (k : Fin 512) (n : Fin 1024) :
    (iblk m c 4 t : FVec Ideal S512x1024 .bf16) (ix2 k n) = aW m c (ix2 ⟨512 + (fwd k).val, by omega⟩ n) := by
  have e : (iblk m c 4 t : FVec Ideal S512x1024 .bf16) (ix2 k n) = (V m c main_v9 : FVec Ideal S512x1024 .bf16) (ix2 k n) := by
    blk_ext [iblk, idx t]
  rw [e, V9_eq, gather_at]
  exact congrArg (fun z => aW m c (ix2 z n)) (Fin.ext ((congrArg (fun z : BitVec 32 => min z.toInt.toNat 1023) (rows_at k)).trans (table k)))

/-- The block left at a point, at an entry: the reference's entry. -/
theorem acc (c : Dev nD) (t : Fin cfg0.N) (r : Fin 512) (k : Fin 1024) (b : Fin 2) (q : Fin 16384)
    (h : b.val * 16384 + q.val = t.val * 512 + r.val) :
    ((dats m 0 c).after 5 t : FVec Ideal S512x1024 .f32) (ix2 r k) = REF (aX m c) (aA m c) (aB m c) (aW m c) (ix3 b q k) := by
  rw [after0_5]
  have e : (out0_5 (iblk m c 0 t) (iblk m c 1 t) (iblk m c 2 t) (iblk m c 3 t) (iblk m c 4 t) : FVec Ideal S512x1024 .f32)
      = k0_pay1 (F := Ideal) (iblk m c 2 t) (iblk m c 0 t) (iblk m c 1 t) (iblk m c 3 t) (iblk m c 4 t) := by
    frame_out
  rw [e, pay_at, ref_at, blk0_at m c t r k b q h]
  simp only [blk1_at m c t r _ b q h, blk2_at m c t r _ b q h, blk3_at m c t, blk4_at m c t]

/-- The result array after the whole grid: the reference's term, its rows numbered through both batches. -/
theorem final (c : Dev nD) : ((dats m 0 c).arrAt 5 (cfgs 0).N : FVec Ideal S32768x1024 .f32)
    = shapeCast S32768x1024 (REF (aX m c) (aA m c) (aB m c) (aW m c)) shapeCasts_S2x16384x1024_S32768x1024 := by
  refine (dats m 0 c).arrAt_eq_of_covers 5 _ (by decide +kernel) fun t hf y => ?_
  blk_simp
  obtain ⟨r, k, rfl⟩ : ∃ (r : Fin 512) (k : Fin 1024), y = ix2 r k := ⟨y 0, y 1, eq_ix2 y⟩
  have ht := (idx t).2.2.2.2.2.2
  refine (acc m c t r k ⟨(t.val * 512 + r.val) / 16384, by omega⟩ ⟨(t.val * 512 + r.val) % 16384, by omega⟩
    (by show _ / _ * _ + _ % _ = _; omega)).trans ?_
  pointwise
  have e0 : (((View.whole main_v10).slice (win0_5.rect t)).emb (ix2 r k) 0).val = t.val * 512 + r.val := by
    blk_simp [idx t]
  have e1 : (((View.whole main_v10).slice (win0_5.rect t)).emb (ix2 r k) 1).val = k.val := by
    blk_simp [idx t]
  simp only [e0, show ((View.whole main_v10).slice (win0_5.rect t)).emb (ix2 r k) 1 = k from Fin.ext e1]

/-- The program's result after its tail: the reference's term. -/
theorem tail (c : Dev nD) : (Pipeline.afterTail₀ cfgs (dats m) 0 (V0 m) [hostOps1] c main_v11 : FVec Ideal S2x16384x1024 .f32)
    = REF (aX m c) (aA m c) (aB m c) (aW m c) := by
  unfold Pipeline.afterTail₀
  have h4 : Pipeline.withArrays spec0 c (V0 m c) (fun w => (dats m 0 c).arrAt w (cfgs 0).N) (Proc.devRef .tc main_v10)
      = (dats m 0 c).arrAt 5 (cfgs 0).N := Pipeline.withArrays_arr spec0 (by decide) c _ _ 5
  have h5 : ∀ W : Valuation τ sig (Elt Ideal), StableHlo.after (List.flatten [hostOps1]) W (Proc.devRef .tc main_v11)
      = shapeCast S2x16384x1024 (W (Proc.devRef .tc main_v10) : FVec Ideal S32768x1024 .f32) shapeCasts_S32768x1024_S2x16384x1024 := by
    intro W
    show StableHlo.after hostOps1 W _ = _
    after_results
    rfl
  rw [h5]
  refine (congrArg (fun z => shapeCast S2x16384x1024 (z : FVec Ideal S32768x1024 .f32) shapeCasts_S32768x1024_S2x16384x1024)
    (h4.trans (final m c))).trans ?_
  funext i
  idx_vars i
  pointwise

end Cert.Kernel6Ideal.Value

end
-- ==== Proof.OutOdd.Claims.lean ====
/-  The claims of the output projection of the odd layer: its frames, its reference's frame, and that both programs compute the same arrays. -/
module

public import proofs.«01_k».proof.Defs
public import proofs.«01_k».proof.Proof.Gen.Kernel6.Frame
public import proofs.«01_k».proof.Proof.Gen.Kernel6Ideal.Frame
public import proofs.«01_k».proof.Proof.Gen.Reference6Ideal
public import proofs.«01_k».proof.Proof.OutOdd.Value
public import Idealize.ShloMosaic.Lib.Claim
public import Idealize.ShloMosaic.Lib.Pipeline.ValueKit

@[expose] public section

set_option maxRecDepth 16384

noncomputable section

namespace Cert.Proof

open Idealize.ShloMosaic Idealize.SL.Sem

/-- The output projection of the odd layer leaves its arguments alone and its semaphores at zero. -/
theorem frame_Kernel6 : Cert.quiescent_Kernel6 := fun m ρ _ => Cert.Kernel6.Gen.frame m ρ

/-- So does its idealized program. -/
theorem frame_Kernel6Ideal : Cert.quiescent_Kernel6Ideal := fun m ρ _ => Cert.Kernel6Ideal.Gen.frame m ρ

/-- So does its reference. -/
theorem frame_Reference6Ideal : Cert.quiescent_Reference6Ideal := by
  intro m g _
  hlo_run
  · exact fun _ => ⟨trivial, trivial, trivial, trivial⟩
  · exact sem_eq_zero_of_no_sems rfl _

/-- THE VALUE CLAIM: over the extended reals the output projection and its reference end with equal results. -/
theorem algebraic_Kernel6 : Cert.algebraic_Kernel6Ideal_Reference6Ideal := by
  pair_intro
  · run_from Cert.Kernel6Ideal.Gen.run_main m g
    · exact Cert.Kernel6Ideal.Gen.W_main_arg0 m _ c
    · exact Cert.Kernel6Ideal.Gen.W_main_arg1 m _ c
    · exact Cert.Kernel6Ideal.Gen.W_main_arg2 m _ c
    · exact Cert.Kernel6Ideal.Gen.W_main_arg3 m _ c
  · hlo_run
    rw [show m' (c.tc.loc Cert.Reference6Ideal.main_arg1) = m (c.tc.loc Cert.Kernel6Ideal.main_arg1) from (hagree c).2.1,
      show m' (c.tc.loc Cert.Reference6Ideal.main_arg2) = m (c.tc.loc Cert.Kernel6Ideal.main_arg2) from (hagree c).2.2.1]
    exact (Cert.Kernel6Ideal.Value.tail m c).symm

end Cert.Proof

end
-- ==== Proof.Mem.Math.lean ====
/-  The arithmetic of the memory attention over the extended reals: normalised head vectors are real, and a softmax of real scores
    weighs arbitrary values. -/
module

public import proofs.«01_k».proof.Proof.InEven.Math
public import proofs.«01_k».proof.Proof.Attn.Score

@[expose] public section

set_option maxRecDepth 16384

noncomputable section

open Idealize.ShloMosaic

namespace Cert.Mem

/-- A head vector's entry over the root of the vector's mean square (plus the small constant). -/
def nrm (y : Fin 64 → EReal) (d : Fin 64) : EReal :=
  y d * Ideal.rsqrt (Ideal.div (∑ e : Fin 64, y e * y e) (Ideal.ofBits .f32 0x42800000#32) + Ideal.ofBits .f32 0x358637BD#32)

/-- The small constant is a positive real. -/
theorem c_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee]

/-- The score scale. -/
theorem c_8th : Ideal.ofBits .f32 0x3E000000#32 = ((1 / 8 : ℝ) : EReal) := by
  simp [Ideal.ofBits, Ideal.ieee]
  rw [← EReal.coe_mul]
  congr 1
  norm_num

/-- Minus infinity. -/
theorem c_ninf : Ideal.ofBits .f32 0xFF800000#32 = (⊥ : EReal) := by
  simp [Ideal.ofBits, Ideal.ieee]

/-- A square is not negative. -/
theorem sq_nonneg' (x : EReal) : 0 ≤ x * x := by
  induction x using EReal.rec with
  | bot => simp
  | coe r => rw [← EReal.coe_mul]; exact_mod_cast mul_self_nonneg r
  | top => simp

/-- A normalised head vector is real, whatever the vector holds. -/
theorem nrm_real (y : Fin 64 → EReal) (d : Fin 64) : ∃ r : ℝ, nrm y d = (r : EReal) := by
  obtain ⟨e, he, hc⟩ := c_eps
  have hle : y d * y d ≤ ∑ k : Fin 64, y k * y k :=
    Finset.single_le_sum (f := fun k => y k * y k) (fun k _ => sq_nonneg' (y k)) (Finset.mem_univ d)
  have h0 : 0 ≤ ∑ k : Fin 64, y k * y k := Finset.sum_nonneg fun k _ => sq_nonneg' (y k)
  unfold nrm
  rw [hc, Cert.Inproj.c_64, Ideal.div_coe (by norm_num)]
  generalize (∑ k : Fin 64, y k * y k) = S at hle h0
  induction S using EReal.rec with
  | bot => exact absurd h0 (by simp)
  | top =>
    refine ⟨0, ?_⟩
    rw [EReal.top_mul_coe_of_pos (by norm_num), EReal.top_add_coe, Ideal.rsqrt_top, mul_zero]
    rfl
  | coe s =>
    have hs : 0 ≤ s := by exact_mod_cast h0
    have hp : 0 < s * (1 / 64) + e := by positivity
    have hy : ∃ r : ℝ, y d = (r : EReal) := by
      generalize y d = z at hle
      induction z using EReal.rec with
      | bot => simp at hle
      | coe r => exact ⟨r, rfl⟩
      | top => simp at hle
    obtain ⟨r, hr⟩ := hy
    rw [hr, ← EReal.coe_mul, ← EReal.coe_add, Ideal.rsqrt_coe, if_neg hp.not_gt, if_neg hp.ne', ← EReal.coe_mul]
    exact ⟨_, rfl⟩

/-- A real that is not negative distributes over a finite sum. -/
theorem sum_mul_coe {ι : Type} (s : Finset ι) (f : ι → EReal) (c : ℝ) (hc : 0 ≤ c) : (∑ k ∈ s, f k) * (c : EReal) = ∑ k ∈ s, f k * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

/-- The weighted values of a softmax: with powers of two of scores in units of `log 2`, relative to the largest and divided once
    by the sum of the weights, or with exponentials relative to any real and divided one by one. -/
theorem softmax_values {n : ℕ} (hn : 0 < n) (z : Fin n → ℝ) (s t v : Fin n → EReal) (X : ℝ)
    (hs : ∀ k, s k = ((z k * (1 / Real.log 2) : ℝ) : EReal)) (ht : ∀ k, t k = ((z k : ℝ) : EReal)) :
    Ideal.div (∑ k, v k * Ideal.exp2 (s k - Finset.univ.fold max (⊥ : EReal) s)) (∑ k, (1 : EReal) * Ideal.exp2 (s k - Finset.univ.fold max (⊥ : EReal) s))
      = ∑ k, v k * Ideal.div (Ideal.exp (t k - (X : EReal)))
          (∑ j, Ideal.exp (t j - (X : EReal))) := by
  obtain ⟨M, hM⟩ := Cert.Attn.fold_max_real hn fun k => z k * (1 / Real.log 2)
  have hl : Real.log 2 ≠ 0 := (Real.log_pos (by norm_num)).ne'
  have hs' : s = fun k => ((z k * (1 / Real.log 2) : ℝ) : EReal) := funext hs
  have ht' : t = fun k => ((z k : ℝ) : EReal) := funext ht
  subst hs' ht'
  rw [hM]
  have hp : ∀ k, Ideal.exp2 (((z k * (1 / Real.log 2) : ℝ) : EReal) - (M : EReal)) = ((Real.exp (z k - M * Real.log 2) : ℝ) : EReal) := by
    intro k
    rw [← EReal.coe_sub, Ideal.exp2_coe, ← Cert.Attn.two_rpow_log]
    congr 2
    field_simp
  have hq : ∀ k, Ideal.exp (((z k : ℝ) : EReal) - (X : EReal)) = ((Real.exp (z k - X) : ℝ) : EReal) := by
    intro k
    rw [← EReal.coe_sub, Ideal.exp_coe]
  have hD : 0 < ∑ k : Fin n, Real.exp (z k - M * Real.log 2) := Finset.sum_pos (fun k _ => Real.exp_pos _) ⟨⟨0, hn⟩, Finset.mem_univ _⟩
  have hE : 0 < ∑ k : Fin n, Real.exp (z k - X) := Finset.sum_pos (fun k _ => Real.exp_pos _) ⟨⟨0, hn⟩, Finset.mem_univ _⟩
  simp only [hp, hq, one_mul, Cert.Attn.coe_sum]
  rw [Ideal.div_coe hD.ne', sum_mul_coe _ _ _ (by positivity)]
  refine Finset.sum_congr rfl fun k _ => ?_
  rw [Cert.Attn.div_coe' _ hE.ne', mul_assoc, ← EReal.coe_mul, mul_one_div]
  congr 2
  rw [Cert.Attn.softmax_rel, Cert.Attn.softmax_rel]

/-- A score: the kernel folds both gains and the scale into the key, in units of `log 2`; with real gains both scores are real. -/
theorem scores (yq yk : Fin 64 → EReal) (qg kg : Fin 64 → EReal)
    (hq : ∀ d, ∃ r : ℝ, qg d = (r : EReal)) (hk : ∀ d, ∃ r : ℝ, kg d = (r : EReal)) :
    ∃ z : ℝ, (∑ d : Fin 64, (nrm yk d * ((qg d * kg d) * (Ideal.ofBits .f32 0x3E000000#32 * Ideal.div 1 (Ideal.log (Ideal.ofBits .f32 0x40000000#32))))) * nrm yq d)
        = ((z * (1 / Real.log 2) : ℝ) : EReal)
      ∧ (∑ d : Fin 64, (nrm yq d * qg d * Ideal.ofBits .f32 0x3E000000#32) * (nrm yk d * kg d)) = (z : EReal) := by
  choose a ha using nrm_real yq
  choose b hb using nrm_real yk
  choose g hg using hq
  choose f hf using hk
  have hl : Real.log 2 ≠ 0 := (Real.log_pos (by norm_num)).ne'
  have h1 : Ideal.div (1 : EReal) (Ideal.log (Ideal.ofBits .f32 0x40000000#32)) = ((1 / Real.log 2 : ℝ) : EReal) := by
    rw [Cert.Inproj.c_2, Ideal.log_coe, if_neg (by norm_num), Ideal.div_coe hl, one_mul]
  refine ⟨∑ d : Fin 64, (a d * g d * (1 / 8)) * (b d * f d), ?_, ?_⟩
  · simp only [ha, hb, hg, hf, h1, c_8th, ← EReal.coe_mul, Cert.Attn.coe_sum]
    congr 1
    rw [Finset.sum_mul]
    refine Finset.sum_congr rfl fun d _ => ?_
    ring
  · simp only [ha, hb, hg, hf, c_8th, ← EReal.coe_mul, Cert.Attn.coe_sum]

end Cert.Mem

end
-- ==== Proof.Mem.Payload.lean ====
/-  What one block of the memory attention's two calls computes, read at an index, over the extended reals. -/
module

public import proofs.«01_k».proof.Proof.Gen.Kernel7Ideal.Frame
public import proofs.«01_k».proof.Proof.Mem.Math
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Cert.Mem (nrm)

namespace Cert.Kernel7Ideal.Value

open Cert.Kernel7Ideal Cert.Kernel7Ideal.Gen

/-- The normalised rows of the memory. -/
theorem hn_at (x : FVec Ideal S1x256x1024 .f32) (g : FVec Ideal S1x1024 .f32) (r : Fin 256) (k : Fin 1024) :
    k0_pay4 (F := Ideal) x g (ix2 r k)
      = x (ix3 0 r k) * Ideal.rsqrt (Ideal.div (∑ l : Fin 1024, x (ix3 0 r l) * x (ix3 0 r l)) (Ideal.ofBits .f32 0x44800000#32)
          + Ideal.ofBits .f32 0x358637BD#32) * g (ix2 0 k) := by
  pointwise [k0_pay4]

/-- The projected keys. -/
theorem yk_at (x : FVec Ideal S1x256x1024 .f32) (g : FVec Ideal S1x1024 .f32) (w : FVec Ideal S1024x256 .bf16) (r n : Fin 256) :
    k0_pay5 (F := Ideal) x g w (ix2 r n) = ∑ l : Fin 1024, k0_pay4 (F := Ideal) x g (ix2 r l) * w (ix2 l n) := by
  pointwise [k0_pay5]

/-- A key after its head's norm, read off the projected rows (lane `j` of chunk `c`): the head's mean square is taken with the
    group matrix. -/
def CH (y : FVec Ideal S256x256 .f32) (G : FVec Ideal S128x128 .bf16) (gain : FVec Ideal S1x256 .f32) (r : Fin 256) (c : Fin 2)
    (j : Fin 128) : EReal :=
  y (ix2 r ⟨128 * c.val + j.val, by omega⟩) * Ideal.rsqrt ((∑ l : Fin 128, (y (ix2 r ⟨128 * c.val + l.val, by omega⟩)
        * y (ix2 r ⟨128 * c.val + l.val, by omega⟩)) * G (ix2 l j)) * Ideal.ofBits .f32 0x3C800000#32 + Ideal.ofBits .f32 0x358637BD#32)
    * gain (ix2 0 ⟨128 * c.val + j.val, by omega⟩)

/-- The keys' block. -/
theorem k_at (x0 : FVec Ideal S1x256x1024 .f32) (x1 : FVec Ideal S1x1024 .f32) (x2 : FVec Ideal S1024x256 .bf16)
    (x3 : FVec Ideal S1x256 .f32) (x4 : FVec Ideal S128x128 .bf16) (x5 : FVec Ideal S256x1024 .bf16) (y : S1x256x256.Idx)
    (r : Fin 256) (c : Fin 2) (j : Fin 128) (hy0 : (y 1).val = r.val) (hy1 : (y 2).val = 128 * c.val + j.val) :
    out0_6 (F := Ideal) x0 x1 x2 x3 x4 x5 y = CH (k0_pay5 (F := Ideal) x0 x1 x2) x4 x3 r c j := by
  frame_out
  canon_tiles z h
  case piece0 =>
    obtain rfl : c = 1 := Fin.ext (by show c.val = 1; omega)
    obtain rfl : r = z 1 := Fin.ext (by omega)
    obtain rfl : j = z 2 := Fin.ext (by change _ = 128 * 1 + _ at hy1; omega)
    open_payloads
    generalize k0_pay5 (F := Ideal) x0 x1 x2 = Y
    pointwise [CH]
  case piece1 =>
    obtain rfl : c = 0 := Fin.ext (by show c.val = 0; omega)
    obtain rfl : r = z 1 := Fin.ext (by omega)
    obtain rfl : j = z 2 := Fin.ext (by change _ = 128 * 0 + _ at hy1; omega)
    open_payloads
    generalize k0_pay5 (F := Ideal) x0 x1 x2 = Y
    pointwise [CH]

/-- The values' block. -/
theorem v_at (x0 : FVec Ideal S1x256x1024 .f32) (x1 : FVec Ideal S1x1024 .f32) (x2 : FVec Ideal S1024x256 .bf16)
    (x3 : FVec Ideal S1x256 .f32) (x4 : FVec Ideal S128x128 .bf16) (x5 : FVec Ideal S256x1024 .bf16) (n r : Fin 256) :
    out0_7 (F := Ideal) x0 x1 x2 x3 x4 x5 (ix3 0 n r) = ∑ l : Fin 1024, x5 (ix2 n l) * k0_pay4 (F := Ideal) x0 x1 (ix2 r l) := by
  have e : out0_7 (F := Ideal) x0 x1 x2 x3 x4 x5 = k0_pay3 (F := Ideal) (k0_pay4 (F := Ideal) x0 x1) x5 := by
    frame_out
  rw [e]
  generalize k0_pay4 (F := Ideal) x0 x1 = hn
  pointwise [k0_pay3]

/-- The normalised rows of the layer. -/
def HN1 (x : FVec Ideal S1x512x1024 .f32) (g : FVec Ideal S1x1024 .f32) (r : Fin 512) (k : Fin 1024) : EReal :=
  x (ix3 0 r k) * Ideal.rsqrt (Ideal.div (∑ l : Fin 1024, x (ix3 0 r l) * x (ix3 0 r l)) (Ideal.ofBits .f32 0x44800000#32)
    + Ideal.ofBits .f32 0x358637BD#32) * g (ix2 0 k)

/-- The queries, normalised by head. -/
theorem q_at (x : FVec Ideal S1x512x1024 .f32) (g : FVec Ideal S1x1024 .f32) (w : FVec Ideal S256x1024 .bf16) (h : Fin 4) (d : Fin 64) (r : Fin 512) :
    k1_pay6 (F := Ideal) x g w (ix3 h d r)
      = nrm (fun e => ∑ l : Fin 1024, w (ix2 ⟨h.val * 64 + e.val, by omega⟩ l) * HN1 x g r l) d := by
  pointwise [k1_pay6, k1_pay5, nrm, HN1]

/-- Two heads' queries side by side, each in its own rows and columns and zero elsewhere. -/
def BD (q0 q1 : FVec Ideal S64x512 .bf16) : FVec Ideal S128x1024 .bf16 :=
  concatenate S128x1024 1
    [⟨S128x512, concatenate S128x512 0 [⟨S64x512, q0⟩, ⟨S64x512, broadcast S64x512 (Scalar.ofBits .bf16 0x0000#16)⟩] concatenates_S64x512_S64x512_S128x512_d0⟩,
      ⟨S128x512, concatenate S128x512 0 [⟨S64x512, broadcast S64x512 (Scalar.ofBits .bf16 0x0000#16)⟩, ⟨S64x512, q1⟩] concatenates_S64x512_S64x512_S128x512_d0⟩]
    concatenates_S128x512_S128x512_S128x1024_d1

theorem bd_00 (q0 q1) (d : Fin 64) (r : Fin 512) : BD q0 q1 (ix2 ⟨d.val, by omega⟩ ⟨r.val, by omega⟩) = q0 (ix2 d r) := by
  pointwise [BD]
theorem bd_10 (q0 q1) (d : Fin 64) (r : Fin 512) : BD q0 q1 (ix2 ⟨64 + d.val, by omega⟩ ⟨r.val, by omega⟩) = 0 := by
  pointwise [BD]
theorem bd_01 (q0 q1) (d : Fin 64) (r : Fin 512) : BD q0 q1 (ix2 ⟨d.val, by omega⟩ ⟨512 + r.val, by omega⟩) = 0 := by
  pointwise [BD]
theorem bd_11 (q0 q1) (d : Fin 64) (r : Fin 512) : BD q0 q1 (ix2 ⟨64 + d.val, by omega⟩ ⟨512 + r.val, by omega⟩) = q1 (ix2 d r) := by
  pointwise [BD]

/-- One head's plane of the queries. -/
def PL (q : FVec Ideal S4x64x512 .bf16) (h : Fin 4) : FVec Ideal S64x512 .bf16 := fun i => q (ix3 h (i 0) (i 1))

/-- Scores relative to each column's largest, as powers of two. -/
theorem p_at (a : FVec Ideal S256x128 .bf16) (b : FVec Ideal S128x1024 .bf16) (j : Fin 256) (n : Fin 1024) :
    k1_pay1 (F := Ideal) a b (constant S256x1024 .f32 0x00000000#32) (ix2 j n)
      = Ideal.exp2 ((∑ i : Fin 128, a (ix2 j i) * b (ix2 i n))
        - Finset.univ.fold max (⊥ : EReal) fun k : Fin 256 => ∑ i : Fin 128, a (ix2 k i) * b (ix2 i n)) := by
  pointwise [k1_pay1]
  rw [Cert.Mem.c_ninf]
  rfl

/-- The second pair's queries. -/
theorem pay14 (q : FVec Ideal S4x64x512 .bf16) : k1_pay14 (F := Ideal) q = BD (PL q 2) (PL q 3) := by
  have e2 : shapeCast S64x512 (extractStridedSlice S1x64x512 ![2, 0, 0] q slices_S4x64x512_o2_0_0_S1x64x512) shapeCasts_S1x64x512_S64x512 = PL q 2 := by
    funext i
    idx_vars i
    pointwise [PL]
  have e3 : shapeCast S64x512 (extractStridedSlice S1x64x512 ![3, 0, 0] q slices_S4x64x512_o3_0_0_S1x64x512) shapeCasts_S1x64x512_S64x512 = PL q 3 := by
    funext i
    idx_vars i
    pointwise [PL]
  rw [← e2, ← e3]
  rfl

/-- The first pair's weights. -/
theorem pay10 (q : FVec Ideal S4x64x512 .bf16) (k : FVec Ideal S256x256 .bf16) : k1_pay10 (F := Ideal) q k
    = k1_pay1 (F := Ideal) (extractStridedSlice S256x128 ![0, 0] k slices_S256x256_o0_0_S256x128) (BD (PL q 0) (PL q 1)) (constant S256x1024 .f32 0x00000000#32) := by
  have e2 : shapeCast S64x512 (extractStridedSlice S1x64x512 ![0, 0, 0] q slices_S4x64x512_o0_0_0_S1x64x512) shapeCasts_S1x64x512_S64x512 = PL q 0 := by
    funext i
    idx_vars i
    pointwise [PL]
  have e3 : shapeCast S64x512 (extractStridedSlice S1x64x512 ![1, 0, 0] q slices_S4x64x512_o1_0_0_S1x64x512) shapeCasts_S1x64x512_S64x512 = PL q 1 := by
    funext i
    idx_vars i
    pointwise [PL]
  rw [← e2, ← e3]
  rfl

/-- The heads' outputs, from the weights. -/
theorem o0_at (q : FVec Ideal S4x64x512 .bf16) (k v : FVec Ideal S256x256 .bf16) (d : Fin 64) (r : Fin 512) :
    k1_pay11 (F := Ideal) q k v (k1_pay9 (F := Ideal)) (ix2 d r)
      = Ideal.div (∑ j : Fin 256, v (ix2 ⟨d.val, by omega⟩ j) * k1_pay10 (F := Ideal) q k (ix2 j ⟨r.val, by omega⟩))
          (∑ j : Fin 256, (1 : EReal) * k1_pay10 (F := Ideal) q k (ix2 j ⟨r.val, by omega⟩)) := by
  unfold k1_pay11
  generalize k1_pay10 (F := Ideal) q k = P
  rw [← Cert.Inproj.b_one]
  pointwise [k1_pay9]
theorem o1_at (q : FVec Ideal S4x64x512 .bf16) (k v : FVec Ideal S256x256 .bf16) (d : Fin 64) (r : Fin 512) :
    k1_pay12 (F := Ideal) q k v (k1_pay9 (F := Ideal)) (ix2 d r)
      = Ideal.div (∑ j : Fin 256, v (ix2 ⟨64 + d.val, by omega⟩ j) * k1_pay10 (F := Ideal) q k (ix2 j ⟨512 + r.val, by omega⟩))
          (∑ j : Fin 256, (1 : EReal) * k1_pay10 (F := Ideal) q k (ix2 j ⟨512 + r.val, by omega⟩)) := by
  unfold k1_pay12
  generalize k1_pay10 (F := Ideal) q k = P
  rw [← Cert.Inproj.b_one]
  pointwise [k1_pay9]
theorem o2_at (v : FVec Ideal S256x256 .bf16) (a : FVec Ideal S256x128 .bf16) (b : FVec Ideal S128x1024 .bf16) (z) (d : Fin 64) (r : Fin 512) :
    k1_pay2 (F := Ideal) v (k1_pay9 (F := Ideal)) a b z (ix2 d r)
      = Ideal.div (∑ j : Fin 256, v (ix2 ⟨128 + d.val, by omega⟩ j) * k1_pay1 (F := Ideal) a b z (ix2 j ⟨r.val, by omega⟩))
          (∑ j : Fin 256, (1 : EReal) * k1_pay1 (F := Ideal) a b z (ix2 j ⟨r.val, by omega⟩)) := by
  unfold k1_pay2
  generalize k1_pay1 (F := Ideal) a b z = P
  rw [← Cert.Inproj.b_one]
  pointwise [k1_pay9]
theorem o3_at (v : FVec Ideal S256x256 .bf16) (a : FVec Ideal S256x128 .bf16) (b : FVec Ideal S128x1024 .bf16) (z) (d : Fin 64) (r : Fin 512) :
    k1_pay3 (F := Ideal) v (k1_pay9 (F := Ideal)) a b z (ix2 d r)
      = Ideal.div (∑ j : Fin 256, v (ix2 ⟨192 + d.val, by omega⟩ j) * k1_pay1 (F := Ideal) a b z (ix2 j ⟨512 + r.val, by omega⟩))
          (∑ j : Fin 256, (1 : EReal) * k1_pay1 (F := Ideal) a b z (ix2 j ⟨512 + r.val, by omega⟩)) := by
  unfold k1_pay3
  generalize k1_pay1 (F := Ideal) a b z = P
  rw [← Cert.Inproj.b_one]
  pointwise [k1_pay9]

/-- The block's rows with the attention added. -/
theorem upd_at (x : FVec Ideal S1x512x1024 .f32) (s : FVec Ideal S256x512 .f32) (w : FVec Ideal S256x1024 .bf16) (r : Fin 512) (c : Fin 1024) :
    k1_pay4 (F := Ideal) (k1_pay5 (F := Ideal) x) s w (ix3 0 r c) = x (ix3 0 r c) + ∑ n : Fin 256, s (ix2 n r) * w (ix2 n c) := by
  pointwise [k1_pay4, k1_pay5]

end Cert.Kernel7Ideal.Value

end
-- ==== Proof.Mem.Block.lean ====
/-  What one block of the memory attention's second call leaves, from its queries, keys and values, over the extended reals. -/
module

public import proofs.«01_k».proof.Proof.Mem.Payload

@[expose] public section

set_option maxRecDepth 16384

noncomputable section

open Idealize.ShloMosaic Idealize.ShloMosaic.TcCoe Idealize.SL.Sem
open Cert.Mem (nrm)

namespace Cert.Kernel7Ideal.Value

open Cert.Kernel7Ideal Cert.Kernel7Ideal.Gen

/-- The scores of one head and query, in units of the logarithm of two. -/
def SCO (q : FVec Ideal S4x64x512 .bf16) (k : FVec Ideal S256x256 .bf16) (h : Fin 4) (r : Fin 512) (j : Fin 256) : EReal :=
  ∑ e : Fin 64, k (ix2 j ⟨h.val * 64 + e.val, by omega⟩) * q (ix3 h e r)

/-- The weights from the scores. -/
def WT (s : Fin 256 → EReal) (j : Fin 256) : EReal := Ideal.exp2 (s j - Finset.univ.fold max (⊥ : EReal) s)

/-- A head's output from its scores. -/
def HO (s v : Fin 256 → EReal) : EReal := Ideal.div (∑ j, v j * WT s j) (∑ j, (1 : EReal) * WT s j)

/-- A product with two heads' queries side by side reads one head's lanes. -/
theorem bd_low (f : Fin 128 → EReal) (q0 q1) (r : Fin 512) :
    ∑ i : Fin 128, f i * BD q0 q1 (ix2 i ⟨r.val, by omega⟩) = ∑ e : Fin 64, f ⟨e.val, by omega⟩ * q0 (ix2 e r) := by
  have e : ∑ i : Fin 128, f i * BD q0 q1 (ix2 i ⟨r.val, by omega⟩)
      = ∑ i : Fin (64 + 64), (fun i : Fin 128 => f i * BD q0 q1 (ix2 i ⟨r.val, by omega⟩)) i := rfl
  rw [e, Fin.sum_univ_add]
  have h0 : ∀ d : Fin 64, (fun i : Fin 128 => f i * BD q0 q1 (ix2 i ⟨r.val, by omega⟩)) (Fin.castAdd 64 d) = f ⟨d.val, by omega⟩ * q0 (ix2 d r) :=
    fun d => congrArg (f ⟨d.val, by omega⟩ * ·) (bd_00 q0 q1 d r)
  have h1 : ∀ d : Fin 64, (fun i : Fin 128 => f i * BD q0 q1 (ix2 i ⟨r.val, by omega⟩)) (Fin.natAdd 64 d) = 0 :=
    fun d => (congrArg (f ⟨64 + d.val, by omega⟩ * ·) (bd_10 q0 q1 d r)).trans (mul_zero _)
  rw [Finset.sum_congr rfl fun d _ => h0 d, Finset.sum_congr rfl fun d _ => h1 d, Finset.sum_const_zero, add_zero]
theorem bd_high (f : Fin 128 → EReal) (q0 q1) (r : Fin 512) :
    ∑ i : Fin 128, f i * BD q0 q1 (ix2 i ⟨512 + r.val, by omega⟩) = ∑ e : Fin 64, f ⟨64 + e.val, by omega⟩ * q1 (ix2 e r) := by
  have e : ∑ i : Fin 128, f i * BD q0 q1 (ix2 i ⟨512 + r.val, by omega⟩)
      = ∑ i : Fin (64 + 64), (fun i : Fin 128 => f i * BD q0 q1 (ix2 i ⟨512 + r.val, by omega⟩)) i := rfl
  rw [e, Fin.sum_univ_add]
  have h0 : ∀ d : Fin 64, (fun i : Fin 128 => f i * BD q0 q1 (ix2 i ⟨512 + r.val, by omega⟩)) (Fin.castAdd 64 d) = 0 :=
    fun d => (congrArg (f ⟨d.val, by omega⟩ * ·) (bd_01 q0 q1 d r)).trans (mul_zero _)
  have h1 : ∀ d : Fin 64, (fun i : Fin 128 => f i * BD q0 q1 (ix2 i ⟨512 + r.val, by omega⟩)) (Fin.natAdd 64 d) = f ⟨64 + d.val, by omega⟩ * q1 (ix2 d r) :=
    fun d => congrArg (f ⟨64 + d.val, by omega⟩ * ·) (bd_11 q0 q1 d r)
  rw [Finset.sum_congr rfl fun d _ => h0 d, Finset.sum_congr rfl fun d _ => h1 d, Finset.sum_const_zero, zero_add]

/-- The two halves of the keys' lanes. -/
theorem ks_low (k : FVec Ideal S256x256 .bf16) (j : Fin 256) (i : Fin 128) :
    extractStridedSlice S256x128 ![0, 0] k slices_S256x256_o0_0_S256x128 (ix2 j i) = k (ix2 j ⟨i.val, by omega⟩) := by
  pointwise
theorem ks_high (k : FVec Ideal S256x256 .bf16) (j : Fin 256) (i : Fin 128) :
    k1_pay13 (F := Ideal) k (ix2 j i) = k (ix2 j ⟨128 + i.val, by omega⟩) := by
  pointwise [k1_pay13]

/-- The weights of each head. -/
theorem w0 (q : FVec Ideal S4x64x512 .bf16) (k : FVec Ideal S256x256 .bf16) (r : Fin 512) (j : Fin 256) :
    k1_pay10 (F := Ideal) q k (ix2 j ⟨r.val, by omega⟩) = WT (SCO q k 0 r) j := by
  rw [pay10, p_at]
  have hs : ∀ j : Fin 256, ∑ i : Fin 128, extractStridedSlice S256x128 ![0, 0] k slices_S256x256_o0_0_S256x128 (ix2 j i)
      * BD (PL q 0) (PL q 1) (ix2 i ⟨r.val, by omega⟩) = SCO q k 0 r j := fun j => by
    rw [bd_low (fun i => extractStridedSlice S256x128 ![0, 0] k slices_S256x256_o0_0_S256x128 (ix2 j i))]
    refine Finset.sum_congr rfl fun e _ => ?_
    rw [ks_low]
    exact congrArg₂ (fun a b => k (ix2 j a) * b) (Fin.ext (by show e.val = 0 * 64 + e.val; omega)) rfl
  simp only [hs]
  rfl
theorem w1 (q : FVec Ideal S4x64x512 .bf16) (k : FVec Ideal S256x256 .bf16) (r : Fin 512) (j : Fin 256) :
    k1_pay10 (F := Ideal) q k (ix2 j ⟨512 + r.val, by omega⟩) = WT (SCO q k 1 r) j := by
  rw [pay10, p_at]
  have hs : ∀ j : Fin 256, ∑ i : Fin 128, extractStridedSlice S256x128 ![0, 0] k slices_S256x256_o0_0_S256x128 (ix2 j i)
      * BD (PL q 0) (PL q 1) (ix2 i ⟨512 + r.val, by omega⟩) = SCO q k 1 r j := fun j => by
    rw [bd_high (fun i => extractStridedSlice S256x128 ![0, 0] k slices_S256x256_o0_0_S256x128 (ix2 j i))]
    refine Finset.sum_congr rfl fun e _ => ?_
    rw [ks_low]
    exact congrArg₂ (fun a b => k (ix2 j a) * b) (Fin.ext (by show 64 + e.val = 1 * 64 + e.val; omega)) rfl
  simp only [hs]
  rfl
theorem w2 (q : FVec Ideal S4x64x512 .bf16) (k : FVec Ideal S256x256 .bf16) (r : Fin 512) (j : Fin 256) :
    k1_pay1 (F := Ideal) (k1_pay13 (F := Ideal) k) (k1_pay14 (F := Ideal) q) (constant S256x1024 .f32 0x00000000#32) (ix2 j ⟨r.val, by omega⟩)
      = WT (SCO q k 2 r) j := by
  rw [pay14, p_at]
  have hs : ∀ j : Fin 256, ∑ i : Fin 128, k1_pay13 (F := Ideal) k (ix2 j i)
      * BD (PL q 2) (PL q 3) (ix2 i ⟨r.val, by omega⟩) = SCO q k 2 r j := fun j => by
    rw [bd_low (fun i => k1_pay13 (F := Ideal) k (ix2 j i))]
    refine Finset.sum_congr rfl fun e _ => ?_
    rw [ks_high]
    exact congrArg₂ (fun a b => k (ix2 j a) * b) (Fin.ext (by show 128 + e.val = 2 * 64 + e.val; omega)) rfl
  simp only [hs]
  rfl
theorem w3 (q : FVec Ideal S4x64x512 .bf16) (k : FVec Ideal S256x256 .bf16) (r : Fin 512) (j : Fin 256) :
    k1_pay1 (F := Ideal) (k1_pay13 (F := Ideal) k) (k1_pay14 (F := Ideal) q) (constant S256x1024 .f32 0x00000000#32) (ix2 j ⟨512 + r.val, by omega⟩)
      = WT (SCO q k 3 r) j := by
  rw [pay14, p_at]
  have hs : ∀ j : Fin 256, ∑ i : Fin 128, k1_pay13 (F := Ideal) k (ix2 j i)
      * BD (PL q 2) (PL q 3) (ix2 i ⟨512 + r.val, by omega⟩) = SCO q k 3 r j := fun j => by
    rw [bd_high (fun i => k1_pay13 (F := Ideal) k (ix2 j i))]
    refine Finset.sum_congr rfl fun e _ => ?_
    rw [ks_high]
    exact congrArg₂ (fun a b => k (ix2 j a) * b) (Fin.ext (by show 128 + (64 + e.val) = 3 * 64 + e.val; omega)) rfl
  simp only [hs]
  rfl

/-- Each head's output, at an entry. -/
theorem h0 (q : FVec Ideal S4x64x512 .bf16) (k v : FVec Ideal S256x256 .bf16) (d : Fin 64) (r : Fin 512) :
    k1_pay11 (F := Ideal) q k v (k1_pay9 (F := Ideal)) (ix2 d r) = HO (SCO q k 0 r) (fun j => v (ix2 ⟨(0 : Fin 4).val * 64 + d.val, by show 0 * 64 + _ < _; omega⟩ j)) := by
  rw [o0_at]
  simp only [w0]
  have e : (⟨d.val, by omega⟩ : Fin 256) = ⟨(0 : Fin 4).val * 64 + d.val, by show 0 * 64 + _ < _; omega⟩ :=
    Fin.ext (by show d.val = 0 * 64 + d.val; omega)
  rw [e]
  rfl
theorem h1 (q : FVec Ideal S4x64x512 .bf16) (k v : FVec Ideal S256x256 .bf16) (d : Fin 64) (r : Fin 512) :
    k1_pay12 (F := Ideal) q k v (k1_pay9 (F := Ideal)) (ix2 d r) = HO (SCO q k 1 r) (fun j => v (ix2 ⟨(1 : Fin 4).val * 64 + d.val, by show 1 * 64 + _ < _; omega⟩ j)) := by
  rw [o1_at]
  simp only [w1]
  rfl
theorem h2 (q : FVec Ideal S4x64x512 .bf16) (k v : FVec Ideal S256x256 .bf16) (d : Fin 64) (r : Fin 512) :
    k1_pay2 (F := Ideal) v (k1_pay9 (F := Ideal)) (k1_pay13 (F := Ideal) k) (k1_pay14 (F := Ideal) q) (constant S256x1024 .f32 0x00000000#32) (ix2 d r)
      = HO (SCO q k 2 r) (fun j => v (ix2 ⟨(2 : Fin 4).val * 64 + d.val, by show 2 * 64 + _ < _; omega⟩ j)) := by
  rw [o2_at]
  simp only [w2]
  rfl
theorem h3 (q : FVec Ideal S4x64x512 .bf16) (k v : FVec Ideal S256x256 .bf16) (d : Fin 64) (r : Fin 512) :
    k1_pay3 (F := Ideal) v (k1_pay9 (F := Ideal)) (k1_pay13 (F := Ideal) k) (k1_pay14 (F := Ideal) q) (constant S256x1024 .f32 0x00000000#32) (ix2 d r)
      = HO (SCO q k 3 r) (fun j => v (ix2 ⟨(3 : Fin 4).val * 64 + d.val, by show 3 * 64 + _ < _; omega⟩ j)) := by
  rw [o3_at]
  simp only [w3]
  rfl

/-- The heads' outputs, stacked. -/
def SCR (q : FVec Ideal S4x64x512 .bf16) (k v : FVec Ideal S256x256 .bf16) : FVec Ideal S256x512 .f32 :=
  View.canon (Val := Elt Ideal) (s := S256x512) (e := .f32)
    [⟨Rect.unit ![192, 0] ![64, 512] inb_S256x512_S64x512_192_0, k1_pay3 (F := Ideal) v (k1_pay9 (F := Ideal)) (k1_pay13 (F := Ideal) k) (k1_pay14 (F := Ideal) q) (constant S256x1024 .f32 0x00000000#32)⟩,
     ⟨Rect.unit ![128, 0] ![64, 512] inb_S256x512_S64x512_128_0, k1_pay2 (F := Ideal) v (k1_pay9 (F := Ideal)) (k1_pay13 (F := Ideal) k) (k1_pay14 (F := Ideal) q) (constant S256x1024 .f32 0x00000000#32)⟩,
     ⟨Rect.unit ![64, 0] ![64, 512] inb_S256x512_S64x512_64_0, k1_pay12 (F := Ideal) q k v (k1_pay9 (F := Ideal))⟩,
     ⟨Rect.unit ![0, 0] ![64, 512] inb_S256x512_S64x512_0_0, k1_pay11 (F := Ideal) q k v (k1_pay9 (F := Ideal))⟩]

/-- The stacked outputs, at an entry. -/
theorem scr_at (q : FVec Ideal S4x64x512 .bf16) (k v : FVec Ideal S256x256 .bf16) (y : S256x512.Idx) (h : Fin 4) (d : Fin 64) (r : Fin 512)
    (hy0 : (y 0).val = h.val * 64 + d.val) (hy1 : (y 1).val = r.val) :
    SCR q k v y = HO (SCO q k h r) (fun j => v (ix2 ⟨h.val * 64 + d.val, by omega⟩ j)) := by
  unfold SCR
  canon_tiles z hz
  case piece0 =>
    obtain rfl : h = 3 := Fin.ext (by show h.val = 3; omega)
    obtain rfl : d = z 0 := Fin.ext (by change _ = 3 * 64 + _ at hy0; omega)
    obtain rfl : r = z 1 := Fin.ext (by omega)
    exact (congrArg _ (eq_ix2 z)).trans (h3 q k v (z 0) (z 1))
  case piece1 =>
    obtain rfl : h = 2 := Fin.ext (by show h.val = 2; omega)
    obtain rfl : d = z 0 := Fin.ext (by change _ = 2 * 64 + _ at hy0; omega)
    obtain rfl : r = z 1 := Fin.ext (by omega)
    exact (congrArg _ (eq_ix2 z)).trans (h2 q k v (z 0) (z 1))
  case piece2 =>
    obtain rfl : h = 1 := Fin.ext (by show h.val = 1; omega)
    obtain rfl : d = z 0 := Fin.ext (by change _ = 1 * 64 + _ at hy0; omega)
    obtain rfl : r = z 1 := Fin.ext (by omega)
    exact (congrArg _ (eq_ix2 z)).trans (h1 q k v (z 0) (z 1))
  case piece3 =>
    obtain rfl : h = 0 := Fin.ext (by show h.val = 0; omega)
    obtain rfl : d = z 0 := Fin.ext (by change _ = 0 * 64 + _ at hy0; omega)
    obtain rfl : r = z 1 := Fin.ext (by omega)
    exact (congrArg _ (eq_ix2 z)).trans (h0 q k v (z 0) (z 1))

end Cert.Kernel7Ideal.Value

end
-- ==== Proof.Mem.Table.lean ====
/-  The matrix that groups lanes by heads: one where row and column lie in the same half of the lanes, else zero. -/
module

public import proofs.«01_k».proof.Proof.Gen.Kernel7Ideal.Skeleton

@[expose] public section

set_option maxRecDepth 65536

noncomputable section

open Idealize.ShloMosaic

namespace Cert.Kernel7Ideal.Value

open Cert.Kernel7Ideal

/-- Every entry of the table, by evaluation. -/
theorem table : ∀ a b : Fin 128, lit0t (a.val * 128 + b.val) = if a.val / 64 = b.val / 64 then 0x3F80#16 else 0x0000#16 := by
  decide +kernel

end Cert.Kernel7Ideal.Value

end
-- ==== Proof.Mem.Ref.lean ====
/-  What the reference of the memory attention computes, read at an index, over the extended reals. -/
module

public import proofs.«01_k».proof.Proof.Gen.Reference7Ideal
public import proofs.«01_k».proof.Proof.Mem.Math
public import Idealize.ShloMosaic.Lib.Claim
public import Idealize.ShloMosaic.Lib.Pointwise

@[expose] public section

set_option maxRecDepth 16384

noncomputable section

open Idealize.ShloMosaic Idealize.ShloMosaic.TcCoe Idealize.SL.Sem
open Cert.Mem (nrm)

namespace Cert.Reference7Ideal.Value

open Cert.Reference7Ideal Cert.Reference7Ideal.Gen

/-- The normalised rows of the layer. -/
def HNX (X : FVec Ideal S2x16384x1024 .f32) (G : FVec Ideal S1024 .f32) : FVec Ideal S2x16384x1024 .f32 :=
  mulf (mulf X (broadcastInDim S2x16384x1024 ![0, 1, 2] facts.bcast_S2x16384x1_S2x16384x1024_0_1_2
    (Host.rsqrt (addf (Host.divf
      (broadcastInDim S2x16384x1 ![0, 1] facts.bcast_S2x16384_S2x16384x1_0_1
        (Host.reduceAdd (mulf X X) (constant S_ FTy.f32 0#32) facts.reducesTo_S2x16384x1024_S2x16384_d2 facts.h_S_))
      (broadcastInDim S2x16384x1 ![] facts.bcast_S_S2x16384x1 (constant S_ FTy.f32 1149239296#32)))
      (broadcastInDim S2x16384x1 ![] facts.bcast_S_S2x16384x1 (constant S_ FTy.f32 897988541#32))))))
    (broadcastInDim S2x16384x1024 ![0, 1, 2] facts.bcast_S1x1x1024_S2x16384x1024_0_1_2
      (broadcastInDim S1x1x1024 ![2] facts.bcast_S1024_S1x1x1024_2 G))

/-- The normalised rows of the memory. -/
def HNM (X : FVec Ideal S2x256x1024 .f32) (G : FVec Ideal S1024 .f32) : FVec Ideal S2x256x1024 .f32 :=
  mulf (mulf X (broadcastInDim S2x256x1024 ![0, 1, 2] facts.bcast_S2x256x1_S2x256x1024_0_1_2
    (Host.rsqrt (addf (Host.divf
      (broadcastInDim S2x256x1 ![0, 1] facts.bcast_S2x256_S2x256x1_0_1
        (Host.reduceAdd (mulf X X) (constant S_ FTy.f32 0#32) facts.reducesTo_S2x256x1024_S2x256_d2 facts.h_S_))
      (broadcastInDim S2x256x1 ![] facts.bcast_S_S2x256x1 (constant S_ FTy.f32 1149239296#32)))
      (broadcastInDim S2x256x1 ![] facts.bcast_S_S2x256x1 (constant S_ FTy.f32 897988541#32))))))
    (broadcastInDim S2x256x1024 ![0, 1, 2] facts.bcast_S1x1x1024_S2x256x1024_0_1_2
      (broadcastInDim S1x1x1024 ![2] facts.bcast_S1024_S1x1x1024_2 G))

/-- The projected queries. -/
def YQ (X : FVec Ideal S2x16384x1024 .f32) (G : FVec Ideal S1024 .f32) (W : FVec Ideal S1024x256 .f32) : FVec Ideal S2x16384x256 .f32 :=
  Host.dotGeneral dot_S2x16384x1024_S1024x256_S2x16384x256_2_0_01_1_n_n none (HNX X G) W

/-- The projected keys and values. -/
def YKV (M : FVec Ideal S2x256x1024 .f32) (G : FVec Ideal S1024 .f32) (W : FVec Ideal S1024x512 .f32) : FVec Ideal S2x256x512 .f32 :=
  Host.dotGeneral dot_S2x256x1024_S1024x512_S2x256x512_2_0_01_1_n_n none (HNM M G) W

/-- The queries: normalised by head, with their gain and the scale. -/
def Q4 (Y : FVec Ideal S2x16384x256 .f32) (QG : FVec Ideal S64 .f32) : FVec Ideal S2x16384x4x64 .f32 :=
  mulf (mulf (H4 (shapeCast S2x16384x4x64 Y facts.shapeCasts_S2x16384x256_S2x16384x4x64))
      (broadcastInDim S2x16384x4x64 ![0, 1, 2, 3] facts.bcast_S1x1x1x64_S2x16384x4x64_0_1_2_3
        (broadcastInDim S1x1x1x64 ![3] facts.bcast_S64_S1x1x1x64_3 QG)))
    (broadcastInDim S2x16384x4x64 ![] facts.bcast_S_S2x16384x4x64 (constant S_ FTy.f32 0x3E000000#32))
where
  H4 (y : FVec Ideal S2x16384x4x64 .f32) : FVec Ideal S2x16384x4x64 .f32 :=
    mulf y (broadcastInDim S2x16384x4x64 ![0, 1, 2, 3] facts.bcast_S2x16384x4x1_S2x16384x4x64_0_1_2_3
      (Host.rsqrt (addf (Host.divf
        (broadcastInDim S2x16384x4x1 ![0, 1, 2] facts.bcast_S2x16384x4_S2x16384x4x1_0_1_2
          (Host.reduceAdd (mulf y y) (constant S_ FTy.f32 0#32) facts.reducesTo_S2x16384x4x64_S2x16384x4_d3 facts.h_S_))
        (broadcastInDim S2x16384x4x1 ![] facts.bcast_S_S2x16384x4x1 (constant S_ FTy.f32 0x42800000#32)))
        (broadcastInDim S2x16384x4x1 ![] facts.bcast_S_S2x16384x4x1 (constant S_ FTy.f32 897988541#32)))))

/-- The keys: normalised by head, with their gain. -/
def K4 (Y : FVec Ideal S2x256x512 .f32) (KG : FVec Ideal S64 .f32) : FVec Ideal S2x256x4x64 .f32 :=
  mulf (H4 (shapeCast S2x256x4x64
        (extractStridedSlice S2x256x1x4x64 ![0, 0, 0, 0, 0] (shapeCast S2x256x2x4x64 Y facts.shapeCasts_S2x256x512_S2x256x2x4x64)
          facts.slices_S2x256x2x4x64_S2x256x1x4x64_0_0_0_0_0) facts.shapeCasts_S2x256x1x4x64_S2x256x4x64))
      (broadcastInDim S2x256x4x64 ![0, 1, 2, 3] facts.bcast_S1x1x1x64_S2x256x4x64_0_1_2_3
        (broadcastInDim S1x1x1x64 ![3] facts.bcast_S64_S1x1x1x64_3 KG))
where
  H4 (y : FVec Ideal S2x256x4x64 .f32) : FVec Ideal S2x256x4x64 .f32 :=
    mulf y (broadcastInDim S2x256x4x64 ![0, 1, 2, 3] facts.bcast_S2x256x4x1_S2x256x4x64_0_1_2_3
      (Host.rsqrt (addf (Host.divf
        (broadcastInDim S2x256x4x1 ![0, 1, 2] facts.bcast_S2x256x4_S2x256x4x1_0_1_2
          (Host.reduceAdd (mulf y y) (constant S_ FTy.f32 0#32) facts.reducesTo_S2x256x4x64_S2x256x4_d3 facts.h_S_))
        (broadcastInDim S2x256x4x1 ![] facts.bcast_S_S2x256x4x1 (constant S_ FTy.f32 0x42800000#32)))
        (broadcastInDim S2x256x4x1 ![] facts.bcast_S_S2x256x4x1 (constant S_ FTy.f32 897988541#32)))))

/-- The values. -/
def V4 (Y : FVec Ideal S2x256x512 .f32) : FVec Ideal S2x256x4x64 .f32 :=
  shapeCast S2x256x4x64
    (extractStridedSlice S2x256x1x4x64 ![0, 0, 1, 0, 0] (shapeCast S2x256x2x4x64 Y facts.shapeCasts_S2x256x512_S2x256x2x4x64)
      facts.slices_S2x256x2x4x64_S2x256x1x4x64_0_0_1_0_0) facts.shapeCasts_S2x256x1x4x64_S2x256x4x64

/-- The scores. -/
def SC (Q : FVec Ideal S2x16384x4x64 .f32) (K : FVec Ideal S2x256x4x64 .f32) : FVec Ideal S2x4x16384x256 .f32 :=
  Host.dotGeneral dot_S2x16384x4x64_S2x256x4x64_S2x4x16384x256_3_3_1_1_02_02 none Q K

/-- Each query's largest score. -/
def MX (S : FVec Ideal S2x4x16384x256 .f32) : FVec Ideal S2x4x16384 .f32 :=
  maximumf (broadcastInDim S2x4x16384 ![] facts.bcast_S_S2x4x16384 (constant S_ FTy.f32 0xFF800000#32))
    (Host.reduce FloatOps.maximumf S (constant S_ FTy.f32 0xFF800000#32) facts.reducesTo_S2x4x16384x256_S2x4x16384_d3 facts.h_S_)

/-- The exponentials of the scores, relative to a number for each query. -/
def EX (S : FVec Ideal S2x4x16384x256 .f32) (x : FVec Ideal S2x4x16384 .f32) : FVec Ideal S2x4x16384x256 .f32 :=
  Host.exp (subf S (broadcastInDim S2x4x16384x256 ![0, 1, 2, 3] facts.bcast_S2x4x16384x1_S2x4x16384x256_0_1_2_3
    (broadcastInDim S2x4x16384x1 ![0, 1, 2] facts.bcast_S2x4x16384_S2x4x16384x1_0_1_2 x)))

/-- The weights. -/
def SM (E : FVec Ideal S2x4x16384x256 .f32) : FVec Ideal S2x4x16384x256 .f32 :=
  Host.divf E (broadcastInDim S2x4x16384x256 ![0, 1, 2, 3] facts.bcast_S2x4x16384x1_S2x4x16384x256_0_1_2_3
    (broadcastInDim S2x4x16384x1 ![0, 1, 2] facts.bcast_S2x4x16384_S2x4x16384x1_0_1_2
      (Host.reduceAdd E (constant S_ FTy.f32 0#32) facts.reducesTo_S2x4x16384x256_S2x4x16384_d3 facts.h_S_)))

/-- The heads' outputs. -/
def OH (V : FVec Ideal S2x256x4x64 .f32) (P : FVec Ideal S2x4x16384x256 .f32) : FVec Ideal S2x4x64x16384 .f32 :=
  Host.dotGeneral dot_S2x256x4x64_S2x4x16384x256_S2x4x64x16384_1_3_3_2_02_01 none V P

/-- The layer's rows with the attention added. -/
def OUT (X : FVec Ideal S2x16384x1024 .f32) (O : FVec Ideal S2x4x64x16384 .f32) (WO : FVec Ideal S256x1024 .f32) : FVec Ideal S2x16384x1024 .f32 :=
  addf X (Host.dotGeneral dot_S2x16384x256_S256x1024_S2x16384x1024_2_0_01_1_n_n none
    (shapeCast S2x16384x256 (transpose S2x16384x4x64 [0, 3, 1, 2] O facts.transposes_S2x4x64x16384_S2x16384x4x64_0_3_1_2)
      facts.shapeCasts_S2x16384x4x64_S2x16384x256) WO)

/-- The scores of the arguments. -/
abbrev SREF (X : FVec Ideal S2x16384x1024 .f32) (M : FVec Ideal S2x256x1024 .f32) (G MG : FVec Ideal S1024 .f32) (WQ : FVec Ideal S1024x256 .f32)
    (WKV : FVec Ideal S1024x512 .f32) (QG KG : FVec Ideal S64 .f32) : FVec Ideal S2x4x16384x256 .f32 :=
  SC (Q4 (YQ X G WQ) QG) (K4 (YKV M MG WKV) KG)

/-- The reference's term. -/
def REF (X : FVec Ideal S2x16384x1024 .f32) (M : FVec Ideal S2x256x1024 .f32) (G MG : FVec Ideal S1024 .f32) (WQ : FVec Ideal S1024x256 .f32)
    (WKV : FVec Ideal S1024x512 .f32) (WO : FVec Ideal S256x1024 .f32) (QG KG : FVec Ideal S64 .f32) : FVec Ideal S2x16384x1024 .f32 :=
  OUT X (OH (V4 (YKV M MG WKV)) (SM (EX (SREF X M G MG WQ WKV QG KG) (MX (SREF X M G MG WQ WKV QG KG))))) WO

/-- The normalised rows, at an entry. -/
theorem hnx_at (X G) (b : Fin 2) (q : Fin 16384) (k : Fin 1024) : HNX X G (ix3 b q k)
    = X (ix3 b q k) * Ideal.rsqrt (Ideal.div (∑ l : Fin 1024, X (ix3 b q l) * X (ix3 b q l)) (Ideal.ofBits .f32 0x44800000#32)
      + Ideal.ofBits .f32 0x358637BD#32) * G (ix1 k) := by
  pointwise [HNX]
theorem hnm_at (X G) (b : Fin 2) (q : Fin 256) (k : Fin 1024) : HNM X G (ix3 b q k)
    = X (ix3 b q k) * Ideal.rsqrt (Ideal.div (∑ l : Fin 1024, X (ix3 b q l) * X (ix3 b q l)) (Ideal.ofBits .f32 0x44800000#32)
      + Ideal.ofBits .f32 0x358637BD#32) * G (ix1 k) := by
  pointwise [HNM]

/-- The projections, at an entry. -/
theorem yq_at (X G W) (b : Fin 2) (q : Fin 16384) (n : Fin 256) : YQ X G W (ix3 b q n) = ∑ l : Fin 1024, HNX X G (ix3 b q l) * W (ix2 l n) := by
  pointwise [YQ]
theorem ykv_at (X G W) (b : Fin 2) (q : Fin 256) (n : Fin 512) : YKV X G W (ix3 b q n) = ∑ l : Fin 1024, HNM X G (ix3 b q l) * W (ix2 l n) := by
  pointwise [YKV]

/-- The queries, the keys and the values, at an entry. -/
theorem q_at (Y QG) (b : Fin 2) (q : Fin 16384) (h : Fin 4) (d : Fin 64) : Q4 Y QG (ix4 b q h d)
    = nrm (fun e => Y (ix3 b q ⟨h.val * 64 + e.val, by omega⟩)) d * QG (ix1 d) * Ideal.ofBits .f32 0x3E000000#32 := by
  pointwise [Q4, Q4.H4, nrm]
theorem k_at (Y KG) (b : Fin 2) (j : Fin 256) (h : Fin 4) (d : Fin 64) : K4 Y KG (ix4 b j h d)
    = nrm (fun e => Y (ix3 b j ⟨h.val * 64 + e.val, by omega⟩)) d * KG (ix1 d) := by
  pointwise [K4, K4.H4, nrm]
theorem v_at (Y) (b : Fin 2) (j : Fin 256) (h : Fin 4) (d : Fin 64) : V4 Y (ix4 b j h d) = Y (ix3 b j ⟨256 + h.val * 64 + d.val, by omega⟩) := by
  pointwise [V4]

/-- The scores, at an entry. -/
theorem s_at (Q K) (b : Fin 2) (h : Fin 4) (q : Fin 16384) (j : Fin 256) : SC Q K (ix4 b h q j) = ∑ d : Fin 64, Q (ix4 b q h d) * K (ix4 b j h d) := by
  pointwise [SC]

/-- Each query's largest score is real where the scores are. -/
theorem mx_real (S : FVec Ideal S2x4x16384x256 .f32) (hS : ∀ i, ∃ x : ℝ, S i = (x : EReal)) (b : Fin 2) (h : Fin 4) (q : Fin 16384) :
    ∃ x : ℝ, MX S (ix3 b h q) = (x : EReal) := by
  obtain ⟨x, hx⟩ := Cert.Attn.hostmax_real S (constant (F := Ideal) S_ .f32 0xFF800000#32) facts.reducesTo_S2x4x16384x256_S2x4x16384_d3 facts.h_S_
    (ix3 b h q) hS Cert.Mem.c_ninf ⟨_, (Shape.ReducesTo.fiber_r4_a3 facts.reducesTo_S2x4x16384x256_S2x4x16384_d3 (ix3 b h q) _).2 ⟨0, rfl⟩⟩
  refine ⟨x, ?_⟩
  unfold MX
  have e : ∀ (u v : FVec Ideal S2x4x16384 .f32) (j : S2x4x16384.Idx), maximumf u v j = max (u j) (v j) := fun _ _ _ => rfl
  rw [e, hx]
  have e0 : broadcastInDim S2x4x16384 ![] facts.bcast_S_S2x4x16384 (constant (F := Ideal) S_ .f32 0xFF800000#32) (ix3 b h q) = (⊥ : EReal) :=
    Cert.Mem.c_ninf
  rw [e0]
  exact max_eq_right bot_le

/-- The weights and the outputs, at an entry. -/
theorem p_at (S x) (b : Fin 2) (h : Fin 4) (q : Fin 16384) (j : Fin 256) : SM (EX S x) (ix4 b h q j)
    = Ideal.div (Ideal.exp (S (ix4 b h q j) - x (ix3 b h q))) (∑ k : Fin 256, Ideal.exp (S (ix4 b h q k) - x (ix3 b h q))) := by
  pointwise [SM, EX]
theorem o_at (V P) (b : Fin 2) (h : Fin 4) (d : Fin 64) (q : Fin 16384) : OH V P (ix4 b h d q) = ∑ j : Fin 256, V (ix4 b j h d) * P (ix4 b h q j) := by
  pointwise [OH]
theorem out_at (X O WO) (b : Fin 2) (q : Fin 16384) (c : Fin 1024) : OUT X O WO (ix3 b q c)
    = X (ix3 b q c) + ∑ n : Fin 256, O (ix4 b ⟨n.val / 64, by omega⟩ ⟨n.val % 64, by omega⟩ q) * WO (ix2 n c) := by
  pointwise [OUT]

end Cert.Reference7Ideal.Value

end
-- ==== Proof.Mem.Entry.lean ====
/-  The memory attention's arrays as its two calls find them, their blocks, and what the first call leaves, over the extended reals. -/
module

public import proofs.«01_k».proof.Proof.Mem.Payload
public import proofs.«01_k».proof.Proof.Mem.Table
public import proofs.«01_k».proof.Proof.Mem.Ref

@[expose] public section

set_option maxRecDepth 16384

noncomputable section

open Idealize.ShloMosaic Idealize.ShloMosaic.TcCoe Idealize.SL.Sem
open Idealize.ShloMosaic.Pipeline (Dat)
open Cert.Mem (nrm)
open Cert.Reference7Ideal.Value (HNX HNM YQ YKV)

namespace Cert.Kernel7Ideal.Value

open Cert.Kernel7Ideal Cert.Kernel7Ideal.Gen

variable (m : (ℓ : Loc nD τ sig) → Buf (Elt Ideal) ℓ) (ρ : Dev nD → PrngReg)

/-- The windows' block indices at each grid point of the first call. -/
theorem idx0 : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![t.val, 0, 0]
    ∧ win0_7.index t = ![t.val, 0, 0] ∧ t.val < 2 :=
  (by decide +kernel : ∀ t : Fin grid0.N, _)

/-- The windows' block indices at each grid point of the second call. -/
theorem idx1 : ∀ t : Fin cfg1.N, win1_0.index t = ![t.val / 32, t.val % 32, 0] ∧ win1_1.index t = ![0, 0] ∧ win1_2.index t = ![0, 0]
    ∧ win1_3.index t = ![t.val / 32, 0, 0] ∧ win1_4.index t = ![t.val / 32, 0, 0] ∧ win1_5.index t = ![0, 0]
    ∧ win1_6.index t = ![t.val / 32, t.val % 32, 0] ∧ t.val < 64 :=
  (by decide +kernel : ∀ t : Fin grid1.N, _)

/-- The nine arguments, typed. -/
abbrev aX (c : Dev nD) : FVec Ideal S2x16384x1024 .f32 := m ((c : Thread nD τ).loc main_arg0)
abbrev aM (c : Dev nD) : FVec Ideal S2x256x1024 .f32 := m ((c : Thread nD τ).loc main_arg1)
abbrev aG (c : Dev nD) : FVec Ideal S1024 .f32 := m ((c : Thread nD τ).loc main_arg2)
abbrev aMG (c : Dev nD) : FVec Ideal S1024 .f32 := m ((c : Thread nD τ).loc main_arg3)
abbrev aWQ (c : Dev nD) : FVec Ideal S1024x256 .f32 := m ((c : Thread nD τ).loc main_arg4)
abbrev aWKV (c : Dev nD) : FVec Ideal S1024x512 .f32 := m ((c : Thread nD τ).loc main_arg5)
abbrev aWO (c : Dev nD) : FVec Ideal S256x1024 .f32 := m ((c : Thread nD τ).loc main_arg6)
abbrev aQG (c : Dev nD) : FVec Ideal S64 .f32 := m ((c : Thread nD τ).loc main_arg7)
abbrev aKG (c : Dev nD) : FVec Ideal S64 .f32 := m ((c : Thread nD τ).loc main_arg8)

/-- The gain vector the host prepares: both gains, the score's scale and the factor of the power of two. -/
def GAIN (QG KG : FVec Ideal S64 .f32) : FVec Ideal S256 .f32 :=
  mulf (shapeCast S256 (broadcastInDim S4x64 ![0, 1] bcast_S1x64_S4x64_0_1 (shapeCast S1x64 (mulf QG KG) shapeCasts_S64_S1x64))
      shapeCasts_S4x64_S256)
    (broadcastInDim S256 ![] bcast_S_S256 (mulf (constant S_ FTy.f32 0x3E000000#32)
      (Host.divf (constant S_ FTy.f32 0x3F800000#32) (Host.log (constant S_ FTy.f32 0x40000000#32)))))

/-- The arrays as the first call finds them. -/
theorem V3_eq (c : Dev nD) : (V1 m ρ c main_v3 : FVec Ideal S1024x256 .bf16)
    = extractStridedSlice S1024x256 ![0, 0] (aWKV m c) slices_S1024x512_S1024x256_0_0 := by
  show StableHlo.after hostOps0 _ _ = _
  after_results
  rfl
theorem V12_eq (c : Dev nD) : (V1 m ρ c main_v12 : FVec Ideal S256x1024 .bf16)
    = transpose S256x1024 [1, 0] (extractStridedSlice S1024x256 ![0, 256] (aWKV m c) slices_S1024x512_S1024x256_0_256) transposes_S1024x256_S256x1024_1_0 := by
  show StableHlo.after hostOps0 _ _ = _
  after_results
  rfl
theorem V13_eq (c : Dev nD) : (V1 m ρ c main_v13 : FVec Ideal S1x1024 .f32) = shapeCast S1x1024 (aMG m c) shapeCasts_S1024_S1x1024 := by
  show StableHlo.after hostOps0 _ _ = _
  after_results
  rfl
theorem V14_eq (c : Dev nD) : (V1 m ρ c main_v14 : FVec Ideal S1x256 .f32) = shapeCast S1x256 (GAIN (aQG m c) (aKG m c)) shapeCasts_S256_S1x256 := by
  show StableHlo.after hostOps0 _ _ = _
  after_results
  rfl
theorem Vcst_eq (c : Dev nD) : (V1 m ρ c main_cst : FVec Ideal S128x128 .bf16)
    = (fun i => FloatOps.ofBits (F := Ideal) .bf16 (lit0 (S128x128.rowMajor i)) : FVec Ideal S128x128 .bf16) := by
  show StableHlo.after hostOps0 _ _ = _
  after_results
  try rfl
theorem Vm_eq (c : Dev nD) : (V1 m ρ c main_arg1 : FVec Ideal S2x256x1024 .f32) = aM m c :=
  W1_args m ρ c main_arg1 (by decide)

/-- The arrays as the second call finds them. -/
theorem V17_eq (c : Dev nD) : (V3 m ρ c main_v17 : FVec Ideal S256x1024 .bf16)
    = transpose S256x1024 [1, 0] (aWQ m c) transposes_S1024x256_S256x1024_1_0 := by
  show StableHlo.after hostOps1 _ _ = _
  after_results
  exact congrArg (fun x : FVec Ideal S1024x256 .f32 => transpose S256x1024 [1, 0] x transposes_S1024x256_S256x1024_1_0) (W2_args m ρ c main_arg4 (by decide))
theorem V18_eq (c : Dev nD) : (V3 m ρ c main_v18 : FVec Ideal S256x1024 .bf16) = aWO m c := by
  show StableHlo.after hostOps1 _ _ = _
  after_results
  exact congrArg (fun x : FVec Ideal S256x1024 .f32 => x) (W2_args m ρ c main_arg6 (by decide))
theorem V19_eq (c : Dev nD) : (V3 m ρ c main_v19 : FVec Ideal S1x1024 .f32) = shapeCast S1x1024 (aG m c) shapeCasts_S1024_S1x1024 := by
  show StableHlo.after hostOps1 _ _ = _
  after_results
  exact congrArg (fun x : FVec Ideal S1024 .f32 => shapeCast S1x1024 x shapeCasts_S1024_S1x1024) (W2_args m ρ c main_arg2 (by decide))
theorem Vx_eq (c : Dev nD) : (V3 m ρ c main_arg0 : FVec Ideal S2x16384x1024 .f32) = aX m c :=
  W3_args m ρ c main_arg0 (by decide)
theorem Vk_eq (c : Dev nD) : (V3 m ρ c main_v15_0 : FVec Ideal S2x256x256 .bf16) = (dat0 (V1 m ρ) c).arrAt 6 cfg0.N :=
  (W3_of m ρ c main_v15_0 (by decide)).trans (W2_arr m ρ c 6)
theorem Vv_eq (c : Dev nD) : (V3 m ρ c main_v15_1 : FVec Ideal S2x256x256 .bf16) = (dat0 (V1 m ρ) c).arrAt 7 cfg0.N :=
  (W3_of m ρ c main_v15_1 (by decide)).trans (W2_arr m ρ c 7)

/-- The gain vector, at an entry. -/
theorem gain_at (QG KG : FVec Ideal S64 .f32) (h : Fin 4) (d : Fin 64) : GAIN QG KG (ix1 ⟨h.val * 64 + d.val, by omega⟩)
    = (QG (ix1 d) * KG (ix1 d)) * (Ideal.ofBits .f32 0x3E000000#32 * Ideal.div 1 (Ideal.log (Ideal.ofBits .f32 0x40000000#32))) := by
  pointwise [GAIN]

/-- The first call's input blocks, at an entry, over the arguments. -/
theorem b0_at (c : Dev nD) (t : Fin cfg0.N) (b : Fin 2) (hb : t.val = b.val) (r : Fin 256) (k : Fin 1024) :
    (iblk0 (V1 m ρ) c 0 t : FVec Ideal S1x256x1024 .f32) (ix3 0 r k) = aM m c (ix3 b r k) := by
  have e : (iblk0 (V1 m ρ) c 0 t : FVec Ideal S1x256x1024 .f32) (ix3 0 r k) = (V1 m ρ c main_arg1 : FVec Ideal S2x256x1024 .f32) (ix3 b r k) := by
    blk_ext [iblk0, idx0 t]
  rw [e, Vm_eq]
theorem b1_at (c : Dev nD) (t : Fin cfg0.N) (k : Fin 1024) :
    (iblk0 (V1 m ρ) c 1 t : FVec Ideal S1x1024 .f32) (ix2 0 k) = aMG m c (ix1 k) := by
  have e : (iblk0 (V1 m ρ) c 1 t : FVec Ideal S1x1024 .f32) (ix2 0 k) = (V1 m ρ c main_v13 : FVec Ideal S1x1024 .f32) (ix2 0 k) := by
    blk_ext [iblk0, idx0 t]
  rw [e, V13_eq]
  pointwise
theorem b2_at (c : Dev nD) (t : Fin cfg0.N) (l : Fin 1024) (n : Fin 256) :
    (iblk0 (V1 m ρ) c 2 t : FVec Ideal S1024x256 .bf16) (ix2 l n) = aWKV m c (ix2 l ⟨n.val, by omega⟩) := by
  have e : (iblk0 (V1 m ρ) c 2 t : FVec Ideal S1024x256 .bf16) (ix2 l n) = (V1 m ρ c main_v3 : FVec Ideal S1024x256 .bf16) (ix2 l n) := by
    blk_ext [iblk0, idx0 t]
  rw [e, V3_eq]
  pointwise
theorem b3_at (c : Dev nD) (t : Fin cfg0.N) (h : Fin 4) (d : Fin 64) (n : Fin 256) (hn : n.val = h.val * 64 + d.val) :
    (iblk0 (V1 m ρ) c 3 t : FVec Ideal S1x256 .f32) (ix2 0 n) = (aQG m c (ix1 d) * aKG m c (ix1 d))
      * (Ideal.ofBits .f32 0x3E000000#32 * Ideal.div 1 (Ideal.log (Ideal.ofBits .f32 0x40000000#32))) := by
  have e : (iblk0 (V1 m ρ) c 3 t : FVec Ideal S1x256 .f32) (ix2 0 n) = (V1 m ρ c main_v14 : FVec Ideal S1x256 .f32) (ix2 0 n) := by
    blk_ext [iblk0, idx0 t]
  rw [e, V14_eq, ← gain_at (aQG m c) (aKG m c) h d]
  generalize GAIN (aQG m c) (aKG m c) = g
  obtain rfl : n = ⟨h.val * 64 + d.val, by clear hn e; omega⟩ := Fin.ext hn
  pointwise
theorem b4_at (c : Dev nD) (t : Fin cfg0.N) (a b : Fin 128) :
    (iblk0 (V1 m ρ) c 4 t : FVec Ideal S128x128 .bf16) (ix2 a b) = if a.val / 64 = b.val / 64 then (1 : EReal) else (0 : EReal) := by
  have e : (iblk0 (V1 m ρ) c 4 t : FVec Ideal S128x128 .bf16) (ix2 a b) = (V1 m ρ c main_cst : FVec Ideal S128x128 .bf16) (ix2 a b) := by
    blk_ext [iblk0, idx0 t]
  have e' : lit0 (S128x128.rowMajor (ix2 a b)) = lit0t (a.val * 128 + b.val) :=
    congrArg lit0t (Shape.rowMajor_val_two (ix2 a b))
  rw [e, Vcst_eq]
  show Ideal.ofBits .bf16 (lit0 (S128x128.rowMajor (ix2 a b))) = _
  rw [e', table a b]
  split
  · exact Cert.Inproj.b_one
  · exact Cert.Inproj.b_zero
theorem b5_at (c : Dev nD) (t : Fin cfg0.N) (n : Fin 256) (l : Fin 1024) :
    (iblk0 (V1 m ρ) c 5 t : FVec Ideal S256x1024 .bf16) (ix2 n l) = aWKV m c (ix2 l ⟨256 + n.val, by omega⟩) := by
  have e : (iblk0 (V1 m ρ) c 5 t : FVec Ideal S256x1024 .bf16) (ix2 n l) = (V1 m ρ c main_v12 : FVec Ideal S256x1024 .bf16) (ix2 n l) := by
    blk_ext [iblk0, idx0 t]
  rw [e, V12_eq]
  pointwise

/-- The reference's projection of the memory. -/
abbrev aY (c : Dev nD) : FVec Ideal Cert.Reference7Ideal.S2x256x512 .f32 := YKV (aM m c) (aMG m c) (aWKV m c)

/-- The block's normalised rows are the reference's. -/
theorem hnP (c : Dev nD) (t : Fin cfg0.N) (b : Fin 2) (hb : t.val = b.val) (r : Fin 256) (k : Fin 1024) :
    k0_pay4 (F := Ideal) (iblk0 (V1 m ρ) c 0 t) (iblk0 (V1 m ρ) c 1 t) (ix2 r k) = HNM (aM m c) (aMG m c) (ix3 b r k) := by
  rw [hn_at, Cert.Reference7Ideal.Value.hnm_at, b1_at]
  simp only [b0_at m ρ c t b hb]

/-- The block's projected keys are the reference's. -/
theorem ykP (c : Dev nD) (t : Fin cfg0.N) (b : Fin 2) (hb : t.val = b.val) (r n : Fin 256) :
    k0_pay5 (F := Ideal) (iblk0 (V1 m ρ) c 0 t) (iblk0 (V1 m ρ) c 1 t) (iblk0 (V1 m ρ) c 2 t) (ix2 r n) = aY m c (ix3 b r ⟨n.val, by omega⟩) := by
  rw [yk_at]
  refine Eq.trans ?_ (Cert.Reference7Ideal.Value.ykv_at (aM m c) (aMG m c) (aWKV m c) b r _).symm
  refine Finset.sum_congr rfl fun l _ => ?_
  rw [hnP m ρ c t b hb r l, b2_at]

/-- A key the first call leaves: the reference's, with both gains and the scale. -/
def KH (c : Dev nD) (b : Fin 2) (r : Fin 256) (h : Fin 4) (d : Fin 64) : EReal :=
  nrm (fun e => aY m c (ix3 b r ⟨h.val * 64 + e.val, by omega⟩)) d * ((aQG m c (ix1 d) * aKG m c (ix1 d))
    * (Ideal.ofBits .f32 0x3E000000#32 * Ideal.div 1 (Ideal.log (Ideal.ofBits .f32 0x40000000#32))))

/-- The keys the first call leaves. -/
def KK (c : Dev nD) : FVec Ideal S2x256x256 .bf16 := fun i =>
  KH m c (i 0) (i 1) ⟨(i 2).val / 64, by have := (i 2).isLt; change _ < 256 at this; omega⟩ ⟨(i 2).val % 64, by omega⟩

/-- The values the first call leaves, turned. -/
def VV (c : Dev nD) : FVec Ideal S2x256x256 .bf16 := fun i => aY m c (ix3 (i 0) (i 2) ⟨256 + (i 1).val, by have := (i 1).isLt; change _ < 256 at this; omega⟩)

/-- The keys, at an entry. -/
theorem kk_at (c : Dev nD) (b : Fin 2) (r : Fin 256) (h : Fin 4) (d : Fin 64) :
    KK m c (ix3 b r ⟨h.val * 64 + d.val, by omega⟩) = KH m c b r h d :=
  congrArg₂ (KH m c b r) (Fin.ext (by show (h.val * 64 + d.val) / 64 = h.val; omega)) (Fin.ext (by show (h.val * 64 + d.val) % 64 = d.val; omega))

/-- The keys left at a point. -/
theorem acc_k (c : Dev nD) (t : Fin cfg0.N) (b : Fin 2) (hb : t.val = b.val) (r : Fin 256) (h : Fin 4) (d : Fin 64) (y : S1x256x256.Idx)
    (hy0 : (y 1).val = r.val) (hy1 : (y 2).val = h.val * 64 + d.val) :
    ((dat0 (V1 m ρ) c).after 6 t : FVec Ideal S1x256x256 .bf16) y = KK m c (ix3 b r ⟨h.val * 64 + d.val, by omega⟩) := by
  rw [after0_6]
  refine (k_at _ _ _ _ _ _ y r ⟨h.val / 2, by omega⟩ ⟨64 * (h.val % 2) + d.val, by omega⟩ hy0
    (by show _ = 128 * (h.val / 2) + (64 * (h.val % 2) + d.val); omega)).trans ?_
  rw [kk_at]
  unfold KH nrm
  rw [← Cert.Inproj.div_64]
  have hP : ∀ (e : Fin 64) (n : Fin 256), n.val = h.val * 64 + e.val →
      k0_pay5 (F := Ideal) (iblk0 (V1 m ρ) c 0 t) (iblk0 (V1 m ρ) c 1 t) (iblk0 (V1 m ρ) c 2 t) (ix2 r n)
        = aY m c (ix3 b r ⟨h.val * 64 + e.val, by omega⟩) := fun e n hn =>
    (ykP m ρ c t b hb r n).trans (congrArg (fun z => aY m c (ix3 b r z)) (Fin.ext hn))
  unfold CH
  rw [hP d _ (by show 128 * (h.val / 2) + (64 * (h.val % 2) + d.val) = _; omega),
    b3_at m ρ c t h d _ (by show 128 * (h.val / 2) + (64 * (h.val % 2) + d.val) = _; omega),
    Cert.Inproj.half_sum _ _ ⟨h.val % 2, by omega⟩ (fun i => (b4_at m ρ c t i _).trans (by
      show (if i.val / 64 = (64 * (h.val % 2) + d.val) / 64 then (1 : EReal) else 0) = if i.val / 64 = h.val % 2 then 1 else 0
      rw [show (64 * (h.val % 2) + d.val) / 64 = h.val % 2 by omega]))]
  have hs : ∀ e : Fin 64, k0_pay5 (F := Ideal) (iblk0 (V1 m ρ) c 0 t) (iblk0 (V1 m ρ) c 1 t) (iblk0 (V1 m ρ) c 2 t)
      (ix2 r ⟨128 * (h.val / 2) + (64 * (h.val % 2) + e.val), by omega⟩) = aY m c (ix3 b r ⟨h.val * 64 + e.val, by omega⟩) :=
    fun e => hP e _ (by show 128 * (h.val / 2) + (64 * (h.val % 2) + e.val) = _; omega)
  simp only [hs]

/-- The values left at a point. -/
theorem acc_v (c : Dev nD) (t : Fin cfg0.N) (b : Fin 2) (hb : t.val = b.val) (n r : Fin 256) :
    ((dat0 (V1 m ρ) c).after 7 t : FVec Ideal S1x256x256 .bf16) (ix3 0 n r) = VV m c (ix3 b n r) := by
  rw [after0_7]
  refine (v_at _ _ _ _ _ _ n r).trans ?_
  refine Eq.trans ?_ (Cert.Reference7Ideal.Value.ykv_at (aM m c) (aMG m c) (aWKV m c) b r ⟨256 + n.val, by omega⟩).symm
  refine Finset.sum_congr rfl fun l _ => ?_
  rw [hnP m ρ c t b hb r l, b5_at, mul_comm]

/-- The keys after the first call. -/
theorem final_k (c : Dev nD) : ((dat0 (V1 m ρ) c).arrAt 6 cfg0.N : FVec Ideal S2x256x256 .bf16) = KK m c := by
  have hb : ∀ (h : Fin 4) (d : Fin 64), h.val * 64 + d.val < 256 := fun h d => by omega
  refine (dat0 (V1 m ρ) c).arrAt_eq_of_covers 6 _ (by decide +kernel) fun t hf y => ?_
  blk_simp
  have h0 : (y 0).val = 0 := by have := (y 0).isLt; change _ < 1 at this; omega
  obtain ⟨r, k, rfl⟩ : ∃ (r : Fin 256) (k : Fin 256), y = ix3 0 r k :=
    ⟨y 1, y 2, (eq_ix3 y).trans (by rw [show y 0 = (0 : Fin 1) from Fin.ext h0])⟩
  have ht := (idx0 t).2.2.2.2.2.2.2.2
  obtain ⟨h, d, rfl⟩ : ∃ (h : Fin 4) (d : Fin 64), k = ⟨h.val * 64 + d.val, hb h d⟩ :=
    ⟨⟨k.val / 64, by omega⟩, ⟨k.val % 64, by omega⟩, Fin.ext (by show k.val = k.val / 64 * 64 + k.val % 64; omega)⟩
  refine (acc_k m ρ c t ⟨t.val, ht⟩ rfl r h d _ rfl rfl).trans ?_
  blk_ext [idx0 t]

/-- The values after the first call. -/
theorem final_v (c : Dev nD) : ((dat0 (V1 m ρ) c).arrAt 7 cfg0.N : FVec Ideal S2x256x256 .bf16) = VV m c := by
  refine (dat0 (V1 m ρ) c).arrAt_eq_of_covers 7 _ (by decide +kernel) fun t hf y => ?_
  blk_simp
  have h0 : (y 0).val = 0 := by have := (y 0).isLt; change _ < 1 at this; omega
  obtain ⟨r, k, rfl⟩ : ∃ (r : Fin 256) (k : Fin 256), y = ix3 0 r k :=
    ⟨y 1, y 2, (eq_ix3 y).trans (by rw [show y 0 = (0 : Fin 1) from Fin.ext h0])⟩
  have ht := (idx0 t).2.2.2.2.2.2.2.2
  refine (acc_v m ρ c t ⟨t.val, ht⟩ rfl r k).trans ?_
  blk_ext [idx0 t]

/-- The second call's input blocks, at an entry, over the arguments. -/
theorem d0_at (c : Dev nD) (t : Fin cfg1.N) (b : Fin 2) (q : Fin 16384) (r : Fin 512) (k : Fin 1024) (h0 : t.val / 32 = b.val)
    (h1 : t.val % 32 * 512 + r.val = q.val) :
    (iblk1 (V3 m ρ) c 0 t : FVec Ideal S1x512x1024 .f32) (ix3 0 r k) = aX m c (ix3 b q k) := by
  have e : (iblk1 (V3 m ρ) c 0 t : FVec Ideal S1x512x1024 .f32) (ix3 0 r k) = (V3 m ρ c main_arg0 : FVec Ideal S2x16384x1024 .f32) (ix3 b q k) := by
    blk_ext [iblk1, idx1 t]
  rw [e, Vx_eq]
theorem d1_at (c : Dev nD) (t : Fin cfg1.N) (k : Fin 1024) :
    (iblk1 (V3 m ρ) c 1 t : FVec Ideal S1x1024 .f32) (ix2 0 k) = aG m c (ix1 k) := by
  have e : (iblk1 (V3 m ρ) c 1 t : FVec Ideal S1x1024 .f32) (ix2 0 k) = (V3 m ρ c main_v19 : FVec Ideal S1x1024 .f32) (ix2 0 k) := by
    blk_ext [iblk1, idx1 t]
  rw [e, V19_eq]
  pointwise
theorem d2_at (c : Dev nD) (t : Fin cfg1.N) (n : Fin 256) (l : Fin 1024) :
    (iblk1 (V3 m ρ) c 2 t : FVec Ideal S256x1024 .bf16) (ix2 n l) = aWQ m c (ix2 l n) := by
  have e : (iblk1 (V3 m ρ) c 2 t : FVec Ideal S256x1024 .bf16) (ix2 n l) = (V3 m ρ c main_v17 : FVec Ideal S256x1024 .bf16) (ix2 n l) := by
    blk_ext [iblk1, idx1 t]
  rw [e, V17_eq]
  pointwise
theorem d3_at (c : Dev nD) (t : Fin cfg1.N) (b : Fin 2) (h0 : t.val / 32 = b.val) (r k : Fin 256) :
    (iblk1 (V3 m ρ) c 3 t : FVec Ideal S1x256x256 .bf16) (ix3 0 r k) = KK m c (ix3 b r k) := by
  have e : (iblk1 (V3 m ρ) c 3 t : FVec Ideal S1x256x256 .bf16) (ix3 0 r k) = (V3 m ρ c main_v15_0 : FVec Ideal S2x256x256 .bf16) (ix3 b r k) := by
    blk_ext [iblk1, idx1 t]
  rw [e, Vk_eq, final_k]
theorem d4_at (c : Dev nD) (t : Fin cfg1.N) (b : Fin 2) (h0 : t.val / 32 = b.val) (r k : Fin 256) :
    (iblk1 (V3 m ρ) c 4 t : FVec Ideal S1x256x256 .bf16) (ix3 0 r k) = VV m c (ix3 b r k) := by
  have e : (iblk1 (V3 m ρ) c 4 t : FVec Ideal S1x256x256 .bf16) (ix3 0 r k) = (V3 m ρ c main_v15_1 : FVec Ideal S2x256x256 .bf16) (ix3 b r k) := by
    blk_ext [iblk1, idx1 t]
  rw [e, Vv_eq, final_v]
theorem d5_at (c : Dev nD) (t : Fin cfg1.N) (n : Fin 256) (l : Fin 1024) :
    (iblk1 (V3 m ρ) c 5 t : FVec Ideal S256x1024 .bf16) (ix2 n l) = aWO m c (ix2 n l) := by
  have e : (iblk1 (V3 m ρ) c 5 t : FVec Ideal S256x1024 .bf16) (ix2 n l) = (V3 m ρ c main_v18 : FVec Ideal S256x1024 .bf16) (ix2 n l) := by
    blk_ext [iblk1, idx1 t]
  rw [e, V18_eq]

end Cert.Kernel7Ideal.Value

end
-- ==== Proof.Mem.Value.lean ====
/-  What the memory attention leaves as a whole, and that it is the reference's array, over the extended reals. -/
module

public import proofs.«01_k».proof.Proof.Mem.Block
public import proofs.«01_k».proof.Proof.Mem.Entry

@[expose] public section

set_option maxRecDepth 16384

noncomputable section

open Idealize.ShloMosaic Idealize.ShloMosaic.TcCoe Idealize.SL.Sem
open Idealize.ShloMosaic.Pipeline (Dat)
open Cert.Mem (nrm)
open Cert.Reference7Ideal.Value (HNX YQ YKV Q4 K4 V4 SC SREF MX EX SM OH REF)

namespace Cert.Kernel7Ideal.Value

open Cert.Kernel7Ideal Cert.Kernel7Ideal.Gen

variable (m : (ℓ : Loc nD τ sig) → Buf (Elt Ideal) ℓ) (ρ : Dev nD → PrngReg)

/-- What the second call leaves at a point. -/
theorem outs_eq (V : (c : Dev nD) → (b : Ref sig .tc) → Buf (Elt Ideal) ((c : Thread nD τ).loc b)) (c : Dev nD) (t : Fin cfg1.N) :
    outsAt1 V c t = k1_pay4 (F := Ideal) (k1_pay5 (F := Ideal) (iblk1 V c 0 t))
      (SCR (k1_pay6 (F := Ideal) (iblk1 V c 0 t) (iblk1 V c 1 t) (iblk1 V c 2 t)) (k1_pay7 (F := Ideal) (iblk1 V c 3 t)) (k1_pay8 (F := Ideal) (iblk1 V c 4 t)))
      (iblk1 V c 5 t) := by
  unfold outsAt1 out1_A_6
  frame_out
  rw [View.readCov_eq_canon']
  refine congrArg (fun s => k1_pay4 (F := Ideal) (k1_pay5 (F := Ideal) (iblk1 V c 0 t)) s (iblk1 V c 5 t)) (funext fun j => ?_)
  refine congrArg _ (funext fun a => Fin.ext ?_)
  match a with
  | ⟨0, _⟩ => show 0 + 1 * (j 0).val = (j 0).val; omega
  | ⟨1, _⟩ => show 0 + 1 * (j 1).val = (j 1).val; omega

/-- The keys' and values' blocks without their leading axis. -/
theorem pay7_at (k : FVec Ideal S1x256x256 .bf16) (r n : Fin 256) : k1_pay7 (F := Ideal) k (ix2 r n) = k (ix3 0 r n) := by
  pointwise [k1_pay7]
theorem pay8_at (k : FVec Ideal S1x256x256 .bf16) (r n : Fin 256) : k1_pay8 (F := Ideal) k (ix2 r n) = k (ix3 0 r n) := by
  pointwise [k1_pay8]

/-- The reference's projected queries. -/
abbrev aYQ (c : Dev nD) : FVec Ideal Cert.Reference7Ideal.S2x16384x256 .f32 := YQ (aX m c) (aG m c) (aWQ m c)

/-- The reference's scores. -/
abbrev aS (c : Dev nD) : FVec Ideal Cert.Reference7Ideal.S2x4x16384x256 .f32 :=
  SREF (aX m c) (aM m c) (aG m c) (aMG m c) (aWQ m c) (aWKV m c) (aQG m c) (aKG m c)

/-- The block's queries are the reference's. -/
theorem qP (c : Dev nD) (t : Fin cfg1.N) (b : Fin 2) (q : Fin 16384) (r : Fin 512) (h0 : t.val / 32 = b.val)
    (h1 : t.val % 32 * 512 + r.val = q.val) (h : Fin 4) (d : Fin 64) :
    k1_pay6 (F := Ideal) (iblk1 (V3 m ρ) c 0 t) (iblk1 (V3 m ρ) c 1 t) (iblk1 (V3 m ρ) c 2 t) (ix3 h d r)
      = nrm (fun e => aYQ m c (ix3 b q ⟨h.val * 64 + e.val, by omega⟩)) d := by
  rw [q_at]
  refine congrArg (fun y => nrm y d) (funext fun e => ?_)
  refine Eq.trans ?_ (Cert.Reference7Ideal.Value.yq_at (aX m c) (aG m c) (aWQ m c) b q _).symm
  refine Finset.sum_congr rfl fun l _ => ?_
  rw [d2_at, mul_comm, Cert.Reference7Ideal.Value.hnx_at]
  unfold HN1
  rw [d1_at]
  simp only [d0_at m ρ c t b q r _ h0 h1]

/-- The scores of the block and of the reference: real, the block's in units of the logarithm of two. -/
theorem sP (hq : ∀ c i, ∃ x : ℝ, aQG m c i = (x : EReal)) (hk : ∀ c i, ∃ x : ℝ, aKG m c i = (x : EReal)) (c : Dev nD) (t : Fin cfg1.N)
    (b : Fin 2) (q : Fin 16384) (r : Fin 512) (h0 : t.val / 32 = b.val) (h1 : t.val % 32 * 512 + r.val = q.val) (h : Fin 4) (j : Fin 256) :
    ∃ z : ℝ, SCO (k1_pay6 (F := Ideal) (iblk1 (V3 m ρ) c 0 t) (iblk1 (V3 m ρ) c 1 t) (iblk1 (V3 m ρ) c 2 t)) (k1_pay7 (F := Ideal) (iblk1 (V3 m ρ) c 3 t)) h r j
        = ((z * (1 / Real.log 2) : ℝ) : EReal) ∧ aS m c (ix4 b h q j) = (z : EReal) := by
  obtain ⟨z, hz1, hz2⟩ := Cert.Mem.scores (fun e => aYQ m c (ix3 b q ⟨h.val * 64 + e.val, by omega⟩)) (fun e => aY m c (ix3 b j ⟨h.val * 64 + e.val, by omega⟩))
    (fun d => aQG m c (ix1 d)) (fun d => aKG m c (ix1 d)) (fun d => hq c _) (fun d => hk c _)
  refine ⟨z, ?_, ?_⟩
  · rw [← hz1]
    unfold SCO
    refine Finset.sum_congr rfl fun d _ => ?_
    rw [pay7_at, d3_at m ρ c t b h0, kk_at, qP m ρ c t b q r h0 h1 h d]
    rfl
  · rw [← hz2]
    refine (Cert.Reference7Ideal.Value.s_at _ _ b h q j).trans (Finset.sum_congr rfl fun d _ => ?_)
    rw [Cert.Reference7Ideal.Value.q_at, Cert.Reference7Ideal.Value.k_at]

/-- Every score of the reference is real. -/
theorem sR (hq : ∀ c i, ∃ x : ℝ, aQG m c i = (x : EReal)) (hk : ∀ c i, ∃ x : ℝ, aKG m c i = (x : EReal)) (c : Dev nD)
    (i : Cert.Reference7Ideal.S2x4x16384x256.Idx) : ∃ z : ℝ, aS m c i = (z : EReal) := by
  obtain ⟨b, h, q, j, rfl⟩ : ∃ (b : Fin 2) (h : Fin 4) (q : Fin 16384) (j : Fin 256), i = ix4 b h q j := ⟨i 0, i 1, i 2, i 3, eq_ix4 i⟩
  obtain ⟨z, -, hz2⟩ := Cert.Mem.scores (fun e => aYQ m c (ix3 b q ⟨h.val * 64 + e.val, by omega⟩)) (fun e => aY m c (ix3 b j ⟨h.val * 64 + e.val, by omega⟩))
    (fun d => aQG m c (ix1 d)) (fun d => aKG m c (ix1 d)) (fun d => hq c _) (fun d => hk c _)
  refine ⟨z, ((Cert.Reference7Ideal.Value.s_at _ _ b h q j).trans (Finset.sum_congr rfl fun d _ => ?_)).trans hz2⟩
  rw [Cert.Reference7Ideal.Value.q_at, Cert.Reference7Ideal.Value.k_at]

/-- The heads' outputs of the reference. -/
abbrev aO (c : Dev nD) : FVec Ideal Cert.Reference7Ideal.S2x4x64x16384 .f32 := OH (V4 (aY m c)) (SM (EX (aS m c) (MX (aS m c))))

/-- A head's output at a point is the reference's. -/
theorem oP (hq : ∀ c i, ∃ x : ℝ, aQG m c i = (x : EReal)) (hk : ∀ c i, ∃ x : ℝ, aKG m c i = (x : EReal)) (c : Dev nD) (t : Fin cfg1.N)
    (b : Fin 2) (q : Fin 16384) (r : Fin 512) (h0 : t.val / 32 = b.val) (h1 : t.val % 32 * 512 + r.val = q.val) (h : Fin 4) (d : Fin 64)
    (y : S256x512.Idx) (hy0 : (y 0).val = h.val * 64 + d.val) (hy1 : (y 1).val = r.val) :
    SCR (k1_pay6 (F := Ideal) (iblk1 (V3 m ρ) c 0 t) (iblk1 (V3 m ρ) c 1 t) (iblk1 (V3 m ρ) c 2 t)) (k1_pay7 (F := Ideal) (iblk1 (V3 m ρ) c 3 t))
      (k1_pay8 (F := Ideal) (iblk1 (V3 m ρ) c 4 t)) y = aO m c (ix4 b h d q) := by
  rw [scr_at _ _ _ y h d r hy0 hy1]
  obtain ⟨X, hX⟩ := Cert.Reference7Ideal.Value.mx_real (aS m c) (sR m hq hk c) b h q
  choose z hz1 hz2 using sP m ρ hq hk c t b q r h0 h1 h
  have hv : ∀ j : Fin 256, k1_pay8 (F := Ideal) (iblk1 (V3 m ρ) c 4 t) (ix2 ⟨h.val * 64 + d.val, by omega⟩ j) = V4 (aY m c) (ix4 b j h d) := fun j => by
    rw [pay8_at, d4_at m ρ c t b h0, Cert.Reference7Ideal.Value.v_at]
    exact congrArg (fun n => aY m c (ix3 b j n)) (Fin.ext (by show 256 + (h.val * 64 + d.val) = 256 + h.val * 64 + d.val; omega))
  refine Eq.trans ?_ (Cert.Reference7Ideal.Value.o_at _ _ b h d q).symm
  simp only [hv]
  refine (Cert.Mem.softmax_values (by norm_num) z _ (fun j => aS m c (ix4 b h q j)) (fun j => V4 (aY m c) (ix4 b j h d)) X hz1 hz2).trans ?_
  refine Finset.sum_congr rfl fun j _ => ?_
  rw [Cert.Reference7Ideal.Value.p_at, hX]

/-- The result after the whole grid: the reference's. -/
theorem final (hq : ∀ c i, ∃ x : ℝ, aQG m c i = (x : EReal)) (hk : ∀ c i, ∃ x : ℝ, aKG m c i = (x : EReal)) (c : Dev nD) :
    ((dat1 (V3 m ρ) c).arrAt 6 cfg1.N : FVec Ideal S2x16384x1024 .f32)
      = REF (aX m c) (aM m c) (aG m c) (aMG m c) (aWQ m c) (aWKV m c) (aWO m c) (aQG m c) (aKG m c) := by
  refine (dat1 (V3 m ρ) c).arrAt_eq_of_covers 6 _ (by decide +kernel) fun t hf y => ?_
  blk_simp
  have h0 : (y 0).val = 0 := by have := (y 0).isLt; change _ < 1 at this; omega
  obtain ⟨r, k, rfl⟩ : ∃ (r : Fin 512) (k : Fin 1024), y = ix3 0 r k :=
    ⟨y 1, y 2, (eq_ix3 y).trans (by rw [show y 0 = (0 : Fin 1) from Fin.ext h0])⟩
  have ht := (idx1 t).2.2.2.2.2.2.2
  have key : ((dat1 (V3 m ρ) c).after 6 t : FVec Ideal S1x512x1024 .f32) (ix3 0 r k)
      = REF (aX m c) (aM m c) (aG m c) (aMG m c) (aWQ m c) (aWKV m c) (aWO m c) (aQG m c) (aKG m c)
          (ix3 ⟨t.val / 32, by omega⟩ ⟨t.val % 32 * 512 + r.val, by omega⟩ k) := by
    rw [after1_6, outs_eq, upd_at, d0_at m ρ c t ⟨t.val / 32, by omega⟩ ⟨t.val % 32 * 512 + r.val, by omega⟩ r k rfl rfl]
    refine Eq.trans ?_ (Cert.Reference7Ideal.Value.out_at _ _ _ _ _ _).symm
    refine congrArg _ (Finset.sum_congr rfl fun n _ => ?_)
    rw [d5_at]
    exact congrArg (· * _) (oP m ρ hq hk c t _ _ r rfl rfl ⟨n.val / 64, by omega⟩ ⟨n.val % 64, by omega⟩ _
      (by show n.val = n.val / 64 * 64 + n.val % 64; omega) rfl)
  refine key.trans ?_
  blk_ext [idx1 t]

end Cert.Kernel7Ideal.Value

end
-- ==== Proof.Mem.Run.lean ====
/-  The memory attention's run: it ends with its result at what the second call leaves, its arguments unchanged. -/
module

public import proofs.«01_k».proof.Proof.Mem.Value

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel7Ideal.Value

open Cert.Kernel7Ideal Cert.Kernel7Ideal.Gen

set_option backward.isDefEq.respectTransparency.types false in
/-- Every execution terminates without a fault; the result holds what the second call's pipeline leaves, and every argument is as launched. -/
theorem run_value (m : (ℓ : Loc nD τ sig) → Buf (Elt Ideal) ℓ) (ρ : Dev nD → PrngReg) : θ_run defs (onTc (τ := τ) (main (F := Ideal))) ⟨m, fun _ => 0, ρ⟩ (fun r => (∀ c : Dev nD,
      r.2.mem ((c.tc : Thread nD τ).loc main_v20) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v20 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩), funext fun g => hz g (.inr (no_unscoped g.2))⟩)

end Cert.Kernel7Ideal.Value

end
-- ==== Proof.Mem.Claims.lean ====
/-  The claims of the memory attention: its frames, its reference's frame, and that both programs compute the same array from
    finite head gains. -/
module

public import proofs.«01_k».proof.Defs
public import proofs.«01_k».proof.Proof.Gen.Kernel7.Frame
public import proofs.«01_k».proof.Proof.Gen.Pre_finite_gains
public import proofs.«01_k».proof.Proof.Attn.Finite
public import proofs.«01_k».proof.Proof.Mem.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel7Ideal.Value

open Cert.Kernel7Ideal Cert.Kernel7Ideal.Gen

/-- The precondition, read: every entry of both gains is real. -/
theorem gains_reads (a0 : FVec Ideal Cert.Pre_finite_gains.S2x16384x1024 .f32) (a1 : FVec Ideal Cert.Pre_finite_gains.S2x256x1024 .f32)
    (a2 a3 : FVec Ideal Cert.Pre_finite_gains.S1024 .f32) (a4 : FVec Ideal Cert.Pre_finite_gains.S1024x256 .f32)
    (a5 : FVec Ideal Cert.Pre_finite_gains.S1024x512 .f32) (a6 : FVec Ideal Cert.Pre_finite_gains.S256x1024 .f32)
    (a7 a8 : FVec Ideal Cert.Pre_finite_gains.S64 .f32)
    (h : Cert.Pre_finite_gains.fn (F := Ideal) a0 a1 a2 a3 a4 a5 a6 a7 a8 = fun _ => 1#1) :
    (∀ i, ∃ r : ℝ, a7 i = (r : EReal)) ∧ (∀ i, ∃ r : ℝ, a8 i = (r : EReal)) := by
  have h0 := congrFun h (fun a => a.elim0)
  unfold Cert.Pre_finite_gains.fn at h0
  obtain ⟨r7, r8⟩ := Cert.Attn.and_one _ _ h0
  exact ⟨Cert.Attn.real_of_all _ _ (fun _ => rfl) _ _ _ _ r7, Cert.Attn.real_of_all _ _ (fun _ => rfl) _ _ _ _ r8⟩

/-- From finite gains the result array is the reference's term. -/
theorem result (m : (ℓ : Loc nD τ sig) → Buf (Elt Ideal) ℓ) (ρ : Dev nD → PrngReg) (h : Cert.Pre_Kernel7Ideal_finite_gains m) (c : Dev nD) :
    ((dat1 (V3 m ρ) c).arrAt 6 cfg1.N : FVec Ideal S2x16384x1024 .f32)
      = Cert.Reference7Ideal.Value.REF (aX m c) (aM m c) (aG m c) (aMG m c) (aWQ m c) (aWKV m c) (aWO m c) (aQG m c) (aKG m c) :=
  final m ρ (fun c => (gains_reads _ _ _ _ _ _ _ _ _ (h c)).1) (fun c => (gains_reads _ _ _ _ _ _ _ _ _ (h c)).2) c

end Cert.Kernel7Ideal.Value

namespace Cert.Proof

/-- The memory attention leaves its arguments alone and its semaphores at zero. -/
theorem frame_Kernel7 : Cert.quiescent_Kernel7 := fun m ρ _ => Cert.Kernel7.Gen.frame m ρ

/-- So does its idealized program. -/
theorem frame_Kernel7Ideal : Cert.quiescent_Kernel7Ideal := fun m ρ _ => Cert.Kernel7Ideal.Gen.frame m ρ

/-- So does its idealized program, from finite gains. -/
theorem frame_Kernel7Ideal_gains : Cert.quiescent_Kernel7Ideal_pre_finite_gains := fun m ρ _ => Cert.Kernel7Ideal.Gen.frame m ρ

/-- So does its reference. -/
theorem frame_Reference7Ideal : Cert.quiescent_Reference7Ideal := by
  intro m g _
  hlo_run
  · exact fun _ => ⟨trivial, trivial, trivial, trivial, trivial, trivial, trivial, trivial, trivial⟩
  · exact sem_eq_zero_of_no_sems rfl _

/-- So does its reference, from finite gains. -/
theorem frame_Reference7Ideal_gains : Cert.quiescent_Reference7Ideal_pre_finite_gains := fun m g _ => frame_Reference7Ideal m g trivial

set_option maxHeartbeats 4000000 in
/-- The memory attention's result is its reference's, from the same arguments with finite gains, over the extended reals. -/
theorem algebraic_Kernel7 : Cert.algebraic_Kernel7Ideal_Reference7Ideal_pre_finite_gains := by
  pair_intro
  · run_from Cert.Kernel7Ideal.Value.run_value m g
  · hlo_run
    exact (Cert.Kernel7Ideal.Value.result m _ hpre c).symm

end Cert.Proof

end
-- ==== Proof.lean ====
/- The proof of the claim: assembled from the modules under Proof/. -/
module

public import proofs.«01_k».proof.Proof.Attn.Claims
public import proofs.«01_k».proof.Proof.Mlp.Claims
public import proofs.«01_k».proof.Proof.InEven.Claims
public import proofs.«01_k».proof.Proof.OutEven.Claims
public import proofs.«01_k».proof.Proof.InOdd.Claims
public import proofs.«01_k».proof.Proof.OutOdd.Claims
public import proofs.«01_k».proof.Proof.Mem.Claims
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel7.Frame
public import proofs.«01_k».proof.Proof.Gen.Kernel7Ideal.Frame
public import proofs.«01_k».proof.Proof.Gen.Pre_finite
public import proofs.«01_k».proof.Proof.Gen.Pre_finite_gains

@[expose] public section

noncomputable section

/-- Everything certified. -/
theorem Cert.Proof.claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Pre_finite.Gen.facts, Cert.Pre_finite_gains.Gen.facts,
    Cert.Proof.frame_Kernel, Cert.Proof.frame_KernelIdeal, Cert.Proof.frame_KernelIdeal_finite,
    Cert.Proof.frame_ReferenceIdeal, Cert.Proof.frame_ReferenceIdeal_finite,
    Cert.Proof.frame_Kernel2, Cert.Proof.frame_Kernel2Ideal, Cert.Proof.frame_Reference2Ideal,
    Cert.Proof.frame_Kernel3, Cert.Proof.frame_Kernel3Ideal, Cert.Proof.frame_Reference3Ideal,
    Cert.Proof.frame_Kernel4, Cert.Proof.frame_Kernel4Ideal, Cert.Proof.frame_Reference4Ideal,
    Cert.Proof.frame_Kernel5, Cert.Proof.frame_Kernel5Ideal, Cert.Proof.frame_Reference5Ideal,
    Cert.Proof.frame_Kernel6, Cert.Proof.frame_Kernel6Ideal, Cert.Proof.frame_Reference6Ideal,
    Cert.Proof.frame_Kernel7, Cert.Proof.frame_Kernel7Ideal, Cert.Proof.frame_Kernel7Ideal_gains,
    Cert.Proof.frame_Reference7Ideal, Cert.Proof.frame_Reference7Ideal_gains,
    trivial, Cert.Proof.algebraic_Kernel, trivial, Cert.Proof.algebraic_Kernel2,
    trivial, Cert.Proof.algebraic_Kernel3, trivial, Cert.Proof.algebraic_Kernel4, trivial, Cert.Proof.algebraic_Kernel5, trivial, Cert.Proof.algebraic_Kernel6,
    trivial, Cert.Proof.algebraic_Kernel7⟩

end
